-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v139) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v4_2)) (v4 : (c : Dev Cert.Kernel2Ideal.nD) → Buf (Elt Ideal) ((c.tc : Thread Cert.Kernel2Ideal.nD Cert.Kernel2Ideal.τ).loc Cert.Kernel2Ideal.main_v4_3)) (v5 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v4_2) = v3 c
          ∧ r.2.mem ((c.tc : Thread Cert.Kernel2Ideal.nD Cert.Kernel2Ideal.τ).loc Cert.Kernel2Ideal.main_v4_3) = v4 c
          ∧ r.2.mem ((c.tc : Thread Cert.Kernel2Ideal.nD Cert.Kernel2Ideal.τ).loc Cert.Kernel2Ideal.main_v3) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v179) = v1 c
          ∧ r.2.mem ((c.tc : Thread Cert.Reference2Ideal.nD Cert.Reference2Ideal.τ).loc Cert.Reference2Ideal.main_v182) = v2 c
          ∧ r.2.mem ((c.tc : Thread Cert.Reference2Ideal.nD Cert.Reference2Ideal.τ).loc Cert.Reference2Ideal.main_v166) = v3 c
          ∧ r.2.mem ((c.tc : Thread Cert.Reference2Ideal.nD Cert.Reference2Ideal.τ).loc Cert.Reference2Ideal.main_v183) = v4 c
          ∧ r.2.mem ((c.tc : Thread Cert.Reference2Ideal.nD Cert.Reference2Ideal.τ).loc Cert.Reference2Ideal.main_v184) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v6)) (v4 : (c : Dev Cert.Kernel3Ideal.nD) → Buf (Elt Ideal) ((c.tc : Thread Cert.Kernel3Ideal.nD Cert.Kernel3Ideal.τ).loc Cert.Kernel3Ideal.main_v7)) (v5 : (c : Dev Cert.Kernel3Ideal.nD) → Buf (Elt Ideal) ((c.tc : Thread Cert.Kernel3Ideal.nD Cert.Kernel3Ideal.τ).loc Cert.Kernel3Ideal.main_v8)) (v6 : (c : Dev Cert.Kernel3Ideal.nD) → Buf (Elt Ideal) ((c.tc : Thread Cert.Kernel3Ideal.nD Cert.Kernel3Ideal.τ).loc Cert.Kernel3Ideal.main_v3)) (v7 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v6) = v3 c
          ∧ r.2.mem ((c.tc : Thread Cert.Kernel3Ideal.nD Cert.Kernel3Ideal.τ).loc Cert.Kernel3Ideal.main_v7) = v4 c
          ∧ r.2.mem ((c.tc : Thread Cert.Kernel3Ideal.nD Cert.Kernel3Ideal.τ).loc Cert.Kernel3Ideal.main_v8) = v5 c
          ∧ r.2.mem ((c.tc : Thread Cert.Kernel3Ideal.nD Cert.Kernel3Ideal.τ).loc Cert.Kernel3Ideal.main_v3) = v6 c
          ∧ r.2.mem ((c.tc : Thread Cert.Kernel3Ideal.nD Cert.Kernel3Ideal.τ).loc Cert.Kernel3Ideal.main_v4) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v23) = v4 c
          ∧ r.2.mem ((c.tc : Thread Cert.Reference3Ideal.nD Cert.Reference3Ideal.τ).loc Cert.Reference3Ideal.main_v24) = v5 c
          ∧ r.2.mem ((c.tc : Thread Cert.Reference3Ideal.nD Cert.Reference3Ideal.τ).loc Cert.Reference3Ideal.main_v21) = v6 c
          ∧ r.2.mem ((c.tc : Thread Cert.Reference3Ideal.nD Cert.Reference3Ideal.τ).loc Cert.Reference3Ideal.main_v25) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v8)) (v3 : (c : Dev Cert.Kernel4Ideal.nD) → Buf (Elt Ideal) ((c.tc : Thread Cert.Kernel4Ideal.nD Cert.Kernel4Ideal.τ).loc Cert.Kernel4Ideal.main_v4_2)) (v4 : (c : Dev Cert.Kernel4Ideal.nD) → Buf (Elt Ideal) ((c.tc : Thread Cert.Kernel4Ideal.nD Cert.Kernel4Ideal.τ).loc Cert.Kernel4Ideal.main_v4_3)) (v5 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_v4_2) = v3 c
          ∧ r.2.mem ((c.tc : Thread Cert.Kernel4Ideal.nD Cert.Kernel4Ideal.τ).loc Cert.Kernel4Ideal.main_v4_3) = v4 c
          ∧ r.2.mem ((c.tc : Thread Cert.Kernel4Ideal.nD Cert.Kernel4Ideal.τ).loc Cert.Kernel4Ideal.main_v3) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_v90) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v91) = v4 c
          ∧ r.2.mem ((c.tc : Thread Cert.Reference4Ideal.nD Cert.Reference4Ideal.τ).loc Cert.Reference4Ideal.main_v92) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v8) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v53) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v1)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v2)) (v5 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v1) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v2) = v4 c
          ∧ r.2.mem ((c.tc : Thread Cert.Kernel7Ideal.nD Cert.Kernel7Ideal.τ).loc Cert.Kernel7Ideal.main_v3) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v67) = v1 c
          ∧ r.2.mem ((c.tc : Thread Cert.Reference7Ideal.nD Cert.Reference7Ideal.τ).loc Cert.Reference7Ideal.main_v68) = v2 c
          ∧ r.2.mem ((c.tc : Thread Cert.Reference7Ideal.nD Cert.Reference7Ideal.τ).loc Cert.Reference7Ideal.main_v69) = v3 c
          ∧ r.2.mem ((c.tc : Thread Cert.Reference7Ideal.nD Cert.Reference7Ideal.τ).loc Cert.Reference7Ideal.main_v70) = v4 c
          ∧ r.2.mem ((c.tc : Thread Cert.Reference7Ideal.nD Cert.Reference7Ideal.τ).loc Cert.Reference7Ideal.main_v71) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2304x3072 : Shape := ⟨2, ![2304, 3072]⟩
abbrev S2304x5120 : Shape := ⟨2, ![2304, 5120]⟩
abbrev S2304x1024 : Shape := ⟨2, ![2304, 1024]⟩
abbrev S2304x1280 : Shape := ⟨2, ![2304, 1280]⟩
abbrev S_ : Shape := ⟨0, ![]⟩
abbrev S2304x256 : Shape := ⟨2, ![2304, 256]⟩

class Facts : Prop where
  slices_S2304x3072_S2304x1280_0_0 : S2304x3072.Slices ![0, 0] S2304x1280
  bcast_S_S2304x1280 : S_.BroadcastsInDim S2304x1280 (![] : Fin 0 → Fin S2304x1280.rank)
  slices_S2304x5120_S2304x256_0_1280 : S2304x5120.Slices ![0, 1280] S2304x256
  bitsLt_bf16_f32 : FTy.bits .bf16 < FTy.bits .f32
  bcast_S_S2304x256 : S_.BroadcastsInDim S2304x256 (![] : Fin 0 → Fin S2304x256.rank)
  bcast_S_S2304x1024 : S_.BroadcastsInDim S2304x1024 (![] : Fin 0 → Fin S2304x1024.rank)

variable [Facts]

def fn {F : FTy → Type} [FloatOps F] (main_arg0 : FVec F S2304x3072 .f32) (main_arg1 : FVec F S2304x5120 .bf16) (main_arg2 : FVec F S2304x1024 .f32) : IVec S2304x1280 1 × IVec S2304x256 1 × IVec S2304x1024 1 :=
  let main_v0 : FVec F S2304x1280 .f32 := (extractStridedSlice S2304x1280 ![0, 0] · slices_S2304x3072_S2304x1280_0_0) main_arg0
  let main_v1 : FVec F S2304x1280 .f32 := Host.absf main_v0
  let main_cst : FVec F S_ .f32 := constant S_ .f32 0x7F800000#32
  let main_v2 : FVec F S2304x1280 .f32 := broadcastInDim S2304x1280 ![] bcast_S_S2304x1280 main_cst
  let main_v3 : IVec S2304x1280 1 := cmpf .olt main_v1 main_v2
  let main_v4 : FVec F S2304x256 .bf16 := (extractStridedSlice S2304x256 ![0, 1280] · slices_S2304x5120_S2304x256_0_1280) main_arg1
  let main_v5 : FVec F S2304x256 .f32 := (extf .f32 · bitsLt_bf16_f32) main_v4
  let main_v6 : FVec F S2304x256 .f32 := Host.absf main_v5
  let main_cst_0 : FVec F S_ .f32 := constant S_ .f32 0x7F800000#32
  let main_v7 : FVec F S2304x256 .f32 := broadcastInDim S2304x256 ![] bcast_S_S2304x256 main_cst_0
  let main_v8 : IVec S2304x256 1 := cmpf .olt main_v6 main_v7
  let main_v9 : FVec F S2304x1024 .f32 := Host.absf main_arg2
  let main_cst_1 : FVec F S_ .f32 := constant S_ .f32 0x7F800000#32
  let main_v10 : FVec F S2304x1024 .f32 := broadcastInDim S2304x1024 ![] bcast_S_S2304x1024 main_cst_1
  let main_v11 : IVec S2304x1024 1 := cmpf .olt main_v9 main_v10
  (main_v3, main_v8, main_v11)
-- ==== Pre_finite2.lean ====
abbrev S2304x2048 : Shape := ⟨2, ![2304, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S_ : Shape := ⟨0, ![]⟩

class Facts : Prop where
  bitsLt_bf16_f32 : FTy.bits .bf16 < FTy.bits .f32
  bcast_S_S2304x2048 : S_.BroadcastsInDim S2304x2048 (![] : Fin 0 → Fin S2304x2048.rank)
  bcast_S_S4x2048x2816 : S_.BroadcastsInDim S4x2048x2816 (![] : Fin 0 → Fin S4x2048x2816.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S4x1408x2048 : S_.BroadcastsInDim S4x1408x2048 (![] : Fin 0 → Fin S4x1408x2048.rank)

variable [Facts]

def fn_part1 {F : FTy → Type} [FloatOps F] (main_v3 : IVec S2304x2048 1) (main_v7 : IVec S4x2048x2816 1) (main_v10 : IVec S3x5632 1) (main_v13 : IVec S1x5632 1) (main_v17 : IVec S4x1408x2048 1) (main_v18 : FVec F S2304x2048 .f32) : IVec S2304x2048 1 × IVec S4x2048x2816 1 × IVec S3x5632 1 × IVec S1x5632 1 × IVec S4x1408x2048 1 × IVec S2304x2048 1 :=
  let main_v19 : FVec F S2304x2048 .f32 := Host.absf main_v18
  let main_cst_4 : FVec F S_ .f32 := constant S_ .f32 0x7F800000#32
  let main_v20 : FVec F S2304x2048 .f32 := broadcastInDim S2304x2048 ![] bcast_S_S2304x2048 main_cst_4
  let main_v21 : IVec S2304x2048 1 := cmpf .olt main_v19 main_v20
  (main_v3, main_v7, main_v10, main_v13, main_v17, main_v21)

def fn {F : FTy → Type} [FloatOps F] (main_arg0 : FVec F S2304x2048 .bf16) (main_arg1 : FVec F S4x2048x2816 .bf16) (main_arg2 : FVec F S3x5632 .f32) (main_arg3 : FVec F S1x5632 .f32) (main_arg4 : FVec F S4x1408x2048 .bf16) (main_arg5 : FVec F S2304x2048 .bf16) : IVec S2304x2048 1 × IVec S4x2048x2816 1 × IVec S3x5632 1 × IVec S1x5632 1 × IVec S4x1408x2048 1 × IVec S2304x2048 1 :=
  let main_v0 : FVec F S2304x2048 .f32 := (extf .f32 · bitsLt_bf16_f32) main_arg0
  let main_v1 : FVec F S2304x2048 .f32 := Host.absf main_v0
  let main_cst : FVec F S_ .f32 := constant S_ .f32 0x7F800000#32
  let main_v2 : FVec F S2304x2048 .f32 := broadcastInDim S2304x2048 ![] bcast_S_S2304x2048 main_cst
  let main_v3 : IVec S2304x2048 1 := cmpf .olt main_v1 main_v2
  let main_v4 : FVec F S4x2048x2816 .f32 := (extf .f32 · bitsLt_bf16_f32) main_arg1
  let main_v5 : FVec F S4x2048x2816 .f32 := Host.absf main_v4
  let main_cst_0 : FVec F S_ .f32 := constant S_ .f32 0x7F800000#32
  let main_v6 : FVec F S4x2048x2816 .f32 := broadcastInDim S4x2048x2816 ![] bcast_S_S4x2048x2816 main_cst_0
  let main_v7 : IVec S4x2048x2816 1 := cmpf .olt main_v5 main_v6
  let main_v8 : FVec F S3x5632 .f32 := Host.absf main_arg2
  let main_cst_1 : FVec F S_ .f32 := constant S_ .f32 0x7F800000#32
  let main_v9 : FVec F S3x5632 .f32 := broadcastInDim S3x5632 ![] bcast_S_S3x5632 main_cst_1
  let main_v10 : IVec S3x5632 1 := cmpf .olt main_v8 main_v9
  let main_v11 : FVec F S1x5632 .f32 := Host.absf main_arg3
  let main_cst_2 : FVec F S_ .f32 := constant S_ .f32 0x7F800000#32
  let main_v12 : FVec F S1x5632 .f32 := broadcastInDim S1x5632 ![] bcast_S_S1x5632 main_cst_2
  let main_v13 : IVec S1x5632 1 := cmpf .olt main_v11 main_v12
  let main_v14 : FVec F S4x1408x2048 .f32 := (extf .f32 · bitsLt_bf16_f32) main_arg4
  let main_v15 : FVec F S4x1408x2048 .f32 := Host.absf main_v14
  let main_cst_3 : FVec F S_ .f32 := constant S_ .f32 0x7F800000#32
  let main_v16 : FVec F S4x1408x2048 .f32 := broadcastInDim S4x1408x2048 ![] bcast_S_S4x1408x2048 main_cst_3
  let main_v17 : IVec S4x1408x2048 1 := cmpf .olt main_v15 main_v16
  let main_v18 : FVec F S2304x2048 .f32 := (extf .f32 · bitsLt_bf16_f32) main_arg5
  fn_part1 (F := F) main_v3 main_v7 main_v10 main_v13 main_v17 main_v18
-- ==== Pre_finite4.lean ====
abbrev S2048x2048 : Shape := ⟨2, ![2048, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S4x2048x2816 : S_.BroadcastsInDim S4x2048x2816 (![] : Fin 0 → Fin S4x2048x2816.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S4x1408x2048 : S_.BroadcastsInDim S4x1408x2048 (![] : Fin 0 → Fin S4x1408x2048.rank)

variable [Facts]

def fn_part1 {F : FTy → Type} [FloatOps F] (main_v3 : IVec S2048x2048 1) (main_v7 : IVec S4x2048x2816 1) (main_v10 : IVec S3x5632 1) (main_v13 : IVec S1x5632 1) (main_v17 : IVec S4x1408x2048 1) (main_v18 : FVec F S2048x2048 .f32) : IVec S2048x2048 1 × IVec S4x2048x2816 1 × IVec S3x5632 1 × IVec S1x5632 1 × IVec S4x1408x2048 1 × IVec S2048x2048 1 :=
  let main_v19 : FVec F S2048x2048 .f32 := Host.absf main_v18
  let main_cst_4 : FVec F S_ .f32 := constant S_ .f32 0x7F800000#32
  let main_v20 : FVec F S2048x2048 .f32 := broadcastInDim S2048x2048 ![] bcast_S_S2048x2048 main_cst_4
  let main_v21 : IVec S2048x2048 1 := cmpf .olt main_v19 main_v20
  (main_v3, main_v7, main_v10, main_v13, main_v17, main_v21)

def fn {F : FTy → Type} [FloatOps F] (main_arg0 : FVec F S2048x2048 .bf16) (main_arg1 : FVec F S4x2048x2816 .bf16) (main_arg2 : FVec F S3x5632 .f32) (main_arg3 : FVec F S1x5632 .f32) (main_arg4 : FVec F S4x1408x2048 .bf16) (main_arg5 : FVec F S2048x2048 .bf16) : IVec S2048x2048 1 × IVec S4x2048x2816 1 × IVec S3x5632 1 × IVec S1x5632 1 × IVec S4x1408x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S4x2048x2816 .f32 := (extf .f32 · bitsLt_bf16_f32) main_arg1
  let main_v5 : FVec F S4x2048x2816 .f32 := Host.absf main_v4
  let main_cst_0 : FVec F S_ .f32 := constant S_ .f32 0x7F800000#32
  let main_v6 : FVec F S4x2048x2816 .f32 := broadcastInDim S4x2048x2816 ![] bcast_S_S4x2048x2816 main_cst_0
  let main_v7 : IVec S4x2048x2816 1 := cmpf .olt main_v5 main_v6
  let main_v8 : FVec F S3x5632 .f32 := Host.absf main_arg2
  let main_cst_1 : FVec F S_ .f32 := constant S_ .f32 0x7F800000#32
  let main_v9 : FVec F S3x5632 .f32 := broadcastInDim S3x5632 ![] bcast_S_S3x5632 main_cst_1
  let main_v10 : IVec S3x5632 1 := cmpf .olt main_v8 main_v9
  let main_v11 : FVec F S1x5632 .f32 := Host.absf main_arg3
  let main_cst_2 : FVec F S_ .f32 := constant S_ .f32 0x7F800000#32
  let main_v12 : FVec F S1x5632 .f32 := broadcastInDim S1x5632 ![] bcast_S_S1x5632 main_cst_2
  let main_v13 : IVec S1x5632 1 := cmpf .olt main_v11 main_v12
  let main_v14 : FVec F S4x1408x2048 .f32 := (extf .f32 · bitsLt_bf16_f32) main_arg4
  let main_v15 : FVec F S4x1408x2048 .f32 := Host.absf main_v14
  let main_cst_3 : FVec F S_ .f32 := constant S_ .f32 0x7F800000#32
  let main_v16 : FVec F S4x1408x2048 .f32 := broadcastInDim S4x1408x2048 ![] bcast_S_S4x1408x2048 main_cst_3
  let main_v17 : IVec S4x1408x2048 1 := cmpf .olt main_v15 main_v16
  let main_v18 : FVec F S2048x2048 .f32 := (extf .f32 · bitsLt_bf16_f32) main_arg5
  fn_part1 (F := F) main_v3 main_v7 main_v10 main_v13 main_v17 main_v18
-- ==== Kernel.lean ====
abbrev S2304x3072 : Shape := ⟨2, ![2304, 3072]⟩
abbrev S2304x5120 : Shape := ⟨2, ![2304, 5120]⟩
abbrev S2304x1024 : Shape := ⟨2, ![2304, 1024]⟩
abbrev S8x2304x1 : Shape := ⟨3, ![8, 2304, 1]⟩
abbrev S256x512 : Shape := ⟨2, ![256, 512]⟩
abbrev S2304x128 : Shape := ⟨2, ![2304, 128]⟩
abbrev S4x256x1 : Shape := ⟨3, ![4, 256, 1]⟩
abbrev S1x2304 : Shape := ⟨2, ![1, 2304]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S1x256x1 : Shape := ⟨3, ![1, 256, 1]⟩
abbrev S2304x256 : Shape := ⟨2, ![2304, 256]⟩

abbrev nBuf : Space → Nat
  | .hbm => 8
  | .vmem => 28
  | .smem => 0
  | _ => 0

abbrev bufTy : (tb : Table) → Fin (tcTables nBuf tb) → BufTy
  | .hbm, ⟨0, _⟩ => ⟨S2304x3072, .f32⟩
  | .hbm, ⟨1, _⟩ => ⟨S2304x5120, .bf16⟩
  | .hbm, ⟨2, _⟩ => ⟨S2304x1024, .f32⟩
  | .hbm, ⟨3, _⟩ => ⟨S2304x1024, .f32⟩
  | .hbm, ⟨4, _⟩ => ⟨S8x2304x1, .f32⟩
  | .hbm, ⟨5, _⟩ => ⟨S2304x1024, .f32⟩
  | .hbm, ⟨6, _⟩ => ⟨S2304x256, .f32⟩
  | .hbm, ⟨7, _⟩ => ⟨S2304x256, .f32⟩
  | .local _ .vmem, ⟨0, _⟩ => ⟨S256x512, .f32⟩
  | .local _ .vmem, ⟨1, _⟩ => ⟨S256x512, .f32⟩
  | .local _ .vmem, ⟨2, _⟩ => ⟨S2304x128, .f32⟩
  | .local _ .vmem, ⟨3, _⟩ => ⟨S2304x128, .f32⟩
  | .local _ .vmem, ⟨4, _⟩ => ⟨S2304x128, .bf16⟩
  | .local _ .vmem, ⟨5, _⟩ => ⟨S2304x128, .bf16⟩
  | .local _ .vmem, ⟨6, _⟩ => ⟨S256x512, .f32⟩
  | .local _ .vmem, ⟨7, _⟩ => ⟨S256x512, .f32⟩
  | .local _ .vmem, ⟨8, _⟩ => ⟨S4x256x1, .f32⟩
  | .local _ .vmem, ⟨9, _⟩ => ⟨S4x256x1, .f32⟩
  | .local _ .vmem, ⟨10, _⟩ => ⟨S256x512, .f32⟩
  | .local _ .vmem, ⟨11, _⟩ => ⟨S256x512, .f32⟩
  | .local _ .vmem, ⟨12, _⟩ => ⟨S2304x128, .f32⟩
  | .local _ .vmem, ⟨13, _⟩ => ⟨S2304x128, .f32⟩
  | .local _ .vmem, ⟨14, _⟩ => ⟨S2304x128, .bf16⟩
  | .local _ .vmem, ⟨15, _⟩ => ⟨S2304x128, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S4x256x1, .f32⟩
  | .local _ .vmem, ⟨21, _⟩ => ⟨S4x256x1, .f32⟩
  | .local _ .vmem, ⟨22, _⟩ => ⟨S256x512, .f32⟩
  | .local _ .vmem, ⟨23, _⟩ => ⟨S256x512, .f32⟩
  | .local _ .vmem, ⟨24, _⟩ => ⟨S2304x128, .f32⟩
  | .local _ .vmem, ⟨25, _⟩ => ⟨S2304x128, .f32⟩
  | .local _ .vmem, ⟨26, _⟩ => ⟨S2304x128, .f32⟩
  | .local _ .vmem, ⟨27, _⟩ => ⟨S2304x128, .f32⟩
  | _, _ => ⟨S2304x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 9], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2304x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2304x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2304x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2304x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S2304x3072 : Shape := ⟨2, ![2304, 3072]⟩
abbrev S2304x5120 : Shape := ⟨2, ![2304, 5120]⟩
abbrev S2304x1024 : Shape := ⟨2, ![2304, 1024]⟩
abbrev S2304x256 : Shape := ⟨2, ![2304, 256]⟩
abbrev S2304x8x128 : Shape := ⟨3, ![2304, 8, 128]⟩
abbrev S8x2304x128 : Shape := ⟨3, ![8, 2304, 128]⟩
abbrev S2304x2x128 : Shape := ⟨3, ![2304, 2, 128]⟩
abbrev S2x2304x128 : Shape := ⟨3, ![2, 2304, 128]⟩
abbrev S8x2048x128 : Shape := ⟨3, ![8, 2048, 128]⟩
abbrev S2x4x2048x128 : Shape := ⟨4, ![2, 4, 2048, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S8x256x128 : Shape := ⟨3, ![8, 256, 128]⟩
abbrev S2x256x128 : Shape := ⟨3, ![2, 256, 128]⟩
abbrev S2x4x256x128 : Shape := ⟨4, ![2, 4, 256, 128]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x256 : Shape := ⟨3, ![2, 128, 256]⟩
abbrev S2x128x2304 : Shape := ⟨3, ![2, 128, 2304]⟩

abbrev nBuf : Space → Nat
  | .hbm => 179
  | .vmem => 0
  | .smem => 0
  | _ => 0

abbrev hbmTy0_0 (i : Nat) : BufTy := match i % 128 with
  | 0 => ⟨S2304x3072, .f32⟩
  | 1 => ⟨S2304x5120, .bf16⟩
  | 2 => ⟨S2304x1024, .f32⟩
  | 3 => ⟨S2304x1024, .f32⟩
  | 4 => ⟨S2304x256, .f32⟩
  | 5 => ⟨S2304x256, .bf16⟩
  | 6 => ⟨S2304x256, .f32⟩
  | 7 => ⟨S2304x8x128, .f32⟩
  | 8 => ⟨S8x2304x128, .f32⟩
  | 9 => ⟨S2304x2x128, .f32⟩
  | 10 => ⟨S2x2304x128, .f32⟩
  | 11 => ⟨S2304x2x128, .f32⟩
  | 12 => ⟨S2x2304x128, .f32⟩
  | 13 => ⟨S8x2048x128, .f32⟩
  | 14 => ⟨S2x4x2048x128, .f32⟩
  | 15 => ⟨S2x4x2048x2304, .f32⟩
  | 16 => ⟨S_, .f32⟩
  | 17 => ⟨S2x4x2048x2304, .f32⟩
  | 18 => ⟨S2x4x2048x2304, .f32⟩
  | 19 => ⟨S_, .f32⟩
  | 20 => ⟨S2x4x2048, .f32⟩
  | 21 => ⟨S2x4x2048x1, .f32⟩
  | 22 => ⟨S2x4x2048x2304, .f32⟩
  | 23 => ⟨S2x4x2048x2304, .i1⟩
  | 24 => ⟨S2x4x2048x2304, .f32⟩
  | 25 => ⟨S_, .f32⟩
  | 26 => ⟨S2x4x2048, .f32⟩
  | 27 => ⟨S_, .f32⟩
  | 28 => ⟨S2x4x2048, .f32⟩
  | 29 => ⟨S2x4x2048, .f32⟩
  | 30 => ⟨S_, .f32⟩
  | 31 => ⟨S2x4x2048, .f32⟩
  | 32 => ⟨S2x4x2048, .i1⟩
  | 33 => ⟨S_, .f32⟩
  | 34 => ⟨S2x4x2048, .f32⟩
  | 35 => ⟨S2x4x2048, .i1⟩
  | 36 => ⟨S_, .f32⟩
  | 37 => ⟨S2x4x2048, .f32⟩
  | 38 => ⟨S_, .f32⟩
  | 39 => ⟨S2x4x2048, .f32⟩
  | 40 => ⟨S_, .f32⟩
  | 41 => ⟨S2x4x2048, .f32⟩
  | 42 => ⟨S2x4x2048, .f32⟩
  | 43 => ⟨S2x4x2048, .f32⟩
  | 44 => ⟨S2x4x2048x1, .f32⟩
  | 45 => ⟨S2x4x2048x2304, .f32⟩
  | 46 => ⟨S2x4x2048x2304, .f32⟩
  | 47 => ⟨S2x4x2048x2304, .f32⟩
  | 48 => ⟨S_, .f32⟩
  | 49 => ⟨S2x4x2048, .f32⟩
  | 50 => ⟨S2x4x2048x1, .f32⟩
  | 51 => ⟨S2x4x2048x2304, .f32⟩
  | 52 => ⟨S2x4x2048x2304, .f32⟩
  | 53 => ⟨S2x4x2048x1, .f32⟩
  | 54 => ⟨S_, .f32⟩
  | 55 => ⟨S2x4x2048x1, .f32⟩
  | 56 => ⟨S2x4x2048x1, .f32⟩
  | 57 => ⟨S2x4x2048x128, .f32⟩
  | 58 => ⟨S8x2048x128, .f32⟩
  | 59 => ⟨S8x256x128, .f32⟩
  | 60 => ⟨S2x256x128, .f32⟩
  | 61 => ⟨S2x256x128, .f32⟩
  | 62 => ⟨S2x4x256x128, .f32⟩
  | 63 => ⟨S2x4x256x256, .f32⟩
  | 64 => ⟨S_, .f32⟩
  | 65 => ⟨S2x4x256x256, .f32⟩
  | 66 => ⟨S2x4x256x256, .f32⟩
  | 67 => ⟨S_, .f32⟩
  | 68 => ⟨S2x4x256, .f32⟩
  | 69 => ⟨S2x4x256x1, .f32⟩
  | 70 => ⟨S2x4x256x256, .f32⟩
  | 71 => ⟨S2x4x256x256, .i1⟩
  | 72 => ⟨S2x4x256x256, .f32⟩
  | 73 => ⟨S_, .f32⟩
  | 74 => ⟨S2x4x256, .f32⟩
  | 75 => ⟨S_, .f32⟩
  | 76 => ⟨S2x4x256, .f32⟩
  | 77 => ⟨S2x4x256, .f32⟩
  | 78 => ⟨S_, .f32⟩
  | 79 => ⟨S2x4x256, .f32⟩
  | 80 => ⟨S2x4x256, .i1⟩
  | 81 => ⟨S_, .f32⟩
  | 82 => ⟨S2x4x256, .f32⟩
  | 83 => ⟨S2x4x256, .i1⟩
  | 84 => ⟨S_, .f32⟩
  | 85 => ⟨S2x4x256, .f32⟩
  | 86 => ⟨S_, .f32⟩
  | 87 => ⟨S2x4x256, .f32⟩
  | 88 => ⟨S_, .f32⟩
  | 89 => ⟨S2x4x256, .f32⟩
  | 90 => ⟨S2x4x256, .f32⟩
  | 91 => ⟨S2x4x256, .f32⟩
  | 92 => ⟨S2x4x256x1, .f32⟩
  | 93 => ⟨S2x4x256x256, .f32⟩
  | 94 => ⟨S2x4x256x256, .f32⟩
  | 95 => ⟨S2x4x256x256, .f32⟩
  | 96 => ⟨S_, .f32⟩
  | 97 => ⟨S2x4x256, .f32⟩
  | 98 => ⟨S2x4x256x1, .f32⟩
  | 99 => ⟨S2x4x256x256, .f32⟩
  | 100 => ⟨S2x4x256x256, .f32⟩
  | 101 => ⟨S2x4x256x1, .f32⟩
  | 102 => ⟨S_, .f32⟩
  | 103 => ⟨S2x4x256x1, .f32⟩
  | 104 => ⟨S2x4x256x1, .f32⟩
  | 105 => ⟨S2x4x256x128, .f32⟩
  | 106 => ⟨S8x256x128, .f32⟩
  | 107 => ⟨S8x2304x128, .f32⟩
  | 108 => ⟨S2304x8x128, .f32⟩
  | 109 => ⟨S2304x1024, .f32⟩
  | 110 => ⟨S2304x8x128, .f32⟩
  | 111 => ⟨S8x2304x128, .f32⟩
  | 112 => ⟨S8x2048x128, .f32⟩
  | 113 => ⟨S8x256x128, .f32⟩
  | 114 => ⟨S2x4x256x128, .f32⟩
  | 115 => ⟨S2x128x256, .f32⟩
  | 116 => ⟨S2x256x128, .f32⟩
  | 117 => ⟨S2x4x256x256, .f32⟩
  | 118 => ⟨S2x4x256x256, .f32⟩
  | 119 => ⟨S2x4x256x256, .f32⟩
  | 120 => ⟨S2x4x256x256, .f32⟩
  | 121 => ⟨S_, .f32⟩
  | 122 => ⟨S2x4x256, .f32⟩
  | 123 => ⟨S2x4x256x1, .f32⟩
  | 124 => ⟨S2x4x256x1, .f32⟩
  | 125 => ⟨S2x4x256x256, .f32⟩
  | 126 => ⟨S2x4x256x256, .f32⟩
  | 127 => ⟨S_, .f32⟩
  | _ => ⟨S2304x3072, .f32⟩

abbrev hbmTy0_1 (i : Nat) : BufTy := match i % 128 with
  | 0 => ⟨S2x4x256, .f32⟩
  | 1 => ⟨S2x4x256x256, .f32⟩
  | 2 => ⟨S2x4x256x256, .f32⟩
  | 3 => ⟨S2x4x256x256, .f32⟩
  | 4 => ⟨S_, .f32⟩
  | 5 => ⟨S2x4x256x256, .f32⟩
  | 6 => ⟨S2x4x256x256, .f32⟩
  | 7 => ⟨S2x256x128, .f32⟩
  | 8 => ⟨S2x4x256x128, .f32⟩
  | 9 => ⟨S8x256x128, .f32⟩
  | 10 => ⟨S_, .f32⟩
  | 11 => ⟨S2x2304x128, .f32⟩
  | 12 => ⟨S_, .f32⟩
  | 13 => ⟨S2x2304x128, .f32⟩
  | 14 => ⟨S_, .f32⟩
  | 15 => ⟨S8x2304x128, .f32⟩
  | 16 => ⟨S2x4x2048x128, .f32⟩
  | 17 => ⟨S2x128x2304, .f32⟩
  | 18 => ⟨S2x2304x128, .f32⟩
  | 19 => ⟨S2x2304x128, .f32⟩
  | 20 => ⟨S2x4x2048x2304, .f32⟩
  | 21 => ⟨S2x4x2048x2304, .f32⟩
  | 22 => ⟨S2x4x2048x2304, .f32⟩
  | 23 => ⟨S2x4x2048x2304, .f32⟩
  | 24 => ⟨S_, .f32⟩
  | 25 => ⟨S2x4x2048, .f32⟩
  | 26 => ⟨S2x4x2048x1, .f32⟩
  | 27 => ⟨S2x4x2048x1, .f32⟩
  | 28 => ⟨S2x4x2048x2304, .f32⟩
  | 29 => ⟨S2x4x2048x2304, .f32⟩
  | 30 => ⟨S_, .f32⟩
  | 31 => ⟨S2x4x2048, .f32⟩
  | 32 => ⟨S2x4x2048x2304, .f32⟩
  | 33 => ⟨S2x4x2048x2304, .f32⟩
  | 34 => ⟨S2x4x2048x2304, .f32⟩
  | 35 => ⟨S_, .f32⟩
  | 36 => ⟨S2x4x2048x2304, .f32⟩
  | 37 => ⟨S2x4x2048x2304, .f32⟩
  | 38 => ⟨S2x2304x128, .f32⟩
  | 39 => ⟨S2x2304x128, .f32⟩
  | 40 => ⟨S2x4x2048x128, .f32⟩
  | 41 => ⟨S8x2048x128, .f32⟩
  | 42 => ⟨S_, .f32⟩
  | 43 => ⟨S8x2304x128, .f32⟩
  | 44 => ⟨S8x2304x128, .f32⟩
  | 45 => ⟨S2304x2x128, .f32⟩
  | 46 => ⟨S2304x256, .f32⟩
  | 47 => ⟨S2304x2x128, .f32⟩
  | 48 => ⟨S2304x256, .f32⟩
  | 49 => ⟨S2304x8x128, .f32⟩
  | 50 => ⟨S2304x1024, .f32⟩
  | _ => ⟨S2304x3072, .f32⟩

abbrev hbmTy (i : Nat) : BufTy := match i / 128 with
  | 0 => hbmTy0_0 i
  | 1 => hbmTy0_1 i
  | _ => ⟨S2304x3072, .f32⟩

abbrev bufTy : (tb : Table) → Fin (tcTables nBuf tb) → BufTy
  | .hbm, ⟨i, _⟩ => hbmTy i
  | _, _ => ⟨S2304x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_cst_15 : Ref sig .tc := ⟨.hbm, 81, rfl⟩
abbrev main_v62 : Ref sig .tc := ⟨.hbm, 82, rfl⟩
abbrev main_v63 : Ref sig .tc := ⟨.hbm, 83, rfl⟩
abbrev main_cst_16 : Ref sig .tc := ⟨.hbm, 84, rfl⟩
abbrev main_v64 : Ref sig .tc := ⟨.hbm, 85, rfl⟩
abbrev main_cst_17 : Ref sig .tc := ⟨.hbm, 86, rfl⟩
abbrev main_v65 : Ref sig .tc := ⟨.hbm, 87, rfl⟩
abbrev main_cst_18 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_19 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_22 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_23 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_24 : Ref sig .tc := ⟨.hbm, 138, rfl⟩
abbrev main_v110 : Ref sig .tc := ⟨.hbm, 139, rfl⟩
abbrev main_cst_25 : Ref sig .tc := ⟨.hbm, 140, rfl⟩
abbrev main_v111 : Ref sig .tc := ⟨.hbm, 141, rfl⟩
abbrev main_cst_26 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_27 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_28 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_29 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_30 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩

abbrev nD : Nat := 1
abbrev τ : Topo := Topo.v7x

variable {F : FTy → Type} [FloatOps F]
-- ==== Kernel2.lean ====
abbrev S2304x2048 : Shape := ⟨2, ![2304, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S2304x11264 : Shape := ⟨2, ![2304, 11264]⟩
abbrev S1152x2048 : Shape := ⟨2, ![1152, 2048]⟩
abbrev S1x2048x1408 : Shape := ⟨3, ![1, 2048, 1408]⟩
abbrev S1152x1408 : Shape := ⟨2, ![1152, 1408]⟩
abbrev S2048x1408 : Shape := ⟨2, ![2048, 1408]⟩
abbrev S2304x5632 : Shape := ⟨2, ![2304, 5632]⟩
abbrev S2304x256 : Shape := ⟨2, ![2304, 256]⟩
abbrev S3x256 : Shape := ⟨2, ![3, 256]⟩
abbrev S1x256 : Shape := ⟨2, ![1, 256]⟩
abbrev S2304x1 : Shape := ⟨2, ![2304, 1]⟩
abbrev S768x2048 : Shape := ⟨2, ![768, 2048]⟩
abbrev S1x1408x2048 : Shape := ⟨3, ![1, 1408, 2048]⟩
abbrev S768x1408 : Shape := ⟨2, ![768, 1408]⟩
abbrev S1408x2048 : Shape := ⟨2, ![1408, 2048]⟩
abbrev S5632x2048 : Shape := ⟨2, ![5632, 2048]⟩
abbrev S2304x512 : Shape := ⟨2, ![2304, 512]⟩
abbrev S512x2048 : Shape := ⟨2, ![512, 2048]⟩
abbrev S256 : Shape := ⟨1, ![256]⟩
abbrev S2x256 : Shape := ⟨2, ![2, 256]⟩
abbrev S768x5632 : Shape := ⟨2, ![768, 5632]⟩
abbrev S1x512x1408 : Shape := ⟨3, ![1, 512, 1408]⟩
abbrev S768x512 : Shape := ⟨2, ![768, 512]⟩
abbrev S512x1408 : Shape := ⟨2, ![512, 1408]⟩
abbrev S2304x1024 : Shape := ⟨2, ![2304, 1024]⟩
abbrev S2304x1408 : Shape := ⟨2, ![2304, 1408]⟩
abbrev S1x1024x1408 : Shape := ⟨3, ![1, 1024, 1408]⟩
abbrev S1024x1408 : Shape := ⟨2, ![1024, 1408]⟩
abbrev S1x1408x512 : Shape := ⟨3, ![1, 1408, 512]⟩
abbrev S1408x512 : Shape := ⟨2, ![1408, 512]⟩

abbrev nBuf : Space → Nat
  | .hbm => 19
  | .vmem => 95
  | .smem => 0
  | _ => 0

abbrev bufTy : (tb : Table) → Fin (tcTables nBuf tb) → BufTy
  | .hbm, ⟨0, _⟩ => ⟨S2304x2048, .bf16⟩
  | .hbm, ⟨1, _⟩ => ⟨S4x2048x2816, .bf16⟩
  | .hbm, ⟨2, _⟩ => ⟨S3x5632, .f32⟩
  | .hbm, ⟨3, _⟩ => ⟨S1x5632, .f32⟩
  | .hbm, ⟨4, _⟩ => ⟨S4x1408x2048, .bf16⟩
  | .hbm, ⟨5, _⟩ => ⟨S2304x2048, .bf16⟩
  | .hbm, ⟨6, _⟩ => ⟨S2304x11264, .bf16⟩
  | .hbm, ⟨7, _⟩ => ⟨S2304x5632, .bf16⟩
  | .hbm, ⟨8, _⟩ => ⟨S2304x5632, .f32⟩
  | .hbm, ⟨9, _⟩ => ⟨S5632x2048, .bf16⟩
  | .hbm, ⟨10, _⟩ => ⟨S2304x5632, .bf16⟩
  | .hbm, ⟨11, _⟩ => ⟨S2304x5632, .bf16⟩
  | .hbm, ⟨12, _⟩ => ⟨S3x5632, .f32⟩
  | .hbm, ⟨13, _⟩ => ⟨S1x5632, .f32⟩
  | .hbm, ⟨14, _⟩ => ⟨S2304x2048, .f32⟩
  | .hbm, ⟨15, _⟩ => ⟨S2304x2048, .f32⟩
  | .hbm, ⟨16, _⟩ => ⟨S4x2048x2816, .bf16⟩
  | .hbm, ⟨17, _⟩ => ⟨S4x2048x2816, .bf16⟩
  | .hbm, ⟨18, _⟩ => ⟨S2304x2048, .f32⟩
  | .local _ .vmem, ⟨0, _⟩ => ⟨S1152x2048, .bf16⟩
  | .local _ .vmem, ⟨1, _⟩ => ⟨S1152x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1152x1408, .bf16⟩
  | .local _ .vmem, ⟨5, _⟩ => ⟨S1152x1408, .bf16⟩
  | .local _ .vmem, ⟨6, _⟩ => ⟨S2304x256, .bf16⟩
  | .local _ .vmem, ⟨7, _⟩ => ⟨S2304x256, .bf16⟩
  | .local _ .vmem, ⟨8, _⟩ => ⟨S2304x256, .bf16⟩
  | .local _ .vmem, ⟨9, _⟩ => ⟨S2304x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S2304x256, .bf16⟩
  | .local _ .vmem, ⟨15, _⟩ => ⟨S2304x256, .bf16⟩
  | .local _ .vmem, ⟨16, _⟩ => ⟨S768x2048, .bf16⟩
  | .local _ .vmem, ⟨17, _⟩ => ⟨S768x2048, .bf16⟩
  | .local _ .vmem, ⟨18, _⟩ => ⟨S1x1408x2048, .bf16⟩
  | .local _ .vmem, ⟨19, _⟩ => ⟨S1x1408x2048, .bf16⟩
  | .local _ .vmem, ⟨20, _⟩ => ⟨S768x1408, .f32⟩
  | .local _ .vmem, ⟨21, _⟩ => ⟨S768x1408, .f32⟩
  | .local _ .vmem, ⟨22, _⟩ => ⟨S2304x512, .bf16⟩
  | .local _ .vmem, ⟨23, _⟩ => ⟨S2304x512, .bf16⟩
  | .local _ .vmem, ⟨24, _⟩ => ⟨S2304x2048, .bf16⟩
  | .local _ .vmem, ⟨25, _⟩ => ⟨S512x2048, .bf16⟩
  | .local _ .vmem, ⟨26, _⟩ => ⟨S512x2048, .bf16⟩
  | .local _ .vmem, ⟨27, _⟩ => ⟨S2304x256, .bf16⟩
  | .local _ .vmem, ⟨28, _⟩ => ⟨S2304x256, .bf16⟩
  | .local _ .vmem, ⟨29, _⟩ => ⟨S2304x256, .bf16⟩
  | .local _ .vmem, ⟨30, _⟩ => ⟨S2304x256, .bf16⟩
  | .local _ .vmem, ⟨31, _⟩ => ⟨S3x256, .f32⟩
  | .local _ .vmem, ⟨32, _⟩ => ⟨S3x256, .f32⟩
  | .local _ .vmem, ⟨33, _⟩ => ⟨S1x256, .f32⟩
  | .local _ .vmem, ⟨34, _⟩ => ⟨S1x256, .f32⟩
  | .local _ .vmem, ⟨35, _⟩ => ⟨S2304x256, .f32⟩
  | .local _ .vmem, ⟨36, _⟩ => ⟨S2304x256, .f32⟩
  | .local _ .vmem, ⟨37, _⟩ => ⟨S2304x256, .bf16⟩
  | .local _ .vmem, ⟨38, _⟩ => ⟨S2304x256, .bf16⟩
  | .local _ .vmem, ⟨39, _⟩ => ⟨S2304x256, .bf16⟩
  | .local _ .vmem, ⟨40, _⟩ => ⟨S2304x256, .bf16⟩
  | .local _ .vmem, ⟨41, _⟩ => ⟨S3x256, .f32⟩
  | .local _ .vmem, ⟨42, _⟩ => ⟨S3x256, .f32⟩
  | .local _ .vmem, ⟨43, _⟩ => ⟨S1x256, .f32⟩
  | .local _ .vmem, ⟨44, _⟩ => ⟨S1x256, .f32⟩
  | .local _ .vmem, ⟨45, _⟩ => ⟨S768x5632, .bf16⟩
  | .local _ .vmem, ⟨46, _⟩ => ⟨S768x5632, .bf16⟩
  | .local _ .vmem, ⟨47, _⟩ => ⟨S1x512x1408, .bf16⟩
  | .local _ .vmem, ⟨48, _⟩ => ⟨S1x512x1408, .bf16⟩
  | .local _ .vmem, ⟨49, _⟩ => ⟨S1x512x1408, .bf16⟩
  | .local _ .vmem, ⟨50, _⟩ => ⟨S1x512x1408, .bf16⟩
  | .local _ .vmem, ⟨51, _⟩ => ⟨S1x512x1408, .bf16⟩
  | .local _ .vmem, ⟨52, _⟩ => ⟨S1x512x1408, .bf16⟩
  | .local _ .vmem, ⟨53, _⟩ => ⟨S1x512x1408, .bf16⟩
  | .local _ .vmem, ⟨54, _⟩ => ⟨S1x512x1408, .bf16⟩
  | .local _ .vmem, ⟨55, _⟩ => ⟨S768x512, .f32⟩
  | .local _ .vmem, ⟨56, _⟩ => ⟨S768x512, .f32⟩
  | .local _ .vmem, ⟨57, _⟩ => ⟨S768x5632, .bf16⟩
  | .local _ .vmem, ⟨58, _⟩ => ⟨S768x5632, .bf16⟩
  | .local _ .vmem, ⟨59, _⟩ => ⟨S1x512x1408, .bf16⟩
  | .local _ .vmem, ⟨60, _⟩ => ⟨S1x512x1408, .bf16⟩
  | .local _ .vmem, ⟨61, _⟩ => ⟨S1x512x1408, .bf16⟩
  | .local _ .vmem, ⟨62, _⟩ => ⟨S1x512x1408, .bf16⟩
  | .local _ .vmem, ⟨63, _⟩ => ⟨S1x512x1408, .bf16⟩
  | .local _ .vmem, ⟨64, _⟩ => ⟨S1x512x1408, .bf16⟩
  | .local _ .vmem, ⟨65, _⟩ => ⟨S1x512x1408, .bf16⟩
  | .local _ .vmem, ⟨66, _⟩ => ⟨S1x512x1408, .bf16⟩
  | .local _ .vmem, ⟨67, _⟩ => ⟨S768x512, .f32⟩
  | .local _ .vmem, ⟨68, _⟩ => ⟨S768x512, .f32⟩
  | .local _ .vmem, ⟨69, _⟩ => ⟨S768x512, .f32⟩
  | .local _ .vmem, ⟨70, _⟩ => ⟨S768x512, .f32⟩
  | .local _ .vmem, ⟨71, _⟩ => ⟨S2304x1024, .bf16⟩
  | .local _ .vmem, ⟨72, _⟩ => ⟨S2304x1024, .bf16⟩
  | .local _ .vmem, ⟨73, _⟩ => ⟨S2304x1408, .bf16⟩
  | .local _ .vmem, ⟨74, _⟩ => ⟨S2304x1408, .bf16⟩
  | .local _ .vmem, ⟨75, _⟩ => ⟨S1x1024x1408, .bf16⟩
  | .local _ .vmem, ⟨76, _⟩ => ⟨S1x1024x1408, .bf16⟩
  | .local _ .vmem, ⟨77, _⟩ => ⟨S2304x1024, .bf16⟩
  | .local _ .vmem, ⟨78, _⟩ => ⟨S2304x1024, .bf16⟩
  | .local _ .vmem, ⟨79, _⟩ => ⟨S2304x1408, .bf16⟩
  | .local _ .vmem, ⟨80, _⟩ => ⟨S2304x1408, .bf16⟩
  | .local _ .vmem, ⟨81, _⟩ => ⟨S1x1024x1408, .bf16⟩
  | .local _ .vmem, ⟨82, _⟩ => ⟨S1x1024x1408, .bf16⟩
  | .local _ .vmem, ⟨83, _⟩ => ⟨S768x5632, .bf16⟩
  | .local _ .vmem, ⟨84, _⟩ => ⟨S768x5632, .bf16⟩
  | .local _ .vmem, ⟨85, _⟩ => ⟨S1x1408x512, .bf16⟩
  | .local _ .vmem, ⟨86, _⟩ => ⟨S1x1408x512, .bf16⟩
  | .local _ .vmem, ⟨87, _⟩ => ⟨S1x1408x512, .bf16⟩
  | .local _ .vmem, ⟨88, _⟩ => ⟨S1x1408x512, .bf16⟩
  | .local _ .vmem, ⟨89, _⟩ => ⟨S1x1408x512, .bf16⟩
  | .local _ .vmem, ⟨90, _⟩ => ⟨S1x1408x512, .bf16⟩
  | .local _ .vmem, ⟨91, _⟩ => ⟨S1x1408x512, .bf16⟩
  | .local _ .vmem, ⟨92, _⟩ => ⟨S1x1408x512, .bf16⟩
  | .local _ .vmem, ⟨93, _⟩ => ⟨S768x512, .f32⟩
  | .local _ .vmem, ⟨94, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc4_stg6_0 : Ref sig .tc := ⟨.vmem, 39, rfl⟩
abbrev cc4_stg6_1 : Ref sig .tc := ⟨.vmem, 40, rfl⟩
abbrev cc4_stg7_0 : Ref sig .tc := ⟨.vmem, 41, rfl⟩
abbrev cc4_stg7_1 : Ref sig .tc := ⟨.vmem, 42, rfl⟩
abbrev cc4_stg8_0 : Ref sig .tc := ⟨.vmem, 43, rfl⟩
abbrev cc4_stg8_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg6_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg1_1 : Ref sig .tc := ⟨.vmem, 80, rfl⟩
abbrev cc8_stg2_0 : Ref sig .tc := ⟨.vmem, 81, rfl⟩
abbrev cc8_stg2_1 : Ref sig .tc := ⟨.vmem, 82, rfl⟩
abbrev cc9_stg0_0 : Ref sig .tc := ⟨.vmem, 83, rfl⟩
abbrev cc9_stg0_1 : Ref sig .tc := ⟨.vmem, 84, rfl⟩
abbrev cc9_stg1_0 : Ref sig .tc := ⟨.vmem, 85, rfl⟩
abbrev cc9_stg1_1 : Ref sig .tc := ⟨.vmem, 86, rfl⟩
abbrev cc9_stg2_0 : Ref sig .tc := ⟨.vmem, 87, rfl⟩
abbrev cc9_stg2_1 : Ref sig .tc := ⟨.vmem, 88, rfl⟩
abbrev cc9_stg3_0 : Ref sig .tc := ⟨.vmem, 89, rfl⟩
abbrev cc9_stg3_1 : Ref sig .tc := ⟨.vmem, 90, rfl⟩
abbrev cc9_stg4_0 : Ref sig .tc := ⟨.vmem, 91, rfl⟩
abbrev cc9_stg4_1 : Ref sig .tc := ⟨.vmem, 92, rfl⟩
abbrev cc9_stg5_0 : Ref sig .tc := ⟨.vmem, 93, rfl⟩
abbrev cc9_stg5_1 : Ref sig .tc := ⟨.vmem, 94, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc4_sem5_0 : DmaSem sig := 37
abbrev cc4_sem5_1 : DmaSem sig := 38
abbrev cc4_sem6_0 : DmaSem sig := 39
abbrev cc4_sem6_1 : DmaSem sig := 40
abbrev cc4_sem7_0 : DmaSem sig := 41
abbrev cc4_sem7_1 : DmaSem sig := 42
abbrev cc4_sem8_0 : DmaSem sig := 43
abbrev cc4_sem8_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc6_sem5_0 : DmaSem sig := 67
abbrev cc6_sem5_1 : DmaSem sig := 68
abbrev cc6_sem6_0 : DmaSem sig := 69
abbrev cc6_sem6_1 : DmaSem sig := 70
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem2_1 : DmaSem sig := 76
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem2_1 : DmaSem sig := 82
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem2_1 : DmaSem sig := 88
abbrev cc9_sem3_0 : DmaSem sig := 89
abbrev cc9_sem3_1 : DmaSem sig := 90
abbrev cc9_sem4_0 : DmaSem sig := 91
abbrev cc9_sem4_1 : DmaSem sig := 92
abbrev cc9_sem5_0 : DmaSem sig := 93
abbrev cc9_sem5_1 : DmaSem sig := 94

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1152x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2304x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2304x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2304x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![3, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S768x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S768x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2304x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2304x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![22], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2304x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2304x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2304x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2304x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2304x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S3x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![3, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c1_i32 : BitVec 32 := 1#32
  let c0_i32_1 : BitVec 32 := 0#32
  ![c0_i32_0.toNat, v0.toNat, c1_i32.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c1_i32_0 : BitVec 32 := 1#32
  let c0_i32_1 : BitVec 32 := 0#32
  ![c1_i32.toNat, v0.toNat, c1_i32_0.toNat]

def cc5_transform_5 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x512x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev stage5_3 : Fin 2 → Memref sig .tc .vmem S1x512x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, false]

abbrev stage5_4 : Fin 2 → Memref sig .tc .vmem S1x512x1408 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true, false]

abbrev stage5_5 : Fin 2 → Memref sig .tc .vmem S768x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, false]

abbrev grid6 : Pipeline.Grid := ⟨3, ![3, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let c1_i32 : BitVec 32 := 1#32
  let c0_i32_0 : BitVec 32 := 0#32
  ![c2_i32.toNat, v0.toNat, c1_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let c1_i32 : BitVec 32 := 1#32
  let c0_i32_0 : BitVec 32 := 0#32
  ![c3_i32.toNat, v0.toNat, c1_i32.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_6 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S768x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x512x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S1x512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S1x512x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true, false]

abbrev stage6_4 : Fin 2 → Memref sig .tc .vmem S1x512x1408 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true, false]

abbrev stage6_5 : Fin 2 → Memref sig .tc .vmem S768x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]

abbrev stage6_6 : Fin 2 → Memref sig .tc .vmem S768x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage7_0 : Fin 2 → Memref sig .tc .vmem S2304x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2304x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_3 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage8_0 : Fin 2 → Memref sig .tc .vmem S2304x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2304x1408 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x1408 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![3, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc9_transform_4 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc9_transform_5 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S768x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x1408x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, false]

abbrev stage9_2 : Fin 2 → Memref sig .tc .vmem S1x1408x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, false]

abbrev stage9_3 : Fin 2 → Memref sig .tc .vmem S1x1408x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true, false]

abbrev stage9_4 : Fin 2 → Memref sig .tc .vmem S1x1408x512 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true, false]

abbrev stage9_5 : Fin 2 → Memref sig .tc .vmem S768x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true, false]
-- ==== Kernel2Ideal.lean ====
abbrev S2304x2048 : Shape := ⟨2, ![2304, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S2304x11264 : Shape := ⟨2, ![2304, 11264]⟩
abbrev S1152x2048 : Shape := ⟨2, ![1152, 2048]⟩
abbrev S1x2048x1408 : Shape := ⟨3, ![1, 2048, 1408]⟩
abbrev S1152x1408 : Shape := ⟨2, ![1152, 1408]⟩
abbrev S2048x1408 : Shape := ⟨2, ![2048, 1408]⟩
abbrev S2304x5632 : Shape := ⟨2, ![2304, 5632]⟩
abbrev S2304x256 : Shape := ⟨2, ![2304, 256]⟩
abbrev S3x256 : Shape := ⟨2, ![3, 256]⟩
abbrev S1x256 : Shape := ⟨2, ![1, 256]⟩
abbrev S2304x1 : Shape := ⟨2, ![2304, 1]⟩
abbrev S768x2048 : Shape := ⟨2, ![768, 2048]⟩
abbrev S1x1408x2048 : Shape := ⟨3, ![1, 1408, 2048]⟩
abbrev S768x1408 : Shape := ⟨2, ![768, 1408]⟩
abbrev S1408x2048 : Shape := ⟨2, ![1408, 2048]⟩
abbrev S5632x2048 : Shape := ⟨2, ![5632, 2048]⟩
abbrev S2304x512 : Shape := ⟨2, ![2304, 512]⟩
abbrev S512x2048 : Shape := ⟨2, ![512, 2048]⟩
abbrev S256 : Shape := ⟨1, ![256]⟩
abbrev S2x256 : Shape := ⟨2, ![2, 256]⟩
abbrev S768x5632 : Shape := ⟨2, ![768, 5632]⟩
abbrev S1x512x1408 : Shape := ⟨3, ![1, 512, 1408]⟩
abbrev S768x512 : Shape := ⟨2, ![768, 512]⟩
abbrev S512x1408 : Shape := ⟨2, ![512, 1408]⟩
abbrev S2304x1024 : Shape := ⟨2, ![2304, 1024]⟩
abbrev S2304x1408 : Shape := ⟨2, ![2304, 1408]⟩
abbrev S1x1024x1408 : Shape := ⟨3, ![1, 1024, 1408]⟩
abbrev S1024x1408 : Shape := ⟨2, ![1024, 1408]⟩
abbrev S1x1408x512 : Shape := ⟨3, ![1, 1408, 512]⟩
abbrev S1408x512 : Shape := ⟨2, ![1408, 512]⟩

abbrev nBuf : Space → Nat
  | .hbm => 19
  | .vmem => 95
  | .smem => 0
  | _ => 0

abbrev bufTy : (tb : Table) → Fin (tcTables nBuf tb) → BufTy
  | .hbm, ⟨0, _⟩ => ⟨S2304x2048, .bf16⟩
  | .hbm, ⟨1, _⟩ => ⟨S4x2048x2816, .bf16⟩
  | .hbm, ⟨2, _⟩ => ⟨S3x5632, .f32⟩
  | .hbm, ⟨3, _⟩ => ⟨S1x5632, .f32⟩
  | .hbm, ⟨4, _⟩ => ⟨S4x1408x2048, .bf16⟩
  | .hbm, ⟨5, _⟩ => ⟨S2304x2048, .bf16⟩
  | .hbm, ⟨6, _⟩ => ⟨S2304x11264, .bf16⟩
  | .hbm, ⟨7, _⟩ => ⟨S2304x5632, .bf16⟩
  | .hbm, ⟨8, _⟩ => ⟨S2304x5632, .f32⟩
  | .hbm, ⟨9, _⟩ => ⟨S5632x2048, .bf16⟩
  | .hbm, ⟨10, _⟩ => ⟨S2304x5632, .bf16⟩
  | .hbm, ⟨11, _⟩ => ⟨S2304x5632, .bf16⟩
  | .hbm, ⟨12, _⟩ => ⟨S3x5632, .f32⟩
  | .hbm, ⟨13, _⟩ => ⟨S1x5632, .f32⟩
  | .hbm, ⟨14, _⟩ => ⟨S2304x2048, .f32⟩
  | .hbm, ⟨15, _⟩ => ⟨S2304x2048, .f32⟩
  | .hbm, ⟨16, _⟩ => ⟨S4x2048x2816, .bf16⟩
  | .hbm, ⟨17, _⟩ => ⟨S4x2048x2816, .bf16⟩
  | .hbm, ⟨18, _⟩ => ⟨S2304x2048, .f32⟩
  | .local _ .vmem, ⟨0, _⟩ => ⟨S1152x2048, .bf16⟩
  | .local _ .vmem, ⟨1, _⟩ => ⟨S1152x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1152x1408, .bf16⟩
  | .local _ .vmem, ⟨5, _⟩ => ⟨S1152x1408, .bf16⟩
  | .local _ .vmem, ⟨6, _⟩ => ⟨S2304x256, .bf16⟩
  | .local _ .vmem, ⟨7, _⟩ => ⟨S2304x256, .bf16⟩
  | .local _ .vmem, ⟨8, _⟩ => ⟨S2304x256, .bf16⟩
  | .local _ .vmem, ⟨9, _⟩ => ⟨S2304x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S2304x256, .bf16⟩
  | .local _ .vmem, ⟨15, _⟩ => ⟨S2304x256, .bf16⟩
  | .local _ .vmem, ⟨16, _⟩ => ⟨S768x2048, .bf16⟩
  | .local _ .vmem, ⟨17, _⟩ => ⟨S768x2048, .bf16⟩
  | .local _ .vmem, ⟨18, _⟩ => ⟨S1x1408x2048, .bf16⟩
  | .local _ .vmem, ⟨19, _⟩ => ⟨S1x1408x2048, .bf16⟩
  | .local _ .vmem, ⟨20, _⟩ => ⟨S768x1408, .f32⟩
  | .local _ .vmem, ⟨21, _⟩ => ⟨S768x1408, .f32⟩
  | .local _ .vmem, ⟨22, _⟩ => ⟨S2304x512, .bf16⟩
  | .local _ .vmem, ⟨23, _⟩ => ⟨S2304x512, .bf16⟩
  | .local _ .vmem, ⟨24, _⟩ => ⟨S2304x2048, .bf16⟩
  | .local _ .vmem, ⟨25, _⟩ => ⟨S512x2048, .bf16⟩
  | .local _ .vmem, ⟨26, _⟩ => ⟨S512x2048, .bf16⟩
  | .local _ .vmem, ⟨27, _⟩ => ⟨S2304x256, .bf16⟩
  | .local _ .vmem, ⟨28, _⟩ => ⟨S2304x256, .bf16⟩
  | .local _ .vmem, ⟨29, _⟩ => ⟨S2304x256, .bf16⟩
  | .local _ .vmem, ⟨30, _⟩ => ⟨S2304x256, .bf16⟩
  | .local _ .vmem, ⟨31, _⟩ => ⟨S3x256, .f32⟩
  | .local _ .vmem, ⟨32, _⟩ => ⟨S3x256, .f32⟩
  | .local _ .vmem, ⟨33, _⟩ => ⟨S1x256, .f32⟩
  | .local _ .vmem, ⟨34, _⟩ => ⟨S1x256, .f32⟩
  | .local _ .vmem, ⟨35, _⟩ => ⟨S2304x256, .f32⟩
  | .local _ .vmem, ⟨36, _⟩ => ⟨S2304x256, .f32⟩
  | .local _ .vmem, ⟨37, _⟩ => ⟨S2304x256, .bf16⟩
  | .local _ .vmem, ⟨38, _⟩ => ⟨S2304x256, .bf16⟩
  | .local _ .vmem, ⟨39, _⟩ => ⟨S2304x256, .bf16⟩
  | .local _ .vmem, ⟨40, _⟩ => ⟨S2304x256, .bf16⟩
  | .local _ .vmem, ⟨41, _⟩ => ⟨S3x256, .f32⟩
  | .local _ .vmem, ⟨42, _⟩ => ⟨S3x256, .f32⟩
  | .local _ .vmem, ⟨43, _⟩ => ⟨S1x256, .f32⟩
  | .local _ .vmem, ⟨44, _⟩ => ⟨S1x256, .f32⟩
  | .local _ .vmem, ⟨45, _⟩ => ⟨S768x5632, .bf16⟩
  | .local _ .vmem, ⟨46, _⟩ => ⟨S768x5632, .bf16⟩
  | .local _ .vmem, ⟨47, _⟩ => ⟨S1x512x1408, .bf16⟩
  | .local _ .vmem, ⟨48, _⟩ => ⟨S1x512x1408, .bf16⟩
  | .local _ .vmem, ⟨49, _⟩ => ⟨S1x512x1408, .bf16⟩
  | .local _ .vmem, ⟨50, _⟩ => ⟨S1x512x1408, .bf16⟩
  | .local _ .vmem, ⟨51, _⟩ => ⟨S1x512x1408, .bf16⟩
  | .local _ .vmem, ⟨52, _⟩ => ⟨S1x512x1408, .bf16⟩
  | .local _ .vmem, ⟨53, _⟩ => ⟨S1x512x1408, .bf16⟩
  | .local _ .vmem, ⟨54, _⟩ => ⟨S1x512x1408, .bf16⟩
  | .local _ .vmem, ⟨55, _⟩ => ⟨S768x512, .f32⟩
  | .local _ .vmem, ⟨56, _⟩ => ⟨S768x512, .f32⟩
  | .local _ .vmem, ⟨57, _⟩ => ⟨S768x5632, .bf16⟩
  | .local _ .vmem, ⟨58, _⟩ => ⟨S768x5632, .bf16⟩
  | .local _ .vmem, ⟨59, _⟩ => ⟨S1x512x1408, .bf16⟩
  | .local _ .vmem, ⟨60, _⟩ => ⟨S1x512x1408, .bf16⟩
  | .local _ .vmem, ⟨61, _⟩ => ⟨S1x512x1408, .bf16⟩
  | .local _ .vmem, ⟨62, _⟩ => ⟨S1x512x1408, .bf16⟩
  | .local _ .vmem, ⟨63, _⟩ => ⟨S1x512x1408, .bf16⟩
  | .local _ .vmem, ⟨64, _⟩ => ⟨S1x512x1408, .bf16⟩
  | .local _ .vmem, ⟨65, _⟩ => ⟨S1x512x1408, .bf16⟩
  | .local _ .vmem, ⟨66, _⟩ => ⟨S1x512x1408, .bf16⟩
  | .local _ .vmem, ⟨67, _⟩ => ⟨S768x512, .f32⟩
  | .local _ .vmem, ⟨68, _⟩ => ⟨S768x512, .f32⟩
  | .local _ .vmem, ⟨69, _⟩ => ⟨S768x512, .f32⟩
  | .local _ .vmem, ⟨70, _⟩ => ⟨S768x512, .f32⟩
  | .local _ .vmem, ⟨71, _⟩ => ⟨S2304x1024, .bf16⟩
  | .local _ .vmem, ⟨72, _⟩ => ⟨S2304x1024, .bf16⟩
  | .local _ .vmem, ⟨73, _⟩ => ⟨S2304x1408, .bf16⟩
  | .local _ .vmem, ⟨74, _⟩ => ⟨S2304x1408, .bf16⟩
  | .local _ .vmem, ⟨75, _⟩ => ⟨S1x1024x1408, .bf16⟩
  | .local _ .vmem, ⟨76, _⟩ => ⟨S1x1024x1408, .bf16⟩
  | .local _ .vmem, ⟨77, _⟩ => ⟨S2304x1024, .bf16⟩
  | .local _ .vmem, ⟨78, _⟩ => ⟨S2304x1024, .bf16⟩
  | .local _ .vmem, ⟨79, _⟩ => ⟨S2304x1408, .bf16⟩
  | .local _ .vmem, ⟨80, _⟩ => ⟨S2304x1408, .bf16⟩
  | .local _ .vmem, ⟨81, _⟩ => ⟨S1x1024x1408, .bf16⟩
  | .local _ .vmem, ⟨82, _⟩ => ⟨S1x1024x1408, .bf16⟩
  | .local _ .vmem, ⟨83, _⟩ => ⟨S768x5632, .bf16⟩
  | .local _ .vmem, ⟨84, _⟩ => ⟨S768x5632, .bf16⟩
  | .local _ .vmem, ⟨85, _⟩ => ⟨S1x1408x512, .bf16⟩
  | .local _ .vmem, ⟨86, _⟩ => ⟨S1x1408x512, .bf16⟩
  | .local _ .vmem, ⟨87, _⟩ => ⟨S1x1408x512, .bf16⟩
  | .local _ .vmem, ⟨88, _⟩ => ⟨S1x1408x512, .bf16⟩
  | .local _ .vmem, ⟨89, _⟩ => ⟨S1x1408x512, .bf16⟩
  | .local _ .vmem, ⟨90, _⟩ => ⟨S1x1408x512, .bf16⟩
  | .local _ .vmem, ⟨91, _⟩ => ⟨S1x1408x512, .bf16⟩
  | .local _ .vmem, ⟨92, _⟩ => ⟨S1x1408x512, .bf16⟩
  | .local _ .vmem, ⟨93, _⟩ => ⟨S768x512, .f32⟩
  | .local _ .vmem, ⟨94, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc4_stg6_0 : Ref sig .tc := ⟨.vmem, 39, rfl⟩
abbrev cc4_stg6_1 : Ref sig .tc := ⟨.vmem, 40, rfl⟩
abbrev cc4_stg7_0 : Ref sig .tc := ⟨.vmem, 41, rfl⟩
abbrev cc4_stg7_1 : Ref sig .tc := ⟨.vmem, 42, rfl⟩
abbrev cc4_stg8_0 : Ref sig .tc := ⟨.vmem, 43, rfl⟩
abbrev cc4_stg8_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg6_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg1_1 : Ref sig .tc := ⟨.vmem, 80, rfl⟩
abbrev cc8_stg2_0 : Ref sig .tc := ⟨.vmem, 81, rfl⟩
abbrev cc8_stg2_1 : Ref sig .tc := ⟨.vmem, 82, rfl⟩
abbrev cc9_stg0_0 : Ref sig .tc := ⟨.vmem, 83, rfl⟩
abbrev cc9_stg0_1 : Ref sig .tc := ⟨.vmem, 84, rfl⟩
abbrev cc9_stg1_0 : Ref sig .tc := ⟨.vmem, 85, rfl⟩
abbrev cc9_stg1_1 : Ref sig .tc := ⟨.vmem, 86, rfl⟩
abbrev cc9_stg2_0 : Ref sig .tc := ⟨.vmem, 87, rfl⟩
abbrev cc9_stg2_1 : Ref sig .tc := ⟨.vmem, 88, rfl⟩
abbrev cc9_stg3_0 : Ref sig .tc := ⟨.vmem, 89, rfl⟩
abbrev cc9_stg3_1 : Ref sig .tc := ⟨.vmem, 90, rfl⟩
abbrev cc9_stg4_0 : Ref sig .tc := ⟨.vmem, 91, rfl⟩
abbrev cc9_stg4_1 : Ref sig .tc := ⟨.vmem, 92, rfl⟩
abbrev cc9_stg5_0 : Ref sig .tc := ⟨.vmem, 93, rfl⟩
abbrev cc9_stg5_1 : Ref sig .tc := ⟨.vmem, 94, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc4_sem5_0 : DmaSem sig := 37
abbrev cc4_sem5_1 : DmaSem sig := 38
abbrev cc4_sem6_0 : DmaSem sig := 39
abbrev cc4_sem6_1 : DmaSem sig := 40
abbrev cc4_sem7_0 : DmaSem sig := 41
abbrev cc4_sem7_1 : DmaSem sig := 42
abbrev cc4_sem8_0 : DmaSem sig := 43
abbrev cc4_sem8_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc6_sem5_0 : DmaSem sig := 67
abbrev cc6_sem5_1 : DmaSem sig := 68
abbrev cc6_sem6_0 : DmaSem sig := 69
abbrev cc6_sem6_1 : DmaSem sig := 70
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem2_1 : DmaSem sig := 76
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem2_1 : DmaSem sig := 82
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem2_1 : DmaSem sig := 88
abbrev cc9_sem3_0 : DmaSem sig := 89
abbrev cc9_sem3_1 : DmaSem sig := 90
abbrev cc9_sem4_0 : DmaSem sig := 91
abbrev cc9_sem4_1 : DmaSem sig := 92
abbrev cc9_sem5_0 : DmaSem sig := 93
abbrev cc9_sem5_1 : DmaSem sig := 94

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1152x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2304x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2304x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2304x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![3, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S768x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S768x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2304x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2304x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![22], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2304x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2304x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2304x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2304x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2304x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S3x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![3, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c1_i32 : BitVec 32 := 1#32
  let c0_i32_1 : BitVec 32 := 0#32
  ![c0_i32_0.toNat, v0.toNat, c1_i32.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c1_i32_0 : BitVec 32 := 1#32
  let c0_i32_1 : BitVec 32 := 0#32
  ![c1_i32.toNat, v0.toNat, c1_i32_0.toNat]

def cc5_transform_5 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x512x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev stage5_3 : Fin 2 → Memref sig .tc .vmem S1x512x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, false]

abbrev stage5_4 : Fin 2 → Memref sig .tc .vmem S1x512x1408 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true, false]

abbrev stage5_5 : Fin 2 → Memref sig .tc .vmem S768x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, false]

abbrev grid6 : Pipeline.Grid := ⟨3, ![3, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let c1_i32 : BitVec 32 := 1#32
  let c0_i32_0 : BitVec 32 := 0#32
  ![c2_i32.toNat, v0.toNat, c1_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let c1_i32 : BitVec 32 := 1#32
  let c0_i32_0 : BitVec 32 := 0#32
  ![c3_i32.toNat, v0.toNat, c1_i32.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_6 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S768x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x512x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S1x512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S1x512x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true, false]

abbrev stage6_4 : Fin 2 → Memref sig .tc .vmem S1x512x1408 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true, false]

abbrev stage6_5 : Fin 2 → Memref sig .tc .vmem S768x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]

abbrev stage6_6 : Fin 2 → Memref sig .tc .vmem S768x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage7_0 : Fin 2 → Memref sig .tc .vmem S2304x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2304x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_3 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage8_0 : Fin 2 → Memref sig .tc .vmem S2304x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2304x1408 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x1408 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![3, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc9_transform_4 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc9_transform_5 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S768x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x1408x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, false]

abbrev stage9_2 : Fin 2 → Memref sig .tc .vmem S1x1408x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, false]

abbrev stage9_3 : Fin 2 → Memref sig .tc .vmem S1x1408x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true, false]

abbrev stage9_4 : Fin 2 → Memref sig .tc .vmem S1x1408x512 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true, false]

abbrev stage9_5 : Fin 2 → Memref sig .tc .vmem S768x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true, false]
-- ==== Reference2Ideal.lean ====
abbrev S2304x2048 : Shape := ⟨2, ![2304, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S5632 : Shape := ⟨1, ![5632]⟩
abbrev S2048x2048 : Shape := ⟨2, ![2048, 2048]⟩
abbrev S256x2048 : Shape := ⟨2, ![256, 2048]⟩
abbrev S2048x5632 : Shape := ⟨2, ![2048, 5632]⟩
abbrev S_ : Shape := ⟨0, ![]⟩
abbrev S2050x5632 : Shape := ⟨2, ![2050, 5632]⟩
abbrev S256x11264 : Shape := ⟨2, ![256, 11264]⟩
abbrev S256x5632 : Shape := ⟨2, ![256, 5632]⟩
abbrev S258x5632 : Shape := ⟨2, ![258, 5632]⟩
abbrev S11264x2048 : Shape := ⟨2, ![11264, 2048]⟩

abbrev nBuf : Space → Nat
  | .hbm => 257
  | .vmem => 0
  | .smem => 0
  | _ => 0

abbrev hbmTy0_0 (i : Nat) : BufTy := match i % 128 with
  | 0 => ⟨S2304x2048, .bf16⟩
  | 1 => ⟨S4x2048x2816, .bf16⟩
  | 2 => ⟨S3x5632, .f32⟩
  | 3 => ⟨S1x5632, .f32⟩
  | 4 => ⟨S4x1408x2048, .bf16⟩
  | 5 => ⟨S2304x2048, .bf16⟩
  | 6 => ⟨S4x2048x2816, .f32⟩
  | 7 => ⟨S2048x4x2816, .f32⟩
  | 8 => ⟨S2048x11264, .f32⟩
  | 9 => ⟨S4x1408x2048, .f32⟩
  | 10 => ⟨S5632x2048, .f32⟩
  | 11 => ⟨S2304x2048, .f32⟩
  | 12 => ⟨S5632, .f32⟩
  | 13 => ⟨S2048x2048, .f32⟩
  | 14 => ⟨S256x2048, .f32⟩
  | 15 => ⟨S2048x11264, .f32⟩
  | 16 => ⟨S2048x5632, .f32⟩
  | 17 => ⟨S2048x5632, .f32⟩
  | 18 => ⟨S_, .f32⟩
  | 19 => ⟨S1x5632, .f32⟩
  | 20 => ⟨S2050x5632, .f32⟩
  | 21 => ⟨S_, .f32⟩
  | 22 => ⟨S1x5632, .f32⟩
  | 23 => ⟨S_, .f32⟩
  | 24 => ⟨S1x5632, .f32⟩
  | 25 => ⟨S2048x5632, .f32⟩
  | 26 => ⟨S1x5632, .f32⟩
  | 27 => ⟨S5632, .f32⟩
  | 28 => ⟨S1x5632, .f32⟩
  | 29 => ⟨S2048x5632, .f32⟩
  | 30 => ⟨S2048x5632, .f32⟩
  | 31 => ⟨S2048x5632, .f32⟩
  | 32 => ⟨S1x5632, .f32⟩
  | 33 => ⟨S5632, .f32⟩
  | 34 => ⟨S1x5632, .f32⟩
  | 35 => ⟨S2048x5632, .f32⟩
  | 36 => ⟨S2048x5632, .f32⟩
  | 37 => ⟨S2048x5632, .f32⟩
  | 38 => ⟨S2048x5632, .f32⟩
  | 39 => ⟨S1x5632, .f32⟩
  | 40 => ⟨S5632, .f32⟩
  | 41 => ⟨S1x5632, .f32⟩
  | 42 => ⟨S2048x5632, .f32⟩
  | 43 => ⟨S2048x5632, .f32⟩
  | 44 => ⟨S2048x5632, .f32⟩
  | 45 => ⟨S1x5632, .f32⟩
  | 46 => ⟨S2048x5632, .f32⟩
  | 47 => ⟨S2048x5632, .f32⟩
  | 48 => ⟨S2048x5632, .f32⟩
  | 49 => ⟨S2048x5632, .f32⟩
  | 50 => ⟨S_, .f32⟩
  | 51 => ⟨S2048x5632, .f32⟩
  | 52 => ⟨S2048x5632, .f32⟩
  | 53 => ⟨S_, .f32⟩
  | 54 => ⟨S2048x5632, .f32⟩
  | 55 => ⟨S2048x5632, .f32⟩
  | 56 => ⟨S_, .f32⟩
  | 57 => ⟨S2048x5632, .f32⟩
  | 58 => ⟨S2048x5632, .f32⟩
  | 59 => ⟨S2048x5632, .f32⟩
  | 60 => ⟨S2048x5632, .f32⟩
  | 61 => ⟨S2048x5632, .f32⟩
  | 62 => ⟨S2048x2048, .f32⟩
  | 63 => ⟨S256x11264, .f32⟩
  | 64 => ⟨S256x5632, .f32⟩
  | 65 => ⟨S256x5632, .f32⟩
  | 66 => ⟨S_, .f32⟩
  | 67 => ⟨S1x5632, .f32⟩
  | 68 => ⟨S258x5632, .f32⟩
  | 69 => ⟨S_, .f32⟩
  | 70 => ⟨S1x5632, .f32⟩
  | 71 => ⟨S_, .f32⟩
  | 72 => ⟨S1x5632, .f32⟩
  | 73 => ⟨S256x5632, .f32⟩
  | 74 => ⟨S1x5632, .f32⟩
  | 75 => ⟨S5632, .f32⟩
  | 76 => ⟨S1x5632, .f32⟩
  | 77 => ⟨S256x5632, .f32⟩
  | 78 => ⟨S256x5632, .f32⟩
  | 79 => ⟨S256x5632, .f32⟩
  | 80 => ⟨S1x5632, .f32⟩
  | 81 => ⟨S5632, .f32⟩
  | 82 => ⟨S1x5632, .f32⟩
  | 83 => ⟨S256x5632, .f32⟩
  | 84 => ⟨S256x5632, .f32⟩
  | 85 => ⟨S256x5632, .f32⟩
  | 86 => ⟨S256x5632, .f32⟩
  | 87 => ⟨S1x5632, .f32⟩
  | 88 => ⟨S5632, .f32⟩
  | 89 => ⟨S1x5632, .f32⟩
  | 90 => ⟨S256x5632, .f32⟩
  | 91 => ⟨S256x5632, .f32⟩
  | 92 => ⟨S256x5632, .f32⟩
  | 93 => ⟨S1x5632, .f32⟩
  | 94 => ⟨S256x5632, .f32⟩
  | 95 => ⟨S256x5632, .f32⟩
  | 96 => ⟨S256x5632, .f32⟩
  | 97 => ⟨S256x5632, .f32⟩
  | 98 => ⟨S_, .f32⟩
  | 99 => ⟨S256x5632, .f32⟩
  | 100 => ⟨S256x5632, .f32⟩
  | 101 => ⟨S_, .f32⟩
  | 102 => ⟨S256x5632, .f32⟩
  | 103 => ⟨S256x5632, .f32⟩
  | 104 => ⟨S_, .f32⟩
  | 105 => ⟨S256x5632, .f32⟩
  | 106 => ⟨S256x5632, .f32⟩
  | 107 => ⟨S256x5632, .f32⟩
  | 108 => ⟨S256x5632, .f32⟩
  | 109 => ⟨S256x5632, .f32⟩
  | 110 => ⟨S256x2048, .f32⟩
  | 111 => ⟨S2304x2048, .f32⟩
  | 112 => ⟨S2304x2048, .f32⟩
  | 113 => ⟨S2048x2048, .f32⟩
  | 114 => ⟨S256x2048, .f32⟩
  | 115 => ⟨S2048x5632, .f32⟩
  | 116 => ⟨S5632x2048, .f32⟩
  | 117 => ⟨S256x5632, .f32⟩
  | 118 => ⟨S256x5632, .f32⟩
  | 119 => ⟨S256x5632, .f32⟩
  | 120 => ⟨S256x5632, .f32⟩
  | 121 => ⟨S256x5632, .f32⟩
  | 122 => ⟨S256x5632, .f32⟩
  | 123 => ⟨S256x5632, .f32⟩
  | 124 => ⟨S_, .f32⟩
  | 125 => ⟨S5632, .f32⟩
  | 126 => ⟨S1x5632, .f32⟩
  | 127 => ⟨S_, .f32⟩
  | _ => ⟨S2304x2048, .bf16⟩

abbrev hbmTy0_1 (i : Nat) : BufTy := match i % 128 with
  | 0 => ⟨S5632, .f32⟩
  | 1 => ⟨S256x5632, .f32⟩
  | 2 => ⟨S_, .f32⟩
  | 3 => ⟨S5632, .f32⟩
  | 4 => ⟨S1x5632, .f32⟩
  | 5 => ⟨S256x5632, .f32⟩
  | 6 => ⟨S256x5632, .f32⟩
  | 7 => ⟨S_, .f32⟩
  | 8 => ⟨S5632, .f32⟩
  | 9 => ⟨S1x5632, .f32⟩
  | 10 => ⟨S_, .f32⟩
  | 11 => ⟨S3x5632, .f32⟩
  | 12 => ⟨S_, .f32⟩
  | 13 => ⟨S258x5632, .f32⟩
  | 14 => ⟨S256x5632, .f32⟩
  | 15 => ⟨S_, .f32⟩
  | 16 => ⟨S5632, .f32⟩
  | 17 => ⟨S1x5632, .f32⟩
  | 18 => ⟨S256x5632, .f32⟩
  | 19 => ⟨S256x5632, .f32⟩
  | 20 => ⟨S_, .f32⟩
  | 21 => ⟨S5632, .f32⟩
  | 22 => ⟨S1x5632, .f32⟩
  | 23 => ⟨S_, .f32⟩
  | 24 => ⟨S3x5632, .f32⟩
  | 25 => ⟨S3x5632, .f32⟩
  | 26 => ⟨S_, .f32⟩
  | 27 => ⟨S258x5632, .f32⟩
  | 28 => ⟨S258x5632, .f32⟩
  | 29 => ⟨S256x5632, .f32⟩
  | 30 => ⟨S_, .f32⟩
  | 31 => ⟨S5632, .f32⟩
  | 32 => ⟨S1x5632, .f32⟩
  | 33 => ⟨S256x5632, .f32⟩
  | 34 => ⟨S256x5632, .f32⟩
  | 35 => ⟨S_, .f32⟩
  | 36 => ⟨S5632, .f32⟩
  | 37 => ⟨S1x5632, .f32⟩
  | 38 => ⟨S_, .f32⟩
  | 39 => ⟨S3x5632, .f32⟩
  | 40 => ⟨S3x5632, .f32⟩
  | 41 => ⟨S_, .f32⟩
  | 42 => ⟨S258x5632, .f32⟩
  | 43 => ⟨S258x5632, .f32⟩
  | 44 => ⟨S1x5632, .f32⟩
  | 45 => ⟨S256x5632, .f32⟩
  | 46 => ⟨S1x5632, .f32⟩
  | 47 => ⟨S256x11264, .f32⟩
  | 48 => ⟨S11264x2048, .f32⟩
  | 49 => ⟨S2048x11264, .f32⟩
  | 50 => ⟨S256x2048, .f32⟩
  | 51 => ⟨S2048x5632, .f32⟩
  | 52 => ⟨S5632x2048, .f32⟩
  | 53 => ⟨S5632x2048, .f32⟩
  | 54 => ⟨S2048x5632, .f32⟩
  | 55 => ⟨S2048x5632, .f32⟩
  | 56 => ⟨S2048x5632, .f32⟩
  | 57 => ⟨S2048x5632, .f32⟩
  | 58 => ⟨S2048x5632, .f32⟩
  | 59 => ⟨S2048x5632, .f32⟩
  | 60 => ⟨S2048x5632, .f32⟩
  | 61 => ⟨S_, .f32⟩
  | 62 => ⟨S5632, .f32⟩
  | 63 => ⟨S1x5632, .f32⟩
  | 64 => ⟨S_, .f32⟩
  | 65 => ⟨S5632, .f32⟩
  | 66 => ⟨S5632, .f32⟩
  | 67 => ⟨S2048x5632, .f32⟩
  | 68 => ⟨S_, .f32⟩
  | 69 => ⟨S5632, .f32⟩
  | 70 => ⟨S1x5632, .f32⟩
  | 71 => ⟨S2048x5632, .f32⟩
  | 72 => ⟨S2048x5632, .f32⟩
  | 73 => ⟨S_, .f32⟩
  | 74 => ⟨S5632, .f32⟩
  | 75 => ⟨S1x5632, .f32⟩
  | 76 => ⟨S_, .f32⟩
  | 77 => ⟨S3x5632, .f32⟩
  | 78 => ⟨S3x5632, .f32⟩
  | 79 => ⟨S_, .f32⟩
  | 80 => ⟨S2050x5632, .f32⟩
  | 81 => ⟨S2048x5632, .f32⟩
  | 82 => ⟨S_, .f32⟩
  | 83 => ⟨S5632, .f32⟩
  | 84 => ⟨S1x5632, .f32⟩
  | 85 => ⟨S2048x5632, .f32⟩
  | 86 => ⟨S2048x5632, .f32⟩
  | 87 => ⟨S_, .f32⟩
  | 88 => ⟨S5632, .f32⟩
  | 89 => ⟨S1x5632, .f32⟩
  | 90 => ⟨S_, .f32⟩
  | 91 => ⟨S3x5632, .f32⟩
  | 92 => ⟨S3x5632, .f32⟩
  | 93 => ⟨S_, .f32⟩
  | 94 => ⟨S2050x5632, .f32⟩
  | 95 => ⟨S2050x5632, .f32⟩
  | 96 => ⟨S2048x5632, .f32⟩
  | 97 => ⟨S_, .f32⟩
  | 98 => ⟨S5632, .f32⟩
  | 99 => ⟨S1x5632, .f32⟩
  | 100 => ⟨S2048x5632, .f32⟩
  | 101 => ⟨S2048x5632, .f32⟩
  | 102 => ⟨S_, .f32⟩
  | 103 => ⟨S5632, .f32⟩
  | 104 => ⟨S1x5632, .f32⟩
  | 105 => ⟨S_, .f32⟩
  | 106 => ⟨S3x5632, .f32⟩
  | 107 => ⟨S3x5632, .f32⟩
  | 108 => ⟨S_, .f32⟩
  | 109 => ⟨S2050x5632, .f32⟩
  | 110 => ⟨S2050x5632, .f32⟩
  | 111 => ⟨S1x5632, .f32⟩
  | 112 => ⟨S2048x5632, .f32⟩
  | 113 => ⟨S1x5632, .f32⟩
  | 114 => ⟨S2048x11264, .f32⟩
  | 115 => ⟨S11264x2048, .f32⟩
  | 116 => ⟨S2048x11264, .f32⟩
  | 117 => ⟨S2048x11264, .f32⟩
  | 118 => ⟨S2048x2048, .f32⟩
  | 119 => ⟨S_, .f32⟩
  | 120 => ⟨S2304x2048, .f32⟩
  | 121 => ⟨S_, .f32⟩
  | 122 => ⟨S2304x2048, .f32⟩
  | 123 => ⟨S2304x2048, .f32⟩
  | 124 => ⟨S2048x4x2816, .f32⟩
  | 125 => ⟨S4x2048x2816, .f32⟩
  | 126 => ⟨S4x2048x2816, .bf16⟩
  | 127 => ⟨S1x5632, .f32⟩
  | _ => ⟨S2304x2048, .bf16⟩

abbrev hbmTy0_2 (i : Nat) : BufTy := match i % 128 with
  | 0 => ⟨S5632x2048, .bf16⟩
  | _ => ⟨S2304x2048, .bf16⟩

abbrev hbmTy (i : Nat) : BufTy := match i / 128 with
  | 0 => hbmTy0_0 i
  | 1 => hbmTy0_1 i
  | 2 => hbmTy0_2 i
  | _ => ⟨S2304x2048, .bf16⟩

abbrev bufTy : (tb : Table) → Fin (tcTables nBuf tb) → BufTy
  | .hbm, ⟨i, _⟩ => hbmTy i
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v39_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v39_1 : Ref sig .tc := ⟨.hbm, 59, rfl⟩
abbrev main_v39_0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_2 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_v72_2 : Ref sig .tc := ⟨.hbm, 103, rfl⟩
abbrev main_call1_cst_1 : Ref sig .tc := ⟨.hbm, 104, rfl⟩
abbrev main_call1_v6 : Ref sig .tc := ⟨.hbm, 105, rfl⟩
abbrev main_call1_v7 : Ref sig .tc := ⟨.hbm, 106, rfl⟩
abbrev main_v72_1 : Ref sig .tc := ⟨.hbm, 107, rfl⟩
abbrev main_v72_0 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v84 : Ref sig .tc := ⟨.hbm, 123, rfl⟩
abbrev main_cst_5 : Ref sig .tc := ⟨.hbm, 124, rfl⟩
abbrev main_v85 : Ref sig .tc := ⟨.hbm, 125, rfl⟩
abbrev main_v86 : Ref sig .tc := ⟨.hbm, 126, rfl⟩
abbrev main_cst_6 : Ref sig .tc := ⟨.hbm, 127, rfl⟩
abbrev main_v87 : Ref sig .tc := ⟨.hbm, 128, rfl⟩
abbrev main_v88 : Ref sig .tc := ⟨.hbm, 129, rfl⟩
abbrev main_cst_7 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_8 : Ref sig .tc := ⟨.hbm, 135, rfl⟩
abbrev main_v93 : Ref sig .tc := ⟨.hbm, 136, rfl⟩
abbrev main_v94 : Ref sig .tc := ⟨.hbm, 137, rfl⟩
abbrev main_cst_9 : Ref sig .tc := ⟨.hbm, 138, rfl⟩
abbrev main_v95 : Ref sig .tc := ⟨.hbm, 139, rfl⟩
abbrev main_cst_10 : Ref sig .tc := ⟨.hbm, 140, rfl⟩
abbrev main_v96 : Ref sig .tc := ⟨.hbm, 141, rfl⟩
abbrev main_v97 : Ref sig .tc := ⟨.hbm, 142, rfl⟩
abbrev main_cst_11 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_12 : Ref sig .tc := ⟨.hbm, 148, rfl⟩
abbrev main_v102 : Ref sig .tc := ⟨.hbm, 149, rfl⟩
abbrev main_v103 : Ref sig .tc := ⟨.hbm, 150, rfl⟩
abbrev main_cst_13 : Ref sig .tc := ⟨.hbm, 151, rfl⟩
abbrev main_v104 : Ref sig .tc := ⟨.hbm, 152, rfl⟩
abbrev main_v105 : Ref sig .tc := ⟨.hbm, 153, rfl⟩
abbrev main_cst_14 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_15 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_16 : Ref sig .tc := ⟨.hbm, 163, rfl⟩
abbrev main_v113 : Ref sig .tc := ⟨.hbm, 164, rfl⟩
abbrev main_v114 : Ref sig .tc := ⟨.hbm, 165, rfl⟩
abbrev main_cst_17 : Ref sig .tc := ⟨.hbm, 166, rfl⟩
abbrev main_v115 : Ref sig .tc := ⟨.hbm, 167, rfl⟩
abbrev main_v116 : Ref sig .tc := ⟨.hbm, 168, rfl⟩
abbrev main_cst_18 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v132 : Ref sig .tc := ⟨.hbm, 188, rfl⟩
abbrev main_cst_19 : Ref sig .tc := ⟨.hbm, 189, rfl⟩
abbrev main_v133 : Ref sig .tc := ⟨.hbm, 190, rfl⟩
abbrev main_v134 : Ref sig .tc := ⟨.hbm, 191, rfl⟩
abbrev main_cst_20 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_21 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_22 : Ref sig .tc := ⟨.hbm, 201, rfl⟩
abbrev main_v142 : Ref sig .tc := ⟨.hbm, 202, rfl⟩
abbrev main_v143 : Ref sig .tc := ⟨.hbm, 203, rfl⟩
abbrev main_cst_23 : Ref sig .tc := ⟨.hbm, 204, rfl⟩
abbrev main_v144 : Ref sig .tc := ⟨.hbm, 205, rfl⟩
abbrev main_v145 : Ref sig .tc := ⟨.hbm, 206, rfl⟩
abbrev main_cst_24 : Ref sig .tc := ⟨.hbm, 207, rfl⟩
abbrev main_v146 : Ref sig .tc := ⟨.hbm, 208, rfl⟩
abbrev main_v147 : Ref sig .tc := ⟨.hbm, 209, rfl⟩
abbrev main_cst_25 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_26 : Ref sig .tc := ⟨.hbm, 215, rfl⟩
abbrev main_v152 : Ref sig .tc := ⟨.hbm, 216, rfl⟩
abbrev main_v153 : Ref sig .tc := ⟨.hbm, 217, rfl⟩
abbrev main_cst_27 : Ref sig .tc := ⟨.hbm, 218, rfl⟩
abbrev main_v154 : Ref sig .tc := ⟨.hbm, 219, rfl⟩
abbrev main_v155 : Ref sig .tc := ⟨.hbm, 220, rfl⟩
abbrev main_cst_28 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_29 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_cst_30 : Ref sig .tc := ⟨.hbm, 230, rfl⟩
abbrev main_v163 : Ref sig .tc := ⟨.hbm, 231, rfl⟩
abbrev main_v164 : Ref sig .tc := ⟨.hbm, 232, rfl⟩
abbrev main_cst_31 : Ref sig .tc := ⟨.hbm, 233, rfl⟩
abbrev main_v165 : Ref sig .tc := ⟨.hbm, 234, rfl⟩
abbrev main_v166 : Ref sig .tc := ⟨.hbm, 235, rfl⟩
abbrev main_cst_32 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_33 : Ref sig .tc := ⟨.hbm, 247, rfl⟩
abbrev main_v177 : Ref sig .tc := ⟨.hbm, 248, rfl⟩
abbrev main_cst_34 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩

abbrev nD : Nat := 1
abbrev τ : Topo := Topo.v7x

variable {F : FTy → Type} [FloatOps F]
-- ==== Kernel3.lean ====
abbrev S2304x2048 : Shape := ⟨2, ![2304, 2048]⟩
abbrev S2048x5120 : Shape := ⟨2, ![2048, 5120]⟩
abbrev S2048x128 : Shape := ⟨2, ![2048, 128]⟩
abbrev S2304x5120 : Shape := ⟨2, ![2304, 5120]⟩
abbrev S2304x128 : Shape := ⟨2, ![2304, 128]⟩
abbrev S4x512x2048 : Shape := ⟨3, ![4, 512, 2048]⟩
abbrev S1152x2048 : Shape := ⟨2, ![1152, 2048]⟩
abbrev S2048x1280 : Shape := ⟨2, ![2048, 1280]⟩
abbrev S1152x1280 : Shape := ⟨2, ![1152, 1280]⟩
abbrev S1152x128 : Shape := ⟨2, ![1152, 128]⟩
abbrev S1x512x1024 : Shape := ⟨3, ![1, 512, 1024]⟩
abbrev S1152x1024 : Shape := ⟨2, ![1152, 1024]⟩
abbrev S1152x512 : Shape := ⟨2, ![1152, 512]⟩
abbrev S512x1024 : Shape := ⟨2, ![512, 1024]⟩
abbrev S1x512x2048 : Shape := ⟨3, ![1, 512, 2048]⟩
abbrev S512x2048 : Shape := ⟨2, ![512, 2048]⟩
abbrev S2048x2048 : Shape := ⟨2, ![2048, 2048]⟩
abbrev S2304x1024 : Shape := ⟨2, ![2304, 1024]⟩
abbrev S1024x1024 : Shape := ⟨2, ![1024, 1024]⟩
abbrev S768x5120 : Shape := ⟨2, ![768, 5120]⟩
abbrev S512x5120 : Shape := ⟨2, ![512, 5120]⟩
abbrev S768x512 : Shape := ⟨2, ![768, 512]⟩
abbrev S2304x1280 : Shape := ⟨2, ![2304, 1280]⟩
abbrev S1024x1280 : Shape := ⟨2, ![1024, 1280]⟩
abbrev S1024x128 : Shape := ⟨2, ![1024, 128]⟩

abbrev nBuf : Space → Nat
  | .hbm => 17
  | .vmem => 59
  | .smem => 0
  | _ => 0

abbrev bufTy : (tb : Table) → Fin (tcTables nBuf tb) → BufTy
  | .hbm, ⟨0, _⟩ => ⟨S2304x2048, .bf16⟩
  | .hbm, ⟨1, _⟩ => ⟨S2048x5120, .bf16⟩
  | .hbm, ⟨2, _⟩ => ⟨S2048x128, .bf16⟩
  | .hbm, ⟨3, _⟩ => ⟨S2304x5120, .bf16⟩
  | .hbm, ⟨4, _⟩ => ⟨S2304x128, .bf16⟩
  | .hbm, ⟨5, _⟩ => ⟨S2304x2048, .bf16⟩
  | .hbm, ⟨6, _⟩ => ⟨S4x512x2048, .bf16⟩
  | .hbm, ⟨7, _⟩ => ⟨S2304x2048, .bf16⟩
  | .hbm, ⟨8, _⟩ => ⟨S2304x5120, .bf16⟩
  | .hbm, ⟨9, _⟩ => ⟨S2304x128, .f32⟩
  | .hbm, ⟨10, _⟩ => ⟨S2304x2048, .f32⟩
  | .hbm, ⟨11, _⟩ => ⟨S2304x2048, .f32⟩
  | .hbm, ⟨12, _⟩ => ⟨S2048x2048, .bf16⟩
  | .hbm, ⟨13, _⟩ => ⟨S2304x2048, .f32⟩
  | .hbm, ⟨14, _⟩ => ⟨S2304x2048, .f32⟩
  | .hbm, ⟨15, _⟩ => ⟨S2048x5120, .bf16⟩
  | .hbm, ⟨16, _⟩ => ⟨S2048x128, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1152x1280, .bf16⟩
  | .local _ .vmem, ⟨5, _⟩ => ⟨S1152x1280, .bf16⟩
  | .local _ .vmem, ⟨6, _⟩ => ⟨S1152x2048, .bf16⟩
  | .local _ .vmem, ⟨7, _⟩ => ⟨S1152x2048, .bf16⟩
  | .local _ .vmem, ⟨8, _⟩ => ⟨S2048x128, .bf16⟩
  | .local _ .vmem, ⟨9, _⟩ => ⟨S1152x128, .f32⟩
  | .local _ .vmem, ⟨10, _⟩ => ⟨S1152x128, .f32⟩
  | .local _ .vmem, ⟨11, _⟩ => ⟨S1152x2048, .bf16⟩
  | .local _ .vmem, ⟨12, _⟩ => ⟨S1152x2048, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1152x1024, .f32⟩
  | .local _ .vmem, ⟨22, _⟩ => ⟨S1152x1024, .f32⟩
  | .local _ .vmem, ⟨23, _⟩ => ⟨S1152x2048, .bf16⟩
  | .local _ .vmem, ⟨24, _⟩ => ⟨S1152x2048, .bf16⟩
  | .local _ .vmem, ⟨25, _⟩ => ⟨S1x512x2048, .bf16⟩
  | .local _ .vmem, ⟨26, _⟩ => ⟨S1x512x2048, .bf16⟩
  | .local _ .vmem, ⟨27, _⟩ => ⟨S1152x512, .f32⟩
  | .local _ .vmem, ⟨28, _⟩ => ⟨S1152x512, .f32⟩
  | .local _ .vmem, ⟨29, _⟩ => ⟨S2304x1024, .bf16⟩
  | .local _ .vmem, ⟨30, _⟩ => ⟨S2304x1024, .bf16⟩
  | .local _ .vmem, ⟨31, _⟩ => ⟨S2304x1024, .bf16⟩
  | .local _ .vmem, ⟨32, _⟩ => ⟨S2304x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1152x128, .bf16⟩
  | .local _ .vmem, ⟨36, _⟩ => ⟨S1152x128, .bf16⟩
  | .local _ .vmem, ⟨37, _⟩ => ⟨S2048x128, .bf16⟩
  | .local _ .vmem, ⟨38, _⟩ => ⟨S1152x2048, .f32⟩
  | .local _ .vmem, ⟨39, _⟩ => ⟨S1152x2048, .f32⟩
  | .local _ .vmem, ⟨40, _⟩ => ⟨S768x5120, .bf16⟩
  | .local _ .vmem, ⟨41, _⟩ => ⟨S768x5120, .bf16⟩
  | .local _ .vmem, ⟨42, _⟩ => ⟨S512x5120, .bf16⟩
  | .local _ .vmem, ⟨43, _⟩ => ⟨S512x5120, .bf16⟩
  | .local _ .vmem, ⟨44, _⟩ => ⟨S768x512, .f32⟩
  | .local _ .vmem, ⟨45, _⟩ => ⟨S768x512, .f32⟩
  | .local _ .vmem, ⟨46, _⟩ => ⟨S768x512, .f32⟩
  | .local _ .vmem, ⟨47, _⟩ => ⟨S768x512, .f32⟩
  | .local _ .vmem, ⟨48, _⟩ => ⟨S2304x1024, .bf16⟩
  | .local _ .vmem, ⟨49, _⟩ => ⟨S2304x1024, .bf16⟩
  | .local _ .vmem, ⟨50, _⟩ => ⟨S2304x1280, .bf16⟩
  | .local _ .vmem, ⟨51, _⟩ => ⟨S2304x1280, .bf16⟩
  | .local _ .vmem, ⟨52, _⟩ => ⟨S1024x1280, .bf16⟩
  | .local _ .vmem, ⟨53, _⟩ => ⟨S1024x1280, .bf16⟩
  | .local _ .vmem, ⟨54, _⟩ => ⟨S2304x1024, .bf16⟩
  | .local _ .vmem, ⟨55, _⟩ => ⟨S2304x1024, .bf16⟩
  | .local _ .vmem, ⟨56, _⟩ => ⟨S2304x128, .bf16⟩
  | .local _ .vmem, ⟨57, _⟩ => ⟨S1024x128, .bf16⟩
  | .local _ .vmem, ⟨58, _⟩ => ⟨S1024x128, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg2_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem2_1 : DmaSem sig := 58

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1152x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1152x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1152x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1152x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1152x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1152x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2304x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2304x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1152x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1152x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![3, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S768x5120 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x5120 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S768x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S768x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2304x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2304x1280 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1280 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2304x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S2304x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference3Ideal.lean ====
abbrev S2304x2048 : Shape := ⟨2, ![2304, 2048]⟩
abbrev S2048x5120 : Shape := ⟨2, ![2048, 5120]⟩
abbrev S2048x128 : Shape := ⟨2, ![2048, 128]⟩
abbrev S2304x5120 : Shape := ⟨2, ![2304, 5120]⟩
abbrev S2304x128 : Shape := ⟨2, ![2304, 128]⟩
abbrev S4x512x2048 : Shape := ⟨3, ![4, 512, 2048]⟩
abbrev S2048x2048 : Shape := ⟨2, ![2048, 2048]⟩
abbrev S128x2048 : Shape := ⟨2, ![128, 2048]⟩
abbrev S5120x2048 : Shape := ⟨2, ![5120, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x5120, .bf16⟩
  | .hbm, ⟨2, _⟩ => ⟨S2048x128, .bf16⟩
  | .hbm, ⟨3, _⟩ => ⟨S2304x5120, .bf16⟩
  | .hbm, ⟨4, _⟩ => ⟨S2304x128, .bf16⟩
  | .hbm, ⟨5, _⟩ => ⟨S2304x2048, .bf16⟩
  | .hbm, ⟨6, _⟩ => ⟨S4x512x2048, .bf16⟩
  | .hbm, ⟨7, _⟩ => ⟨S2304x2048, .bf16⟩
  | .hbm, ⟨8, _⟩ => ⟨S2304x2048, .f32⟩
  | .hbm, ⟨9, _⟩ => ⟨S2048x5120, .f32⟩
  | .hbm, ⟨10, _⟩ => ⟨S2048x128, .f32⟩
  | .hbm, ⟨11, _⟩ => ⟨S2304x5120, .f32⟩
  | .hbm, ⟨12, _⟩ => ⟨S2304x128, .f32⟩
  | .hbm, ⟨13, _⟩ => ⟨S2304x2048, .f32⟩
  | .hbm, ⟨14, _⟩ => ⟨S4x512x2048, .f32⟩
  | .hbm, ⟨15, _⟩ => ⟨S2304x2048, .f32⟩
  | .hbm, ⟨16, _⟩ => ⟨S2304x5120, .f32⟩
  | .hbm, ⟨17, _⟩ => ⟨S2304x128, .f32⟩
  | .hbm, ⟨18, _⟩ => ⟨S2048x2048, .f32⟩
  | .hbm, ⟨19, _⟩ => ⟨S2304x2048, .f32⟩
  | .hbm, ⟨20, _⟩ => ⟨S128x2048, .f32⟩
  | .hbm, ⟨21, _⟩ => ⟨S2048x128, .f32⟩
  | .hbm, ⟨22, _⟩ => ⟨S2304x2048, .f32⟩
  | .hbm, ⟨23, _⟩ => ⟨S5120x2048, .f32⟩
  | .hbm, ⟨24, _⟩ => ⟨S2048x5120, .f32⟩
  | .hbm, ⟨25, _⟩ => ⟨S2304x2048, .f32⟩
  | .hbm, ⟨26, _⟩ => ⟨S2304x2048, .f32⟩
  | .hbm, ⟨27, _⟩ => ⟨S2048x2048, .f32⟩
  | .hbm, ⟨28, _⟩ => ⟨S2048x2048, .f32⟩
  | .hbm, ⟨29, _⟩ => ⟨S2304x2048, .f32⟩
  | .hbm, ⟨30, _⟩ => ⟨S2304x5120, .bf16⟩
  | .hbm, ⟨31, _⟩ => ⟨S2048x5120, .bf16⟩
  | .hbm, ⟨32, _⟩ => ⟨S2048x128, .bf16⟩
  | .hbm, ⟨33, _⟩ => ⟨S2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel4.lean ====
abbrev S2048x2048 : Shape := ⟨2, ![2048, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩
abbrev S2048x1 : Shape := ⟨2, ![2048, 1]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩
abbrev S5632x2048 : Shape := ⟨2, ![5632, 2048]⟩
abbrev S2048x512 : Shape := ⟨2, ![2048, 512]⟩
abbrev S256 : Shape := ⟨1, ![256]⟩
abbrev S2x256 : Shape := ⟨2, ![2, 256]⟩
abbrev S1024x5632 : Shape := ⟨2, ![1024, 5632]⟩
abbrev S1x512x1408 : Shape := ⟨3, ![1, 512, 1408]⟩
abbrev S1024x512 : Shape := ⟨2, ![1024, 512]⟩
abbrev S2048x1024 : Shape := ⟨2, ![2048, 1024]⟩
abbrev S1x1024x1408 : Shape := ⟨3, ![1, 1024, 1408]⟩
abbrev S1x1408x512 : Shape := ⟨3, ![1, 1408, 512]⟩
abbrev S1408x512 : Shape := ⟨2, ![1408, 512]⟩

abbrev nBuf : Space → Nat
  | .hbm => 19
  | .vmem => 95
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S3x5632, .f32⟩
  | .hbm, ⟨3, _⟩ => ⟨S1x5632, .f32⟩
  | .hbm, ⟨4, _⟩ => ⟨S4x1408x2048, .bf16⟩
  | .hbm, ⟨5, _⟩ => ⟨S2048x2048, .bf16⟩
  | .hbm, ⟨6, _⟩ => ⟨S2048x11264, .bf16⟩
  | .hbm, ⟨7, _⟩ => ⟨S2048x5632, .bf16⟩
  | .hbm, ⟨8, _⟩ => ⟨S2048x5632, .f32⟩
  | .hbm, ⟨9, _⟩ => ⟨S5632x2048, .bf16⟩
  | .hbm, ⟨10, _⟩ => ⟨S2048x5632, .bf16⟩
  | .hbm, ⟨11, _⟩ => ⟨S2048x5632, .bf16⟩
  | .hbm, ⟨12, _⟩ => ⟨S3x5632, .f32⟩
  | .hbm, ⟨13, _⟩ => ⟨S1x5632, .f32⟩
  | .hbm, ⟨14, _⟩ => ⟨S2048x2048, .f32⟩
  | .hbm, ⟨15, _⟩ => ⟨S2048x2048, .f32⟩
  | .hbm, ⟨16, _⟩ => ⟨S4x2048x2816, .bf16⟩
  | .hbm, ⟨17, _⟩ => ⟨S4x2048x2816, .bf16⟩
  | .hbm, ⟨18, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S512x2048, .bf16⟩
  | .local _ .vmem, ⟨17, _⟩ => ⟨S512x2048, .bf16⟩
  | .local _ .vmem, ⟨18, _⟩ => ⟨S1x1408x2048, .bf16⟩
  | .local _ .vmem, ⟨19, _⟩ => ⟨S1x1408x2048, .bf16⟩
  | .local _ .vmem, ⟨20, _⟩ => ⟨S512x1408, .f32⟩
  | .local _ .vmem, ⟨21, _⟩ => ⟨S512x1408, .f32⟩
  | .local _ .vmem, ⟨22, _⟩ => ⟨S2048x512, .bf16⟩
  | .local _ .vmem, ⟨23, _⟩ => ⟨S2048x512, .bf16⟩
  | .local _ .vmem, ⟨24, _⟩ => ⟨S2048x2048, .bf16⟩
  | .local _ .vmem, ⟨25, _⟩ => ⟨S512x2048, .bf16⟩
  | .local _ .vmem, ⟨26, _⟩ => ⟨S512x2048, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S3x256, .f32⟩
  | .local _ .vmem, ⟨32, _⟩ => ⟨S3x256, .f32⟩
  | .local _ .vmem, ⟨33, _⟩ => ⟨S1x256, .f32⟩
  | .local _ .vmem, ⟨34, _⟩ => ⟨S1x256, .f32⟩
  | .local _ .vmem, ⟨35, _⟩ => ⟨S2048x256, .f32⟩
  | .local _ .vmem, ⟨36, _⟩ => ⟨S2048x256, .f32⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S2048x256, .bf16⟩
  | .local _ .vmem, ⟨41, _⟩ => ⟨S3x256, .f32⟩
  | .local _ .vmem, ⟨42, _⟩ => ⟨S3x256, .f32⟩
  | .local _ .vmem, ⟨43, _⟩ => ⟨S1x256, .f32⟩
  | .local _ .vmem, ⟨44, _⟩ => ⟨S1x256, .f32⟩
  | .local _ .vmem, ⟨45, _⟩ => ⟨S1024x5632, .bf16⟩
  | .local _ .vmem, ⟨46, _⟩ => ⟨S1024x5632, .bf16⟩
  | .local _ .vmem, ⟨47, _⟩ => ⟨S1x512x1408, .bf16⟩
  | .local _ .vmem, ⟨48, _⟩ => ⟨S1x512x1408, .bf16⟩
  | .local _ .vmem, ⟨49, _⟩ => ⟨S1x512x1408, .bf16⟩
  | .local _ .vmem, ⟨50, _⟩ => ⟨S1x512x1408, .bf16⟩
  | .local _ .vmem, ⟨51, _⟩ => ⟨S1x512x1408, .bf16⟩
  | .local _ .vmem, ⟨52, _⟩ => ⟨S1x512x1408, .bf16⟩
  | .local _ .vmem, ⟨53, _⟩ => ⟨S1x512x1408, .bf16⟩
  | .local _ .vmem, ⟨54, _⟩ => ⟨S1x512x1408, .bf16⟩
  | .local _ .vmem, ⟨55, _⟩ => ⟨S1024x512, .f32⟩
  | .local _ .vmem, ⟨56, _⟩ => ⟨S1024x512, .f32⟩
  | .local _ .vmem, ⟨57, _⟩ => ⟨S1024x5632, .bf16⟩
  | .local _ .vmem, ⟨58, _⟩ => ⟨S1024x5632, .bf16⟩
  | .local _ .vmem, ⟨59, _⟩ => ⟨S1x512x1408, .bf16⟩
  | .local _ .vmem, ⟨60, _⟩ => ⟨S1x512x1408, .bf16⟩
  | .local _ .vmem, ⟨61, _⟩ => ⟨S1x512x1408, .bf16⟩
  | .local _ .vmem, ⟨62, _⟩ => ⟨S1x512x1408, .bf16⟩
  | .local _ .vmem, ⟨63, _⟩ => ⟨S1x512x1408, .bf16⟩
  | .local _ .vmem, ⟨64, _⟩ => ⟨S1x512x1408, .bf16⟩
  | .local _ .vmem, ⟨65, _⟩ => ⟨S1x512x1408, .bf16⟩
  | .local _ .vmem, ⟨66, _⟩ => ⟨S1x512x1408, .bf16⟩
  | .local _ .vmem, ⟨67, _⟩ => ⟨S1024x512, .f32⟩
  | .local _ .vmem, ⟨68, _⟩ => ⟨S1024x512, .f32⟩
  | .local _ .vmem, ⟨69, _⟩ => ⟨S1024x512, .f32⟩
  | .local _ .vmem, ⟨70, _⟩ => ⟨S1024x512, .f32⟩
  | .local _ .vmem, ⟨71, _⟩ => ⟨S2048x1024, .bf16⟩
  | .local _ .vmem, ⟨72, _⟩ => ⟨S2048x1024, .bf16⟩
  | .local _ .vmem, ⟨73, _⟩ => ⟨S2048x1408, .bf16⟩
  | .local _ .vmem, ⟨74, _⟩ => ⟨S2048x1408, .bf16⟩
  | .local _ .vmem, ⟨75, _⟩ => ⟨S1x1024x1408, .bf16⟩
  | .local _ .vmem, ⟨76, _⟩ => ⟨S1x1024x1408, .bf16⟩
  | .local _ .vmem, ⟨77, _⟩ => ⟨S2048x1024, .bf16⟩
  | .local _ .vmem, ⟨78, _⟩ => ⟨S2048x1024, .bf16⟩
  | .local _ .vmem, ⟨79, _⟩ => ⟨S2048x1408, .bf16⟩
  | .local _ .vmem, ⟨80, _⟩ => ⟨S2048x1408, .bf16⟩
  | .local _ .vmem, ⟨81, _⟩ => ⟨S1x1024x1408, .bf16⟩
  | .local _ .vmem, ⟨82, _⟩ => ⟨S1x1024x1408, .bf16⟩
  | .local _ .vmem, ⟨83, _⟩ => ⟨S1024x5632, .bf16⟩
  | .local _ .vmem, ⟨84, _⟩ => ⟨S1024x5632, .bf16⟩
  | .local _ .vmem, ⟨85, _⟩ => ⟨S1x1408x512, .bf16⟩
  | .local _ .vmem, ⟨86, _⟩ => ⟨S1x1408x512, .bf16⟩
  | .local _ .vmem, ⟨87, _⟩ => ⟨S1x1408x512, .bf16⟩
  | .local _ .vmem, ⟨88, _⟩ => ⟨S1x1408x512, .bf16⟩
  | .local _ .vmem, ⟨89, _⟩ => ⟨S1x1408x512, .bf16⟩
  | .local _ .vmem, ⟨90, _⟩ => ⟨S1x1408x512, .bf16⟩
  | .local _ .vmem, ⟨91, _⟩ => ⟨S1x1408x512, .bf16⟩
  | .local _ .vmem, ⟨92, _⟩ => ⟨S1x1408x512, .bf16⟩
  | .local _ .vmem, ⟨93, _⟩ => ⟨S1024x512, .f32⟩
  | .local _ .vmem, ⟨94, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc4_stg6_0 : Ref sig .tc := ⟨.vmem, 39, rfl⟩
abbrev cc4_stg6_1 : Ref sig .tc := ⟨.vmem, 40, rfl⟩
abbrev cc4_stg7_0 : Ref sig .tc := ⟨.vmem, 41, rfl⟩
abbrev cc4_stg7_1 : Ref sig .tc := ⟨.vmem, 42, rfl⟩
abbrev cc4_stg8_0 : Ref sig .tc := ⟨.vmem, 43, rfl⟩
abbrev cc4_stg8_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg6_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg1_1 : Ref sig .tc := ⟨.vmem, 80, rfl⟩
abbrev cc8_stg2_0 : Ref sig .tc := ⟨.vmem, 81, rfl⟩
abbrev cc8_stg2_1 : Ref sig .tc := ⟨.vmem, 82, rfl⟩
abbrev cc9_stg0_0 : Ref sig .tc := ⟨.vmem, 83, rfl⟩
abbrev cc9_stg0_1 : Ref sig .tc := ⟨.vmem, 84, rfl⟩
abbrev cc9_stg1_0 : Ref sig .tc := ⟨.vmem, 85, rfl⟩
abbrev cc9_stg1_1 : Ref sig .tc := ⟨.vmem, 86, rfl⟩
abbrev cc9_stg2_0 : Ref sig .tc := ⟨.vmem, 87, rfl⟩
abbrev cc9_stg2_1 : Ref sig .tc := ⟨.vmem, 88, rfl⟩
abbrev cc9_stg3_0 : Ref sig .tc := ⟨.vmem, 89, rfl⟩
abbrev cc9_stg3_1 : Ref sig .tc := ⟨.vmem, 90, rfl⟩
abbrev cc9_stg4_0 : Ref sig .tc := ⟨.vmem, 91, rfl⟩
abbrev cc9_stg4_1 : Ref sig .tc := ⟨.vmem, 92, rfl⟩
abbrev cc9_stg5_0 : Ref sig .tc := ⟨.vmem, 93, rfl⟩
abbrev cc9_stg5_1 : Ref sig .tc := ⟨.vmem, 94, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc4_sem5_0 : DmaSem sig := 37
abbrev cc4_sem5_1 : DmaSem sig := 38
abbrev cc4_sem6_0 : DmaSem sig := 39
abbrev cc4_sem6_1 : DmaSem sig := 40
abbrev cc4_sem7_0 : DmaSem sig := 41
abbrev cc4_sem7_1 : DmaSem sig := 42
abbrev cc4_sem8_0 : DmaSem sig := 43
abbrev cc4_sem8_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc6_sem5_0 : DmaSem sig := 67
abbrev cc6_sem5_1 : DmaSem sig := 68
abbrev cc6_sem6_0 : DmaSem sig := 69
abbrev cc6_sem6_1 : DmaSem sig := 70
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem2_1 : DmaSem sig := 76
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem2_1 : DmaSem sig := 82
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem2_1 : DmaSem sig := 88
abbrev cc9_sem3_0 : DmaSem sig := 89
abbrev cc9_sem3_1 : DmaSem sig := 90
abbrev cc9_sem4_0 : DmaSem sig := 91
abbrev cc9_sem4_1 : DmaSem sig := 92
abbrev cc9_sem5_0 : DmaSem sig := 93
abbrev cc9_sem5_1 : DmaSem sig := 94

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![22], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2048x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S3x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c1_i32 : BitVec 32 := 1#32
  let c0_i32_1 : BitVec 32 := 0#32
  ![c0_i32_0.toNat, v0.toNat, c1_i32.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c1_i32_0 : BitVec 32 := 1#32
  let c0_i32_1 : BitVec 32 := 0#32
  ![c1_i32.toNat, v0.toNat, c1_i32_0.toNat]

def cc5_transform_5 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x512x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev stage5_3 : Fin 2 → Memref sig .tc .vmem S1x512x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, false]

abbrev stage5_4 : Fin 2 → Memref sig .tc .vmem S1x512x1408 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true, false]

abbrev stage5_5 : Fin 2 → Memref sig .tc .vmem S1024x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, false]

abbrev grid6 : Pipeline.Grid := ⟨3, ![2, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let c1_i32 : BitVec 32 := 1#32
  let c0_i32_0 : BitVec 32 := 0#32
  ![c2_i32.toNat, v0.toNat, c1_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let c1_i32 : BitVec 32 := 1#32
  let c0_i32_0 : BitVec 32 := 0#32
  ![c3_i32.toNat, v0.toNat, c1_i32.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_6 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x512x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S1x512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S1x512x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true, false]

abbrev stage6_4 : Fin 2 → Memref sig .tc .vmem S1x512x1408 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true, false]

abbrev stage6_5 : Fin 2 → Memref sig .tc .vmem S1024x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]

abbrev stage6_6 : Fin 2 → Memref sig .tc .vmem S1024x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_3 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2048x1408 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x1408 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc9_transform_4 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc9_transform_5 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x1408x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, false]

abbrev stage9_2 : Fin 2 → Memref sig .tc .vmem S1x1408x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, false]

abbrev stage9_3 : Fin 2 → Memref sig .tc .vmem S1x1408x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true, false]

abbrev stage9_4 : Fin 2 → Memref sig .tc .vmem S1x1408x512 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true, false]

abbrev stage9_5 : Fin 2 → Memref sig .tc .vmem S1024x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true, false]
-- ==== Reference4Ideal.lean ====
abbrev S2048x2048 : Shape := ⟨2, ![2048, 2048]⟩
abbrev S4x2048x2816 : Shape := ⟨3, ![4, 2048, 2816]⟩
abbrev S3x5632 : Shape := ⟨2, ![3, 5632]⟩
abbrev S1x5632 : Shape := ⟨2, ![1, 5632]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S5632 : Shape := ⟨1, ![5632]⟩
abbrev S2048x5632 : Shape := ⟨2, ![2048, 5632]⟩
abbrev S_ : Shape := ⟨0, ![]⟩
abbrev S2050x5632 : Shape := ⟨2, ![2050, 5632]⟩
abbrev S11264x2048 : Shape := ⟨2, ![11264, 2048]⟩

abbrev nBuf : Space → Nat
  | .hbm => 131
  | .vmem => 0
  | .smem => 0
  | _ => 0

abbrev hbmTy0_0 (i : Nat) : BufTy := match i % 128 with
  | 0 => ⟨S2048x2048, .bf16⟩
  | 1 => ⟨S4x2048x2816, .bf16⟩
  | 2 => ⟨S3x5632, .f32⟩
  | 3 => ⟨S1x5632, .f32⟩
  | 4 => ⟨S4x1408x2048, .bf16⟩
  | 5 => ⟨S2048x2048, .bf16⟩
  | 6 => ⟨S4x2048x2816, .f32⟩
  | 7 => ⟨S2048x4x2816, .f32⟩
  | 8 => ⟨S2048x11264, .f32⟩
  | 9 => ⟨S4x1408x2048, .f32⟩
  | 10 => ⟨S5632x2048, .f32⟩
  | 11 => ⟨S2048x2048, .f32⟩
  | 12 => ⟨S5632, .f32⟩
  | 13 => ⟨S2048x11264, .f32⟩
  | 14 => ⟨S2048x5632, .f32⟩
  | 15 => ⟨S2048x5632, .f32⟩
  | 16 => ⟨S_, .f32⟩
  | 17 => ⟨S1x5632, .f32⟩
  | 18 => ⟨S2050x5632, .f32⟩
  | 19 => ⟨S_, .f32⟩
  | 20 => ⟨S1x5632, .f32⟩
  | 21 => ⟨S_, .f32⟩
  | 22 => ⟨S1x5632, .f32⟩
  | 23 => ⟨S2048x5632, .f32⟩
  | 24 => ⟨S1x5632, .f32⟩
  | 25 => ⟨S5632, .f32⟩
  | 26 => ⟨S1x5632, .f32⟩
  | 27 => ⟨S2048x5632, .f32⟩
  | 28 => ⟨S2048x5632, .f32⟩
  | 29 => ⟨S2048x5632, .f32⟩
  | 30 => ⟨S1x5632, .f32⟩
  | 31 => ⟨S5632, .f32⟩
  | 32 => ⟨S1x5632, .f32⟩
  | 33 => ⟨S2048x5632, .f32⟩
  | 34 => ⟨S2048x5632, .f32⟩
  | 35 => ⟨S2048x5632, .f32⟩
  | 36 => ⟨S2048x5632, .f32⟩
  | 37 => ⟨S1x5632, .f32⟩
  | 38 => ⟨S5632, .f32⟩
  | 39 => ⟨S1x5632, .f32⟩
  | 40 => ⟨S2048x5632, .f32⟩
  | 41 => ⟨S2048x5632, .f32⟩
  | 42 => ⟨S2048x5632, .f32⟩
  | 43 => ⟨S1x5632, .f32⟩
  | 44 => ⟨S2048x5632, .f32⟩
  | 45 => ⟨S2048x5632, .f32⟩
  | 46 => ⟨S2048x5632, .f32⟩
  | 47 => ⟨S2048x5632, .f32⟩
  | 48 => ⟨S_, .f32⟩
  | 49 => ⟨S2048x5632, .f32⟩
  | 50 => ⟨S2048x5632, .f32⟩
  | 51 => ⟨S_, .f32⟩
  | 52 => ⟨S2048x5632, .f32⟩
  | 53 => ⟨S2048x5632, .f32⟩
  | 54 => ⟨S_, .f32⟩
  | 55 => ⟨S2048x5632, .f32⟩
  | 56 => ⟨S2048x5632, .f32⟩
  | 57 => ⟨S2048x5632, .f32⟩
  | 58 => ⟨S2048x5632, .f32⟩
  | 59 => ⟨S2048x5632, .f32⟩
  | 60 => ⟨S2048x2048, .f32⟩
  | 61 => ⟨S2048x2048, .f32⟩
  | 62 => ⟨S2048x5632, .f32⟩
  | 63 => ⟨S5632x2048, .f32⟩
  | 64 => ⟨S2048x5632, .f32⟩
  | 65 => ⟨S2048x5632, .f32⟩
  | 66 => ⟨S2048x5632, .f32⟩
  | 67 => ⟨S2048x5632, .f32⟩
  | 68 => ⟨S2048x5632, .f32⟩
  | 69 => ⟨S2048x5632, .f32⟩
  | 70 => ⟨S2048x5632, .f32⟩
  | 71 => ⟨S_, .f32⟩
  | 72 => ⟨S5632, .f32⟩
  | 73 => ⟨S1x5632, .f32⟩
  | 74 => ⟨S_, .f32⟩
  | 75 => ⟨S5632, .f32⟩
  | 76 => ⟨S2048x5632, .f32⟩
  | 77 => ⟨S_, .f32⟩
  | 78 => ⟨S5632, .f32⟩
  | 79 => ⟨S1x5632, .f32⟩
  | 80 => ⟨S2048x5632, .f32⟩
  | 81 => ⟨S2048x5632, .f32⟩
  | 82 => ⟨S_, .f32⟩
  | 83 => ⟨S5632, .f32⟩
  | 84 => ⟨S1x5632, .f32⟩
  | 85 => ⟨S_, .f32⟩
  | 86 => ⟨S3x5632, .f32⟩
  | 87 => ⟨S_, .f32⟩
  | 88 => ⟨S2050x5632, .f32⟩
  | 89 => ⟨S2048x5632, .f32⟩
  | 90 => ⟨S_, .f32⟩
  | 91 => ⟨S5632, .f32⟩
  | 92 => ⟨S1x5632, .f32⟩
  | 93 => ⟨S2048x5632, .f32⟩
  | 94 => ⟨S2048x5632, .f32⟩
  | 95 => ⟨S_, .f32⟩
  | 96 => ⟨S5632, .f32⟩
  | 97 => ⟨S1x5632, .f32⟩
  | 98 => ⟨S_, .f32⟩
  | 99 => ⟨S3x5632, .f32⟩
  | 100 => ⟨S3x5632, .f32⟩
  | 101 => ⟨S_, .f32⟩
  | 102 => ⟨S2050x5632, .f32⟩
  | 103 => ⟨S2050x5632, .f32⟩
  | 104 => ⟨S2048x5632, .f32⟩
  | 105 => ⟨S_, .f32⟩
  | 106 => ⟨S5632, .f32⟩
  | 107 => ⟨S1x5632, .f32⟩
  | 108 => ⟨S2048x5632, .f32⟩
  | 109 => ⟨S2048x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S3x5632, .f32⟩
  | 116 => ⟨S_, .f32⟩
  | 117 => ⟨S2050x5632, .f32⟩
  | 118 => ⟨S2050x5632, .f32⟩
  | 119 => ⟨S1x5632, .f32⟩
  | 120 => ⟨S2048x5632, .f32⟩
  | 121 => ⟨S1x5632, .f32⟩
  | 122 => ⟨S2048x11264, .f32⟩
  | 123 => ⟨S11264x2048, .f32⟩
  | 124 => ⟨S2048x11264, .f32⟩
  | 125 => ⟨S2048x2048, .f32⟩
  | 126 => ⟨S2048x4x2816, .f32⟩
  | 127 => ⟨S4x2048x2816, .f32⟩
  | _ => ⟨S2048x2048, .bf16⟩

abbrev hbmTy0_1 (i : Nat) : BufTy := match i % 128 with
  | 0 => ⟨S4x2048x2816, .bf16⟩
  | 1 => ⟨S1x5632, .f32⟩
  | 2 => ⟨S5632x2048, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v37_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v37_1 : Ref sig .tc := ⟨.hbm, 57, rfl⟩
abbrev main_v37_0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_v48 : Ref sig .tc := ⟨.hbm, 73, rfl⟩
abbrev main_cst_3 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Kernel5.lean ====
abbrev S2048x2048 : Shape := ⟨2, ![2048, 2048]⟩
abbrev S4x512x2048 : Shape := ⟨3, ![4, 512, 2048]⟩
abbrev S1024x2048 : Shape := ⟨2, ![1024, 2048]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩
abbrev S1x512x2048 : Shape := ⟨3, ![1, 512, 2048]⟩
abbrev S512x2048 : Shape := ⟨2, ![512, 2048]⟩
abbrev S2048x1024 : Shape := ⟨2, ![2048, 1024]⟩

abbrev nBuf : Space → Nat
  | .hbm => 6
  | .vmem => 24
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1024x512, .f32⟩
  | .local _ .vmem, ⟨17, _⟩ => ⟨S1024x512, .f32⟩
  | .local _ .vmem, ⟨18, _⟩ => ⟨S2048x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference5Ideal.lean ====
abbrev S2048x2048 : Shape := ⟨2, ![2048, 2048]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .bf16⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x128, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_21 : BitVec 32 := 0#32
  let v65 : BitVec 1 := Scalar.cmpi .ne v64 c0_i32_21
  v65

def k0_cond2 (i : grid0.Coords) : BitVec 1 :=
  let arg0 : BitVec 32 := BitVec.ofNat 32 (i 0).val
  let c0_i32_22 : BitVec 32 := 0#32
  let v66 : BitVec 1 := Scalar.cmpi .ne arg0 c0_i32_22
  let v67 : BitVec 32 := Scalar.extui v66
  let c0_i32_23 : BitVec 32 := 0#32
  let v68 : BitVec 1 := Scalar.cmpi .ne v67 c0_i32_23
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S1x128, .f32⟩
  | .hbm, ⟨73, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel7.lean ====
abbrev S2048x2048 : Shape := ⟨2, ![2048, 2048]⟩
abbrev S2x1x2048 : Shape := ⟨3, ![2, 1, 2048]⟩
abbrev S1x1x2048 : Shape := ⟨3, ![1, 1, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 17
  | .vmem => 26
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2x1x2048, .f32⟩
  | .hbm, ⟨3, _⟩ => ⟨S1x1x2048, .f32⟩
  | .hbm, ⟨4, _⟩ => ⟨S2x1x2048, .f32⟩
  | .hbm, ⟨5, _⟩ => ⟨S2x1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2x1x2048, .f32⟩
  | .hbm, ⟨11, _⟩ => ⟨S1x1x2048, .f32⟩
  | .hbm, ⟨12, _⟩ => ⟨S2x1x2048, .f32⟩
  | .hbm, ⟨13, _⟩ => ⟨S2x1x2048, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S1x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let c8_i32 : BitVec 32 := 8#32
  let v69 : BitVec 1 := Scalar.cmpi .eq arg0 c8_i32
  let v70 : BitVec 1 := Scalar.ori v68 v69
  let v71 : BitVec 32 := Scalar.extui v70
  let c0_i32_31 : BitVec 32 := 0#32
  let v72 : BitVec 1 := Scalar.cmpi .ne v71 c0_i32_31
  v72

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let c8_i32 : BitVec 32 := 8#32
  let v69 : BitVec 1 := Scalar.cmpi .eq arg0 c8_i32
  let v70 : BitVec 1 := Scalar.ori v68 v69
  let v_true : BitVec 1 := 1#1
  let v73 : BitVec 1 := Scalar.xori v70 v_true
  let v74 : BitVec 32 := Scalar.extui v73
  let c0_i32_32 : BitVec 32 := 0#32
  let v75 : BitVec 1 := Scalar.cmpi .ne v74 c0_i32_32
  v75

def k0_cond3 (i : grid0.Coords) : BitVec 1 :=
  let arg0 : BitVec 32 := BitVec.ofNat 32 (i 0).val
  let c0_i32_33 : BitVec 32 := 0#32
  let v76 : BitVec 1 := Scalar.cmpi .eq arg0 c0_i32_33
  let v77 : BitVec 32 := Scalar.extui v76
  let c0_i32_34 : BitVec 32 := 0#32
  let v78 : BitVec 1 := Scalar.cmpi .ne v77 c0_i32_34
  v78

def k0_cond4 (i : grid0.Coords) : BitVec 1 :=
  let arg0 : BitVec 32 := BitVec.ofNat 32 (i 0).val
  let c0_i32_33 : BitVec 32 := 0#32
  let v76 : BitVec 1 := Scalar.cmpi .eq arg0 c0_i32_33
  let true_35 : BitVec 1 := 1#1
  let v79 : BitVec 1 := Scalar.xori v76 true_35
  let v80 : BitVec 32 := Scalar.extui v79
  let c0_i32_36 : BitVec 32 := 0#32
  let v81 : BitVec 1 := Scalar.cmpi .ne v80 c0_i32_36
  v81

def k0_cond5 (i : grid0.Coords) : BitVec 1 :=
  let arg0 : BitVec 32 := BitVec.ofNat 32 (i 0).val
  let c0_i32_37 : BitVec 32 := 0#32
  let v82 : BitVec 1 := Scalar.cmpi .eq arg0 c0_i32_37
  let c8_i32_38 : BitVec 32 := 8#32
  let v83 : BitVec 1 := Scalar.cmpi .eq arg0 c8_i32_38
  let v84 : BitVec 1 := Scalar.ori v82 v83
  let v85 : BitVec 32 := Scalar.extui v84
  let c0_i32_39 : BitVec 32 := 0#32
  let v86 : BitVec 1 := Scalar.cmpi .ne v85 c0_i32_39
  v86

def k0_cond6 (i : grid0.Coords) : BitVec 1 :=
  let arg0 : BitVec 32 := BitVec.ofNat 32 (i 0).val
  let c0_i32_37 : BitVec 32 := 0#32
  let v82 : BitVec 1 := Scalar.cmpi .eq arg0 c0_i32_37
  let c8_i32_38 : BitVec 32 := 8#32
  let v83 : BitVec 1 := Scalar.cmpi .eq arg0 c8_i32_38
  let v84 : BitVec 1 := Scalar.ori v82 v83
  let true_40 : BitVec 1 := 1#1
  let v87 : BitVec 1 := Scalar.xori v84 true_40
  let v88 : BitVec 32 := Scalar.extui v87
  let c0_i32_41 : BitVec 32 := 0#32
  let v89 : BitVec 1 := Scalar.cmpi .ne v88 c0_i32_41
  v89

def k0_cond7 (i : grid0.Coords) : BitVec 1 :=
  let arg0 : BitVec 32 := BitVec.ofNat 32 (i 0).val
  let c0_i32_42 : BitVec 32 := 0#32
  let v90 : BitVec 1 := Scalar.cmpi .eq arg0 c0_i32_42
  let c8_i32_43 : BitVec 32 := 8#32
  let v91 : BitVec 1 := Scalar.cmpi .eq arg0 c8_i32_43
  let v92 : BitVec 1 := Scalar.ori v90 v91
  let v93 : BitVec 32 := Scalar.extui v92
  let c0_i32_44 : BitVec 32 := 0#32
  let v94 : BitVec 1 := Scalar.cmpi .ne v93 c0_i32_44
  v94

def k0_cond8 (i : grid0.Coords) : BitVec 1 :=
  let arg0 : BitVec 32 := BitVec.ofNat 32 (i 0).val
  let c0_i32_42 : BitVec 32 := 0#32
  let v90 : BitVec 1 := Scalar.cmpi .eq arg0 c0_i32_42
  let c8_i32_43 : BitVec 32 := 8#32
  let v91 : BitVec 1 := Scalar.cmpi .eq arg0 c8_i32_43
  let v92 : BitVec 1 := Scalar.ori v90 v91
  let true_45 : BitVec 1 := 1#1
  let v95 : BitVec 1 := Scalar.xori v92 true_45
  let v96 : BitVec 32 := Scalar.extui v95
  let c0_i32_46 : BitVec 32 := 0#32
  let v97 : BitVec 1 := Scalar.cmpi .ne v96 c0_i32_46
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S2048x2048 : Shape := ⟨2, ![2048, 2048]⟩
abbrev S2x1x2048 : Shape := ⟨3, ![2, 1, 2048]⟩
abbrev S1x1x2048 : Shape := ⟨3, ![1, 1, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 93
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2x1x2048, .f32⟩
  | .hbm, ⟨3, _⟩ => ⟨S1x1x2048, .f32⟩
  | .hbm, ⟨4, _⟩ => ⟨S2x1x2048, .f32⟩
  | .hbm, ⟨5, _⟩ => ⟨S2x1x2048, .f32⟩
  | .hbm, ⟨6, _⟩ => ⟨S2048x2048, .f32⟩
  | .hbm, ⟨7, _⟩ => ⟨S2048x2048, .f32⟩
  | .hbm, ⟨8, _⟩ => ⟨S1x1x2048, .f32⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S1x2048, .f32⟩
  | .hbm, ⟨13, _⟩ => ⟨S1x1x2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S2048x2048, .bf16⟩
  | .hbm, ⟨89, _⟩ => ⟨S1x1x2048, .f32⟩
  | .hbm, ⟨90, _⟩ => ⟨S1x1x2048, .f32⟩
  | .hbm, ⟨91, _⟩ => ⟨S1x1x2048, .f32⟩
  | .hbm, ⟨92, _⟩ => ⟨S1x1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Proof.AttnMath.lean ====
/-
  The real numbers behind the attention's gradient.

  `Row`: what one row of extended-real scores gives under a softmax that subtracts its maximum: every quantity is a
  real number as soon as no score is `+∞` and one of them is not `-∞` (a masked score is `-∞` and weighs nothing).
  `Attn`: the gradient itself, written over the reals with row, head and column numbers in `ℕ`.
-/
module

public import Idealize.ShloMosaic.PureOps.Ideal
public import Idealize.ShloMosaic.PureOps.Ideal.Laws

@[expose] public section

noncomputable section

open scoped BigOperators
open Idealize.ShloMosaic

namespace Cert.Proof.Row

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers by one that is not zero. -/
theorem div_coe_coe (a b : ℝ) (hb : b ≠ 0) : Ideal.div (a : EReal) (b : EReal) = ((a / b : ℝ) : EReal) := by
  rw [Ideal.div_coe hb, ← EReal.coe_mul, mul_one_div]

/-- The maximum of scores none of which is `+∞` and one of which is not `-∞` is a real number. -/
theorem fold_max_coe {ι : Type*} [Fintype ι] (x : ι → EReal) (ht : ∀ j, x j ≠ ⊤) (hb : ∃ j, x j ≠ ⊥) :
    ∃ μ : ℝ, Finset.univ.fold max ⊥ x = (μ : EReal) := by
  have h1 : Finset.univ.fold max ⊥ x < ⊤ := by
    rw [Finset.fold_max_lt]
    exact ⟨bot_lt_top, fun j _ => lt_top_iff_ne_top.2 (ht j)⟩
  have h2 : ⊥ < Finset.univ.fold max ⊥ x := by
    rw [Finset.lt_fold_max]
    obtain ⟨j, hj⟩ := hb
    exact Or.inr ⟨j, Finset.mem_univ j, bot_lt_iff_ne_bot.2 hj⟩
  exact ⟨_, (EReal.coe_toReal h1.ne h2.ne').symm⟩

/-- The weight of a score before normalising: `exp` of it, `0` at `-∞`. -/
def wt (x : EReal) : ℝ := (Ideal.exp x).toReal

theorem wt_coe (r : ℝ) : wt (r : EReal) = Real.exp r := rfl
theorem wt_bot : wt ⊥ = 0 := rfl

/-- The exponential of a score less a real number. -/
theorem exp_sub {x : EReal} (hx : x ≠ ⊤) (μ : ℝ) : Ideal.exp (x - (μ : EReal)) = ((wt x * Real.exp (-μ) : ℝ) : EReal) := by
  induction x with
  | bot => rw [EReal.bot_sub, wt_bot, zero_mul]; rfl
  | coe r =>
    rw [← EReal.coe_sub, wt_coe, ← Real.exp_add, ← sub_eq_add_neg]; rfl
  | top => exact absurd rfl hx

theorem wt_nonneg (x : EReal) (hx : x ≠ ⊤) : 0 ≤ wt x := by
  induction x with
  | bot => exact le_of_eq wt_bot.symm
  | coe r => exact (Real.exp_pos r).le
  | top => exact absurd rfl hx

theorem wt_pos (x : EReal) (hx : x ≠ ⊤) (hx' : x ≠ ⊥) : 0 < wt x := by
  induction x with
  | bot => exact absurd rfl hx'
  | coe r => exact Real.exp_pos r
  | top => exact absurd rfl hx

section
variable {ι : Type*} [Fintype ι] (x : ι → EReal)

/-- The sum of the weights, positive for an admissible row. -/
def tot : ℝ := ∑ j, wt (x j)

/-- The softmax weight. -/
def prob (j : ι) : ℝ := wt (x j) / tot x

/-- A row of scores with no `+∞` and something other than `-∞`. -/
structure Good : Prop where
  ne_top : ∀ j, x j ≠ ⊤
  ne_bot : ∃ j, x j ≠ ⊥

variable {x}

theorem Good.tot_pos (h : Good x) : 0 < tot x := by
  obtain ⟨j, hj⟩ := h.ne_bot
  exact Finset.sum_pos' (fun i _ => wt_nonneg _ (h.ne_top i)) ⟨j, Finset.mem_univ j, wt_pos _ (h.ne_top j) hj⟩

/-- The row's maximum. -/
def mx (x : ι → EReal) : EReal := Finset.univ.fold max ⊥ x

theorem Good.mx_coe (h : Good x) : mx x = ((mx x).toReal : EReal) := by
  obtain ⟨μ, hμ⟩ := fold_max_coe x h.ne_top h.ne_bot
  unfold mx; rw [hμ]; rfl

/-- The shifted exponential. -/
theorem Good.exp_sub_mx (h : Good x) (j : ι) :
    Ideal.exp (x j - mx x) = ((wt (x j) * Real.exp (-(mx x).toReal) : ℝ) : EReal) := by
  conv_lhs => rw [h.mx_coe]
  exact exp_sub (h.ne_top j) _

/-- The sum of the shifted exponentials. -/
theorem Good.sum_exp (h : Good x) :
    ∑ j, Ideal.exp (x j - mx x) = ((tot x * Real.exp (-(mx x).toReal) : ℝ) : EReal) := by
  unfold tot
  rw [Finset.sum_mul, coe_sum]
  exact Finset.sum_congr rfl fun j _ => h.exp_sub_mx j

/-- The logarithm of the sum, with the maximum added back, is the logarithm of the sum of the weights. -/
theorem Good.lse (h : Good x) : mx x + Ideal.log (∑ j, Ideal.exp (x j - mx x)) = ((Real.log (tot x) : ℝ) : EReal) := by
  rw [h.sum_exp, h.mx_coe]
  have hp : 0 < tot x * Real.exp (-(mx x).toReal) := mul_pos h.tot_pos (Real.exp_pos _)
  have hl : Ideal.log ((tot x * Real.exp (-(mx x).toReal) : ℝ) : EReal)
      = ((Real.log (tot x * Real.exp (-(mx x).toReal)) : ℝ) : EReal) := by
    show (if _ ≤ (0 : ℝ) then (⊥ : EReal) else _) = _
    rw [if_neg (not_le.2 hp)]
  rw [EReal.toReal_coe, hl, ← EReal.coe_add, Real.log_mul h.tot_pos.ne' (Real.exp_pos _).ne', Real.log_exp]
  congr 1; ring

/-- The exponential of a score less the logarithm of the sum is the softmax weight. -/
theorem Good.exp_sub_lse (h : Good x) (j : ι) :
    Ideal.exp (x j - ((Real.log (tot x) : ℝ) : EReal)) = ((prob x j : ℝ) : EReal) := by
  rw [exp_sub (h.ne_top j), Real.exp_neg, Real.exp_log h.tot_pos]; rfl

/-- A shifted exponential over the sum of the shifted exponentials is the softmax weight. -/
theorem Good.div_exp (h : Good x) (a : ℝ) :
    Ideal.div ((a * Real.exp (-(mx x).toReal) : ℝ) : EReal) (∑ j, Ideal.exp (x j - mx x)) = ((a / tot x : ℝ) : EReal) := by
  rw [h.sum_exp, div_coe_coe _ _ (mul_pos h.tot_pos (Real.exp_pos _)).ne']
  congr 1
  rw [mul_div_mul_right _ _ (Real.exp_pos _).ne']

/-- The weighted mean of real numbers under the softmax. -/
theorem Good.mean (h : Good x) (v : ι → ℝ) :
    Ideal.div (∑ j, Ideal.exp (x j - mx x) * (v j : EReal)) (∑ j, Ideal.exp (x j - mx x))
      = ((∑ j, prob x j * v j : ℝ) : EReal) := by
  have h1 : ∑ j, Ideal.exp (x j - mx x) * (v j : EReal)
      = (((∑ j, wt (x j) * v j) * Real.exp (-(mx x).toReal) : ℝ) : EReal) := by
    rw [Finset.sum_mul, coe_sum]
    refine Finset.sum_congr rfl fun j _ => ?_
    rw [h.exp_sub_mx, ← EReal.coe_mul]; congr 1; ring
  rw [h1, h.div_exp, Finset.sum_div]
  congr 1
  exact Finset.sum_congr rfl fun j _ => by unfold prob; ring

end

end Cert.Proof.Row

namespace Cert.Proof.Attn

/-- The scale of the scores, the real number both programs' constant denotes. -/
def sc : ℝ := (Ideal.ofBits .f32 0x3DB504F3#32).toReal

theorem ofBits_sc : Ideal.ofBits .f32 0x3DB504F3#32 = ((sc : ℝ) : EReal) := by
  obtain ⟨r, hr⟩ : ∃ r : ℝ, Ideal.ofBits .f32 0x3DB504F3#32 = (r : EReal) :=
    ⟨_, by simp [Ideal.ofBits, Ideal.ieee, -EReal.coe_mul]; rfl⟩
  unfold sc; rw [hr, EReal.toReal_coe]

theorem ofBits_neg_inf : Ideal.ofBits .f32 0xFF800000#32 = ⊥ := by simp [Ideal.ofBits, Ideal.ieee]

/- `q i h d`, `k j g d`, `v j g d`, `o i h d`: the queries, the keys, the values and the gradient arriving at the
   attention's result, by row, head (a query head `h` reads the key head `h / 4`) and column. -/
variable (q k v o : ℕ → ℕ → ℕ → ℝ)

/-- The scaled product of a query row and a key row. -/
def s (h i j : ℕ) : ℝ := (∑ d : Fin 128, q i h d * k j (h / 4) d) * sc

/-- The scores of query row `i` of head `h`: a context row (from 2048 on) does not see the latent keys. -/
def X (h i : ℕ) (j : Fin 2304) : EReal := if i < 2048 ∨ 2048 ≤ j.val then ((s q k h i j : ℝ) : EReal) else ⊥

/-- The attention's weights. -/
def W (h i : ℕ) (j : Fin 2304) : ℝ := Row.prob (X q k h i) j

/-- The gradient arriving at a weight. -/
def dP (h i j : ℕ) : ℝ := ∑ d : Fin 128, o i h d * v j (h / 4) d

/-- The gradient of a product of a query row and a key row, before the scale. -/
def dS (h i : ℕ) (j : Fin 2304) : ℝ :=
  W q k h i j * (dP v o h i j - ∑ j' : Fin 2304, W q k h i j' * dP v o h i j') * sc

/-- The gradient of the queries. -/
def dQ (i h d : ℕ) : ℝ := ∑ j : Fin 2304, dS q k v o h i j * k j (h / 4) d

/-- What rows `[0, n)` give to the gradient of the keys. -/
def dKto (n : ℕ) (j : Fin 2304) (g d : ℕ) : ℝ :=
  ∑ i ∈ Finset.range n, ∑ r : Fin 4, dS q k v o (4 * g + r) i j * q i (4 * g + r) d

/-- What rows `[0, n)` give to the gradient of the values. -/
def dVto (n : ℕ) (j : Fin 2304) (g d : ℕ) : ℝ :=
  ∑ i ∈ Finset.range n, ∑ r : Fin 4, W q k (4 * g + r) i j * o i (4 * g + r) d

theorem X_good (h i : ℕ) : Row.Good (X q k h i) where
  ne_top j := by unfold X; split <;> simp
  ne_bot := ⟨⟨2048, by norm_num⟩, by unfold X; rw [if_pos (Or.inr (le_refl _))]; simp⟩

/-- The sum over the columns of the result times the gradient arriving there is the weighted mean of `dP`. -/
theorem delta_eq (h i : ℕ) :
    ∑ d : Fin 128, (∑ j : Fin 2304, W q k h i j * v j (h / 4) d) * o i h d
      = ∑ j : Fin 2304, W q k h i j * dP v o h i j := by
  simp only [Finset.sum_mul]
  rw [Finset.sum_comm]
  refine Finset.sum_congr rfl fun j _ => ?_
  unfold dP; rw [Finset.mul_sum]
  exact Finset.sum_congr rfl fun d _ => by ring

/-- A tile of `n` more rows. -/
theorem sum_range_tile (f : ℕ → ℝ) (a n : ℕ) :
    ∑ i ∈ Finset.range (a + n), f i = ∑ i ∈ Finset.range a, f i + ∑ i : Fin n, f (a + i) := by
  rw [Finset.sum_range_add, Fin.sum_univ_eq_sum_range (fun i => f (a + i))]

end Cert.Proof.Attn
-- ==== Proof.AttnBlock.lean ====
module

public import proofs.«01_k».proof.Proof.Gen.KernelIdeal.Frame
public import proofs.«01_k».proof.Proof.AttnMath
public import Idealize.ShloMosaic.Lib.Pointwise

@[expose] public section

/-!
# One head of one tile

The values the two kernels compute for one head from a tile of 256 query rows and the whole key and value blocks,
read at an index. The blocks hold real numbers; a value read is then the matching number of `Attn` (AttnMath.lean).
-/

set_option maxRecDepth 16384

noncomputable section
namespace Cert.Proof.Attn
open Idealize.ShloMosaic Cert.KernelIdeal Cert.KernelIdeal.Gen

/-- The mask of a tile whose first row is `a`: a tile of context rows is shut off from the latent keys. -/
def IsMask (msk : FVec Ideal S1x2304 .f32) (a : ℕ) : Prop :=
  ∀ j : Fin 2304, msk (ix2 0 j) = if a < 2048 ∨ 2048 ≤ j.val then 0 else ⊥

theorem mask_col : ∀ j : Fin 2304, IntOp.cmpi .slt (BitVec.ofNat 32 j.val) 2048#32 = if 2048 ≤ j.val then 0#1 else 1#1 := by
  decide +kernel

theorem mask_row : ∀ r : Fin 9, Scalar.cmpi .sge (BitVec.ofNat 32 r.val) 8#32 = if r.val * 256 < 2048 then 0#1 else 1#1 := by
  decide +kernel

theorem mask_eq (r : Fin 9) (j : Fin 2304) :
    Scalar.select (IntOp.andi (Scalar.cmpi .sge (BitVec.ofNat 32 r.val) 8#32)
        (IntOp.cmpi .slt (BitVec.ofNat 32 j.val) 2048#32)) (Ideal.ofBits .f32 4286578688#32) (0 : EReal)
      = if r.val * 256 < 2048 ∨ 2048 ≤ j.val then 0 else ⊥ := by
  rw [mask_col, mask_row, show Ideal.ofBits .f32 4286578688#32 = ⊥ from ofBits_neg_inf]
  by_cases h1 : r.val * 256 < 2048 <;> by_cases h2 : 2048 ≤ j.val <;> simp [h1, h2, IntOp.andi, Scalar.select]

theorem mask0 (i : grid0.Coords) (x0 : Vec Ideal S256x512 .f32) (x1 : Vec Ideal S2304x128 .f32) (x2 : Vec Ideal S2304x128 .bf16) :
    IsMask (k0_pay28 i x0 x1 x2) ((i 1).val * 256) := by
  intro j
  refine Eq.trans ?_ (mask_eq (i 1) j)
  pointwise [k0_pay28, k0_pay9]

theorem mask1 (i : grid1.Coords) : IsMask (k1_pay6 i) ((i 1).val * 256) := by
  intro j
  refine Eq.trans ?_ (mask_eq (i 1) j)
  pointwise [k1_pay6]

section
variable {q k v o : ℕ → ℕ → ℕ → ℝ} {h a : ℕ} {msk : FVec Ideal S1x2304 .f32} {kk vv : FVec Ideal S2304x128 .bf16}
  {qq oo dd : Vec Ideal S256x128 .f32}

/-- The score as both kernels spell it. -/
theorem score_eq (ha : ∀ i : Fin 256, a + i.val < 2048 ↔ a < 2048) (hm : IsMask msk a)
    (hk : ∀ (j : Fin 2304) (d : Fin 128), kk (ix2 j d) = ((k j (h / 4) d : ℝ) : EReal))
    (hq : ∀ (i : Fin 256) (d : Fin 128), qq (ix2 i d) = ((q (a + i) h d : ℝ) : EReal)) (i : Fin 256) (j : Fin 2304) :
    (∑ x : Fin 128, qq (ix2 i x) * kk (ix2 j x)) * Ideal.ofBits .f32 1035273459#32 + msk (ix2 0 j)
      = X q k h (a + i) j := by
  rw [show Ideal.ofBits .f32 1035273459#32 = ((sc : ℝ) : EReal) from ofBits_sc, hm j]
  simp only [hq, hk, ← EReal.coe_mul, ← Row.coe_sum]
  unfold X s
  simp only [ha i]
  split <;> simp

theorem fwd_o (ha : ∀ i : Fin 256, a + i.val < 2048 ↔ a < 2048) (hm : IsMask msk a)
    (hk : ∀ (j : Fin 2304) (d : Fin 128), kk (ix2 j d) = ((k j (h / 4) d : ℝ) : EReal))
    (hv : ∀ (j : Fin 2304) (d : Fin 128), vv (ix2 j d) = ((v j (h / 4) d : ℝ) : EReal))
    (hq : ∀ (i : Fin 256) (d : Fin 128), qq (ix2 i d) = ((q (a + i) h d : ℝ) : EReal)) (i : Fin 256) (d : Fin 128) :
    k0_pay7 msk kk vv qq (ix2 i d)
      = ((∑ j : Fin 2304, W q k h (a + i) j * v j (h / 4) d : ℝ) : EReal) := by
  have e := fun j => score_eq ha hm hk hq i j
  have m := (X_good q k h (a + i)).mean (fun j => v j (h / 4) d)
  unfold W
  rw [← m]
  unfold Row.mx
  rw [← ofBits_neg_inf]
  pointwise [k0_pay7, k0_pay6, k0_pay5, k0_pay4, k0_pay3]
  simp only [e, hv]

theorem fwd_lse (ha : ∀ i : Fin 256, a + i.val < 2048 ↔ a < 2048) (hm : IsMask msk a)
    (hk : ∀ (j : Fin 2304) (d : Fin 128), kk (ix2 j d) = ((k j (h / 4) d : ℝ) : EReal))
    (hq : ∀ (i : Fin 256) (d : Fin 128), qq (ix2 i d) = ((q (a + i) h d : ℝ) : EReal)) (i : Fin 256) :
    k0_pay8 msk kk qq (ix3 0 i 0) = ((Real.log (Row.tot (X q k h (a + i))) : ℝ) : EReal) := by
  have e := fun j => score_eq ha hm hk hq i j
  rw [← (X_good q k h (a + i)).lse]
  unfold Row.mx
  rw [← ofBits_neg_inf]
  pointwise [k0_pay8, k0_pay6, k0_pay5, k0_pay4, k0_pay3]
  simp only [e]

theorem bwd_w {l : Vec Ideal S1x256x1 .f32} (ha : ∀ i : Fin 256, a + i.val < 2048 ↔ a < 2048) (hm : IsMask msk a)
    (hk : ∀ (j : Fin 2304) (d : Fin 128), kk (ix2 j d) = ((k j (h / 4) d : ℝ) : EReal))
    (hq : ∀ (i : Fin 256) (d : Fin 128), qq (ix2 i d) = ((q (a + i) h d : ℝ) : EReal))
    (hl : ∀ i : Fin 256, l (ix3 0 i 0) = ((Real.log (Row.tot (X q k h (a + i))) : ℝ) : EReal))
    (i : Fin 256) (j : Fin 2304) :
    k1_pay17 msk kk qq l (ix2 i j) = ((W q k h (a + i) j : ℝ) : EReal) := by
  have e := fun j => score_eq ha hm hk hq i j
  unfold W
  rw [← (X_good q k h (a + i)).exp_sub_lse, ← hl i, ← e j]
  pointwise [k1_pay17, k1_pay16]

theorem bwd_ds {pr : FVec Ideal S256x2304 .f32}
    (hpr : ∀ (i : Fin 256) (j : Fin 2304), pr (ix2 i j) = ((W q k h (a + i) j : ℝ) : EReal))
    (hv : ∀ (j : Fin 2304) (d : Fin 128), vv (ix2 j d) = ((v j (h / 4) d : ℝ) : EReal))
    (hd : ∀ (i : Fin 256) (d : Fin 128), dd (ix2 i d) = ((o (a + i) h d : ℝ) : EReal))
    (ho : ∀ (i : Fin 256) (d : Fin 128),
      oo (ix2 i d) = ((∑ j : Fin 2304, W q k h (a + i) j * v j (h / 4) d : ℝ) : EReal))
    (i : Fin 256) (j : Fin 2304) :
    k1_pay12 vv dd pr oo (ix2 i j) = ((dS q k v o h (a + i) j : ℝ) : EReal) := by
  unfold dS
  rw [← delta_eq]
  unfold dP
  refine Eq.trans (b := pr (ix2 i j) * (∑ x : Fin 128, dd (ix2 i x) * vv (ix2 j x)
    - ∑ x : Fin 128, oo (ix2 i x) * dd (ix2 i x)) * Ideal.ofBits .f32 1035273459#32) ?_ ?_
  · pointwise [k1_pay12]
  · rw [show Ideal.ofBits .f32 1035273459#32 = ((sc : ℝ) : EReal) from ofBits_sc]
    simp only [hpr, hv, hd, ho, ← EReal.coe_mul, ← Row.coe_sum, ← EReal.coe_sub]

theorem bwd_dq {ds : FVec Ideal S256x2304 .f32}
    (hs : ∀ (i : Fin 256) (j : Fin 2304), ds (ix2 i j) = ((dS q k v o h (a + i) j : ℝ) : EReal))
    (hk : ∀ (j : Fin 2304) (d : Fin 128), kk (ix2 j d) = ((k j (h / 4) d : ℝ) : EReal))
    (i : Fin 256) (d : Fin 128) :
    k1_pay1 kk ds (ix2 i d) = ((dQ q k v o (a + i) h d : ℝ) : EReal) := by
  refine Eq.trans (b := ∑ x : Fin 2304, ds (ix2 i x) * kk (ix2 x d)) ?_ ?_
  · pointwise [k1_pay1]
  · unfold dQ
    simp only [hs, hk, ← EReal.coe_mul, ← Row.coe_sum]

/-- What a head of a tile adds to the gradient of the keys. -/
theorem bwd_dk {ds : FVec Ideal S256x2304 .f32} {acc : FVec Ideal S2304x128 .f32} {qb : FVec Ideal S256x128 .bf16}
    {A : Fin 2304 → Fin 128 → ℝ}
    (hA : ∀ (j : Fin 2304) (d : Fin 128), acc (ix2 j d) = ((A j d : ℝ) : EReal))
    (hs : ∀ (i : Fin 256) (j : Fin 2304), ds (ix2 i j) = ((dS q k v o h (a + i) j : ℝ) : EReal))
    (hq : ∀ (i : Fin 256) (d : Fin 128), qb (ix2 i d) = ((q (a + i) h d : ℝ) : EReal))
    (j : Fin 2304) (d : Fin 128) :
    k1_pay2 acc qb ds (ix2 j d)
      = ((A j d + ∑ i : Fin 256, dS q k v o h (a + i) j * q (a + i) h d : ℝ) : EReal) := by
  refine Eq.trans (b := acc (ix2 j d) + ∑ x : Fin 256, ds (ix2 x j) * qb (ix2 x d)) ?_ ?_
  · pointwise [k1_pay2]
  · simp only [hA, hs, hq, ← EReal.coe_mul, ← Row.coe_sum, ← EReal.coe_add]

/-- What a head of a tile adds to the gradient of the values. -/
theorem bwd_dv {pr : FVec Ideal S256x2304 .f32} {acc : FVec Ideal S2304x128 .f32}
    {A : Fin 2304 → Fin 128 → ℝ}
    (hA : ∀ (j : Fin 2304) (d : Fin 128), acc (ix2 j d) = ((A j d : ℝ) : EReal))
    (hpr : ∀ (i : Fin 256) (j : Fin 2304), pr (ix2 i j) = ((W q k h (a + i) j : ℝ) : EReal))
    (hd : ∀ (i : Fin 256) (d : Fin 128), dd (ix2 i d) = ((o (a + i) h d : ℝ) : EReal))
    (j : Fin 2304) (d : Fin 128) :
    k1_pay3 acc dd pr (ix2 j d)
      = ((A j d + ∑ i : Fin 256, W q k h (a + i) j * o (a + i) h d : ℝ) : EReal) := by
  refine Eq.trans (b := acc (ix2 j d) + ∑ x : Fin 256, pr (ix2 x j) * dd (ix2 x d)) ?_ ?_
  · pointwise [k1_pay3]
  · simp only [hA, hpr, hd, ← EReal.coe_mul, ← Row.coe_sum, ← EReal.coe_add]

end

end Cert.Proof.Attn
-- ==== Proof.AttnTile.lean ====
module

public import proofs.«01_k».proof.Proof.AttnBlock

@[expose] public section

/-!
# One tile of one group

A grid point of either kernel works on 256 query rows and on the four query heads that share a key head. Here the
blocks the point reads hold the matching parts of the queries, keys, values and incoming gradient, and what the
point leaves in its output blocks is read at an index.
-/

set_option maxRecDepth 16384

noncomputable section
namespace Cert.Proof.Attn
open Idealize.ShloMosaic Cert.KernelIdeal Cert.KernelIdeal.Gen

variable (q k v o : ℕ → ℕ → ℕ → ℝ)

/-- The attention's result. -/
def out (i h d : ℕ) : ℝ := ∑ j : Fin 2304, W q k h i j * v j (h / 4) d

/-- The logarithm of a row's sum of exponentials. -/
def lse (h i : ℕ) : ℝ := Real.log (Row.tot (X q k h i))

/-- The rows from `a` on of an array with one row per query, the heads of group `g` side by side. -/
def rows (f : ℕ → ℕ → ℕ → ℝ) (g a : ℕ) : Vec Ideal S256x512 .f32 :=
  fun y => ((f (a + (y 0).val) (4 * g + (y 1).val / 128) ((y 1).val % 128) : ℝ) : EReal)

/-- The key or value rows of head `g`. -/
def keys (f : ℕ → ℕ → ℕ → ℝ) (g : ℕ) : Vec Ideal S2304x128 .f32 :=
  fun y => ((f (y 0).val g (y 1).val : ℝ) : EReal)

def vals (f : ℕ → ℕ → ℕ → ℝ) (g : ℕ) : Vec Ideal S2304x128 .bf16 :=
  fun y => ((f (y 0).val g (y 1).val : ℝ) : EReal)

/-- The rows from `a` on of the row logarithms, one plane per head of group `g`. -/
def lses (g a : ℕ) : Vec Ideal S4x256x1 .f32 :=
  fun y => ((lse q k (4 * g + (y 0).val) (a + (y 1).val) : ℝ) : EReal)

/-- A gradient of the keys or values of head `g`. -/
def accs (f : Fin 2304 → ℕ → ℕ → ℝ) (g : ℕ) : Vec Ideal S2304x128 .f32 :=
  fun y => ((f (y 0) g (y 1).val : ℝ) : EReal)

section
variable {q k v o}

theorem ld_rows (f : ℕ → ℕ → ℕ → ℝ) (g a r n : ℕ) (hn : n = 128 * r) (inb) (i : Fin 256) (d : Fin 128) :
    View.ld (rows f g a) (Rect.unit (s := S256x512) ![0, n] S256x128.size inb) (ix2 i d)
      = ((f (a + i.val) (4 * g + r) d.val : ℝ) : EReal) := by
  rw [View.ld_unit]
  unfold rows extractStridedSlice
  dsimp only
  have e0 : 0 + i.val = i.val := Nat.zero_add _
  have e1 : (n + d.val) / 128 = r := by omega
  have e2 : (n + d.val) % 128 = d.val := by omega
  exact congrArg₂ (fun (x : ℕ) (y : ℕ × ℕ) => ((f (a + x) (4 * g + y.1) y.2 : ℝ) : EReal)) e0
    (Prod.ext (x := ((n + d.val) / 128, (n + d.val) % 128)) (y := (r, d.val)) e1 e2)

theorem ld_lses (g a r : ℕ) (inb) (i : Fin 256) :
    View.ld (lses q k g a) (Rect.unit (s := S4x256x1) ![r, 0, 0] S1x256x1.size inb) (ix3 0 i 0)
      = ((Real.log (Row.tot (X q k (4 * g + r) (a + i.val))) : ℝ) : EReal) := by
  rw [View.ld_unit]
  unfold lses lse extractStridedSlice
  dsimp only
  exact congrArg₂ (fun (x y : ℕ) => ((Real.log (Row.tot (X q k (4 * g + x) (a + y))) : ℝ) : EReal))
    (Nat.add_zero r) (Nat.zero_add i.val)

theorem hz2 : (![0, 0] : Fin 2 → Nat) = fun _ => 0 := funext fun a => by fin_cases a <;> rfl

theorem pay7_apply (x : Vec Ideal S2304x128 .f32) (j : Fin 2304) (d : Fin 128) : k1_pay7 x (ix2 j d) = x (ix2 j d) := by
  pointwise [k1_pay7]

theorem pay10_apply (x : Vec Ideal S256x128 .f32) (i : Fin 256) (d : Fin 128) : k1_pay10 x (ix2 i d) = x (ix2 i d) := by
  pointwise [k1_pay10]

/-! ## The heads' values, spelt once

The kernel's text repeats the same operations for each of its four heads. -/

theorem b11 (i : grid1.Coords) (x : Vec Ideal S2304x128 .f32) (q : Vec Ideal S256x128 .f32) (l : Vec Ideal S1x256x1 .f32) :
    k1_pay11 i x q l = k1_pay17 (k1_pay6 i) (k1_pay7 x) q l := rfl
theorem b24 (m : FVec Ideal S1x2304 .f32) (x : FVec Ideal S2304x128 .bf16) (q : Vec Ideal S256x128 .f32)
    (l : Vec Ideal S1x256x1 .f32) : k1_pay24 m x q l = k1_pay17 m x q l := rfl
theorem b32 (m : FVec Ideal S1x2304 .f32) (x : FVec Ideal S2304x128 .bf16) (q : Vec Ideal S256x128 .f32)
    (l : Vec Ideal S1x256x1 .f32) : k1_pay32 m x q l = k1_pay17 m x q l := rfl
theorem b33 (m : FVec Ideal S1x2304 .f32) (x : FVec Ideal S2304x128 .bf16) (v : Vec Ideal S2304x128 .bf16)
    (q g : Vec Ideal S256x128 .f32) (l : Vec Ideal S1x256x1 .f32) (o : Vec Ideal S256x128 .f32) :
    k1_pay33 m x v q g l o = k1_pay12 v g (k1_pay17 m x q l) o := rfl
theorem b13 (x : FVec Ideal S2304x128 .bf16) (v : Vec Ideal S2304x128 .bf16) (g : Vec Ideal S256x128 .f32)
    (p : FVec Ideal S256x2304 .f32) (o : Vec Ideal S256x128 .f32) :
    k1_pay13 x v g p o = k1_pay1 x (k1_pay12 v g p o) := rfl
theorem b20 (x : FVec Ideal S2304x128 .bf16) (v : Vec Ideal S2304x128 .bf16) (g : Vec Ideal S256x128 .f32)
    (p : FVec Ideal S256x2304 .f32) (o : Vec Ideal S256x128 .f32) :
    k1_pay20 x v g p (k1_pay18 g o) = k1_pay1 x (k1_pay12 v g p o) := rfl
theorem b28 (x : FVec Ideal S2304x128 .bf16) (v : Vec Ideal S2304x128 .bf16) (g : Vec Ideal S256x128 .f32)
    (p : FVec Ideal S256x2304 .f32) (o : Vec Ideal S256x128 .f32) :
    k1_pay28 x p (k1_pay25 v g) (k1_pay26 g o) = k1_pay1 x (k1_pay12 v g p o) := rfl
theorem b14 (v : Vec Ideal S2304x128 .bf16) (a : FVec Ideal S2304x128 .f32) (q : FVec Ideal S256x128 .bf16)
    (g : Vec Ideal S256x128 .f32) (p : FVec Ideal S256x2304 .f32) (o : Vec Ideal S256x128 .f32) :
    k1_pay14 v a q g p o = k1_pay2 a q (k1_pay12 v g p o) := rfl
theorem b21 (v : Vec Ideal S2304x128 .bf16) (a : FVec Ideal S2304x128 .f32) (q : FVec Ideal S256x128 .bf16)
    (g : Vec Ideal S256x128 .f32) (p : FVec Ideal S256x2304 .f32) (o : Vec Ideal S256x128 .f32) :
    k1_pay21 v a q g p (k1_pay18 g o) = k1_pay2 a q (k1_pay12 v g p o) := rfl
theorem b29 (v : Vec Ideal S2304x128 .bf16) (a : FVec Ideal S2304x128 .f32) (q : FVec Ideal S256x128 .bf16)
    (g : Vec Ideal S256x128 .f32) (p : FVec Ideal S256x2304 .f32) (o : Vec Ideal S256x128 .f32) :
    k1_pay29 a q p (k1_pay25 v g) (k1_pay26 g o) = k1_pay2 a q (k1_pay12 v g p o) := rfl
theorem b15 (a : FVec Ideal S2304x128 .f32) (g : Vec Ideal S256x128 .f32) (p : FVec Ideal S256x2304 .f32) :
    k1_pay15 a g p = k1_pay3 a g p := rfl
theorem b22 (a : FVec Ideal S2304x128 .f32) (g : Vec Ideal S256x128 .f32) (p : FVec Ideal S256x2304 .f32) :
    k1_pay22 a g p = k1_pay3 a g p := rfl
theorem b30 (a : FVec Ideal S2304x128 .f32) (g : Vec Ideal S256x128 .f32) (p : FVec Ideal S256x2304 .f32) :
    k1_pay30 a g p = k1_pay3 a g p := rfl
theorem b16 (q : Vec Ideal S256x128 .f32) : k1_pay16 q = k1_pay10 q := rfl
theorem b23 (q : Vec Ideal S256x128 .f32) : k1_pay23 q = k1_pay10 q := rfl
theorem b31 (q : Vec Ideal S256x128 .f32) : k1_pay31 q = k1_pay10 q := rfl
theorem b8 (a : Vec Ideal S2304x128 .f32) : k1_pay8 a = a := shapeCast_self _ _
theorem b9 (a : Vec Ideal S2304x128 .f32) : k1_pay9 a = a := shapeCast_self _ _

/-- A head's weights in the backward kernel's spelling. -/
def hW (i : grid1.Coords) (x1 : Vec Ideal S2304x128 .f32) (qq : Vec Ideal S256x128 .f32) (l : Vec Ideal S1x256x1 .f32) :
    FVec Ideal S256x2304 .f32 := k1_pay17 (k1_pay6 i) (k1_pay7 x1) qq l

/-- A head's score gradients. -/
def hS (i : grid1.Coords) (x1 : Vec Ideal S2304x128 .f32) (x2 : Vec Ideal S2304x128 .bf16) (qq oo dd : Vec Ideal S256x128 .f32)
    (l : Vec Ideal S1x256x1 .f32) : FVec Ideal S256x2304 .f32 := k1_pay12 x2 dd (hW i x1 qq l) oo

variable (i : grid1.Coords) (x0 : Vec Ideal S256x512 .f32) (x1 : Vec Ideal S2304x128 .f32) (x2 : Vec Ideal S2304x128 .bf16)
  (x3 x4 : Vec Ideal S256x512 .f32) (x5 : Vec Ideal S4x256x1 .f32)

/-- The four heads' score gradients. -/
def S0 := hS i x1 x2 (View.ld x0 r0_1) (View.ld x3 r0_1) (View.ld x4 r0_1) (View.ld x5 r0_2)
def S1 := hS i x1 x2 (View.ld x0 r0_3) (View.ld x3 r0_3) (View.ld x4 r0_3) (View.ld x5 r0_4)
def S2 := hS i x1 x2 (View.ld x0 r0_5) (View.ld x3 r0_5) (View.ld x4 r0_5) (View.ld x5 r0_6)
def S3 := hS i x1 x2 (View.ld x0 r0_7) (View.ld x3 r0_7) (View.ld x4 r0_7) (View.ld x5 r0_8)

/-- The block of the queries' gradient a point leaves. -/
def dqBlk : Vec Ideal S256x512 .f32 :=
  View.canon (Val := Elt Ideal) [⟨r0_7, k1_pay1 (k1_pay7 x1) (S3 i x0 x1 x2 x3 x4 x5)⟩,
    ⟨r0_5, k1_pay1 (k1_pay7 x1) (S2 i x0 x1 x2 x3 x4 x5)⟩,
    ⟨r0_3, k1_pay1 (k1_pay7 x1) (S1 i x0 x1 x2 x3 x4 x5)⟩,
    ⟨r0_1, k1_pay1 (k1_pay7 x1) (S0 i x0 x1 x2 x3 x4 x5)⟩]

/-- What a point makes of the gradient of the keys. -/
def dkStep (acc : Vec Ideal S2304x128 .f32) : Vec Ideal S2304x128 .f32 :=
  k1_pay2 (k1_pay2 (k1_pay2 (k1_pay2 acc (k1_pay10 (View.ld x0 r0_1)) (S0 i x0 x1 x2 x3 x4 x5))
    (k1_pay10 (View.ld x0 r0_3)) (S1 i x0 x1 x2 x3 x4 x5)) (k1_pay10 (View.ld x0 r0_5)) (S2 i x0 x1 x2 x3 x4 x5))
    (k1_pay10 (View.ld x0 r0_7)) (S3 i x0 x1 x2 x3 x4 x5)

/-- What a point makes of the gradient of the values. -/
def dvStep (acc : Vec Ideal S2304x128 .f32) : Vec Ideal S2304x128 .f32 :=
  k1_pay3 (k1_pay3 (k1_pay3 (k1_pay3 acc (View.ld x4 r0_1) (hW i x1 (View.ld x0 r0_1) (View.ld x5 r0_2)))
    (View.ld x4 r0_3) (hW i x1 (View.ld x0 r0_3) (View.ld x5 r0_4)))
    (View.ld x4 r0_5) (hW i x1 (View.ld x0 r0_5) (View.ld x5 r0_6)))
    (View.ld x4 r0_7) (hW i x1 (View.ld x0 r0_7) (View.ld x5 r0_8))

end

/-! ## The values a point computes -/

section
variable {q k v o} {g a : ℕ}

theorem hk1 (r : ℕ) (hr : r < 4) (j : Fin 2304) (d : Fin 128) :
    k1_pay7 (keys k g) (ix2 j d) = ((k j ((4 * g + r) / 4) d : ℝ) : EReal) := by
  rw [pay7_apply, show (4 * g + r) / 4 = g by omega]; rfl

theorem hv1 (r : ℕ) (hr : r < 4) (j : Fin 2304) (d : Fin 128) :
    vals v g (ix2 j d) = ((v j ((4 * g + r) / 4) d : ℝ) : EReal) := by
  rw [show (4 * g + r) / 4 = g by omega]; rfl

variable (i : grid1.Coords) (hi : (i 1).val * 256 = a)
include hi

theorem tile_side (ii : Fin 256) : a + ii.val < 2048 ↔ a < 2048 := by
  have := (i 1).isLt; omega

theorem hW_coe (r n : ℕ) (hr : r < 4) (hn : n = 128 * r) (inb inb') (ii : Fin 256) (j : Fin 2304) :
    hW i (keys k g) (View.ld (rows q g a) (Rect.unit (s := S256x512) ![0, n] S256x128.size inb))
        (View.ld (lses q k g a) (Rect.unit (s := S4x256x1) ![r, 0, 0] S1x256x1.size inb')) (ix2 ii j)
      = ((W q k (4 * g + r) (a + ii) j : ℝ) : EReal) := by
  refine bwd_w (tile_side i hi) (hi ▸ mask1 i) (hk1 r hr) (fun ii d => ld_rows q g a r n hn inb ii d)
    (fun ii => ld_lses g a r inb' ii) ii j

theorem hS_coe (r n : ℕ) (hr : r < 4) (hn : n = 128 * r) (inb inb') (ii : Fin 256) (j : Fin 2304) :
    hS i (keys k g) (vals v g) (View.ld (rows q g a) (Rect.unit (s := S256x512) ![0, n] S256x128.size inb))
        (View.ld (rows (out q k v) g a) (Rect.unit (s := S256x512) ![0, n] S256x128.size inb))
        (View.ld (rows o g a) (Rect.unit (s := S256x512) ![0, n] S256x128.size inb))
        (View.ld (lses q k g a) (Rect.unit (s := S4x256x1) ![r, 0, 0] S1x256x1.size inb')) (ix2 ii j)
      = ((dS q k v o (4 * g + r) (a + ii) j : ℝ) : EReal) :=
  bwd_ds (hW_coe i hi r n hr hn inb inb') (hv1 r hr) (fun ii d => ld_rows o g a r n hn inb ii d)
    (fun ii d => ld_rows (out q k v) g a r n hn inb ii d) ii j

omit hi in
/-- A piece of a block of rows. -/
theorem piece_rows (f : ℕ → ℕ → ℕ → ℝ) (r n : ℕ) (hn : n = 128 * r) (inb) (p : Vec Ideal S256x128 .f32)
    (hp : ∀ (ii : Fin 256) (d : Fin 128), p (ix2 ii d) = ((f (a + ii) (4 * g + r) d : ℝ) : EReal))
    (x : S256x128.Idx) :
    p x = rows f g a ((Rect.unit (s := S256x512) ![0, n] S256x128.size inb).emb x) := by
  obtain ⟨ii, d, rfl⟩ : ∃ (ii : Fin 256) (d : Fin 128), x = ix2 ii d := ⟨x 0, x 1, by funext b; fin_cases b <;> rfl⟩
  rw [hp]; exact (ld_rows f g a r n hn inb ii d).symm

theorem dqBlk_eq : dqBlk i (rows q g a) (keys k g) (vals v g) (rows (out q k v) g a) (rows o g a) (lses q k g a)
    = rows (dQ q k v o) g a := by
  funext y
  unfold dqBlk
  refine View.canon_apply_of_pieces (rows (dQ q k v o) g a) _ ?_ y (cover0_3 _ _ _ _ y)
  intro p hp x
  simp only [List.mem_cons, List.not_mem_nil, or_false] at hp
  rcases hp with rfl | rfl | rfl | rfl
  · exact piece_rows _ 3 384 rfl inb_S256x512_S256x128_0_384 _ (bwd_dq (hS_coe i hi 3 384 (by norm_num) rfl inb_S256x512_S256x128_0_384 inb_S4x256x1_S1x256x1_3_0_0) (hk1 3 (by norm_num))) x
  · exact piece_rows _ 2 256 rfl inb_S256x512_S256x128_0_256 _ (bwd_dq (hS_coe i hi 2 256 (by norm_num) rfl inb_S256x512_S256x128_0_256 inb_S4x256x1_S1x256x1_2_0_0) (hk1 2 (by norm_num))) x
  · exact piece_rows _ 1 128 rfl inb_S256x512_S256x128_0_128 _ (bwd_dq (hS_coe i hi 1 128 (by norm_num) rfl inb_S256x512_S256x128_0_128 inb_S4x256x1_S1x256x1_1_0_0) (hk1 1 (by norm_num))) x
  · exact piece_rows _ 0 0 rfl inb_S256x512_S256x128_0_0 _ (bwd_dq (hS_coe i hi 0 0 (by norm_num) rfl inb_S256x512_S256x128_0_0 inb_S4x256x1_S1x256x1_0_0_0) (hk1 0 (by norm_num))) x

omit hi in
theorem dKto_tile (j : Fin 2304) (d : ℕ) : dKto q k v o (a + 256) j g d
    = dKto q k v o a j g d + ∑ r : Fin 4, ∑ ii : Fin 256, dS q k v o (4 * g + r) (a + ii) j * q (a + ii) (4 * g + r) d := by
  unfold dKto; rw [sum_range_tile, Finset.sum_comm (s := Finset.univ (α := Fin 4))]

omit hi in
theorem dVto_tile (j : Fin 2304) (d : ℕ) : dVto q k o (a + 256) j g d
    = dVto q k o a j g d + ∑ r : Fin 4, ∑ ii : Fin 256, W q k (4 * g + r) (a + ii) j * o (a + ii) (4 * g + r) d := by
  unfold dVto; rw [sum_range_tile, Finset.sum_comm (s := Finset.univ (α := Fin 4))]

theorem dkStep_eq : dkStep i (rows q g a) (keys k g) (vals v g) (rows (out q k v) g a) (rows o g a) (lses q k g a)
    (accs (dKto q k v o a) g) = accs (dKto q k v o (a + 256)) g := by
  funext y
  obtain ⟨j, d, rfl⟩ : ∃ (j : Fin 2304) (d : Fin 128), y = ix2 j d := ⟨y 0, y 1, by funext b; fin_cases b <;> rfl⟩
  have h0 := bwd_dk (q := q) (k := k) (v := v) (o := o) (acc := accs (dKto q k v o a) g) (A := fun j d => dKto q k v o a j g d) (fun j d => rfl) (hS_coe (o := o) (v := v) (q := q) (k := k) (g := g) i hi 0 0 (by norm_num) rfl
    inb_S256x512_S256x128_0_0 inb_S4x256x1_S1x256x1_0_0_0)
    (fun ii d => (pay10_apply _ ii d).trans (ld_rows q g a 0 0 rfl inb_S256x512_S256x128_0_0 ii d))
  have h1 := bwd_dk (q := q) (k := k) (v := v) (o := o) h0 (hS_coe (q := q) (k := k) (v := v) (o := o) i hi 1 128 (by norm_num) rfl inb_S256x512_S256x128_0_128 inb_S4x256x1_S1x256x1_1_0_0)
    (fun ii d => (pay10_apply _ ii d).trans (ld_rows q g a 1 128 rfl inb_S256x512_S256x128_0_128 ii d))
  have h2 := bwd_dk (q := q) (k := k) (v := v) (o := o) h1 (hS_coe (q := q) (k := k) (v := v) (o := o) i hi 2 256 (by norm_num) rfl inb_S256x512_S256x128_0_256 inb_S4x256x1_S1x256x1_2_0_0)
    (fun ii d => (pay10_apply _ ii d).trans (ld_rows q g a 2 256 rfl inb_S256x512_S256x128_0_256 ii d))
  have h3 := bwd_dk (q := q) (k := k) (v := v) (o := o) h2 (hS_coe (q := q) (k := k) (v := v) (o := o) i hi 3 384 (by norm_num) rfl inb_S256x512_S256x128_0_384 inb_S4x256x1_S1x256x1_3_0_0)
    (fun ii d => (pay10_apply _ ii d).trans (ld_rows q g a 3 384 rfl inb_S256x512_S256x128_0_384 ii d))
  refine (h3 j d).trans ?_
  show _ = ((dKto q k v o (a + 256) j g d : ℝ) : EReal)
  rw [dKto_tile, Fin.sum_univ_four]
  congr 1
  simp only [add_assoc]
  rfl

theorem dvStep_eq : dvStep i (rows q g a) (keys k g) (rows o g a) (lses q k g a)
    (accs (dVto q k o a) g) = accs (dVto q k o (a + 256)) g := by
  funext y
  obtain ⟨j, d, rfl⟩ : ∃ (j : Fin 2304) (d : Fin 128), y = ix2 j d := ⟨y 0, y 1, by funext b; fin_cases b <;> rfl⟩
  have h0 := bwd_dv (q := q) (k := k) (acc := accs (dVto q k o a) g) (A := fun j d => dVto q k o a j g d) (fun j d => rfl) (hW_coe (q := q) (k := k) (g := g) i hi 0 0 (by norm_num) rfl
    inb_S256x512_S256x128_0_0 inb_S4x256x1_S1x256x1_0_0_0) (fun ii d => ld_rows o g a 0 0 rfl inb_S256x512_S256x128_0_0 ii d)
  have h1 := bwd_dv (q := q) (k := k) h0 (hW_coe (q := q) (k := k) i hi 1 128 (by norm_num) rfl inb_S256x512_S256x128_0_128 inb_S4x256x1_S1x256x1_1_0_0)
    (fun ii d => ld_rows o g a 1 128 rfl inb_S256x512_S256x128_0_128 ii d)
  have h2 := bwd_dv (q := q) (k := k) h1 (hW_coe (q := q) (k := k) i hi 2 256 (by norm_num) rfl inb_S256x512_S256x128_0_256 inb_S4x256x1_S1x256x1_2_0_0)
    (fun ii d => ld_rows o g a 2 256 rfl inb_S256x512_S256x128_0_256 ii d)
  have h3 := bwd_dv (q := q) (k := k) h2 (hW_coe (q := q) (k := k) i hi 3 384 (by norm_num) rfl inb_S256x512_S256x128_0_384 inb_S4x256x1_S1x256x1_3_0_0)
    (fun ii d => ld_rows o g a 3 384 rfl inb_S256x512_S256x128_0_384 ii d)
  refine (h3 j d).trans ?_
  show _ = ((dVto q k o (a + 256) j g d : ℝ) : EReal)
  rw [dVto_tile, Fin.sum_univ_four]
  congr 1
  simp only [add_assoc]
  rfl

end

end Cert.Proof.Attn
-- ==== Proof.AttnOuts.lean ====
module

public import proofs.«01_k».proof.Proof.AttnTile

@[expose] public section

/-!
# The backward kernel's blocks, point by point

What each grid point leaves in its three output blocks, as the found pieces spell it: the queries' gradient of the
tile, and the running gradients of the keys and of the values, begun at zero at the first tile of a group.
-/

set_option maxRecDepth 16384

noncomputable section
namespace Cert.Proof.Attn
open Idealize.ShloMosaic Idealize.ShloMosaic.TcCoe Idealize.ShloMosaic.Tactic Cert.KernelIdeal Cert.KernelIdeal.Gen

variable (V : (c : Dev nD) → (b : Ref sig .tc) → Buf (Elt Ideal) ((c : Thread nD τ).loc b))

theorem hz2' : (![0, 0] : Fin 2 → Nat) = fun _ => 0 := hz2

theorem outs_dq_A (c : Dev nD) (t : Fin cfg1.N) (h0 : t.val % 9 = 0) :
    (outsAt1 V c t.val t.isLt).1 = dqBlk (grid1.coords t) (iblk1 V c 0 t) (iblk1 V c 1 t) (iblk1 V c 2 t)
      (iblk1 V c 3 t) (iblk1 V c 4 t) (iblk1 V c 5 t) := by
  rw [outsAt1_A V c t h0]; dsimp only
  unfold out1_A_6
  rw [View.read_writes_eq_canon _ _ _ (cover1_A_6 c _ _ _ _ _ _ _ _ _ _ _ _ _ _ _ _ _ _ _ _ _ _ _ _ _ _)]
  unfold kernelRun1_A
  dsimp only
  sl_unfold_words
  simp only [View.readAt_eq_ld, (hs1_0 t).read_unread, (hs1_1 t).read_unread, (hs1_2 t).read_unread,
    (hs1_3 t).read_unread, (hs1_4 t).read_unread, (hs1_5 t).read_unread, View.ld_unit_zero (S := S2304x128) hz2,
    b33, b28, b24, b20, b13, b11]
  rfl

theorem outs_dq_B (c : Dev nD) (t : Fin cfg1.N) (h0 : ¬t.val % 9 = 0) :
    (outsAt1 V c t.val t.isLt).1 = dqBlk (grid1.coords t) (iblk1 V c 0 t) (iblk1 V c 1 t) (iblk1 V c 2 t)
      (iblk1 V c 3 t) (iblk1 V c 4 t) (iblk1 V c 5 t) := by
  rw [outsAt1_B V c t h0]; dsimp only
  unfold out1_B_6
  rw [View.read_writes_eq_canon _ _ _ (cover1_B_6 c _ _ _ _ _ _ _ _ _ _ _ _ _ _ _ _ _ _ _ _ _ _ _ _ _ _ _ _)]
  unfold kernelRun1_B
  dsimp only
  sl_unfold_words
  simp only [View.readAt_eq_ld, (hs1_0 t).read_unread, (hs1_1 t).read_unread, (hs1_2 t).read_unread,
    (hs1_3 t).read_unread, (hs1_4 t).read_unread, (hs1_5 t).read_unread, View.ld_unit_zero (S := S2304x128) hz2,
    b33, b28, b24, b20, b13, b11]
  rfl

theorem outs_dq (c : Dev nD) (t : Fin cfg1.N) :
    (outsAt1 V c t.val t.isLt).1 = dqBlk (grid1.coords t) (iblk1 V c 0 t) (iblk1 V c 1 t) (iblk1 V c 2 t)
      (iblk1 V c 3 t) (iblk1 V c 4 t) (iblk1 V c 5 t) := by
  by_cases h0 : t.val % 9 = 0
  · exact outs_dq_A V c t h0
  · exact outs_dq_B V c t h0

theorem outs_dk_A (c : Dev nD) (t : Fin cfg1.N) (h0 : t.val % 9 = 0) :
    (outsAt1 V c t.val t.isLt).2.1 = dkStep (grid1.coords t) (iblk1 V c 0 t) (iblk1 V c 1 t) (iblk1 V c 2 t)
      (iblk1 V c 3 t) (iblk1 V c 4 t) (iblk1 V c 5 t) (k1_pay4 (F := Ideal)) := by
  rw [outsAt1_A V c t h0]; dsimp only
  unfold out1_A_7
  rw [View.read_writes_eq_canon _ _ _ (cover1_A_7 c _ _ _ _ _ _ _ _ _ _ _ _ _ _ _ _ _ _ _ _ _ _ _ _ _ _)]
  unfold kernelRun1_A
  dsimp only
  sl_unfold_words
  rw [View.canon_cons_unit_zero (S := S2304x128) hz2, View.readCov_unit_zero (S := S2304x128) _ hz2]
  simp only [View.readAt_eq_ld, (hs1_0 t).read_unread, (hs1_1 t).read_unread, (hs1_2 t).read_unread,
    (hs1_3 t).read_unread, (hs1_4 t).read_unread, (hs1_5 t).read_unread, View.ld_unit_zero (S := S2304x128) hz2,
    b33, b29, b24, b21, b14, b11, b8, b16, b23, b31]
  rfl

theorem outs_dk_B (c : Dev nD) (t : Fin cfg1.N) (h0 : ¬t.val % 9 = 0) :
    (outsAt1 V c t.val t.isLt).2.1 = dkStep (grid1.coords t) (iblk1 V c 0 t) (iblk1 V c 1 t) (iblk1 V c 2 t)
      (iblk1 V c 3 t) (iblk1 V c 4 t) (iblk1 V c 5 t)
      (outsAt1 V c (t.val - 1) (Nat.lt_of_le_of_lt (Nat.sub_le _ _) t.isLt)).2.1 := by
  rw [outsAt1_B V c t h0]; dsimp only
  unfold out1_B_7
  rw [View.read_writes_eq_canon _ _ _ (cover1_B_7 c _ _ _ _ _ _ _ _ _ _ _ _ _ _ _ _ _ _ _ _ _ _ _ _ _ _ _ _)]
  unfold kernelRun1_B
  dsimp only
  sl_unfold_words
  rw [View.canon_unit_zero (S := S2304x128) hz2]
  simp only [View.readAt_eq_ld, (hs1_0 t).read_unread, (hs1_1 t).read_unread, (hs1_2 t).read_unread,
    (hs1_3 t).read_unread, (hs1_4 t).read_unread, (hs1_5 t).read_unread, (hs1_7 t).read_unread,
    View.ld_unit_zero (S := S2304x128) hz2,
    b33, b29, b24, b21, b14, b11, b8, b16, b23, b31]
  rfl

theorem outs_dv_A (c : Dev nD) (t : Fin cfg1.N) (h0 : t.val % 9 = 0) :
    (outsAt1 V c t.val t.isLt).2.2 = dvStep (grid1.coords t) (iblk1 V c 0 t) (iblk1 V c 1 t)
      (iblk1 V c 4 t) (iblk1 V c 5 t) (k1_pay5 (F := Ideal)) := by
  rw [outsAt1_A V c t h0]; dsimp only
  unfold out1_A_8
  rw [View.read_writes_eq_canon _ _ _ (cover1_A_8 c _ _ _ _ _ _ _ _ _ _ _ _ _ _ _ _ _ _ _ _ _ _ _ _ _ _)]
  unfold kernelRun1_A
  dsimp only
  sl_unfold_words
  rw [View.canon_cons_unit_zero (S := S2304x128) hz2, View.readCov_unit_zero (S := S2304x128) _ hz2]
  simp only [View.readAt_eq_ld, (hs1_0 t).read_unread, (hs1_1 t).read_unread, (hs1_2 t).read_unread,
    (hs1_3 t).read_unread, (hs1_4 t).read_unread, (hs1_5 t).read_unread, View.ld_unit_zero (S := S2304x128) hz2,
    b32, b30, b24, b22, b15, b11, b9]
  rfl

theorem outs_dv_B (c : Dev nD) (t : Fin cfg1.N) (h0 : ¬t.val % 9 = 0) :
    (outsAt1 V c t.val t.isLt).2.2 = dvStep (grid1.coords t) (iblk1 V c 0 t) (iblk1 V c 1 t)
      (iblk1 V c 4 t) (iblk1 V c 5 t)
      (outsAt1 V c (t.val - 1) (Nat.lt_of_le_of_lt (Nat.sub_le _ _) t.isLt)).2.2 := by
  rw [outsAt1_B V c t h0]; dsimp only
  unfold out1_B_8
  rw [View.read_writes_eq_canon _ _ _ (cover1_B_8 c _ _ _ _ _ _ _ _ _ _ _ _ _ _ _ _ _ _ _ _ _ _ _ _ _ _ _ _)]
  unfold kernelRun1_B
  dsimp only
  sl_unfold_words
  rw [View.canon_unit_zero (S := S2304x128) hz2]
  simp only [View.readAt_eq_ld, (hs1_0 t).read_unread, (hs1_1 t).read_unread, (hs1_2 t).read_unread,
    (hs1_3 t).read_unread, (hs1_4 t).read_unread, (hs1_5 t).read_unread, (hs1_8 t).read_unread,
    View.ld_unit_zero (S := S2304x128) hz2,
    b32, b30, b24, b22, b15, b11, b9]
  rfl

end Cert.Proof.Attn
-- ==== Proof.AttnFwd.lean ====
module

public import proofs.«01_k».proof.Proof.AttnTile
public import Idealize.ShloMosaic.Lib.Pipeline.Value

@[expose] public section

/-!
# The forward kernel's arrays

The blocks the forward kernel reads hold the queries, keys and values; its two result arrays end holding the
attention's result and the logarithms of the rows' sums.
-/

set_option maxRecDepth 16384

noncomputable section
namespace Cert.Proof.Attn
open Idealize.ShloMosaic Idealize.ShloMosaic.TcCoe Idealize.ShloMosaic.Tactic Cert.KernelIdeal Cert.KernelIdeal.Gen

theorem coe3 (f : ℕ → ℕ → ℕ → ℝ) {a a' b b' c c' : ℕ} (ha : a = a') (hb : b = b') (hc : c = c') :
    ((f a b c : ℝ) : EReal) = ((f a' b' c' : ℝ) : EReal) := by subst ha hb hc; rfl

theorem coe2 (f : ℕ → ℕ → ℝ) {a a' b b' : ℕ} (ha : a = a') (hb : b = b') :
    ((f a b : ℝ) : EReal) = ((f a' b' : ℝ) : EReal) := by subst ha hb; rfl

/-- An array with one row per query, the eight heads side by side. -/
def whole (f : ℕ → ℕ → ℕ → ℝ) : Vec Ideal S2304x1024 .f32 :=
  fun y => ((f (y 0).val ((y 1).val / 128) ((y 1).val % 128) : ℝ) : EReal)

/-- The row logarithms, one plane per head. -/
def wholeL (q k : ℕ → ℕ → ℕ → ℝ) : Vec Ideal S8x2304x1 .f32 :=
  fun y => ((lse q k (y 0).val (y 1).val : ℝ) : EReal)

/-- The arguments hold `q`, `k`, `v` and `o` where the kernels read them. -/
structure Ins (q k v o : ℕ → ℕ → ℕ → ℝ) (p : Vec Ideal S2304x3072 .f32) (z : Vec Ideal S2304x5120 .bf16)
    (d : Vec Ideal S2304x1024 .f32) : Prop where
  hq : ∀ y, (y 1).val < 1024 → p y = ((q (y 0).val ((y 1).val / 128) ((y 1).val % 128) : ℝ) : EReal)
  hk : ∀ y, 1024 ≤ (y 1).val → (y 1).val < 1280 →
    p y = ((k (y 0).val (((y 1).val - 1024) / 128) ((y 1).val % 128) : ℝ) : EReal)
  hv : ∀ y, 1280 ≤ (y 1).val → (y 1).val < 1536 →
    z y = ((v (y 0).val (((y 1).val - 1280) / 128) ((y 1).val % 128) : ℝ) : EReal)
  hd : d = whole o

/-! ## The blocks the forward kernel computes -/

section
variable (m : FVec Ideal S1x2304 .f32) (x : FVec Ideal S2304x128 .bf16) (x1 : Vec Ideal S2304x128 .f32)
  (v : Vec Ideal S2304x128 .bf16) (qq : Vec Ideal S256x128 .f32)

theorem f15 (i : grid0.Coords) : k0_pay15 i x1 v qq = k0_pay7 (k0_pay9 i) (k0_pay10 x1) v qq := rfl
theorem f21 : k0_pay21 m x v qq = k0_pay7 m x v qq := rfl
theorem f1 : k0_pay1 v (k0_pay26 m x qq) (k0_pay27 m x qq) (constant S256x128 .f32 0x00000000#32) = k0_pay7 m x v qq := rfl
theorem f16 (i : grid0.Coords) : k0_pay16 i x1 qq = k0_pay8 (k0_pay9 i) (k0_pay10 x1) qq := rfl
theorem f22 : k0_pay22 m x qq = k0_pay8 m x qq := rfl
theorem f2 : k0_pay2 (k0_pay24 m x qq) (k0_pay26 m x qq) = k0_pay8 m x qq := rfl

theorem pay10'_apply (j : Fin 2304) (d : Fin 128) : k0_pay10 x1 (ix2 j d) = x1 (ix2 j d) := by
  pointwise [k0_pay10]
end

section
variable {q k v : ℕ → ℕ → ℕ → ℝ} {g a : ℕ} (i : grid0.Coords) (hi : (i 1).val * 256 = a)

theorem mask0' : IsMask (k0_pay9 i) ((i 1).val * 256) := by
  intro j
  refine Eq.trans ?_ (mask_eq (i 1) j)
  pointwise [k0_pay9]

theorem hk0 (r : ℕ) (hr : r < 4) (j : Fin 2304) (d : Fin 128) :
    k0_pay10 (keys k g) (ix2 j d) = ((k j ((4 * g + r) / 4) d : ℝ) : EReal) := by
  rw [pay10'_apply, show (4 * g + r) / 4 = g by omega]; rfl

include hi

theorem tile_side0 (ii : Fin 256) : a + ii.val < 2048 ↔ a < 2048 := by
  have := (i 1).isLt; omega

theorem fwd_o_coe (r n : ℕ) (hr : r < 4) (hn : n = 128 * r) (inb) (ii : Fin 256) (d : Fin 128) :
    k0_pay7 (k0_pay9 i) (k0_pay10 (keys k g)) (vals v g)
        (View.ld (rows q g a) (Rect.unit (s := S256x512) ![0, n] S256x128.size inb)) (ix2 ii d)
      = ((out q k v (a + ii) (4 * g + r) d : ℝ) : EReal) :=
  fwd_o (tile_side0 i hi) (hi ▸ mask0' i) (hk0 r hr) (hv1 r hr) (fun ii d => ld_rows q g a r n hn inb ii d) ii d

theorem fwd_l_coe (r n : ℕ) (hr : r < 4) (hn : n = 128 * r) (inb) (ii : Fin 256) :
    k0_pay8 (k0_pay9 i) (k0_pay10 (keys k g))
        (View.ld (rows q g a) (Rect.unit (s := S256x512) ![0, n] S256x128.size inb)) (ix3 0 ii 0)
      = ((Real.log (Row.tot (X q k (4 * g + r) (a + ii))) : ℝ) : EReal) :=
  fwd_lse (tile_side0 i hi) (hi ▸ mask0' i) (hk0 r hr) (fun ii d => ld_rows q g a r n hn inb ii d) ii

theorem out0_3_eq : out0_3 i (rows q g a) (keys k g) (vals v g) = rows (out q k v) g a := by
  funext y
  unfold_out out0_3
  simp only [View.ld_unit_zero (S := S2304x128) hz2, f15, f21, f1]
  refine View.canon_apply_of_pieces (rows (out q k v) g a) _ ?_ y (cover0_3 _ _ _ _ y)
  intro p hp x
  simp only [List.mem_cons, List.not_mem_nil, or_false] at hp
  rcases hp with rfl | rfl | rfl | rfl
  · exact piece_rows _ 3 384 rfl inb_S256x512_S256x128_0_384 _ (fwd_o_coe i hi 3 384 (by norm_num) rfl inb_S256x512_S256x128_0_384) x
  · exact piece_rows _ 2 256 rfl inb_S256x512_S256x128_0_256 _ (fwd_o_coe i hi 2 256 (by norm_num) rfl inb_S256x512_S256x128_0_256) x
  · exact piece_rows _ 1 128 rfl inb_S256x512_S256x128_0_128 _ (fwd_o_coe i hi 1 128 (by norm_num) rfl inb_S256x512_S256x128_0_128) x
  · exact piece_rows _ 0 0 rfl inb_S256x512_S256x128_0_0 _ (fwd_o_coe i hi 0 0 (by norm_num) rfl inb_S256x512_S256x128_0_0) x

omit hi in
/-- A piece of a block of row logarithms. -/
theorem piece_lses (r : ℕ) (inb) (p : Vec Ideal S1x256x1 .f32)
    (hp : ∀ ii : Fin 256, p (ix3 0 ii 0) = ((Real.log (Row.tot (X q k (4 * g + r) (a + ii))) : ℝ) : EReal))
    (x : S1x256x1.Idx) :
    p x = lses q k g a ((Rect.unit (s := S4x256x1) ![r, 0, 0] S1x256x1.size inb).emb x) := by
  obtain ⟨ii, rfl⟩ : ∃ ii : Fin 256, x = ix3 0 ii 0 := ⟨x 1, by
    funext b; fin_cases b
    · exact Subsingleton.elim (α := Fin 1) _ _
    · rfl
    · exact Subsingleton.elim (α := Fin 1) _ _⟩
  rw [hp]; exact (ld_lses g a r inb ii).symm

theorem out0_4_eq (w : Vec Ideal S2304x128 .bf16) : out0_4 i (rows q g a) (keys k g) w = lses q k g a := by
  funext y
  unfold_out out0_4
  simp only [View.ld_unit_zero (S := S2304x128) hz2, f16, f22, f2]
  refine View.canon_apply_of_pieces (lses q k g a) _ ?_ y (cover0_4 _ _ _ _ y)
  intro p hp x
  simp only [List.mem_cons, List.not_mem_nil, or_false] at hp
  rcases hp with rfl | rfl | rfl | rfl
  · exact piece_lses 3 inb_S4x256x1_S1x256x1_3_0_0 _ (fwd_l_coe i hi 3 384 (by norm_num) rfl inb_S256x512_S256x128_0_384) x
  · exact piece_lses 2 inb_S4x256x1_S1x256x1_2_0_0 _ (fwd_l_coe i hi 2 256 (by norm_num) rfl inb_S256x512_S256x128_0_256) x
  · exact piece_lses 1 inb_S4x256x1_S1x256x1_1_0_0 _ (fwd_l_coe i hi 1 128 (by norm_num) rfl inb_S256x512_S256x128_0_128) x
  · exact piece_lses 0 inb_S4x256x1_S1x256x1_0_0_0 _ (fwd_l_coe i hi 0 0 (by norm_num) rfl inb_S256x512_S256x128_0_0) x

end

/-! ## The blocks' places in their arrays -/

theorem idx0_0 : ∀ t : Fin grid0.N, win0_0.index t 0 = t.val % 9 ∧ win0_0.index t 1 = t.val / 9 := by decide +kernel
theorem idx0_1 : ∀ t : Fin grid0.N, win0_1.index t 0 = 0 ∧ win0_1.index t 1 = 8 + t.val / 9 := by decide +kernel
theorem idx0_2 : ∀ t : Fin grid0.N, win0_2.index t 0 = 0 ∧ win0_2.index t 1 = 10 + t.val / 9 := by decide +kernel
theorem idx0_3 : ∀ t : Fin grid0.N, win0_3.index t 0 = t.val % 9 ∧ win0_3.index t 1 = t.val / 9 := by decide +kernel
theorem idx0_4 : ∀ t : Fin grid0.N, win0_4.index t 0 = t.val / 9 ∧ win0_4.index t 1 = t.val % 9 ∧ win0_4.index t 2 = 0 := by
  decide +kernel
theorem crd0 : ∀ t : Fin grid0.N, (grid0.coords t 1).val = t.val % 9 := by decide +kernel

variable (V : (c : Dev nD) → (b : Ref sig .tc) → Buf (Elt Ideal) ((c : Thread nD τ).loc b)) (c : Dev nD)
variable {q k v o : ℕ → ℕ → ℕ → ℝ}

theorem ib0_0 (h : Ins q k v o (V c main_arg0) (V c main_arg1) (V c main_arg2)) (t : Fin cfg0.N) :
    iblk0 V c 0 t = rows q (t.val / 9) (t.val % 9 * 256) := by
  funext y
  have h1 : (y 1).val < 512 := (y 1).isLt
  have ht : t.val < 18 := lt_of_lt_of_eq t.isLt N_0
  have e0 : ((win0_0.rect t).emb y 0).val = t.val % 9 * 256 + (y 0).val :=
    (Pipeline.Window.rect_emb_val win0_0 t y 0).trans (by rw [(idx0_0 t).1]; rfl)
  have e1 : ((win0_0.rect t).emb y 1).val = t.val / 9 * 512 + (y 1).val :=
    (Pipeline.Window.rect_emb_val win0_0 t y 1).trans (by rw [(idx0_0 t).2]; rfl)
  exact (h.hq ((win0_0.rect t).emb y) (by omega)).trans (coe3 q e0 (by omega) (by omega))

theorem ib0_1 (h : Ins q k v o (V c main_arg0) (V c main_arg1) (V c main_arg2)) (t : Fin cfg0.N) :
    iblk0 V c 1 t = keys k (t.val / 9) := by
  funext y
  have h1 : (y 1).val < 128 := (y 1).isLt
  have ht : t.val < 18 := lt_of_lt_of_eq t.isLt N_0
  have e0 : ((win0_1.rect t).emb y 0).val = 0 * 2304 + (y 0).val :=
    (Pipeline.Window.rect_emb_val win0_1 t y 0).trans (by rw [(idx0_1 t).1]; rfl)
  have e1 : ((win0_1.rect t).emb y 1).val = (8 + t.val / 9) * 128 + (y 1).val :=
    (Pipeline.Window.rect_emb_val win0_1 t y 1).trans (by rw [(idx0_1 t).2]; rfl)
  exact (h.hk ((win0_1.rect t).emb y) (by omega) (by omega)).trans (coe3 k (by omega) (by omega) (by omega))

theorem ib0_2 (h : Ins q k v o (V c main_arg0) (V c main_arg1) (V c main_arg2)) (t : Fin cfg0.N) :
    iblk0 V c 2 t = vals v (t.val / 9) := by
  funext y
  have h1 : (y 1).val < 128 := (y 1).isLt
  have ht : t.val < 18 := lt_of_lt_of_eq t.isLt N_0
  have e0 : ((win0_2.rect t).emb y 0).val = 0 * 2304 + (y 0).val :=
    (Pipeline.Window.rect_emb_val win0_2 t y 0).trans (by rw [(idx0_2 t).1]; rfl)
  have e1 : ((win0_2.rect t).emb y 1).val = (10 + t.val / 9) * 128 + (y 1).val :=
    (Pipeline.Window.rect_emb_val win0_2 t y 1).trans (by rw [(idx0_2 t).2]; rfl)
  exact (h.hv ((win0_2.rect t).emb y) (by omega) (by omega)).trans (coe3 v (by omega) (by omega) (by omega))

theorem mem0_3 (t : Fin cfg0.N) (y : S2304x1024.Idx) (h0 : (y 0).val / 256 = t.val % 9) (h1 : (y 1).val / 512 = t.val / 9) :
    y ∈ ((cfg0.win 3).blk t).view.set := by
  show y ∈ ((View.whole main_v0_0).slice (win0_3.rect t)).set
  rw [View.set_slice_whole, Rect.mem_set_unit]
  intro a
  match a with
  | ⟨0, _⟩ => show win0_3.index t 0 * 256 ≤ (y 0).val ∧ (y 0).val < win0_3.index t 0 * 256 + 256
              rw [(idx0_3 t).1]; omega
  | ⟨1, _⟩ => show win0_3.index t 1 * 512 ≤ (y 1).val ∧ (y 1).val < win0_3.index t 1 * 512 + 512
              rw [(idx0_3 t).2]; omega

theorem mem0_4 (t : Fin cfg0.N) (y : S8x2304x1.Idx) (h0 : (y 0).val / 4 = t.val / 9) (h1 : (y 1).val / 256 = t.val % 9) :
    y ∈ ((cfg0.win 4).blk t).view.set := by
  show y ∈ ((View.whole main_v0_1).slice (win0_4.rect t)).set
  rw [View.set_slice_whole, Rect.mem_set_unit]
  intro a
  match a with
  | ⟨0, _⟩ => show win0_4.index t 0 * 4 ≤ (y 0).val ∧ (y 0).val < win0_4.index t 0 * 4 + 4
              rw [(idx0_4 t).1]; omega
  | ⟨1, _⟩ => show win0_4.index t 1 * 256 ≤ (y 1).val ∧ (y 1).val < win0_4.index t 1 * 256 + 256
              rw [(idx0_4 t).2.1]; omega
  | ⟨2, _⟩ => show win0_4.index t 2 * 1 ≤ (y 2).val ∧ (y 2).val < win0_4.index t 2 * 1 + 1
              have : (y 2).val < 1 := (y 2).isLt
              rw [(idx0_4 t).2.2]; omega

/-- A block of a whole array is the rows of its tile. -/
theorem rd0_3 (f : ℕ → ℕ → ℕ → ℝ) (t : Fin cfg0.N) :
    rows f (t.val / 9) (t.val % 9 * 256) = ((cfg0.win 3).blk t).view.read (Elt Ideal) (whole f) := by
  funext y
  have h1 : (y 1).val < 512 := (y 1).isLt
  have e0 : ((win0_3.rect t).emb y 0).val = t.val % 9 * 256 + (y 0).val :=
    (Pipeline.Window.rect_emb_val win0_3 t y 0).trans (by rw [(idx0_3 t).1]; rfl)
  have e1 : ((win0_3.rect t).emb y 1).val = t.val / 9 * 512 + (y 1).val :=
    (Pipeline.Window.rect_emb_val win0_3 t y 1).trans (by rw [(idx0_3 t).2]; rfl)
  show rows f (t.val / 9) (t.val % 9 * 256) y = whole f ((win0_3.rect t).emb y)
  exact coe3 f e0.symm (by omega) (by omega)

theorem rd0_4 (t : Fin cfg0.N) :
    lses q k (t.val / 9) (t.val % 9 * 256) = ((cfg0.win 4).blk t).view.read (Elt Ideal) (wholeL q k) := by
  funext y
  have e0 : ((win0_4.rect t).emb y 0).val = t.val / 9 * 4 + (y 0).val :=
    (Pipeline.Window.rect_emb_val win0_4 t y 0).trans (by rw [(idx0_4 t).1]; rfl)
  have e1 : ((win0_4.rect t).emb y 1).val = t.val % 9 * 256 + (y 1).val :=
    (Pipeline.Window.rect_emb_val win0_4 t y 1).trans (by rw [(idx0_4 t).2.1]; rfl)
  show lses q k (t.val / 9) (t.val % 9 * 256) y = wholeL q k ((win0_4.rect t).emb y)
  exact coe2 (lse q k) (by omega) e1.symm

/-- The forward kernel's first result: the attention's result. -/
theorem arr0_3 (h : Ins q k v o (V c main_arg0) (V c main_arg1) (V c main_arg2)) :
    (dat0 V c).arrAt 3 cfg0.N = whole (out q k v) := by
  refine (dat0 V c).arrAt_eq_of_cover 3 (whole (out q k v)) (fun t _ => ?_) fun y => ?_
  · show (cfg0.win 3).cut (grid0.coords t) ((dat0 V c).after 3 t) = _
    rw [after0_3, ib0_0 V c h, ib0_1 V c h, ib0_2 V c h, out0_3_eq (grid0.coords t) (by rw [crd0 t])]
    exact rd0_3 (out q k v) t
  · have h0 : (y 0).val < 2304 := (y 0).isLt
    have h1 : (y 1).val < 1024 := (y 1).isLt
    exact ⟨⟨(y 1).val / 512 * 9 + (y 0).val / 256, by rw [show cfg0.N = 18 from N_0]; omega⟩, flush0_3 _,
      mem0_3 _ y (by dsimp only; omega) (by dsimp only; omega)⟩

/-- Its second: the logarithms of the rows' sums. -/
theorem arr0_4 (h : Ins q k v o (V c main_arg0) (V c main_arg1) (V c main_arg2)) :
    (dat0 V c).arrAt 4 cfg0.N = wholeL q k := by
  refine (dat0 V c).arrAt_eq_of_cover 4 (wholeL q k) (fun t _ => ?_) fun y => ?_
  · show (cfg0.win 4).cut (grid0.coords t) ((dat0 V c).after 4 t) = _
    rw [after0_4, ib0_0 V c h, ib0_1 V c h, out0_4_eq (grid0.coords t) (by rw [crd0 t])]
    exact rd0_4 t
  · have h0 : (y 0).val < 8 := (y 0).isLt
    have h1 : (y 1).val < 2304 := (y 1).isLt
    exact ⟨⟨(y 0).val / 4 * 9 + (y 1).val / 256, by rw [show cfg0.N = 18 from N_0]; omega⟩, flush0_4 _,
      mem0_4 _ y (by dsimp only; omega) (by dsimp only; omega)⟩

end Cert.Proof.Attn
-- ==== Proof.AttnBwd.lean ====
module

public import proofs.«01_k».proof.Proof.AttnOuts
public import proofs.«01_k».proof.Proof.AttnFwd

@[expose] public section

/-!
# The backward kernel's arrays

From the arguments and what the forward kernel left, the backward kernel's three result arrays end holding the
gradients of the queries, of the keys and of the values.
-/

set_option maxRecDepth 16384

noncomputable section
namespace Cert.Proof.Attn
open Idealize.ShloMosaic Idealize.ShloMosaic.TcCoe Idealize.ShloMosaic.Tactic Cert.KernelIdeal Cert.KernelIdeal.Gen

/-- An array with one row per key, the two key heads side by side. -/
def wholeK (f : Fin 2304 → ℕ → ℕ → ℝ) : Vec Ideal S2304x256 .f32 :=
  fun y => ((f (y 0) ((y 1).val / 128) ((y 1).val % 128) : ℝ) : EReal)

theorem idx1_0 : ∀ t : Fin grid1.N, win1_0.index t 0 = t.val % 9 ∧ win1_0.index t 1 = t.val / 9 := by decide +kernel
theorem idx1_1 : ∀ t : Fin grid1.N, win1_1.index t 0 = 0 ∧ win1_1.index t 1 = 8 + t.val / 9 := by decide +kernel
theorem idx1_2 : ∀ t : Fin grid1.N, win1_2.index t 0 = 0 ∧ win1_2.index t 1 = 10 + t.val / 9 := by decide +kernel
theorem idx1_3 : ∀ t : Fin grid1.N, win1_3.index t 0 = t.val % 9 ∧ win1_3.index t 1 = t.val / 9 := by decide +kernel
theorem idx1_4 : ∀ t : Fin grid1.N, win1_4.index t 0 = t.val % 9 ∧ win1_4.index t 1 = t.val / 9 := by decide +kernel
theorem idx1_5 : ∀ t : Fin grid1.N, win1_5.index t 0 = t.val / 9 ∧ win1_5.index t 1 = t.val % 9 ∧ win1_5.index t 2 = 0 := by
  decide +kernel
theorem idx1_6 : ∀ t : Fin grid1.N, win1_6.index t 0 = t.val % 9 ∧ win1_6.index t 1 = t.val / 9 := by decide +kernel
theorem idx1_7 : ∀ t : Fin grid1.N, win1_7.index t 0 = 0 ∧ win1_7.index t 1 = t.val / 9 := by decide +kernel
theorem idx1_8 : ∀ t : Fin grid1.N, win1_8.index t 0 = 0 ∧ win1_8.index t 1 = t.val / 9 := by decide +kernel
theorem crd1 : ∀ t : Fin grid1.N, (grid1.coords t 1).val = t.val % 9 := by decide +kernel

variable (V : (c : Dev nD) → (b : Ref sig .tc) → Buf (Elt Ideal) ((c : Thread nD τ).loc b)) (c : Dev nD)
variable {q k v o : ℕ → ℕ → ℕ → ℝ}

theorem ib1_0 (h : Ins q k v o (V c main_arg0) (V c main_arg1) (V c main_arg2)) (t : Fin cfg1.N) :
    iblk1 V c 0 t = rows q (t.val / 9) (t.val % 9 * 256) := by
  funext y
  have h1 : (y 1).val < 512 := (y 1).isLt
  have ht : t.val < 18 := lt_of_lt_of_eq t.isLt N_1
  have e0 : ((win1_0.rect t).emb y 0).val = t.val % 9 * 256 + (y 0).val :=
    (Pipeline.Window.rect_emb_val win1_0 t y 0).trans (by rw [(idx1_0 t).1]; rfl)
  have e1 : ((win1_0.rect t).emb y 1).val = t.val / 9 * 512 + (y 1).val :=
    (Pipeline.Window.rect_emb_val win1_0 t y 1).trans (by rw [(idx1_0 t).2]; rfl)
  exact (h.hq ((win1_0.rect t).emb y) (by omega)).trans (coe3 q e0 (by omega) (by omega))

theorem ib1_1 (h : Ins q k v o (V c main_arg0) (V c main_arg1) (V c main_arg2)) (t : Fin cfg1.N) :
    iblk1 V c 1 t = keys k (t.val / 9) := by
  funext y
  have h1 : (y 1).val < 128 := (y 1).isLt
  have ht : t.val < 18 := lt_of_lt_of_eq t.isLt N_1
  have e0 : ((win1_1.rect t).emb y 0).val = 0 * 2304 + (y 0).val :=
    (Pipeline.Window.rect_emb_val win1_1 t y 0).trans (by rw [(idx1_1 t).1]; rfl)
  have e1 : ((win1_1.rect t).emb y 1).val = (8 + t.val / 9) * 128 + (y 1).val :=
    (Pipeline.Window.rect_emb_val win1_1 t y 1).trans (by rw [(idx1_1 t).2]; rfl)
  exact (h.hk ((win1_1.rect t).emb y) (by omega) (by omega)).trans (coe3 k (by omega) (by omega) (by omega))

theorem ib1_2 (h : Ins q k v o (V c main_arg0) (V c main_arg1) (V c main_arg2)) (t : Fin cfg1.N) :
    iblk1 V c 2 t = vals v (t.val / 9) := by
  funext y
  have h1 : (y 1).val < 128 := (y 1).isLt
  have ht : t.val < 18 := lt_of_lt_of_eq t.isLt N_1
  have e0 : ((win1_2.rect t).emb y 0).val = 0 * 2304 + (y 0).val :=
    (Pipeline.Window.rect_emb_val win1_2 t y 0).trans (by rw [(idx1_2 t).1]; rfl)
  have e1 : ((win1_2.rect t).emb y 1).val = (10 + t.val / 9) * 128 + (y 1).val :=
    (Pipeline.Window.rect_emb_val win1_2 t y 1).trans (by rw [(idx1_2 t).2]; rfl)
  exact (h.hv ((win1_2.rect t).emb y) (by omega) (by omega)).trans (coe3 v (by omega) (by omega) (by omega))

theorem ib1_3 (f : ℕ → ℕ → ℕ → ℝ) (h : V c main_v0_0 = whole f) (t : Fin cfg1.N) :
    iblk1 V c 3 t = rows f (t.val / 9) (t.val % 9 * 256) := by
  funext y
  have h1 : (y 1).val < 512 := (y 1).isLt
  have e0 : ((win1_3.rect t).emb y 0).val = t.val % 9 * 256 + (y 0).val :=
    (Pipeline.Window.rect_emb_val win1_3 t y 0).trans (by rw [(idx1_3 t).1]; rfl)
  have e1 : ((win1_3.rect t).emb y 1).val = t.val / 9 * 512 + (y 1).val :=
    (Pipeline.Window.rect_emb_val win1_3 t y 1).trans (by rw [(idx1_3 t).2]; rfl)
  exact (congrFun h ((win1_3.rect t).emb y)).trans (coe3 f e0 (by omega) (by omega))

theorem ib1_4 (f : ℕ → ℕ → ℕ → ℝ) (h : V c main_arg2 = whole f) (t : Fin cfg1.N) :
    iblk1 V c 4 t = rows f (t.val / 9) (t.val % 9 * 256) := by
  funext y
  have h1 : (y 1).val < 512 := (y 1).isLt
  have e0 : ((win1_4.rect t).emb y 0).val = t.val % 9 * 256 + (y 0).val :=
    (Pipeline.Window.rect_emb_val win1_4 t y 0).trans (by rw [(idx1_4 t).1]; rfl)
  have e1 : ((win1_4.rect t).emb y 1).val = t.val / 9 * 512 + (y 1).val :=
    (Pipeline.Window.rect_emb_val win1_4 t y 1).trans (by rw [(idx1_4 t).2]; rfl)
  exact (congrFun h ((win1_4.rect t).emb y)).trans (coe3 f e0 (by omega) (by omega))

theorem ib1_5 (h : V c main_v0_1 = wholeL q k) (t : Fin cfg1.N) :
    iblk1 V c 5 t = lses q k (t.val / 9) (t.val % 9 * 256) := by
  funext y
  have e0 : ((win1_5.rect t).emb y 0).val = t.val / 9 * 4 + (y 0).val :=
    (Pipeline.Window.rect_emb_val win1_5 t y 0).trans (by rw [(idx1_5 t).1]; rfl)
  have e1 : ((win1_5.rect t).emb y 1).val = t.val % 9 * 256 + (y 1).val :=
    (Pipeline.Window.rect_emb_val win1_5 t y 1).trans (by rw [(idx1_5 t).2.1]; rfl)
  exact (congrFun h ((win1_5.rect t).emb y)).trans (coe2 (lse q k) (by omega) e1)

/-! ## Where the result blocks sit -/

theorem mem1_6 (t : Fin cfg1.N) (y : S2304x1024.Idx) (h0 : (y 0).val / 256 = t.val % 9) (h1 : (y 1).val / 512 = t.val / 9) :
    y ∈ ((cfg1.win 6).blk t).view.set := by
  show y ∈ ((View.whole main_v1_0).slice (win1_6.rect t)).set
  rw [View.set_slice_whole, Rect.mem_set_unit]
  intro a
  match a with
  | ⟨0, _⟩ => show win1_6.index t 0 * 256 ≤ (y 0).val ∧ (y 0).val < win1_6.index t 0 * 256 + 256
              rw [(idx1_6 t).1]; omega
  | ⟨1, _⟩ => show win1_6.index t 1 * 512 ≤ (y 1).val ∧ (y 1).val < win1_6.index t 1 * 512 + 512
              rw [(idx1_6 t).2]; omega

theorem mem1_7 (t : Fin cfg1.N) (y : S2304x256.Idx) (h1 : (y 1).val / 128 = t.val / 9) :
    y ∈ ((cfg1.win 7).blk t).view.set := by
  have h0 : (y 0).val < 2304 := (y 0).isLt
  show y ∈ ((View.whole main_v1_1).slice (win1_7.rect t)).set
  rw [View.set_slice_whole, Rect.mem_set_unit]
  intro a
  match a with
  | ⟨0, _⟩ => show win1_7.index t 0 * 2304 ≤ (y 0).val ∧ (y 0).val < win1_7.index t 0 * 2304 + 2304
              rw [(idx1_7 t).1]; omega
  | ⟨1, _⟩ => show win1_7.index t 1 * 128 ≤ (y 1).val ∧ (y 1).val < win1_7.index t 1 * 128 + 128
              rw [(idx1_7 t).2]; omega

theorem mem1_8 (t : Fin cfg1.N) (y : S2304x256.Idx) (h1 : (y 1).val / 128 = t.val / 9) :
    y ∈ ((cfg1.win 8).blk t).view.set := by
  have h0 : (y 0).val < 2304 := (y 0).isLt
  show y ∈ ((View.whole main_v1_2).slice (win1_8.rect t)).set
  rw [View.set_slice_whole, Rect.mem_set_unit]
  intro a
  match a with
  | ⟨0, _⟩ => show win1_8.index t 0 * 2304 ≤ (y 0).val ∧ (y 0).val < win1_8.index t 0 * 2304 + 2304
              rw [(idx1_8 t).1]; omega
  | ⟨1, _⟩ => show win1_8.index t 1 * 128 ≤ (y 1).val ∧ (y 1).val < win1_8.index t 1 * 128 + 128
              rw [(idx1_8 t).2]; omega

theorem rd1_6 (f : ℕ → ℕ → ℕ → ℝ) (t : Fin cfg1.N) :
    rows f (t.val / 9) (t.val % 9 * 256) = ((cfg1.win 6).blk t).view.read (Elt Ideal) (whole f) := by
  funext y
  have h1 : (y 1).val < 512 := (y 1).isLt
  have e0 : ((win1_6.rect t).emb y 0).val = t.val % 9 * 256 + (y 0).val :=
    (Pipeline.Window.rect_emb_val win1_6 t y 0).trans (by rw [(idx1_6 t).1]; rfl)
  have e1 : ((win1_6.rect t).emb y 1).val = t.val / 9 * 512 + (y 1).val :=
    (Pipeline.Window.rect_emb_val win1_6 t y 1).trans (by rw [(idx1_6 t).2]; rfl)
  show rows f (t.val / 9) (t.val % 9 * 256) y = whole f ((win1_6.rect t).emb y)
  exact coe3 f e0.symm (by omega) (by omega)

theorem coeF (f : Fin 2304 → ℕ → ℕ → ℝ) {a a' : Fin 2304} {b b' c c' : ℕ} (ha : a.val = a'.val) (hb : b = b') (hc : c = c') :
    ((f a b c : ℝ) : EReal) = ((f a' b' c' : ℝ) : EReal) := by
  obtain rfl := Fin.ext ha; subst hb hc; rfl

theorem rd1_7 (f : Fin 2304 → ℕ → ℕ → ℝ) (t : Fin cfg1.N) :
    accs f (t.val / 9) = ((cfg1.win 7).blk t).view.read (Elt Ideal) (wholeK f) := by
  funext y
  have h1 : (y 1).val < 128 := (y 1).isLt
  have e0 : ((win1_7.rect t).emb y 0).val = 0 * 2304 + (y 0).val :=
    (Pipeline.Window.rect_emb_val win1_7 t y 0).trans (by rw [(idx1_7 t).1]; rfl)
  have e1 : ((win1_7.rect t).emb y 1).val = t.val / 9 * 128 + (y 1).val :=
    (Pipeline.Window.rect_emb_val win1_7 t y 1).trans (by rw [(idx1_7 t).2]; rfl)
  show accs f (t.val / 9) y = wholeK f ((win1_7.rect t).emb y)
  exact coeF f (by omega) (by omega) (by omega)

theorem rd1_8 (f : Fin 2304 → ℕ → ℕ → ℝ) (t : Fin cfg1.N) :
    accs f (t.val / 9) = ((cfg1.win 8).blk t).view.read (Elt Ideal) (wholeK f) := by
  funext y
  have h1 : (y 1).val < 128 := (y 1).isLt
  have e0 : ((win1_8.rect t).emb y 0).val = 0 * 2304 + (y 0).val :=
    (Pipeline.Window.rect_emb_val win1_8 t y 0).trans (by rw [(idx1_8 t).1]; rfl)
  have e1 : ((win1_8.rect t).emb y 1).val = t.val / 9 * 128 + (y 1).val :=
    (Pipeline.Window.rect_emb_val win1_8 t y 1).trans (by rw [(idx1_8 t).2]; rfl)
  show accs f (t.val / 9) y = wholeK f ((win1_8.rect t).emb y)
  exact coeF f (by omega) (by omega) (by omega)

/-! ## The running gradients -/

/-- What the backward kernel finds: the arguments, the attention's result and the rows' logarithms. -/
structure Ins1 (q k v o : ℕ → ℕ → ℕ → ℝ) : Prop where
  args : Ins q k v o (V c main_arg0) (V c main_arg1) (V c main_arg2)
  res : V c main_v0_0 = whole (out q k v)
  log : V c main_v0_1 = wholeL q k

theorem zero4 (g : ℕ) : k1_pay4 (F := Ideal) = accs (dKto q k v o 0) g := by
  funext y
  refine Eq.trans (b := (0 : EReal)) ?_ ?_
  · idx_vars y
    pointwise [k1_pay4]
  · show _ = ((dKto q k v o 0 (y 0) g (y 1).val : ℝ) : EReal)
    unfold dKto; rw [Finset.range_zero, Finset.sum_empty]; rfl

theorem zero5 (g : ℕ) : k1_pay5 (F := Ideal) = accs (dVto q k o 0) g := by
  funext y
  refine Eq.trans (b := (0 : EReal)) ?_ ?_
  · idx_vars y
    pointwise [k1_pay5]
  · show _ = ((dVto q k o 0 (y 0) g (y 1).val : ℝ) : EReal)
    unfold dVto; rw [Finset.range_zero, Finset.sum_empty]; rfl

variable (H : Ins1 V c q k v o)
include H

theorem dk_at : ∀ (n : ℕ) (hn : n < cfg1.N),
    (outsAt1 V c n hn).2.1 = accs (dKto q k v o (n % 9 * 256 + 256)) (n / 9)
  | n, hn => by
    have hc : ((grid1.coords (⟨n, hn⟩ : Fin cfg1.N)) 1).val * 256 = n % 9 * 256 := by rw [crd1 ⟨n, hn⟩]
    by_cases h0 : n % 9 = 0
    · refine (outs_dk_A V c ⟨n, hn⟩ h0).trans ?_
      rw [ib1_0 V c H.args, ib1_1 V c H.args, ib1_2 V c H.args, ib1_3 V c _ H.res, ib1_4 V c _ H.args.hd, ib1_5 V c H.log,
        zero4 (q := q) (k := k) (v := v) (o := o) (n / 9)]
      have e := dkStep_eq (q := q) (k := k) (v := v) (o := o) (g := n / 9) (grid1.coords (⟨n, hn⟩ : Fin cfg1.N)) hc
      dsimp only at e ⊢
      rw [h0, Nat.zero_mul] at e ⊢
      exact e
    · have hp := dk_at (n - 1) (Nat.lt_of_le_of_lt (Nat.sub_le _ _) hn)
      refine (outs_dk_B V c ⟨n, hn⟩ h0).trans ?_
      dsimp only
      rw [ib1_0 V c H.args, ib1_1 V c H.args, ib1_2 V c H.args, ib1_3 V c _ H.res, ib1_4 V c _ H.args.hd, ib1_5 V c H.log,
        hp, show (n - 1) % 9 * 256 + 256 = n % 9 * 256 by omega, show (n - 1) / 9 = n / 9 by omega]
      exact dkStep_eq (grid1.coords (⟨n, hn⟩ : Fin cfg1.N)) hc
termination_by n => n
decreasing_by omega

theorem dv_at : ∀ (n : ℕ) (hn : n < cfg1.N),
    (outsAt1 V c n hn).2.2 = accs (dVto q k o (n % 9 * 256 + 256)) (n / 9)
  | n, hn => by
    have hc : ((grid1.coords (⟨n, hn⟩ : Fin cfg1.N)) 1).val * 256 = n % 9 * 256 := by rw [crd1 ⟨n, hn⟩]
    by_cases h0 : n % 9 = 0
    · refine (outs_dv_A V c ⟨n, hn⟩ h0).trans ?_
      rw [ib1_0 V c H.args, ib1_1 V c H.args, ib1_4 V c _ H.args.hd, ib1_5 V c H.log,
        zero5 (q := q) (k := k) (o := o) (n / 9)]
      have e := dvStep_eq (q := q) (k := k) (o := o) (g := n / 9) (grid1.coords (⟨n, hn⟩ : Fin cfg1.N)) hc
      dsimp only at e ⊢
      rw [h0, Nat.zero_mul] at e ⊢
      exact e
    · have hp := dv_at (n - 1) (Nat.lt_of_le_of_lt (Nat.sub_le _ _) hn)
      refine (outs_dv_B V c ⟨n, hn⟩ h0).trans ?_
      dsimp only
      rw [ib1_0 V c H.args, ib1_1 V c H.args, ib1_4 V c _ H.args.hd, ib1_5 V c H.log,
        hp, show (n - 1) % 9 * 256 + 256 = n % 9 * 256 by omega, show (n - 1) / 9 = n / 9 by omega]
      exact dvStep_eq (grid1.coords (⟨n, hn⟩ : Fin cfg1.N)) hc
termination_by n => n
decreasing_by omega

/-- The gradient of the queries. -/
theorem arr1_6 : (dat1 V c).arrAt 6 cfg1.N = whole (dQ q k v o) := by
  refine (dat1 V c).arrAt_eq_of_cover 6 (whole (dQ q k v o)) (fun t _ => ?_) fun y => ?_
  · show (cfg1.win 6).cut (grid1.coords t) ((dat1 V c).after 6 t) = _
    rw [after1_6, outs_dq, ib1_0 V c H.args, ib1_1 V c H.args, ib1_2 V c H.args, ib1_3 V c _ H.res,
      ib1_4 V c _ H.args.hd, ib1_5 V c H.log, dqBlk_eq (grid1.coords t) (by rw [crd1 t])]
    exact rd1_6 (dQ q k v o) t
  · have h0 : (y 0).val < 2304 := (y 0).isLt
    have h1 : (y 1).val < 1024 := (y 1).isLt
    exact ⟨⟨(y 1).val / 512 * 9 + (y 0).val / 256, by rw [show cfg1.N = 18 from N_1]; omega⟩, flush1_6 _,
      mem1_6 _ y (by dsimp only; omega) (by dsimp only; omega)⟩

/-- The gradient of the keys. -/
theorem arr1_7 : (dat1 V c).arrAt 7 cfg1.N = wholeK (dKto q k v o 2304) := by
  refine (dat1 V c).arrAt_eq_of_cover 7 (wholeK (dKto q k v o 2304)) (fun t ht => ?_) fun y => ?_
  · show (cfg1.win 7).cut (grid1.coords t) ((dat1 V c).after 7 t) = _
    rw [after1_7, dk_at V c H, (flush1_7 t).mp ht]
    exact rd1_7 (dKto q k v o 2304) t
  · have h1 : (y 1).val < 256 := (y 1).isLt
    exact ⟨⟨(y 1).val / 128 * 9 + 8, by rw [show cfg1.N = 18 from N_1]; omega⟩, (flush1_7 _).mpr (by dsimp only; omega),
      mem1_7 _ y (by dsimp only; omega)⟩

/-- The gradient of the values. -/
theorem arr1_8 : (dat1 V c).arrAt 8 cfg1.N = wholeK (dVto q k o 2304) := by
  refine (dat1 V c).arrAt_eq_of_cover 8 (wholeK (dVto q k o 2304)) (fun t ht => ?_) fun y => ?_
  · show (cfg1.win 8).cut (grid1.coords t) ((dat1 V c).after 8 t) = _
    rw [after1_8, dv_at V c H, (flush1_8 t).mp ht]
    exact rd1_8 (dVto q k o 2304) t
  · have h1 : (y 1).val < 256 := (y 1).isLt
    exact ⟨⟨(y 1).val / 128 * 9 + 8, by rw [show cfg1.N = 18 from N_1]; omega⟩, (flush1_8 _).mpr (by dsimp only; omega),
      mem1_8 _ y (by dsimp only; omega)⟩

end Cert.Proof.Attn
-- ==== Proof.AttnRun.lean ====
module

public import proofs.«01_k».proof.Proof.AttnBwd

@[expose] public section

/-!
# The kernel's run with its results

The frame of the two regions, read at the four result arrays as well: on finite arguments they end holding the
outputs and the gradients of the queries, of the keys and of the values.
-/

set_option maxRecDepth 16384

noncomputable section
namespace Cert.Proof.Attn
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the two regions: the outputs end at what the first region leaves, each gradient at what the second does. -/
theorem run : θ_run defs (onTc (τ := τ) (main (F := Ideal))) ⟨m, fun _ => 0, ρ⟩ (fun r => ∀ c : Dev nD,
      r.2.mem ((c.tc : Thread nD τ).loc main_v0_0) = (dat0 (V0 m ρ) c).arrAt 3 cfg0.N
      ∧ r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v0_0 (by decide))).trans ((W2_of m ρ c main_v0_0 (by decide)).trans (W1_arr m ρ c 3)),
       (h c _ (mem_uc main_v1_0 (by decide))).trans (W2_arr m ρ c 6),
       (h c _ (mem_uc main_v1_1 (by decide))).trans (W2_arr m ρ c 7),
       (h c _ (mem_uc main_v1_2 (by decide))).trans (W2_arr m ρ c 8),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

variable {q k v o : ℕ → ℕ → ℕ → ℝ} (c : Dev nD)

/-- What the second region finds: the arguments as launched, and the first region's results. -/
theorem ins1 (h : Ins q k v o (m ((c.tc : Thread nD τ).loc main_arg0)) (m ((c.tc : Thread nD τ).loc main_arg1))
    (m ((c.tc : Thread nD τ).loc main_arg2))) : Ins1 (V1 m ρ) c q k v o where
  args := by
    rw [show V1 m ρ c main_arg0 = _ from W1_args m ρ c main_arg0 (by decide),
      show V1 m ρ c main_arg1 = _ from W1_args m ρ c main_arg1 (by decide),
      show V1 m ρ c main_arg2 = _ from W1_args m ρ c main_arg2 (by decide)]
    exact h
  res := (W1_arr m ρ c 3).trans (arr0_3 (V0 m ρ) c h)
  log := (W1_arr m ρ c 4).trans (arr0_4 (V0 m ρ) c h)

end Cert.Proof.Attn
-- ==== Proof.AttnRefMath.lean ====
module

public import proofs.«01_k».proof.Proof.AttnMath

@[expose] public section

/-!
# The gradient split into its two softmaxes

The reference takes the latent rows (the first 2048) against all keys and the context rows (the last 256) against the
context keys alone. Here the numbers of AttnMath.lean are split that way; a masked score weighs nothing.
-/

noncomputable section

open scoped BigOperators
open Idealize.ShloMosaic

namespace Cert.Proof.Row
variable {ι : Type*} [Fintype ι] {x : ι → EReal}

/-- The quotient's gradient as automatic differentiation spells it, over the shifted exponentials and their sum, is the
    softmax's gradient. -/
theorem Good.grad (h : Good x) (p : ι → ℝ) (c : ℝ) (j : ι) :
    (Ideal.div (p j : EReal) (∑ j, Ideal.exp (x j - mx x))
        + -∑ j', (p j' : EReal) * Ideal.div 1 ((∑ j, Ideal.exp (x j - mx x)) * ∑ j, Ideal.exp (x j - mx x))
            * Ideal.exp (x j' - mx x)) * Ideal.exp (x j - mx x) * (c : EReal)
      = ((prob x j * (p j - ∑ j', prob x j' * p j') * c : ℝ) : EReal) := by
  have hE : Real.exp (-(mx x).toReal) ≠ 0 := (Real.exp_pos _).ne'
  have hT : tot x ≠ 0 := h.tot_pos.ne'
  have hS : tot x * Real.exp (-(mx x).toReal) ≠ 0 := mul_ne_zero hT hE
  rw [h.sum_exp]
  simp only [h.exp_sub_mx]
  rw [← EReal.coe_mul, ← EReal.coe_one, div_coe_coe _ _ (mul_ne_zero hS hS), div_coe_coe _ _ hS]
  simp only [← EReal.coe_mul, ← coe_sum, ← EReal.coe_neg, ← EReal.coe_add]
  congr 1
  have e : ∑ j', p j' * (1 / (tot x * Real.exp (-(mx x).toReal) * (tot x * Real.exp (-(mx x).toReal))))
        * (wt (x j') * Real.exp (-(mx x).toReal))
      = (∑ j', prob x j' * p j') / (tot x * Real.exp (-(mx x).toReal)) := by
    rw [Finset.sum_div]
    refine Finset.sum_congr rfl fun j' _ => ?_
    unfold prob; field_simp
  rw [e]
  unfold prob; field_simp
  ring

end Cert.Proof.Row

namespace Cert.Proof.Attn
variable (q k v o : ℕ → ℕ → ℕ → ℝ)

/-- A latent row's scores: all keys. -/
def rowL (h i : ℕ) : Fin 2304 → EReal := fun j => ((s q k h i j : ℝ) : EReal)

/-- A context row's scores: the context's keys. -/
def rowC (h i : ℕ) : Fin 256 → EReal := fun j => ((s q k h i (2048 + j) : ℝ) : EReal)

theorem rowL_good (h i : ℕ) : Row.Good (rowL q k h i) :=
  ⟨fun _ => EReal.coe_ne_top _, 0, EReal.coe_ne_bot _⟩

theorem rowC_good (h i : ℕ) : Row.Good (rowC q k h i) :=
  ⟨fun _ => EReal.coe_ne_top _, 0, EReal.coe_ne_bot _⟩

/-- A sum over all keys, the latent ones first. -/
theorem sum_split (f : Fin 2304 → ℝ) :
    ∑ j, f j = ∑ j : Fin 2048, f ⟨j.val, by omega⟩ + ∑ j : Fin 256, f ⟨2048 + j.val, by omega⟩ :=
  Fin.sum_univ_add (a := 2048) (b := 256) f

variable {q k v o}

theorem X_lat {h i : ℕ} (hi : i < 2048) : X q k h i = rowL q k h i := by
  funext j; unfold X rowL; rw [if_pos (Or.inl hi)]

theorem X_ctx_low {h i : ℕ} (hi : 2048 ≤ i) (j : Fin 2304) (hj : j.val < 2048) : X q k h i j = ⊥ := by
  unfold X; rw [if_neg (by omega)]

theorem X_ctx_high {h i : ℕ} (j : Fin 256) : X q k h i ⟨2048 + j.val, by omega⟩ = rowC q k h i j := by
  unfold X rowC; rw [if_pos (Or.inr (by dsimp only; omega))]

theorem tot_ctx {h i : ℕ} (hi : 2048 ≤ i) : Row.tot (X q k h i) = Row.tot (rowC q k h i) := by
  unfold Row.tot
  rw [sum_split, Finset.sum_eq_zero (fun j _ => by rw [X_ctx_low hi _ j.isLt, Row.wt_bot]), zero_add]
  exact Finset.sum_congr rfl fun j _ => by rw [X_ctx_high]

theorem W_lat {h i : ℕ} (hi : i < 2048) (j : Fin 2304) : W q k h i j = Row.prob (rowL q k h i) j := by
  unfold W; rw [X_lat hi]

theorem W_ctx_low {h i : ℕ} (hi : 2048 ≤ i) (j : Fin 2304) (hj : j.val < 2048) : W q k h i j = 0 := by
  unfold W Row.prob; rw [X_ctx_low hi j hj, Row.wt_bot, zero_div]

theorem W_ctx_high {h i : ℕ} (hi : 2048 ≤ i) (j : Fin 256) :
    W q k h i ⟨2048 + j.val, by omega⟩ = Row.prob (rowC q k h i) j := by
  unfold W Row.prob; rw [X_ctx_high, tot_ctx hi]

theorem dS_lat {h i : ℕ} (hi : i < 2048) (j : Fin 2304) :
    dS q k v o h i j = Row.prob (rowL q k h i) j
      * (dP v o h i j - ∑ j' : Fin 2304, Row.prob (rowL q k h i) j' * dP v o h i j') * sc := by
  unfold dS; simp only [W_lat hi]

theorem dS_ctx_low {h i : ℕ} (hi : 2048 ≤ i) (j : Fin 2304) (hj : j.val < 2048) : dS q k v o h i j = 0 := by
  unfold dS; rw [W_ctx_low hi j hj, zero_mul, zero_mul]

theorem dS_ctx_high {h i : ℕ} (hi : 2048 ≤ i) (j : Fin 256) :
    dS q k v o h i ⟨2048 + j.val, by omega⟩ = Row.prob (rowC q k h i) j
      * (dP v o h i (2048 + j) - ∑ j' : Fin 256, Row.prob (rowC q k h i) j' * dP v o h i (2048 + j')) * sc := by
  unfold dS
  rw [sum_split, Finset.sum_eq_zero (fun j _ => by rw [W_ctx_low hi _ j.isLt, zero_mul]), zero_add]
  simp only [W_ctx_high hi]

/-- A context row's gradient: the context's keys alone. -/
theorem dQ_ctx {h i : ℕ} (hi : 2048 ≤ i) (d : ℕ) :
    dQ q k v o i h d = ∑ j : Fin 256, dS q k v o h i ⟨2048 + j.val, by omega⟩ * k (2048 + j) (h / 4) d := by
  unfold dQ
  rw [sum_split, Finset.sum_eq_zero (fun j _ => by rw [dS_ctx_low hi _ j.isLt, zero_mul]), zero_add]

/-- A sum over all rows, the latent ones first, the heads outside. -/
theorem rows_split (f : ℕ → Fin 4 → ℝ) :
    ∑ i ∈ Finset.range 2304, ∑ r : Fin 4, f i r
      = ∑ r : Fin 4, ∑ i : Fin 256, f (2048 + i) r + ∑ r : Fin 4, ∑ i : Fin 2048, f i r := by
  rw [show (2304 : ℕ) = 2048 + 256 from rfl, sum_range_tile (fun i => ∑ r : Fin 4, f i r), add_comm,
    ← Fin.sum_univ_eq_sum_range (fun i => ∑ r : Fin 4, f i r), Finset.sum_comm]
  congr 1
  rw [Finset.sum_comm]

theorem dK_split (j : Fin 2304) (g d : ℕ) :
    dKto q k v o 2304 j g d = ∑ r : Fin 4, ∑ i : Fin 256, dS q k v o (4 * g + r) (2048 + i) j * q (2048 + i) (4 * g + r) d
      + ∑ r : Fin 4, ∑ i : Fin 2048, dS q k v o (4 * g + r) i j * q i (4 * g + r) d :=
  rows_split fun i r => dS q k v o (4 * g + r) i j * q i (4 * g + r) d

theorem dV_split (j : Fin 2304) (g d : ℕ) :
    dVto q k o 2304 j g d = ∑ r : Fin 4, ∑ i : Fin 256, W q k (4 * g + r) (2048 + i) j * o (2048 + i) (4 * g + r) d
      + ∑ r : Fin 4, ∑ i : Fin 2048, W q k (4 * g + r) i j * o i (4 * g + r) d :=
  rows_split fun i r => W q k (4 * g + r) i j * o i (4 * g + r) d

end Cert.Proof.Attn
-- ==== Proof.AttnRef.lean ====
module

public import proofs.«01_k».proof.Proof.Gen.ReferenceIdeal.Read
public import proofs.«01_k».proof.Proof.AttnRefMath
public import proofs.«01_k».proof.Proof.AttnBwd
public import Idealize.ShloMosaic.Lib.Pointwise

@[expose] public section

/-!
# What the reference computes

The reference's results, read down to the arguments: the same outputs and gradients as real numbers. `lat_*` are the latent rows'
terms, `ctx_*` the context rows'.
-/

set_option maxRecDepth 16384

noncomputable section
namespace Cert.Proof.Attn.Ref
open Idealize.ShloMosaic Cert.ReferenceIdeal Cert.ReferenceIdeal.Gen Cert.ReferenceIdeal.Read Cert.Proof.Attn

/-- A maximum over the last of four axes, from `-∞`. -/
theorem reduce_max {a b n k : ℕ} {u : Shape} (v : FVec Ideal ⟨4, ![a, b, n, k]⟩ .f32) (c : FVec Ideal u .f32)
    (h : (⟨4, ![a, b, n, k]⟩ : Shape).ReducesTo [3] ⟨3, ![a, b, n]⟩) (hu : 0 < u.numel) (hc : c (Shape.Idx.first hu) = ⊥)
    (x : Fin a) (y : Fin b) (z : Fin n) :
    Host.reduce FloatOps.maximumf v c h hu (ix3 x y z) = Row.mx fun j : Fin k => v (ix4 x y z j) := by
  unfold Row.mx
  rw [← hc]
  pointwise []

theorem max_bot {a b : EReal} (h : b = ⊥) : (FloatOps.maximumf (b : Ideal .f32) (a : Ideal .f32) : Ideal .f32) = a := by
  subst h; exact max_eq_right bot_le

theorem out_ctx {q k v : ℕ → ℕ → ℕ → ℝ} {h i : ℕ} (hi : 2048 ≤ i) (d : ℕ) :
    out q k v i h d = ∑ j : Fin 256, W q k h i ⟨2048 + j.val, by omega⟩ * v (2048 + j) (h / 4) d := by
  unfold out
  rw [sum_split, Finset.sum_eq_zero (fun j _ => by rw [W_ctx_low hi _ j.isLt, zero_mul]), zero_add]

variable {x0 : Vec Ideal S2304x3072 .f32} {x1 : Vec Ideal S2304x5120 .bf16} {x2 : Vec Ideal S2304x1024 .f32}
  {q k v o : ℕ → ℕ → ℕ → ℝ} (H : Ins q k v o x0 x1 x2)
include H

theorem arg_q (a : Fin 2304) (b : Fin 3072) {a' b' c' : ℕ} (hb : b.val < 1024) (ha : a.val = a')
    (h1 : b.val / 128 = b') (h2 : b.val % 128 = c') : x0 (ix2 a b) = ((q a' b' c' : ℝ) : EReal) :=
  (H.hq (ix2 a b) hb).trans (coe3 q ha h1 h2)

theorem arg_k (a : Fin 2304) (b : Fin 3072) {a' b' c' : ℕ} (hb : 1024 ≤ b.val) (hb' : b.val < 1280) (ha : a.val = a')
    (h1 : (b.val - 1024) / 128 = b') (h2 : b.val % 128 = c') : x0 (ix2 a b) = ((k a' b' c' : ℝ) : EReal) :=
  (H.hk (ix2 a b) hb hb').trans (coe3 k ha h1 h2)

theorem arg_v (a : Fin 2304) (b : Fin 5120) {a' b' c' : ℕ} (hb : 1280 ≤ b.val) (hb' : b.val < 1536) (ha : a.val = a')
    (h1 : (b.val - 1280) / 128 = b') (h2 : b.val % 128 = c') : x1 (ix2 a b) = ((v a' b' c' : ℝ) : EReal) :=
  (H.hv (ix2 a b) hb hb').trans (coe3 v ha h1 h2)

theorem arg_o (a : Fin 2304) (b : Fin 1024) {a' b' c' : ℕ} (ha : a.val = a')
    (h1 : b.val / 128 = b') (h2 : b.val % 128 = c') : x2 (ix2 a b) = ((o a' b' c' : ℝ) : EReal) :=
  (congrFun H.hd (ix2 a b)).trans (coe3 o ha h1 h2)

/-! ## The heads -/

theorem key (g : Fin 2) (j : Fin 2304) (d : Fin 128) : val_main_v7 (F := Ideal) x0 (ix3 g j d) = ((k j g d : ℝ) : EReal) := by
  pointwise [val_main_v7, val_main_v6, val_main_v1]
  exact arg_k H _ _ (by dsimp only; omega) (by dsimp only; omega) rfl (by dsimp only; omega) (by dsimp only; omega)

theorem value (g : Fin 2) (j : Fin 2304) (d : Fin 128) : val_main_v9 (F := Ideal) x1 (ix3 g j d) = ((v j g d : ℝ) : EReal) := by
  pointwise [val_main_v9, val_main_v8, val_main_v3, val_main_v2]
  exact arg_v H _ _ (by dsimp only; omega) (by dsimp only; omega) rfl (by dsimp only; omega) (by dsimp only; omega)

section Lat
variable (g : Fin 2) (r : Fin 4) (i : Fin 2048) (j : Fin 2304) (d : Fin 128)

theorem lat_q : val_main_v11 (F := Ideal) x0 (ix4 g r i d) = ((q i (4 * g + r) d : ℝ) : EReal) := by
  pointwise [val_main_v11, val_main_v10, val_main_v5, val_main_v4, val_main_v0]
  exact arg_q H _ _ (by dsimp only; omega) rfl (by dsimp only; omega) (by dsimp only; omega)

theorem lat_o : val_main_v113 (F := Ideal) x2 (ix4 g r i d) = ((o i (4 * g + r) d : ℝ) : EReal) := by
  pointwise [val_main_v113, val_main_v87, val_main_v86, val_main_v85]
  exact arg_o H _ _ rfl (by dsimp only; omega) (by dsimp only; omega)

theorem lat_score : val_main_v14 (F := Ideal) x0 (ix4 g r i j) = rowL q k (4 * g + r) i j := by
  pointwise [val_main_v14, val_main_v13, val_main_cst, val_main_v12]
  simp only [lat_q H, key H]
  rw [show Ideal.ofBits .f32 1035273459#32 = ((sc : ℝ) : EReal) from ofBits_sc]
  simp only [← EReal.coe_mul, ← Row.coe_sum]
  unfold rowL s
  rw [show (4 * g.val + r.val) / 4 = g.val by omega]

theorem lat_max0 : val_main_v15 (F := Ideal) x0 (ix3 g r i) = Row.mx (rowL q k (4 * g + r) i) := by
  unfold val_main_v15
  exact (reduce_max _ _ _ _ ofBits_neg_inf g r i).trans (congrArg Row.mx (funext fun j => lat_score H g r i j))

theorem lat_max : val_main_v22 (F := Ideal) x0 (ix3 g r i) = Row.mx (rowL q k (4 * g + r) i) := by
  rw [val_main_v22_apply, lat_max0 H, val_main_v21_apply, val_main_cst_2_apply]
  exact max_bot ofBits_neg_inf

theorem lat_exp : val_main_v35 (F := Ideal) x0 (ix4 g r i j)
    = Ideal.exp (rowL q k (4 * g + r) i j - Row.mx (rowL q k (4 * g + r) i)) := by
  pointwise [val_main_v35, val_main_v34, val_main_v33, val_main_v32]
  rw [lat_score H, lat_max H]

theorem lat_sum : val_main_v37 (F := Ideal) x0 (ix4 g r i 0)
    = ∑ j, Ideal.exp (rowL q k (4 * g + r) i j - Row.mx (rowL q k (4 * g + r) i)) := by
  pointwise [val_main_v37, val_main_v36, val_main_cst_8]
  simp only [lat_exp H]

theorem lat_w : val_main_v39 (F := Ideal) x0 (ix4 g r i j) = ((W q k (4 * g + r) i j : ℝ) : EReal) := by
  rw [W_lat i.isLt, ← (rowL_good q k (4 * g + r) i).exp_sub_lse]
  pointwise [val_main_v39, val_main_v38]
  rw [lat_exp H, lat_sum H, (rowL_good q k (4 * g + r) i).exp_sub_lse, (rowL_good q k (4 * g + r) i).exp_sub_mx,
    (rowL_good q k (4 * g + r) i).div_exp]
  rfl

theorem lat_out : val_main_v43 (F := Ideal) x0 x1 (ix4 g r i d) = ((out q k v i (4 * g + r) d : ℝ) : EReal) := by
  pointwise [val_main_v43]
  simp only [lat_w H, value H, ← EReal.coe_mul, ← Row.coe_sum]
  unfold out
  rw [show (4 * g.val + r.val) / 4 = g.val by omega]

theorem lat_dp : val_main_v117 (F := Ideal) x1 x2 (ix4 g r i j) = ((dP v o (4 * g + r) i j : ℝ) : EReal) := by
  pointwise [val_main_v117]
  simp only [lat_o H, value H, ← EReal.coe_mul, ← Row.coe_sum]
  unfold dP
  rw [show (4 * g.val + r.val) / 4 = g.val by omega]

theorem lat_ds : val_main_v131 (F := Ideal) x0 x1 x2 (ix4 g r i j) = ((dS q k v o (4 * g + r) i j : ℝ) : EReal) := by
  rw [dS_lat i.isLt, ← (rowL_good q k (4 * g + r) i).grad (fun j => dP v o (4 * g + r) i j) sc j]
  pointwise [val_main_v131, val_main_v130, val_main_cst_29, val_main_v129, val_main_v128, val_main_v127, val_main_v126,
    val_main_cst_28, val_main_v125, val_main_v124, val_main_v123, val_main_v122, val_main_v121, val_main_cst_27,
    val_main_v120, val_main_v119, val_main_v118, val_main_v42, val_main_v41, val_main_cst_9, val_main_v40]
  rw [show Ideal.ofBits .f32 1035273459#32 = ((sc : ℝ) : EReal) from ofBits_sc]
  simp only [lat_dp H, lat_sum H, lat_exp H, Finset.univ_unique, Finset.sum_singleton]

theorem lat_dq : val_main_v134 (F := Ideal) x0 x1 x2 (ix4 g r i d) = ((dQ q k v o i (4 * g + r) d : ℝ) : EReal) := by
  pointwise [val_main_v134]
  simp only [lat_ds H, key H, ← EReal.coe_mul, ← Row.coe_sum]
  unfold dQ
  rw [show (4 * g.val + r.val) / 4 = g.val by omega]

theorem lat_dk : val_main_v132 (F := Ideal) x0 x1 x2 (ix3 g j d)
    = ((∑ r : Fin 4, ∑ i : Fin 2048, dS q k v o (4 * g + r) i j * q i (4 * g + r) d : ℝ) : EReal) := by
  pointwise [val_main_v132]
  simp only [lat_ds H, lat_q H, ← EReal.coe_mul, ← Row.coe_sum]

theorem lat_dv : val_main_v114 (F := Ideal) x0 x2 (ix3 g d j)
    = ((∑ r : Fin 4, ∑ i : Fin 2048, W q k (4 * g + r) i j * o i (4 * g + r) d : ℝ) : EReal) := by
  pointwise [val_main_v114]
  simp only [lat_w H, lat_o H, ← EReal.coe_mul, ← Row.coe_sum]
  simp only [mul_comm]

end Lat

section Ctx
variable (g : Fin 2) (r : Fin 4) (i j : Fin 256) (d : Fin 128)

theorem ctx_q : val_main_v48 (F := Ideal) x0 (ix4 g r i d) = ((q (2048 + i) (4 * g + r) d : ℝ) : EReal) := by
  pointwise [val_main_v48, val_main_v45, val_main_v5, val_main_v4, val_main_v0]
  exact arg_q H _ _ (by dsimp only; omega) rfl (by dsimp only; omega) (by dsimp only; omega)

theorem ctx_o : val_main_v89 (F := Ideal) x2 (ix4 g r i d) = ((o (2048 + i) (4 * g + r) d : ℝ) : EReal) := by
  pointwise [val_main_v89, val_main_v88, val_main_v86, val_main_v85]
  exact arg_o H _ _ rfl (by dsimp only; omega) (by dsimp only; omega)

theorem ctx_k : val_main_v46 (F := Ideal) x0 (ix3 g j d) = ((k (2048 + j) g d : ℝ) : EReal) := by
  pointwise [val_main_v46]
  exact key H _ _ _

theorem ctx_v : val_main_v47 (F := Ideal) x1 (ix3 g j d) = ((v (2048 + j) g d : ℝ) : EReal) := by
  pointwise [val_main_v47]
  exact value H _ _ _

theorem ctx_score : val_main_v51 (F := Ideal) x0 (ix4 g r i j) = rowC q k (4 * g + r) (2048 + i) j := by
  pointwise [val_main_v51, val_main_v50, val_main_cst_10, val_main_v49]
  simp only [ctx_q H, ctx_k H]
  rw [show Ideal.ofBits .f32 1035273459#32 = ((sc : ℝ) : EReal) from ofBits_sc]
  simp only [← EReal.coe_mul, ← Row.coe_sum]
  unfold rowC s
  rw [show (4 * g.val + r.val) / 4 = g.val by omega]

theorem ctx_max0 : val_main_v52 (F := Ideal) x0 (ix3 g r i) = Row.mx (rowC q k (4 * g + r) (2048 + i)) := by
  unfold val_main_v52
  exact (reduce_max _ _ _ _ ofBits_neg_inf g r i).trans (congrArg Row.mx (funext fun j => ctx_score H g r i j))

theorem ctx_max : val_main_v59 (F := Ideal) x0 (ix3 g r i) = Row.mx (rowC q k (4 * g + r) (2048 + i)) := by
  rw [val_main_v59_apply, ctx_max0 H, val_main_v58_apply, val_main_cst_13_apply]
  exact max_bot ofBits_neg_inf

theorem ctx_exp : val_main_v72 (F := Ideal) x0 (ix4 g r i j)
    = Ideal.exp (rowC q k (4 * g + r) (2048 + i) j - Row.mx (rowC q k (4 * g + r) (2048 + i))) := by
  pointwise [val_main_v72, val_main_v71, val_main_v70, val_main_v69]
  rw [ctx_score H, ctx_max H]

theorem ctx_sum : val_main_v74 (F := Ideal) x0 (ix4 g r i 0)
    = ∑ j, Ideal.exp (rowC q k (4 * g + r) (2048 + i) j - Row.mx (rowC q k (4 * g + r) (2048 + i))) := by
  pointwise [val_main_v74, val_main_v73, val_main_cst_19]
  simp only [ctx_exp H]

theorem ctx_w : val_main_v76 (F := Ideal) x0 (ix4 g r i j)
    = ((W q k (4 * g + r) (2048 + i) ⟨2048 + j.val, by omega⟩ : ℝ) : EReal) := by
  rw [W_ctx_high (by omega), ← (rowC_good q k (4 * g + r) (2048 + i)).exp_sub_lse]
  pointwise [val_main_v76, val_main_v75]
  rw [ctx_exp H, ctx_sum H, (rowC_good q k (4 * g + r) (2048 + i)).exp_sub_lse,
    (rowC_good q k (4 * g + r) (2048 + i)).exp_sub_mx, (rowC_good q k (4 * g + r) (2048 + i)).div_exp]
  rfl

theorem ctx_out : val_main_v80 (F := Ideal) x0 x1 (ix4 g r i d)
    = ((out q k v (2048 + i) (4 * g + r) d : ℝ) : EReal) := by
  pointwise [val_main_v80]
  simp only [ctx_w H, ctx_v H, ← EReal.coe_mul, ← Row.coe_sum]
  rw [out_ctx (by omega), show (4 * g.val + r.val) / 4 = g.val by omega]

theorem ctx_dp : val_main_v92 (F := Ideal) x1 x2 (ix4 g r i j) = ((dP v o (4 * g + r) (2048 + i) (2048 + j) : ℝ) : EReal) := by
  pointwise [val_main_v92]
  simp only [ctx_o H, ctx_v H, ← EReal.coe_mul, ← Row.coe_sum]
  unfold dP
  rw [show (4 * g.val + r.val) / 4 = g.val by omega]

theorem ctx_ds : val_main_v106 (F := Ideal) x0 x1 x2 (ix4 g r i j)
    = ((dS q k v o (4 * g + r) (2048 + i) ⟨2048 + j.val, by omega⟩ : ℝ) : EReal) := by
  rw [dS_ctx_high (by omega),
    ← (rowC_good q k (4 * g + r) (2048 + i)).grad (fun j => dP v o (4 * g + r) (2048 + i) (2048 + j)) sc j]
  pointwise [val_main_v106, val_main_v105, val_main_cst_23, val_main_v104, val_main_v103, val_main_v102, val_main_v101,
    val_main_cst_22, val_main_v100, val_main_v99, val_main_v98, val_main_v97, val_main_v96, val_main_cst_21,
    val_main_v95, val_main_v94, val_main_v93, val_main_v79, val_main_v78, val_main_cst_20, val_main_v77]
  rw [show Ideal.ofBits .f32 1035273459#32 = ((sc : ℝ) : EReal) from ofBits_sc]
  simp only [ctx_dp H, ctx_sum H, ctx_exp H, Finset.univ_unique, Finset.sum_singleton]

theorem ctx_dq : val_main_v108 (F := Ideal) x0 x1 x2 (ix4 g r i d)
    = ((dQ q k v o (2048 + i) (4 * g + r) d : ℝ) : EReal) := by
  pointwise [val_main_v108]
  simp only [ctx_ds H, ctx_k H, ← EReal.coe_mul, ← Row.coe_sum]
  rw [dQ_ctx (by omega), show (4 * g.val + r.val) / 4 = g.val by omega]

theorem ctx_dk : val_main_v107 (F := Ideal) x0 x1 x2 (ix3 g j d)
    = ((∑ r : Fin 4, ∑ i : Fin 256, dS q k v o (4 * g + r) (2048 + i) ⟨2048 + j.val, by omega⟩
        * q (2048 + i) (4 * g + r) d : ℝ) : EReal) := by
  pointwise [val_main_v107]
  simp only [ctx_ds H, ctx_q H, ← EReal.coe_mul, ← Row.coe_sum]

theorem ctx_dv : val_main_v90 (F := Ideal) x0 x2 (ix3 g d j)
    = ((∑ r : Fin 4, ∑ i : Fin 256, W q k (4 * g + r) (2048 + i) ⟨2048 + j.val, by omega⟩
        * o (2048 + i) (4 * g + r) d : ℝ) : EReal) := by
  pointwise [val_main_v90]
  simp only [ctx_w H, ctx_o H, ← EReal.coe_mul, ← Row.coe_sum]
  simp only [mul_comm]

end Ctx

end Cert.Proof.Attn.Ref
-- ==== Proof.AttnEq.lean ====
module

public import proofs.«01_k».proof.Proof.AttnRef

@[expose] public section

/-!
# The reference's results

The reference's four result arrays are the arrays the kernel leaves.
-/

set_option maxRecDepth 16384

noncomputable section
namespace Cert.Proof.Attn.Ref
open Idealize.ShloMosaic Cert.ReferenceIdeal Cert.ReferenceIdeal.Gen Cert.ReferenceIdeal.Read Cert.Proof.Attn

variable {x0 : Vec Ideal S2304x3072 .f32} {x1 : Vec Ideal S2304x5120 .bf16} {x2 : Vec Ideal S2304x1024 .f32}
  {q k v o : ℕ → ℕ → ℕ → ℝ} (H : Ins q k v o x0 x1 x2)
include H

/-- The outputs, head by head: the latent rows and the context rows. -/
theorem o_head (h : Fin 8) (a : Fin 2304) (d : Fin 128) : val_main_v82 (F := Ideal) x0 x1 (ix3 h a d)
    = ((out q k v a h d : ℝ) : EReal) := by
  have eh : 4 * (h.val / 4) + h.val % 4 = h.val := Nat.div_add_mod _ _
  pointwise [val_main_v82, val_main_v81, val_main_v44]
  by_cases e : a.val < 2048
  · rw [dif_pos (by omega), lat_out H]
    exact coe3 (out q k v) rfl eh rfl
  · rw [dif_neg (by omega), ctx_out H]
    exact coe3 (out q k v) (by dsimp only; omega) eh rfl

/-- The outputs. -/
theorem o_eq : val_main_v84 (F := Ideal) x0 x1 = whole (out q k v) := by
  funext y
  idx_vars y
  pointwise [val_main_v84, val_main_v83]
  rw [o_head H]
  rfl

/-- The context rows' share of a value's gradient, padded to all keys. -/
theorem pad_dv (g : Fin 2) (a : Fin 2304) (d : Fin 128) : val_main_v110 (F := Ideal) x0 x2 (ix3 g a d)
    = ((∑ r : Fin 4, ∑ i : Fin 256, W q k (4 * g + r) (2048 + i) a * o (2048 + i) (4 * g + r) d : ℝ) : EReal) := by
  pointwise [val_main_v110, val_main_v91, val_main_cst_24]
  by_cases h : 2048 ≤ a.val
  · rw [dif_pos ⟨h, by omega⟩, ctx_dv H]
    simp only [show 2048 + (a.val - 2048) = a.val by omega]
  · rw [dif_neg (fun e => h e.1)]
    refine (EReal.coe_zero.symm).trans (congrArg _ (Eq.symm ?_))
    exact Finset.sum_eq_zero fun r _ => Finset.sum_eq_zero fun i _ => by
      rw [W_ctx_low (by omega) a (by omega), zero_mul]

/-- The context rows' share of a key's gradient, padded to all keys. -/
theorem pad_dk (g : Fin 2) (a : Fin 2304) (d : Fin 128) : val_main_v111 (F := Ideal) x0 x1 x2 (ix3 g a d)
    = ((∑ r : Fin 4, ∑ i : Fin 256, dS q k v o (4 * g + r) (2048 + i) a * q (2048 + i) (4 * g + r) d : ℝ) : EReal) := by
  pointwise [val_main_v111, val_main_cst_25]
  by_cases h : 2048 ≤ a.val
  · rw [dif_pos ⟨h, by omega⟩, ctx_dk H]
    simp only [show 2048 + (a.val - 2048) = a.val by omega]
  · rw [dif_neg (fun e => h e.1)]
    refine (EReal.coe_zero.symm).trans (congrArg _ (Eq.symm ?_))
    exact Finset.sum_eq_zero fun r _ => Finset.sum_eq_zero fun i _ => by
      rw [dS_ctx_low (by omega) a (by omega), zero_mul]

/-- The values' gradient. -/
theorem dv_eq : val_main_v139 (F := Ideal) x0 x2 = wholeK (dVto q k o 2304) := by
  funext y
  idx_vars y
  pointwise [val_main_v139, val_main_v138, val_main_v116, val_main_v115]
  rw [pad_dv H, lat_dv H, ← EReal.coe_add, ← dV_split]
  rfl

/-- The keys' gradient. -/
theorem dk_eq : val_main_v141 (F := Ideal) x0 x1 x2 = wholeK (dKto q k v o 2304) := by
  funext y
  idx_vars y
  pointwise [val_main_v141, val_main_v140, val_main_v133]
  rw [pad_dk H, lat_dk H, ← EReal.coe_add, ← dK_split]
  rfl

/-- The queries' gradient, head by head: the context rows' and the latent rows' padded shares. -/
theorem dq_head (h : Fin 8) (a : Fin 2304) (d : Fin 128) : val_main_v137 (F := Ideal) x0 x1 x2 (ix3 h a d)
    = ((dQ q k v o a h d : ℝ) : EReal) := by
  have eh : 4 * (h.val / 4) + h.val % 4 = h.val := Nat.div_add_mod _ _
  pointwise [val_main_v137, val_main_v136, val_main_cst_30, val_main_v112, val_main_cst_26, val_main_v135, val_main_v109]
  by_cases e : 2048 ≤ a.val
  · rw [dif_pos (by omega), dif_neg (by omega), add_zero, ctx_dq H]
    exact coe3 (dQ q k v o) (by dsimp only; omega) eh rfl
  · rw [dif_neg (by omega), dif_pos (by omega), zero_add, lat_dq H]
    exact coe3 (dQ q k v o) rfl eh rfl

/-- The queries' gradient. -/
theorem dq_eq : val_main_v143 (F := Ideal) x0 x1 x2 = whole (dQ q k v o) := by
  funext y
  idx_vars y
  pointwise [val_main_v143, val_main_v142]
  rw [dq_head H]
  rfl

end Cert.Proof.Attn.Ref
-- ==== Proof.Finite.lean ====
module

public import proofs.«01_k».proof.Defs
public import proofs.«01_k».proof.Proof.AttnFwd
public import Idealize.ShloMosaic.Lib.Pointwise

@[expose] public section

/-!
# The precondition

Where the precondition holds, the columns the kernel reads hold real numbers.
-/

set_option maxRecDepth 16384

noncomputable section
namespace Cert.Proof
open Idealize.ShloMosaic

theorem preFacts : Cert.Pre_finite.Facts where
  slices_S2304x3072_S2304x1280_0_0 := by decide
  bcast_S_S2304x1280 := by decide
  slices_S2304x5120_S2304x256_0_1280 := by decide
  bitsLt_bf16_f32 := by decide
  bcast_S_S2304x256 := by decide
  bcast_S_S2304x1024 := by decide

theorem real_of_lt {x : EReal}
    (h : BitVec.ofBool (decide (FloatOps.absf (x : Ideal .f32) < Ideal.ofBits FTy.f32 2139095040#32)) = 1#1) :
    x = (x.toReal : EReal) := by
  have h' : FloatOps.absf (x : Ideal .f32) < Ideal.ofBits FTy.f32 2139095040#32 := by
    by_contra hn
    rw [decide_eq_false hn] at h
    exact absurd h (by decide)
  rw [show Ideal.ofBits FTy.f32 2139095040#32 = ⊤ by simp [Ideal.ofBits, Ideal.ieee]] at h'
  induction x with
  | bot => exact absurd h' (lt_irrefl _)
  | coe r => rfl
  | top => exact absurd h' (lt_irrefl _)

instance : Cert.Pre_finite.Facts := preFacts

section
open Cert.Pre_finite
variable {x0 : Vec Ideal S2304x3072 .f32} {x1 : Vec Ideal S2304x5120 .bf16} {x2 : Vec Ideal S2304x1024 .f32}

theorem real_p (h : (fn (F := Ideal) x0 x1 x2).1 = fun _ => 1#1) (a : Fin 2304) (b : Fin 1280) :
    x0 (ix2 a ⟨b.val, by omega⟩) = ((x0 (ix2 a ⟨b.val, by omega⟩)).toReal : EReal) := by
  have h := congrFun h (ix2 a b)
  unfold fn at h
  pointwise [] at h
  exact real_of_lt h

theorem real_z (h : (fn (F := Ideal) x0 x1 x2).2.1 = fun _ => 1#1) (a : Fin 2304) (b : Fin 256) :
    x1 (ix2 a ⟨1280 + b.val, by omega⟩) = ((x1 (ix2 a ⟨1280 + b.val, by omega⟩)).toReal : EReal) := by
  have h := congrFun h (ix2 a b)
  unfold fn at h
  pointwise [] at h
  exact real_of_lt h

theorem real_d (h : (fn (F := Ideal) x0 x1 x2).2.2 = fun _ => 1#1) (a : Fin 2304) (b : Fin 1024) :
    x2 (ix2 a b) = ((x2 (ix2 a b)).toReal : EReal) := by
  have h := congrFun h (ix2 a b)
  unfold fn at h
  pointwise [] at h
  exact real_of_lt h

/-- An entry by row and column, zero outside. -/
def entry {n m : ℕ} (x : (⟨2, ![n, m]⟩ : Shape).Idx → EReal) (i j : ℕ) : ℝ :=
  if h : i < n ∧ j < m then (x (ix2 ⟨i, h.1⟩ ⟨j, h.2⟩)).toReal else 0

theorem entry_eq {n m : ℕ} (x : (⟨2, ![n, m]⟩ : Shape).Idx → EReal) (i : Fin n) (j : Fin m)
    (hr : x (ix2 i j) = ((x (ix2 i j)).toReal : EReal)) {i' j' : ℕ} (hi : i.val = i') (hj : j.val = j') :
    x (ix2 i j) = ((entry x i' j' : ℝ) : EReal) := by
  subst hi hj
  unfold entry; rw [dif_pos ⟨i.isLt, j.isLt⟩]; exact hr

/-- The queries, keys, values and incoming gradient as real numbers. -/
theorem ins (h1 : (fn (F := Ideal) x0 x1 x2).1 = fun _ => 1#1) (h2 : (fn (F := Ideal) x0 x1 x2).2.1 = fun _ => 1#1)
    (h3 : (fn (F := Ideal) x0 x1 x2).2.2 = fun _ => 1#1) :
    Attn.Ins (fun i h d => entry x0 i (128 * h + d)) (fun j g d => entry x0 j (1024 + 128 * g + d))
      (fun j g d => entry x1 j (1280 + 128 * g + d)) (fun i h d => entry x2 i (128 * h + d)) x0 x1 x2 where
  hq y hy := by
    idx_vars y
    exact entry_eq x0 y0 y1 (real_p h1 y0 ⟨y1.val, lt_trans hy (by norm_num)⟩) rfl (Nat.div_add_mod _ _).symm
  hk y hy hy' := by
    idx_vars y
    have e : y1.val < 1280 := hy'
    have e' : 1024 ≤ y1.val := hy
    refine entry_eq x0 y0 y1 (real_p h1 y0 ⟨y1.val, e⟩) rfl ?_
    show y1.val = 1024 + 128 * ((y1.val - 1024) / 128) + y1.val % 128
    omega
  hv y hy hy' := by
    idx_vars y
    have e : y1.val < 1536 := hy'
    have e' : 1280 ≤ y1.val := hy
    have e'' : (⟨1280 + (y1.val - 1280), by omega⟩ : Fin 5120) = y1 := Fin.ext (by dsimp only; omega)
    have hr := real_z h2 y0 ⟨y1.val - 1280, by omega⟩
    dsimp only at hr
    rw [e''] at hr
    refine entry_eq x1 y0 y1 hr rfl ?_
    show y1.val = 1280 + 128 * ((y1.val - 1280) / 128) + y1.val % 128
    omega
  hd := by
    funext y
    idx_vars y
    exact entry_eq x2 y0 y1 (real_d h3 y0 y1) rfl (Nat.div_add_mod _ _).symm

end
end Cert.Proof
-- ==== Proof.GluMath.lean ====
/-
  The gated convolution and its gradients over the reals, with row and column numbers in `ℕ`: 2304 rows, of which the
  first 2048 are one sequence (the latents) and the last 256 another (the context); 5632 gate columns and as many value
  columns.
-/
module

public import proofs.«01_k».proof.Proof.AttnMath

@[expose] public section

noncomputable section

open scoped BigOperators
open Idealize.ShloMosaic

namespace Cert.Proof.Glu

/-- A row that has a row before it in its own sequence. -/
def Prv (i : ℕ) : Prop := i ≠ 0 ∧ i ≠ 2048
/-- A row that has a row after it in its own sequence. -/
def Nxt (i : ℕ) : Prop := i ≠ 2047 ∧ i ≠ 2303

instance (i : ℕ) : Decidable (Prv i) := inferInstanceAs (Decidable (_ ∧ _))
instance (i : ℕ) : Decidable (Nxt i) := inferInstanceAs (Decidable (_ ∧ _))

/-- The logistic function. -/
def sg (x : ℝ) : ℝ := 1 / (1 + Real.exp (-x))

theorem sg_den (x : ℝ) : 1 + Real.exp (-x) ≠ 0 := (add_pos one_pos (Real.exp_pos _)).ne'

/-- The logistic function by the hyperbolic tangent of half the argument. -/
theorem sg_tanh (x : ℝ) : 1 / 2 + 1 / 2 * Real.tanh (1 / 2 * x) = sg x := by
  have e : Real.exp (-x) = Real.exp (-(1 / 2 * x)) * Real.exp (-(1 / 2 * x)) := by
    rw [← Real.exp_add]; congr 1; ring
  have h1 : Real.exp (1 / 2 * x) * Real.exp (-(1 / 2 * x)) = 1 := by rw [← Real.exp_add, add_neg_cancel, Real.exp_zero]
  have p1 := Real.exp_pos (1 / 2 * x)
  have p2 := Real.exp_pos (-(1 / 2 * x))
  unfold sg
  rw [Real.tanh_eq_sinh_div_cosh, Real.sinh_eq, Real.cosh_eq, e]
  generalize Real.exp (1 / 2 * x) = a at *
  generalize Real.exp (-(1 / 2 * x)) = b at *
  have q1 : a + b ≠ 0 := (add_pos p1 p2).ne'
  have q2 : 1 + b * b ≠ 0 := (add_pos one_pos (mul_pos p2 p2)).ne'
  field_simp
  linear_combination (2 * b) * h1

variable (h wu cw : ℕ → ℕ → ℝ) (cb : ℕ → ℝ) (wd dy : ℕ → ℕ → ℝ)

/-- The first product: gate columns below 5632, value columns from there. -/
def U (i j : ℕ) : ℝ := ∑ k : Fin 2048, h i k * wu k j

/-- The row before, zero where there is none. -/
def up (f : ℕ → ℕ → ℝ) (i j : ℕ) : ℝ := if Prv i then f (i - 1) j else 0
/-- The row after, zero where there is none. -/
def dn (f : ℕ → ℕ → ℝ) (i j : ℕ) : ℝ := if Nxt i then f (i + 1) j else 0

/-- The convolution down the rows, three taps and a bias per column. -/
def C (u : ℕ → ℕ → ℝ) (i j : ℕ) : ℝ := up u i j * cw 0 j + u i j * cw 1 j + dn u i j * cw 2 j + cb j

/-- The gated result. -/
def G (u : ℕ → ℕ → ℝ) (i j : ℕ) : ℝ := C cw cb u i j * sg (C cw cb u i j) * u i (5632 + j)

/-- The last product. -/
def Y (g : ℕ → ℕ → ℝ) (i n : ℕ) : ℝ := ∑ j : Fin 5632, g i j * wd j n

/-- The gated result's gradient. -/
def DG (i j : ℕ) : ℝ := ∑ n : Fin 2048, dy i n * wd j n

/-- The value half's gradient. -/
def DV (u g : ℕ → ℕ → ℝ) (i j : ℕ) : ℝ := C cw cb u i j * sg (C cw cb u i j) * g i j

/-- The convolution's gradient. -/
def DC (u g : ℕ → ℕ → ℝ) (i j : ℕ) : ℝ :=
  g i j * u i (5632 + j) * sg (C cw cb u i j)
    + C cw cb u i j * (g i j * u i (5632 + j)) * (sg (C cw cb u i j) * (1 - sg (C cw cb u i j)))

/-- The gate half's gradient, of the convolution's. -/
def DA (d : ℕ → ℕ → ℝ) (i j : ℕ) : ℝ := up d i j * cw 2 j + d i j * cw 1 j + dn d i j * cw 0 j

/-- The taps' gradients, over `n` rows. -/
def DW (n : ℕ) (u d : ℕ → ℕ → ℝ) (r j : ℕ) : ℝ :=
  if r = 0 then ∑ i : Fin n, up u i j * d i j else if r = 1 then ∑ i : Fin n, u i j * d i j
    else ∑ i : Fin n, dn u i j * d i j

/-- The bias's gradient, over `n` rows. -/
def DB (n : ℕ) (d : ℕ → ℕ → ℝ) (j : ℕ) : ℝ := ∑ i : Fin n, d i j

/-- A product's gradient by its left factor. -/
def DH (w : ℕ → ℕ → ℝ) (d : ℕ → ℕ → ℝ) (i k : ℕ) : ℝ := ∑ c : Fin 5632, d i c * w k c

/-- A product's gradient by its right factor, over `n` rows. -/
def DM (n : ℕ) (x d : ℕ → ℕ → ℝ) (k j : ℕ) : ℝ := ∑ i : Fin n, x i k * d i j

/-- The two halves' gradients side by side. -/
def beside (a v : ℕ → ℕ → ℝ) (i j : ℕ) : ℝ := if j < 5632 then a i j else v i (j - 5632)

theorem beside_add (a v : ℕ → ℕ → ℝ) (i j : ℕ) : beside a v i (5632 + j) = v i j := by
  unfold beside; rw [if_neg (by omega), Nat.add_sub_cancel_left]

/-- The derivative as the kernel spells it, by the hyperbolic tangent. -/
theorem DC_tanh (x p : ℝ) :
    p * (1 / 2 + 1 / 2 * Real.tanh (1 / 2 * x))
        + 1 / 2 * (1 / 2 * (x * p) * ((1 + Real.tanh (1 / 2 * x)) * (1 - Real.tanh (1 / 2 * x))))
      = p * sg x + x * p * (sg x * (1 - sg x)) := by
  rw [← sg_tanh x]; ring

/-- A sum over the rows, one sequence after the other. -/
theorem sum_rows (f : ℕ → ℝ) : ∑ i : Fin 2304, f i = (∑ i : Fin 256, f (2048 + i)) + ∑ i : Fin 2048, f i := by
  rw [add_comm]; exact Fin.sum_univ_add (a := 2048) (b := 256) fun i => f i

/-- A sum over both halves' columns. -/
theorem sum_cols (f : ℕ → ℝ) : ∑ j : Fin 11264, f j = (∑ j : Fin 5632, f j) + ∑ j : Fin 5632, f (5632 + j) :=
  Fin.sum_univ_add (a := 5632) (b := 5632) fun j => f j

/-- A sum over a half's columns, a quarter at a time. -/
theorem sum_quarters (f : ℕ → ℝ) : ∑ j : Fin 5632, f j = (∑ j : Fin 1408, f j) + (∑ j : Fin 1408, f (j + 1408))
    + (∑ j : Fin 1408, f (j + 2816)) + ∑ j : Fin 1408, f (j + 4224) := by
  rw [show ∑ j : Fin 5632, f j = _ from Fin.sum_univ_add (a := 4224) (b := 1408) fun j => f j,
    show ∑ j : Fin 4224, f (Fin.castAdd 1408 j) = _ from Fin.sum_univ_add (a := 2816) (b := 1408) fun j => f j,
    show ∑ j : Fin 2816, f (Fin.castAdd 1408 j) = _ from Fin.sum_univ_add (a := 1408) (b := 1408) fun j => f j]
  simp only [Fin.val_natAdd, Fin.val_castAdd, Nat.add_comm]

end Cert.Proof.Glu
-- ==== Proof.GluBlock.lean ====
module

public import proofs.«01_k».proof.Proof.Gen.Kernel2Ideal.Skeleton
public import proofs.«01_k».proof.Proof.GluMath
public import Idealize.ShloMosaic.Lib.Pointwise

@[expose] public section

/-!
# The blocks the ten kernels compute

Blocks of real numbers go to blocks of real numbers: each kernel's stored value, of input blocks that hold the numbers
of GluMath.lean.
-/

set_option maxRecDepth 16384

noncomputable section
namespace Cert.Proof.Glu
open Idealize.ShloMosaic Cert.Kernel2Ideal Cert.Kernel2Ideal.Gen

/-- The block at row `a` and column `b` of an array holding `f`. -/
def blk {n m : ℕ} (f : ℕ → ℕ → ℝ) (a b : ℕ) : (⟨2, ![n, m]⟩ : Shape).Idx → EReal :=
  fun y => ((f ((y 0).val + a) ((y 1).val + b) : ℝ) : EReal)

/-- The same with a leading axis of one. -/
def lead {n m : ℕ} (f : ℕ → ℕ → ℝ) (a b : ℕ) : (⟨3, ![1, n, m]⟩ : Shape).Idx → EReal :=
  fun y => ((f ((y 1).val + a) ((y 2).val + b) : ℝ) : EReal)

theorem blk_apply {n m : ℕ} (f : ℕ → ℕ → ℝ) (a b : ℕ) (i : Fin n) (j : Fin m) :
    blk f a b (ix2 i j) = ((f (i.val + a) (j.val + b) : ℝ) : EReal) := rfl

theorem lead_apply {n m : ℕ} (f : ℕ → ℕ → ℝ) (a b : ℕ) (x : Fin 1) (i : Fin n) (j : Fin m) :
    lead f a b (ix3 x i j) = ((f (i.val + a) (j.val + b) : ℝ) : EReal) := rfl

variable (h wu cw : ℕ → ℕ → ℝ) (cb : ℕ → ℝ) (wd dy u g d : ℕ → ℕ → ℝ) (a b : ℕ)

theorem up_proj_eq : k0_pay1 (F := Ideal) (blk h a 0) (lead wu 0 b) = blk (U h wu) a b := by
  funext y; idx_vars y
  pointwise [k0_pay1]
  simp only [blk_apply, lead_apply, ← EReal.coe_mul, ← Row.coe_sum]
  rfl

theorem down_dx_eq : k2_pay1 (F := Ideal) (blk dy a 0) (lead wd b 0) = blk (DG wd dy) a b := by
  funext y; idx_vars y
  pointwise [k2_pay1]
  simp only [blk_apply, lead_apply, ← EReal.coe_mul, ← Row.coe_sum]
  rfl

theorem down_dw_eq : k3_pay1 (F := Ideal) (blk g 0 a) (blk dy 0 0) = blk (DM 2304 g dy) a 0 := by
  funext y; idx_vars y
  pointwise [k3_pay1]
  simp only [blk_apply, ← EReal.coe_mul, ← Row.coe_sum]
  rfl

theorem bits_prv : ∀ r : Fin 2304, BitVec.setWidth 32 (IntOp.andi (IntOp.cmpi .ne (BitVec.ofNat 32 r.val) 0#32)
    (IntOp.cmpi .ne (BitVec.ofNat 32 r.val) 2048#32)) = if Prv r then 1#32 else 0#32 := by
  decide +kernel

theorem bits_nxt : ∀ r : Fin 2304, BitVec.setWidth 32 (IntOp.andi (IntOp.cmpi .ne (BitVec.ofNat 32 r.val) 2047#32)
    (IntOp.cmpi .ne (BitVec.ofNat 32 r.val) 2303#32)) = if Nxt r then 1#32 else 0#32 := by
  decide +kernel

theorem bit (p : Prop) [Decidable p] :
    FloatOps.sitofp (F := Ideal) .f32 (if p then 1#32 else 0#32) = ((if p then 1 else 0 : ℝ) : EReal) := by
  refine Eq.trans (b := (((if p then 1#32 else 0#32 : BitVec 32).toInt : ℝ) : EReal)) rfl ?_
  split <;> simp

theorem mask6 (r : Fin 2304) : k4_pay6 (F := Ideal) (ix2 r 0) = ((if Prv r then 1 else 0 : ℝ) : EReal) := by
  pointwise [k4_pay6]
  exact (congrArg _ (bits_prv r)).trans (bit _)

theorem mask7 (r : Fin 2304) : k4_pay7 (F := Ideal) (ix2 r 0) = ((if Nxt r then 1 else 0 : ℝ) : EReal) := by
  pointwise [k4_pay7]
  exact (congrArg _ (bits_nxt r)).trans (bit _)

/-- The rows turned down by one, the first of each sequence masked. -/
theorem turn_up (f : ℕ → ℕ → ℝ) {i : ℕ} (hi : i < 2304) (j : ℕ) :
    f ((i + 2304 - 1) % 2304) j * (if Prv i then 1 else 0) = up f i j := by
  unfold up
  split
  · rename_i hp
    rw [mul_one, show (i + 2304 - 1) % 2304 = i - 1 by have := hp.1; omega]
  · rw [mul_zero]

/-- The rows turned up by one, the last of each sequence masked. -/
theorem turn_dn (f : ℕ → ℕ → ℝ) {i : ℕ} (hi : i < 2304) (j : ℕ) :
    f ((i + 2304 - 2303) % 2304) j * (if Nxt i then 1 else 0) = dn f i j := by
  unfold dn
  split
  · rename_i hn
    rw [mul_one, show (i + 2304 - 2303) % 2304 = i + 1 by have := hn.2; omega]
  · rw [mul_zero]

/-- A row follows one that has a row after it exactly when it has a row before it. -/
theorem nxt_turn {i : ℕ} (hi : i < 2304) : Nxt ((i + 2304 - 1) % 2304) ↔ Prv i := by
  unfold Nxt Prv; omega

theorem prv_turn {i : ℕ} (hi : i < 2304) : Prv ((i + 2304 - 2303) % 2304) ↔ Nxt i := by
  unfold Nxt Prv; omega

theorem half : Ideal.ofBits .f32 1056964608#32 = ((1 / 2 : ℝ) : EReal) := by
  simp [Ideal.ofBits, Ideal.ieee, -EReal.coe_mul]; norm_num

theorem pay4_eq : k4_pay4 (F := Ideal) (blk u 0 b) = blk u 0 b := by
  funext y; idx_vars y
  pointwise [k4_pay4]

theorem pay5_eq : k4_pay5 (F := Ideal) (blk u 0 b) = blk u 0 b := by
  funext y; idx_vars y
  pointwise [k4_pay5]

theorem pay8_eq : k4_pay8 (F := Ideal) (blk u 0 b) = blk (up u) 0 b := by
  funext y; idx_vars y
  simp only [k4_pay8, pay4_eq]
  pointwise []
  rw [mask6, blk_apply, blk_apply, ← EReal.coe_mul]
  exact congrArg _ (turn_up u y0.isLt _)

theorem pay11_eq : k4_pay11 (F := Ideal) (blk u 0 b) = blk (dn u) 0 b := by
  funext y; idx_vars y
  simp only [k4_pay11, pay4_eq]
  pointwise []
  rw [mask7, blk_apply, blk_apply, ← EReal.coe_mul]
  exact congrArg _ (turn_dn u y0.isLt _)

theorem pay13_eq : k4_pay13 (F := Ideal) (blk u 0 b) (blk cw 0 b) (blk (fun _ => cb) 0 b) = blk (C cw cb u) 0 b := by
  funext y; idx_vars y
  simp only [k4_pay13, pay4_eq, pay8_eq, pay11_eq]
  pointwise [k4_pay9, k4_pay10, k4_pay12]
  simp only [blk_apply, ← EReal.coe_mul, ← EReal.coe_add]
  rfl

theorem pay14_eq : k4_pay14 (F := Ideal) (blk u 0 b) (blk cw 0 b) (blk (fun _ => cb) 0 b)
    = blk (fun i j => 1 / 2 * C cw cb u i j) 0 b := by
  funext y; idx_vars y
  simp only [k4_pay14, pay13_eq]
  pointwise []
  rw [half]; rfl

/-- The value half of the columns. -/
def val (u : ℕ → ℕ → ℝ) (i j : ℕ) : ℝ := u i (5632 + j)

/-- The gate. -/
def gate (i j : ℕ) : ℝ := sg (C cw cb u i j)

theorem pay16_eq : k4_pay16 (F := Ideal) (blk (fun i j => 1 / 2 * C cw cb u i j) 0 b) = blk (gate cw cb u) 0 b := by
  funext y; idx_vars y
  pointwise [k4_pay16, k4_pay15]
  rw [half, blk_apply, blk_apply, Ideal.tanh_coe, ← EReal.coe_mul, ← EReal.coe_add]
  exact congrArg _ (sg_tanh _)

theorem conv_glu_eq : k1_pay1 (F := Ideal) (k1_pay2 (blk (val u) 0 b)) (k1_pay3 (blk u 0 b) (blk cw 0 b) (blk (fun _ => cb) 0 b))
    (k1_pay4 (blk u 0 b) (blk cw 0 b) (blk (fun _ => cb) 0 b)) = blk (G cw cb u) 0 b := by
  refine Eq.trans (b := mulf (mulf (k4_pay13 (F := Ideal) (blk u 0 b) (blk cw 0 b) (blk (fun _ => cb) 0 b))
    (k4_pay16 (k4_pay14 (blk u 0 b) (blk cw 0 b) (blk (fun _ => cb) 0 b)))) (k4_pay5 (blk (val u) 0 b))) rfl ?_
  rw [pay13_eq, pay14_eq, pay16_eq, pay5_eq]
  rfl

theorem pay18_eq : k4_pay18 (F := Ideal) (blk (C cw cb u) 0 b) (blk (fun i j => 1 / 2 * C cw cb u i j) 0 b) (blk g 0 b)
    = blk (DV cw cb u g) 0 b := by
  funext y; idx_vars y
  simp only [k4_pay18, pay16_eq]
  pointwise [k4_pay17]
  rfl

theorem pay19_eq : k4_pay19 (F := Ideal) (blk (val u) 0 b) (blk (C cw cb u) 0 b) (blk (fun i j => 1 / 2 * C cw cb u i j) 0 b)
    (blk g 0 b) = blk (DC cw cb u g) 0 b := by
  funext y; idx_vars y
  pointwise [k4_pay19, k4_pay17, k4_pay16, k4_pay15]
  rw [half]
  simp only [blk_apply, Ideal.tanh_coe, ← EReal.coe_one, ← EReal.coe_mul, ← EReal.coe_add, ← EReal.coe_sub]
  exact congrArg _ (DC_tanh _ _)

theorem pay20_eq : k4_pay20 (F := Ideal) (blk (val u) 0 b) (blk (C cw cb u) 0 b) (blk (fun i j => 1 / 2 * C cw cb u i j) 0 b)
    (blk g 0 b) = blk (fun _ => DB 2304 (DC cw cb u g)) 0 b := by
  funext y; idx_vars y
  simp only [k4_pay20, pay19_eq]
  pointwise []
  simp only [blk_apply, ← Row.coe_sum]
  rfl

theorem grad_gate_eq : k4_pay2 (F := Ideal) k4_pay6 (k4_pay9 (blk cw 0 b)) (blk (DC cw cb u g) 0 b)
    (k4_pay21 (blk (val u) 0 b) k4_pay7 (k4_pay10 (blk cw 0 b)) (k4_pay12 (blk cw 0 b)) (blk (C cw cb u) 0 b)
      (blk (fun i j => 1 / 2 * C cw cb u i j) 0 b) (blk g 0 b)) = blk (DA cw (DC cw cb u g)) 0 b := by
  funext y; idx_vars y
  simp only [k4_pay2, k4_pay21, pay19_eq]
  generalize DC cw cb u g = d
  pointwise [k4_pay9, k4_pay10, k4_pay12]
  rw [mask6, mask7]
  simp only [blk_apply, ← EReal.coe_mul, ← EReal.coe_add]
  refine congrArg _ ?_
  simp only [nxt_turn y0.isLt, prv_turn y0.isLt]
  simp only [Nat.add_zero]
  rw [mul_right_comm, turn_up d y0.isLt, mul_right_comm _ (cw _ _), turn_dn d y0.isLt]
  rfl

theorem grad_taps_eq : k4_pay1 (F := Ideal) (blk (up u) 0 b) (blk (DC cw cb u g) 0 b)
    (k4_pay22 (blk u 0 b) (blk (val u) 0 b) (blk (dn u) 0 b) (blk (C cw cb u) 0 b)
      (blk (fun i j => 1 / 2 * C cw cb u i j) 0 b) (blk g 0 b)) = blk (DW 2304 u (DC cw cb u g)) 0 b := by
  funext y; idx_vars y
  fin_cases y0 <;> pointwise [k4_pay1, k4_pay22] <;> simp only [pay19_eq, blk_apply, ← EReal.coe_mul, ← Row.coe_sum] <;> rfl

theorem up_dx_gate_eq : k5_pay1 (F := Ideal) (blk d a 0) (lead wu b 0) (blk d a 1408) (lead wu b 1408) (blk d a 2816)
    (lead wu b 2816) (blk d a 4224) (lead wu b 4224) = blk (DH wu d) a b := by
  funext y; idx_vars y
  pointwise [k5_pay1]
  simp only [blk_apply, lead_apply, ← EReal.coe_mul, ← Row.coe_sum, ← EReal.coe_add]
  exact congrArg _ (sum_quarters fun c => d (y0.val + a) c * wu (y1.val + b) c).symm

theorem up_dx_value_eq : k6_pay1 (F := Ideal) (blk d a 0) (lead wu b 0) (blk d a 1408) (lead wu b 1408) (blk d a 2816)
    (lead wu b 2816) (blk d a 4224) (lead wu b 4224) (blk g a b) = blk (fun i k => g i k + DH wu d i k) a b := by
  funext y; idx_vars y
  pointwise [k6_pay1]
  simp only [blk_apply, lead_apply, ← EReal.coe_mul, ← Row.coe_sum, ← EReal.coe_add]
  refine congrArg _ ?_
  rw [add_comm]
  exact congrArg _ (sum_quarters fun c => d (y0.val + a) c * wu (y1.val + b) c).symm

theorem up_dw_gate_eq : k7_pay1 (F := Ideal) (blk h 0 a) (blk d 0 b) = lead (DM 2304 h d) a b := by
  funext y; idx_vars y
  pointwise [k7_pay1]
  simp only [blk_apply, lead_apply, ← EReal.coe_mul, ← Row.coe_sum]
  rfl

theorem up_dw_value_eq : k8_pay1 (F := Ideal) (blk h 0 a) (blk d 0 b) = lead (DM 2304 h d) a b :=
  up_dw_gate_eq h d a b

theorem down_proj_eq : k9_pay1 (F := Ideal) (blk g a 0) (lead wd 0 b) (blk g a 1408) (lead wd 1408 b) (blk g a 2816)
    (lead wd 2816 b) (blk g a 4224) (lead wd 4224 b) = blk (Y wd g) a b := by
  funext y; idx_vars y
  pointwise [k9_pay1]
  simp only [blk_apply, lead_apply, ← EReal.coe_mul, ← Row.coe_sum, ← EReal.coe_add]
  exact congrArg _ (sum_quarters fun c => g (y0.val + a) c * wd c (y1.val + b)).symm

end Cert.Proof.Glu
-- ==== Proof.GluArr.lean ====
module

public import proofs.«01_k».proof.Proof.GluBlock
public import proofs.«01_k».proof.Proof.Gen.Kernel2Ideal.Frame
public import Idealize.ShloMosaic.Lib.Pipeline.Value

@[expose] public section

/-!
# The forward products' arrays

How a block sits in its array, and the arrays the first four kernels leave: the first product, the gated result, the
gated result's gradient and the last product's weights' gradient.
-/

set_option maxRecDepth 16384

noncomputable section
namespace Cert.Proof.Glu
open Idealize.ShloMosaic Idealize.ShloMosaic.TcCoe Idealize.ShloMosaic.Tactic Cert.Kernel2Ideal Cert.Kernel2Ideal.Gen
open Idealize.ShloMosaic.Pipeline (Window)

/-- The first product's weights as four blocks of columns. -/
def wup (f : ℕ → ℕ → ℝ) : Vec Ideal S4x2048x2816 .bf16 :=
  fun y => ((f (y 1).val (2816 * (y 0).val + (y 2).val) : ℝ) : EReal)

/-- The last product's weights as four blocks of rows. -/
def wdn (f : ℕ → ℕ → ℝ) : Vec Ideal S4x1408x2048 .bf16 :=
  fun y => ((f (1408 * (y 0).val + (y 1).val) (y 2).val : ℝ) : EReal)

section
variable (f : ℕ → ℕ → ℝ) {n m N M a b k : ℕ}

/-- The elements of a block, by their places in the block. -/
theorem read_blk (e : (⟨2, ![n, m]⟩ : Shape).Idx → (⟨2, ![N, M]⟩ : Shape).Idx) (h0 : ∀ y, (e y 0).val = a + (y 0).val)
    (h1 : ∀ y, (e y 1).val = b + (y 1).val) :
    (fun y => (blk f 0 0 : (⟨2, ![N, M]⟩ : Shape).Idx → EReal) (e y)) = blk f a b := by
  funext y; unfold blk; rw [h0, h1, add_zero, add_zero, add_comm a, add_comm b]

/-- The same in one of four blocks of columns. -/
theorem read_wup (e : (⟨3, ![1, n, m]⟩ : Shape).Idx → S4x2048x2816.Idx) (h0 : ∀ y, (e y 0).val = k + (y 0).val)
    (h1 : ∀ y, (e y 1).val = a + (y 1).val) (h2 : ∀ y, 2816 * k + (e y 2).val = b + (y 2).val) :
    (fun y => wup f (e y)) = lead f a b := by
  funext y
  have h : (y 0).val < 1 := (y 0).isLt
  have := h0 y; have := h2 y
  unfold wup lead
  rw [h1, show 2816 * (e y 0).val + (e y 2).val = (y 2).val + b by omega, add_comm a]

/-- The same in one of four blocks of rows. -/
theorem read_wdn (e : (⟨3, ![1, n, m]⟩ : Shape).Idx → S4x1408x2048.Idx) (h0 : ∀ y, (e y 0).val = k + (y 0).val)
    (h1 : ∀ y, 1408 * k + (e y 1).val = a + (y 1).val) (h2 : ∀ y, (e y 2).val = b + (y 2).val) :
    (fun y => wdn f (e y)) = lead f a b := by
  funext y
  have h : (y 0).val < 1 := (y 0).isLt
  have := h0 y; have := h1 y
  unfold wdn lead
  rw [h2, show 1408 * (e y 0).val + (e y 1).val = (y 1).val + a by omega, add_comm b]
end

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)
variable {h wu cw : ℕ → ℕ → ℝ} {cb : ℕ → ℝ} {wd dy u g d : ℕ → ℕ → ℝ}

/-! ## The first product -/

theorem idx0_0 : ∀ t : Fin grid0.N, win0_0.index t 0 = t.val / 8 ∧ win0_0.index t 1 = 0 := by decide +kernel
theorem idx0_1 : ∀ t : Fin grid0.N, win0_1.index t 0 = t.val % 8 / 2 ∧ win0_1.index t 1 = 0 ∧ win0_1.index t 2 = t.val % 2 := by
  decide +kernel
theorem idx0_2 : ∀ t : Fin grid0.N, win0_2.index t 0 = t.val / 8 ∧ win0_2.index t 1 = t.val % 8 := by decide +kernel

theorem ib0_0 (e : V c main_arg0 = (blk h 0 0 : Vec Ideal S2304x2048 .bf16)) (t : Fin cfg0.N) :
    iblk0 V c 0 t = (blk h (t.val / 8 * 1152) 0 : Vec Ideal S1152x2048 .bf16) :=
  (congrArg (fun (x : Vec Ideal S2304x2048 .bf16) (y : S1152x2048.Idx) => x ((win0_0.rect t).emb y)) e).trans
    (read_blk h (fun y : S1152x2048.Idx => (win0_0.rect t).emb y)
      (fun y => (Window.rect_emb_val win0_0 t y 0).trans (by rw [(idx0_0 t).1]; rfl))
      (fun y => (Window.rect_emb_val win0_0 t y 1).trans (by rw [(idx0_0 t).2]; rfl)))

theorem ib0_1 (e : V c main_arg1 = wup wu) (t : Fin cfg0.N) :
    iblk0 V c 1 t = (lead wu 0 (t.val % 8 * 1408) : Vec Ideal S1x2048x1408 .bf16) :=
  (congrArg (fun (x : Vec Ideal S4x2048x2816 .bf16) (y : S1x2048x1408.Idx) => x ((win0_1.rect t).emb y)) e).trans
    (read_wup wu (k := t.val % 8 / 2) (fun y : S1x2048x1408.Idx => (win0_1.rect t).emb y)
      (fun y => (Window.rect_emb_val win0_1 t y 0).trans (by rw [(idx0_1 t).1]; exact congrArg (· + _) (Nat.mul_one _)))
      (fun y => (Window.rect_emb_val win0_1 t y 1).trans (by rw [(idx0_1 t).2.1]; rfl))
      (fun y => (congrArg _ (Window.rect_emb_val win0_1 t y 2)).trans (by
        rw [(idx0_1 t).2.2]; show 2816 * _ + (_ * 1408 + (y 2).val) = _; omega)))

theorem rd0_2 (f : ℕ → ℕ → ℝ) (t : Fin cfg0.N) : (blk f (t.val / 8 * 1152) (t.val % 8 * 1408) : Vec Ideal S1152x1408 .bf16)
    = ((cfg0.win 2).blk t).view.read (Elt Ideal) (blk f 0 0 : Vec Ideal S2304x11264 .bf16) :=
  (read_blk f (fun y : S1152x1408.Idx => (win0_2.rect t).emb y)
    (fun y => (Window.rect_emb_val win0_2 t y 0).trans (by rw [(idx0_2 t).1]; rfl))
    (fun y => (Window.rect_emb_val win0_2 t y 1).trans (by rw [(idx0_2 t).2]; rfl))).symm

theorem mem0_2 (t : Fin cfg0.N) (y : S2304x11264.Idx) (h0 : (y 0).val / 1152 = t.val / 8) (h1 : (y 1).val / 1408 = t.val % 8) :
    y ∈ ((cfg0.win 2).blk t).view.set := by
  show y ∈ ((View.whole main_v0).slice (win0_2.rect t)).set
  rw [View.set_slice_whole, Rect.mem_set_unit]
  intro a
  match a with
  | ⟨0, _⟩ => show win0_2.index t 0 * 1152 ≤ (y 0).val ∧ (y 0).val < win0_2.index t 0 * 1152 + 1152
              rw [(idx0_2 t).1]; omega
  | ⟨1, _⟩ => show win0_2.index t 1 * 1408 ≤ (y 1).val ∧ (y 1).val < win0_2.index t 1 * 1408 + 1408
              rw [(idx0_2 t).2]; omega

theorem arr0_2 (e0 : V c main_arg0 = (blk h 0 0 : Vec Ideal S2304x2048 .bf16)) (e1 : V c main_arg1 = wup wu) :
    (dat0 V c).arrAt 2 cfg0.N = (blk (U h wu) 0 0 : Vec Ideal S2304x11264 .bf16) := by
  refine (dat0 V c).arrAt_eq_of_cover 2 (blk (U h wu) 0 0 : Vec Ideal S2304x11264 .bf16) (fun t _ => ?_) fun y => ?_
  · show (cfg0.win 2).cut (grid0.coords t) ((dat0 V c).after 2 t) = _
    rw [after0_2, ib0_0 V c e0, ib0_1 V c e1]
    unfold out0_2
    rw [View.canon_unit_zero (S := S1152x1408) hz2, View.ld_unit_zero (S := S1152x2048) hz2,
      View.ld_unit_zero (S := S1x2048x1408) hz3, up_proj_eq]
    exact rd0_2 (U h wu) t
  · have h0 : (y 0).val < 2304 := (y 0).isLt
    have h1 : (y 1).val < 11264 := (y 1).isLt
    exact ⟨⟨(y 0).val / 1152 * 8 + (y 1).val / 1408, by rw [show cfg0.N = 16 from N_0]; omega⟩, flush0_2 _,
      mem0_2 _ y (by dsimp only; omega) (by dsimp only; omega)⟩

/-! ## The gated result -/

theorem idx1_0 : ∀ t : Fin grid1.N, win1_0.index t 0 = 0 ∧ win1_0.index t 1 = t.val := by decide +kernel
theorem idx1_1 : ∀ t : Fin grid1.N, win1_1.index t 0 = 0 ∧ win1_1.index t 1 = 22 + t.val := by decide +kernel
theorem idx1_2 : ∀ t : Fin grid1.N, win1_2.index t 0 = 0 ∧ win1_2.index t 1 = t.val := by decide +kernel
theorem idx1_3 : ∀ t : Fin grid1.N, win1_3.index t 0 = 0 ∧ win1_3.index t 1 = t.val := by decide +kernel
theorem idx1_4 : ∀ t : Fin grid1.N, win1_4.index t 0 = 0 ∧ win1_4.index t 1 = t.val := by decide +kernel

theorem ib1_0 (e : V c main_v0 = (blk u 0 0 : Vec Ideal S2304x11264 .bf16)) (t : Fin cfg1.N) :
    iblk1 V c 0 t = (blk u 0 (t.val * 256) : Vec Ideal S2304x256 .bf16) :=
  (congrArg (fun (x : Vec Ideal S2304x11264 .bf16) (y : S2304x256.Idx) => x ((win1_0.rect t).emb y)) e).trans
    (read_blk u (fun y : S2304x256.Idx => (win1_0.rect t).emb y)
      (fun y => (Window.rect_emb_val win1_0 t y 0).trans (by rw [(idx1_0 t).1]; rfl))
      (fun y => (Window.rect_emb_val win1_0 t y 1).trans (by rw [(idx1_0 t).2]; rfl)))

/-- The value half's columns come after the gate half's. -/
theorem val_blk {n m b : ℕ} : (blk u 0 (5632 + b) : (⟨2, ![n, m]⟩ : Shape).Idx → EReal) = blk (val u) 0 b :=
  funext fun y => by unfold blk val; rw [Nat.add_left_comm]

theorem ib1_1 (e : V c main_v0 = (blk u 0 0 : Vec Ideal S2304x11264 .bf16)) (t : Fin cfg1.N) :
    iblk1 V c 1 t = (blk (val u) 0 (t.val * 256) : Vec Ideal S2304x256 .bf16) :=
  (congrArg (fun (x : Vec Ideal S2304x11264 .bf16) (y : S2304x256.Idx) => x ((win1_1.rect t).emb y)) e).trans
    ((read_blk u (fun y : S2304x256.Idx => (win1_1.rect t).emb y)
      (fun y => (Window.rect_emb_val win1_1 t y 0).trans (by rw [(idx1_1 t).1]; rfl))
      (fun y => (Window.rect_emb_val win1_1 t y 1).trans (by
        rw [(idx1_1 t).2]; show _ * 256 + (y 1).val = 5632 + t.val * 256 + (y 1).val; omega))).trans val_blk)

theorem ib1_2 (e : V c main_arg2 = (blk cw 0 0 : Vec Ideal S3x5632 .f32)) (t : Fin cfg1.N) :
    iblk1 V c 2 t = (blk cw 0 (t.val * 256) : Vec Ideal S3x256 .f32) :=
  (congrArg (fun (x : Vec Ideal S3x5632 .f32) (y : S3x256.Idx) => x ((win1_2.rect t).emb y)) e).trans
    (read_blk cw (fun y : S3x256.Idx => (win1_2.rect t).emb y)
      (fun y => (Window.rect_emb_val win1_2 t y 0).trans (by rw [(idx1_2 t).1]; rfl))
      (fun y => (Window.rect_emb_val win1_2 t y 1).trans (by rw [(idx1_2 t).2]; rfl)))

theorem ib1_3 (e : V c main_arg3 = (blk (fun _ => cb) 0 0 : Vec Ideal S1x5632 .f32)) (t : Fin cfg1.N) :
    iblk1 V c 3 t = (blk (fun _ => cb) 0 (t.val * 256) : Vec Ideal S1x256 .f32) :=
  (congrArg (fun (x : Vec Ideal S1x5632 .f32) (y : S1x256.Idx) => x ((win1_3.rect t).emb y)) e).trans
    (read_blk (fun _ => cb) (fun y : S1x256.Idx => (win1_3.rect t).emb y)
      (fun y => (Window.rect_emb_val win1_3 t y 0).trans (by rw [(idx1_3 t).1]; rfl))
      (fun y => (Window.rect_emb_val win1_3 t y 1).trans (by rw [(idx1_3 t).2]; rfl)))

theorem rd1_4 (f : ℕ → ℕ → ℝ) (t : Fin cfg1.N) : (blk f 0 (t.val * 256) : Vec Ideal S2304x256 .bf16)
    = ((cfg1.win 4).blk t).view.read (Elt Ideal) (blk f 0 0 : Vec Ideal S2304x5632 .bf16) :=
  (read_blk f (fun y : S2304x256.Idx => (win1_4.rect t).emb y)
    (fun y => (Window.rect_emb_val win1_4 t y 0).trans (by rw [(idx1_4 t).1]; rfl))
    (fun y => (Window.rect_emb_val win1_4 t y 1).trans (by rw [(idx1_4 t).2]; rfl))).symm

theorem mem1_4 (t : Fin cfg1.N) (y : S2304x5632.Idx) (h1 : (y 1).val / 256 = t.val) : y ∈ ((cfg1.win 4).blk t).view.set := by
  show y ∈ ((View.whole main_v1).slice (win1_4.rect t)).set
  rw [View.set_slice_whole, Rect.mem_set_unit]
  intro a
  match a with
  | ⟨0, _⟩ => show win1_4.index t 0 * 2304 ≤ (y 0).val ∧ (y 0).val < win1_4.index t 0 * 2304 + 2304
              have h : (y 0).val < 2304 := (y 0).isLt; rw [(idx1_4 t).1]; omega
  | ⟨1, _⟩ => show win1_4.index t 1 * 256 ≤ (y 1).val ∧ (y 1).val < win1_4.index t 1 * 256 + 256
              rw [(idx1_4 t).2]; omega

theorem arr1_4 (e0 : V c main_v0 = (blk u 0 0 : Vec Ideal S2304x11264 .bf16))
    (e2 : V c main_arg2 = (blk cw 0 0 : Vec Ideal S3x5632 .f32))
    (e3 : V c main_arg3 = (blk (fun _ => cb) 0 0 : Vec Ideal S1x5632 .f32)) :
    (dat1 V c).arrAt 4 cfg1.N = (blk (G cw cb u) 0 0 : Vec Ideal S2304x5632 .bf16) := by
  refine (dat1 V c).arrAt_eq_of_cover 4 (blk (G cw cb u) 0 0 : Vec Ideal S2304x5632 .bf16) (fun t _ => ?_) fun y => ?_
  · show (cfg1.win 4).cut (grid1.coords t) ((dat1 V c).after 4 t) = _
    rw [after1_4, ib1_0 V c e0, ib1_1 V c e0, ib1_2 V c e2, ib1_3 V c e3]
    unfold out1_4
    rw [View.canon_unit_zero (S := S2304x256) hz2]
    simp only [View.ld_unit_zero (S := S2304x256) hz2, View.ld_unit_zero (S := S3x256) hz2, View.ld_unit_zero (S := S1x256) hz2]
    rw [conv_glu_eq]
    exact rd1_4 (G cw cb u) t
  · have h1 : (y 1).val < 5632 := (y 1).isLt
    exact ⟨⟨(y 1).val / 256, by rw [show cfg1.N = 22 from N_1]; omega⟩, flush1_4 _, mem1_4 _ y rfl⟩

/-! ## The gated result's gradient -/

theorem idx2_0 : ∀ t : Fin grid2.N, win2_0.index t 0 = t.val / 4 ∧ win2_0.index t 1 = 0 := by decide +kernel
theorem idx2_1 : ∀ t : Fin grid2.N, win2_1.index t 0 = t.val % 4 ∧ win2_1.index t 1 = 0 ∧ win2_1.index t 2 = 0 := by
  decide +kernel
theorem idx2_2 : ∀ t : Fin grid2.N, win2_2.index t 0 = t.val / 4 ∧ win2_2.index t 1 = t.val % 4 := by decide +kernel

theorem ib2_0 (e : V c main_arg5 = (blk dy 0 0 : Vec Ideal S2304x2048 .bf16)) (t : Fin cfg2.N) :
    iblk2 V c 0 t = (blk dy (t.val / 4 * 768) 0 : Vec Ideal S768x2048 .bf16) :=
  (congrArg (fun (x : Vec Ideal S2304x2048 .bf16) (y : S768x2048.Idx) => x ((win2_0.rect t).emb y)) e).trans
    (read_blk dy (fun y : S768x2048.Idx => (win2_0.rect t).emb y)
      (fun y => (Window.rect_emb_val win2_0 t y 0).trans (by rw [(idx2_0 t).1]; rfl))
      (fun y => (Window.rect_emb_val win2_0 t y 1).trans (by rw [(idx2_0 t).2]; rfl)))

theorem ib2_1 (e : V c main_arg4 = wdn wd) (t : Fin cfg2.N) :
    iblk2 V c 1 t = (lead wd (t.val % 4 * 1408) 0 : Vec Ideal S1x1408x2048 .bf16) :=
  (congrArg (fun (x : Vec Ideal S4x1408x2048 .bf16) (y : S1x1408x2048.Idx) => x ((win2_1.rect t).emb y)) e).trans
    (read_wdn wd (k := t.val % 4) (fun y : S1x1408x2048.Idx => (win2_1.rect t).emb y)
      (fun y => (Window.rect_emb_val win2_1 t y 0).trans (by rw [(idx2_1 t).1]; exact congrArg (· + _) (Nat.mul_one _)))
      (fun y => (congrArg _ (Window.rect_emb_val win2_1 t y 1)).trans (by
        rw [(idx2_1 t).2.1]; show 1408 * _ + (0 * 1408 + (y 1).val) = _; omega))
      (fun y => (Window.rect_emb_val win2_1 t y 2).trans (by rw [(idx2_1 t).2.2]; rfl)))

theorem rd2_2 (f : ℕ → ℕ → ℝ) (t : Fin cfg2.N) : (blk f (t.val / 4 * 768) (t.val % 4 * 1408) : Vec Ideal S768x1408 .f32)
    = ((cfg2.win 2).blk t).view.read (Elt Ideal) (blk f 0 0 : Vec Ideal S2304x5632 .f32) :=
  (read_blk f (fun y : S768x1408.Idx => (win2_2.rect t).emb y)
    (fun y => (Window.rect_emb_val win2_2 t y 0).trans (by rw [(idx2_2 t).1]; rfl))
    (fun y => (Window.rect_emb_val win2_2 t y 1).trans (by rw [(idx2_2 t).2]; rfl))).symm

theorem mem2_2 (t : Fin cfg2.N) (y : S2304x5632.Idx) (h0 : (y 0).val / 768 = t.val / 4) (h1 : (y 1).val / 1408 = t.val % 4) :
    y ∈ ((cfg2.win 2).blk t).view.set := by
  show y ∈ ((View.whole main_v2).slice (win2_2.rect t)).set
  rw [View.set_slice_whole, Rect.mem_set_unit]
  intro a
  match a with
  | ⟨0, _⟩ => show win2_2.index t 0 * 768 ≤ (y 0).val ∧ (y 0).val < win2_2.index t 0 * 768 + 768
              rw [(idx2_2 t).1]; omega
  | ⟨1, _⟩ => show win2_2.index t 1 * 1408 ≤ (y 1).val ∧ (y 1).val < win2_2.index t 1 * 1408 + 1408
              rw [(idx2_2 t).2]; omega

theorem arr2_2 (e0 : V c main_arg5 = (blk dy 0 0 : Vec Ideal S2304x2048 .bf16)) (e1 : V c main_arg4 = wdn wd) :
    (dat2 V c).arrAt 2 cfg2.N = (blk (DG wd dy) 0 0 : Vec Ideal S2304x5632 .f32) := by
  refine (dat2 V c).arrAt_eq_of_cover 2 (blk (DG wd dy) 0 0 : Vec Ideal S2304x5632 .f32) (fun t _ => ?_) fun y => ?_
  · show (cfg2.win 2).cut (grid2.coords t) ((dat2 V c).after 2 t) = _
    rw [after2_2, ib2_0 V c e0, ib2_1 V c e1]
    unfold out2_2
    rw [View.canon_unit_zero (S := S768x1408) hz2, View.ld_unit_zero (S := S768x2048) hz2,
      View.ld_unit_zero (S := S1x1408x2048) hz3, down_dx_eq]
    exact rd2_2 (DG wd dy) t
  · have h0 : (y 0).val < 2304 := (y 0).isLt
    have h1 : (y 1).val < 5632 := (y 1).isLt
    exact ⟨⟨(y 0).val / 768 * 4 + (y 1).val / 1408, by rw [show cfg2.N = 12 from N_2]; omega⟩, flush2_2 _,
      mem2_2 _ y (by dsimp only; omega) (by dsimp only; omega)⟩

/-! ## The last product's weights' gradient -/

theorem idx3_0 : ∀ t : Fin grid3.N, win3_0.index t 0 = 0 ∧ win3_0.index t 1 = t.val := by decide +kernel
theorem idx3_1 : ∀ t : Fin grid3.N, win3_1.index t 0 = 0 ∧ win3_1.index t 1 = 0 := by decide +kernel
theorem idx3_2 : ∀ t : Fin grid3.N, win3_2.index t 0 = t.val ∧ win3_2.index t 1 = 0 := by decide +kernel

theorem ib3_0 (e : V c main_v1 = (blk g 0 0 : Vec Ideal S2304x5632 .bf16)) (t : Fin cfg3.N) :
    iblk3 V c 0 t = (blk g 0 (t.val * 512) : Vec Ideal S2304x512 .bf16) :=
  (congrArg (fun (x : Vec Ideal S2304x5632 .bf16) (y : S2304x512.Idx) => x ((win3_0.rect t).emb y)) e).trans
    (read_blk g (fun y : S2304x512.Idx => (win3_0.rect t).emb y)
      (fun y => (Window.rect_emb_val win3_0 t y 0).trans (by rw [(idx3_0 t).1]; rfl))
      (fun y => (Window.rect_emb_val win3_0 t y 1).trans (by rw [(idx3_0 t).2]; rfl)))

theorem ib3_1 (e : V c main_arg5 = (blk dy 0 0 : Vec Ideal S2304x2048 .bf16)) (t : Fin cfg3.N) :
    iblk3 V c 1 t = (blk dy 0 0 : Vec Ideal S2304x2048 .bf16) :=
  (congrArg (fun (x : Vec Ideal S2304x2048 .bf16) (y : S2304x2048.Idx) => x ((win3_1.rect t).emb y)) e).trans
    (read_blk dy (fun y : S2304x2048.Idx => (win3_1.rect t).emb y)
      (fun y => (Window.rect_emb_val win3_1 t y 0).trans (by rw [(idx3_1 t).1]; rfl))
      (fun y => (Window.rect_emb_val win3_1 t y 1).trans (by rw [(idx3_1 t).2]; rfl)))

theorem rd3_2 (f : ℕ → ℕ → ℝ) (t : Fin cfg3.N) : (blk f (t.val * 512) 0 : Vec Ideal S512x2048 .bf16)
    = ((cfg3.win 2).blk t).view.read (Elt Ideal) (blk f 0 0 : Vec Ideal S5632x2048 .bf16) :=
  (read_blk f (fun y : S512x2048.Idx => (win3_2.rect t).emb y)
    (fun y => (Window.rect_emb_val win3_2 t y 0).trans (by rw [(idx3_2 t).1]; rfl))
    (fun y => (Window.rect_emb_val win3_2 t y 1).trans (by rw [(idx3_2 t).2]; rfl))).symm

theorem mem3_2 (t : Fin cfg3.N) (y : S5632x2048.Idx) (h0 : (y 0).val / 512 = t.val) : y ∈ ((cfg3.win 2).blk t).view.set := by
  show y ∈ ((View.whole main_v3).slice (win3_2.rect t)).set
  rw [View.set_slice_whole, Rect.mem_set_unit]
  intro a
  match a with
  | ⟨0, _⟩ => show win3_2.index t 0 * 512 ≤ (y 0).val ∧ (y 0).val < win3_2.index t 0 * 512 + 512
              rw [(idx3_2 t).1]; omega
  | ⟨1, _⟩ => show win3_2.index t 1 * 2048 ≤ (y 1).val ∧ (y 1).val < win3_2.index t 1 * 2048 + 2048
              have h : (y 1).val < 2048 := (y 1).isLt; rw [(idx3_2 t).2]; omega

theorem arr3_2 (e0 : V c main_v1 = (blk g 0 0 : Vec Ideal S2304x5632 .bf16))
    (e1 : V c main_arg5 = (blk dy 0 0 : Vec Ideal S2304x2048 .bf16)) :
    (dat3 V c).arrAt 2 cfg3.N = (blk (DM 2304 g dy) 0 0 : Vec Ideal S5632x2048 .bf16) := by
  refine (dat3 V c).arrAt_eq_of_cover 2 (blk (DM 2304 g dy) 0 0 : Vec Ideal S5632x2048 .bf16) (fun t _ => ?_) fun y => ?_
  · show (cfg3.win 2).cut (grid3.coords t) ((dat3 V c).after 2 t) = _
    rw [after3_2, ib3_0 V c e0, ib3_1 V c e1]
    unfold out3_2
    rw [View.canon_unit_zero (S := S512x2048) hz2, View.ld_unit_zero (S := S2304x512) hz2,
      View.ld_unit_zero (S := S2304x2048) hz2, down_dw_eq]
    exact rd3_2 (DM 2304 g dy) t
  · have h0 : (y 0).val < 5632 := (y 0).isLt
    exact ⟨⟨(y 0).val / 512, by rw [show cfg3.N = 11 from N_3]; omega⟩, flush3_2 _, mem3_2 _ y rfl⟩

end Cert.Proof.Glu
-- ==== Proof.GluGrad.lean ====
module

public import proofs.«01_k».proof.Proof.GluArr

@[expose] public section

/-!
# The gated convolution's gradients' arrays

The four arrays the convolution's backward kernel leaves: the gradients of the gate half, of the value half, of the taps
and of the bias.
-/

set_option maxRecDepth 16384

noncomputable section
namespace Cert.Proof.Glu
open Idealize.ShloMosaic Idealize.ShloMosaic.TcCoe Idealize.ShloMosaic.Tactic Cert.Kernel2Ideal Cert.Kernel2Ideal.Gen
open Idealize.ShloMosaic.Pipeline (Window)

variable (V : (c : Dev nD) → (b : Ref sig .tc) → Buf (Elt Ideal) ((c : Thread nD τ).loc b)) (c : Dev nD)
variable {u cw g : ℕ → ℕ → ℝ} {cb : ℕ → ℝ}

theorem idx4_0 : ∀ t : Fin grid4.N, win4_0.index t 0 = 0 ∧ win4_0.index t 1 = t.val := by decide +kernel
theorem idx4_1 : ∀ t : Fin grid4.N, win4_1.index t 0 = 0 ∧ win4_1.index t 1 = 22 + t.val := by decide +kernel
theorem idx4_2 : ∀ t : Fin grid4.N, win4_2.index t 0 = 0 ∧ win4_2.index t 1 = t.val := by decide +kernel
theorem idx4_3 : ∀ t : Fin grid4.N, win4_3.index t 0 = 0 ∧ win4_3.index t 1 = t.val := by decide +kernel
theorem idx4_4 : ∀ t : Fin grid4.N, win4_4.index t 0 = 0 ∧ win4_4.index t 1 = t.val := by decide +kernel
theorem idx4_5 : ∀ t : Fin grid4.N, win4_5.index t 0 = 0 ∧ win4_5.index t 1 = t.val := by decide +kernel
theorem idx4_6 : ∀ t : Fin grid4.N, win4_6.index t 0 = 0 ∧ win4_6.index t 1 = t.val := by decide +kernel
theorem idx4_7 : ∀ t : Fin grid4.N, win4_7.index t 0 = 0 ∧ win4_7.index t 1 = t.val := by decide +kernel
theorem idx4_8 : ∀ t : Fin grid4.N, win4_8.index t 0 = 0 ∧ win4_8.index t 1 = t.val := by decide +kernel

theorem ib4_0 (e : V c main_v0 = (blk u 0 0 : Vec Ideal S2304x11264 .bf16)) (t : Fin cfg4.N) :
    iblk4 V c 0 t = (blk u 0 (t.val * 256) : Vec Ideal S2304x256 .bf16) :=
  (congrArg (fun (x : Vec Ideal S2304x11264 .bf16) (y : S2304x256.Idx) => x ((win4_0.rect t).emb y)) e).trans
    (read_blk u (fun y : S2304x256.Idx => (win4_0.rect t).emb y)
      (fun y => (Window.rect_emb_val win4_0 t y 0).trans (by rw [(idx4_0 t).1]; rfl))
      (fun y => (Window.rect_emb_val win4_0 t y 1).trans (by rw [(idx4_0 t).2]; rfl)))

theorem ib4_1 (e : V c main_v0 = (blk u 0 0 : Vec Ideal S2304x11264 .bf16)) (t : Fin cfg4.N) :
    iblk4 V c 1 t = (blk (val u) 0 (t.val * 256) : Vec Ideal S2304x256 .bf16) :=
  (congrArg (fun (x : Vec Ideal S2304x11264 .bf16) (y : S2304x256.Idx) => x ((win4_1.rect t).emb y)) e).trans
    ((read_blk u (fun y : S2304x256.Idx => (win4_1.rect t).emb y)
      (fun y => (Window.rect_emb_val win4_1 t y 0).trans (by rw [(idx4_1 t).1]; rfl))
      (fun y => (Window.rect_emb_val win4_1 t y 1).trans (by
        rw [(idx4_1 t).2]; show _ * 256 + (y 1).val = 5632 + t.val * 256 + (y 1).val; omega))).trans val_blk)

theorem ib4_2 (e : V c main_arg2 = (blk cw 0 0 : Vec Ideal S3x5632 .f32)) (t : Fin cfg4.N) :
    iblk4 V c 2 t = (blk cw 0 (t.val * 256) : Vec Ideal S3x256 .f32) :=
  (congrArg (fun (x : Vec Ideal S3x5632 .f32) (y : S3x256.Idx) => x ((win4_2.rect t).emb y)) e).trans
    (read_blk cw (fun y : S3x256.Idx => (win4_2.rect t).emb y)
      (fun y => (Window.rect_emb_val win4_2 t y 0).trans (by rw [(idx4_2 t).1]; rfl))
      (fun y => (Window.rect_emb_val win4_2 t y 1).trans (by rw [(idx4_2 t).2]; rfl)))

theorem ib4_3 (e : V c main_arg3 = (blk (fun _ => cb) 0 0 : Vec Ideal S1x5632 .f32)) (t : Fin cfg4.N) :
    iblk4 V c 3 t = (blk (fun _ => cb) 0 (t.val * 256) : Vec Ideal S1x256 .f32) :=
  (congrArg (fun (x : Vec Ideal S1x5632 .f32) (y : S1x256.Idx) => x ((win4_3.rect t).emb y)) e).trans
    (read_blk (fun _ => cb) (fun y : S1x256.Idx => (win4_3.rect t).emb y)
      (fun y => (Window.rect_emb_val win4_3 t y 0).trans (by rw [(idx4_3 t).1]; rfl))
      (fun y => (Window.rect_emb_val win4_3 t y 1).trans (by rw [(idx4_3 t).2]; rfl)))

theorem ib4_4 (e : V c main_v2 = (blk g 0 0 : Vec Ideal S2304x5632 .f32)) (t : Fin cfg4.N) :
    iblk4 V c 4 t = (blk g 0 (t.val * 256) : Vec Ideal S2304x256 .f32) :=
  (congrArg (fun (x : Vec Ideal S2304x5632 .f32) (y : S2304x256.Idx) => x ((win4_4.rect t).emb y)) e).trans
    (read_blk g (fun y : S2304x256.Idx => (win4_4.rect t).emb y)
      (fun y => (Window.rect_emb_val win4_4 t y 0).trans (by rw [(idx4_4 t).1]; rfl))
      (fun y => (Window.rect_emb_val win4_4 t y 1).trans (by rw [(idx4_4 t).2]; rfl)))

theorem rd4_5 (f : ℕ → ℕ → ℝ) (t : Fin cfg4.N) : (blk f 0 (t.val * 256) : Vec Ideal S2304x256 .bf16)
    = ((cfg4.win 5).blk t).view.read (Elt Ideal) (blk f 0 0 : Vec Ideal S2304x5632 .bf16) :=
  (read_blk f (fun y : S2304x256.Idx => (win4_5.rect t).emb y)
    (fun y => (Window.rect_emb_val win4_5 t y 0).trans (by rw [(idx4_5 t).1]; rfl))
    (fun y => (Window.rect_emb_val win4_5 t y 1).trans (by rw [(idx4_5 t).2]; rfl))).symm

theorem mem4_5 (t : Fin cfg4.N) (y : S2304x5632.Idx) (h1 : (y 1).val / 256 = t.val) : y ∈ ((cfg4.win 5).blk t).view.set := by
  show y ∈ ((View.whole main_v4_0).slice (win4_5.rect t)).set
  rw [View.set_slice_whole, Rect.mem_set_unit]
  intro a
  match a with
  | ⟨0, _⟩ => show win4_5.index t 0 * 2304 ≤ (y 0).val ∧ (y 0).val < win4_5.index t 0 * 2304 + 2304
              have h : (y 0).val < 2304 := (y 0).isLt; rw [(idx4_5 t).1]; omega
  | ⟨1, _⟩ => show win4_5.index t 1 * 256 ≤ (y 1).val ∧ (y 1).val < win4_5.index t 1 * 256 + 256
              rw [(idx4_5 t).2]; omega

theorem rd4_6 (f : ℕ → ℕ → ℝ) (t : Fin cfg4.N) : (blk f 0 (t.val * 256) : Vec Ideal S2304x256 .bf16)
    = ((cfg4.win 6).blk t).view.read (Elt Ideal) (blk f 0 0 : Vec Ideal S2304x5632 .bf16) :=
  (read_blk f (fun y : S2304x256.Idx => (win4_6.rect t).emb y)
    (fun y => (Window.rect_emb_val win4_6 t y 0).trans (by rw [(idx4_6 t).1]; rfl))
    (fun y => (Window.rect_emb_val win4_6 t y 1).trans (by rw [(idx4_6 t).2]; rfl))).symm

theorem mem4_6 (t : Fin cfg4.N) (y : S2304x5632.Idx) (h1 : (y 1).val / 256 = t.val) : y ∈ ((cfg4.win 6).blk t).view.set := by
  show y ∈ ((View.whole main_v4_1).slice (win4_6.rect t)).set
  rw [View.set_slice_whole, Rect.mem_set_unit]
  intro a
  match a with
  | ⟨0, _⟩ => show win4_6.index t 0 * 2304 ≤ (y 0).val ∧ (y 0).val < win4_6.index t 0 * 2304 + 2304
              have h : (y 0).val < 2304 := (y 0).isLt; rw [(idx4_6 t).1]; omega
  | ⟨1, _⟩ => show win4_6.index t 1 * 256 ≤ (y 1).val ∧ (y 1).val < win4_6.index t 1 * 256 + 256
              rw [(idx4_6 t).2]; omega

theorem rd4_7 (f : ℕ → ℕ → ℝ) (t : Fin cfg4.N) : (blk f 0 (t.val * 256) : Vec Ideal S3x256 .f32)
    = ((cfg4.win 7).blk t).view.read (Elt Ideal) (blk f 0 0 : Vec Ideal S3x5632 .f32) :=
  (read_blk f (fun y : S3x256.Idx => (win4_7.rect t).emb y)
    (fun y => (Window.rect_emb_val win4_7 t y 0).trans (by rw [(idx4_7 t).1]; rfl))
    (fun y => (Window.rect_emb_val win4_7 t y 1).trans (by rw [(idx4_7 t).2]; rfl))).symm

theorem mem4_7 (t : Fin cfg4.N) (y : S3x5632.Idx) (h1 : (y 1).val / 256 = t.val) : y ∈ ((cfg4.win 7).blk t).view.set := by
  show y ∈ ((View.whole main_v4_2).slice (win4_7.rect t)).set
  rw [View.set_slice_whole, Rect.mem_set_unit]
  intro a
  match a with
  | ⟨0, _⟩ => show win4_7.index t 0 * 3 ≤ (y 0).val ∧ (y 0).val < win4_7.index t 0 * 3 + 3
              have h : (y 0).val < 3 := (y 0).isLt; rw [(idx4_7 t).1]; omega
  | ⟨1, _⟩ => show win4_7.index t 1 * 256 ≤ (y 1).val ∧ (y 1).val < win4_7.index t 1 * 256 + 256
              rw [(idx4_7 t).2]; omega

theorem rd4_8 (f : ℕ → ℕ → ℝ) (t : Fin cfg4.N) : (blk f 0 (t.val * 256) : Vec Ideal S1x256 .f32)
    = ((cfg4.win 8).blk t).view.read (Elt Ideal) (blk f 0 0 : Vec Ideal S1x5632 .f32) :=
  (read_blk f (fun y : S1x256.Idx => (win4_8.rect t).emb y)
    (fun y => (Window.rect_emb_val win4_8 t y 0).trans (by rw [(idx4_8 t).1]; rfl))
    (fun y => (Window.rect_emb_val win4_8 t y 1).trans (by rw [(idx4_8 t).2]; rfl))).symm

theorem mem4_8 (t : Fin cfg4.N) (y : S1x5632.Idx) (h1 : (y 1).val / 256 = t.val) : y ∈ ((cfg4.win 8).blk t).view.set := by
  show y ∈ ((View.whole main_v4_3).slice (win4_8.rect t)).set
  rw [View.set_slice_whole, Rect.mem_set_unit]
  intro a
  match a with
  | ⟨0, _⟩ => show win4_8.index t 0 * 1 ≤ (y 0).val ∧ (y 0).val < win4_8.index t 0 * 1 + 1
              have h : (y 0).val < 1 := (y 0).isLt; rw [(idx4_8 t).1]; omega
  | ⟨1, _⟩ => show win4_8.index t 1 * 256 ≤ (y 1).val ∧ (y 1).val < win4_8.index t 1 * 256 + 256
              rw [(idx4_8 t).2]; omega

/-- What the convolution's backward kernel reads: the first product, the taps, the bias, the gated result's gradient. -/
structure In4 (u cw : ℕ → ℕ → ℝ) (cb : ℕ → ℝ) (g : ℕ → ℕ → ℝ) : Prop where
  hu : V c main_v0 = (blk u 0 0 : Vec Ideal S2304x11264 .bf16)
  hcw : V c main_arg2 = (blk cw 0 0 : Vec Ideal S3x5632 .f32)
  hcb : V c main_arg3 = (blk (fun _ => cb) 0 0 : Vec Ideal S1x5632 .f32)
  hg : V c main_v2 = (blk g 0 0 : Vec Ideal S2304x5632 .f32)

section
variable {b : ℕ}

theorem out4_5_eq : out4_5 (F := Ideal) (blk u 0 b) (blk (val u) 0 b) (blk cw 0 b) (blk (fun _ => cb) 0 b) (blk g 0 b)
    = blk (DA cw (DC cw cb u g)) 0 b := by
  unfold_out out4_5
  rw [View.canon_unit_zero (S := S2304x256) hz2]
  simp only [View.ld_unit_zero (S := S2304x256) hz2, View.ld_unit_zero (S := S3x256) hz2, View.ld_unit_zero (S := S1x256) hz2,
    pay5_eq, pay13_eq, pay14_eq, pay19_eq]
  exact grad_gate_eq cw cb u g b

theorem out4_6_eq : out4_6 (F := Ideal) (blk u 0 b) (blk (val u) 0 b) (blk cw 0 b) (blk (fun _ => cb) 0 b) (blk g 0 b)
    = blk (DV cw cb u g) 0 b := by
  unfold_out out4_6
  rw [View.canon_unit_zero (S := S2304x256) hz2]
  simp only [View.ld_unit_zero (S := S2304x256) hz2, View.ld_unit_zero (S := S3x256) hz2, View.ld_unit_zero (S := S1x256) hz2,
    pay13_eq, pay14_eq, pay18_eq]
  rfl

theorem out4_7_eq : out4_7 (F := Ideal) (blk u 0 b) (blk (val u) 0 b) (blk cw 0 b) (blk (fun _ => cb) 0 b) (blk g 0 b)
    = blk (DW 2304 u (DC cw cb u g)) 0 b := by
  unfold_out out4_7
  rw [View.canon_unit_zero (S := S3x256) hz2]
  simp only [View.ld_unit_zero (S := S2304x256) hz2, View.ld_unit_zero (S := S3x256) hz2, View.ld_unit_zero (S := S1x256) hz2,
    pay4_eq, pay5_eq, pay8_eq, pay11_eq, pay13_eq, pay14_eq, pay19_eq]
  exact grad_taps_eq cw cb u g b

theorem out4_8_eq : out4_8 (F := Ideal) (blk u 0 b) (blk (val u) 0 b) (blk cw 0 b) (blk (fun _ => cb) 0 b) (blk g 0 b)
    = blk (fun _ => DB 2304 (DC cw cb u g)) 0 b := by
  unfold_out out4_8
  rw [View.canon_unit_zero (S := S1x256) hz2]
  simp only [View.ld_unit_zero (S := S2304x256) hz2, View.ld_unit_zero (S := S3x256) hz2, View.ld_unit_zero (S := S1x256) hz2,
    pay5_eq, pay13_eq, pay14_eq]
  exact pay20_eq cw cb u g b
end

/-- The gate half's gradient. -/
theorem arr4_5 (H : In4 V c u cw cb g) :
    (dat4 V c).arrAt 5 cfg4.N = (blk (DA cw (DC cw cb u g)) 0 0 : Vec Ideal S2304x5632 .bf16) := by
  refine (dat4 V c).arrAt_eq_of_cover 5 (blk (DA cw (DC cw cb u g)) 0 0 : Vec Ideal S2304x5632 .bf16) (fun t _ => ?_) fun y => ?_
  · show (cfg4.win 5).cut (grid4.coords t) ((dat4 V c).after 5 t) = _
    rw [after4_5, ib4_0 V c H.hu, ib4_1 V c H.hu, ib4_2 V c H.hcw, ib4_3 V c H.hcb, ib4_4 V c H.hg, out4_5_eq]
    exact rd4_5 (DA cw (DC cw cb u g)) t
  · have h1 : (y 1).val < 5632 := (y 1).isLt
    exact ⟨⟨(y 1).val / 256, by rw [show cfg4.N = 22 from N_4]; omega⟩, flush4_5 _, mem4_5 _ y rfl⟩

/-- The value half's gradient. -/
theorem arr4_6 (H : In4 V c u cw cb g) :
    (dat4 V c).arrAt 6 cfg4.N = (blk (DV cw cb u g) 0 0 : Vec Ideal S2304x5632 .bf16) := by
  refine (dat4 V c).arrAt_eq_of_cover 6 (blk (DV cw cb u g) 0 0 : Vec Ideal S2304x5632 .bf16) (fun t _ => ?_) fun y => ?_
  · show (cfg4.win 6).cut (grid4.coords t) ((dat4 V c).after 6 t) = _
    rw [after4_6, ib4_0 V c H.hu, ib4_1 V c H.hu, ib4_2 V c H.hcw, ib4_3 V c H.hcb, ib4_4 V c H.hg, out4_6_eq]
    exact rd4_6 (DV cw cb u g) t
  · have h1 : (y 1).val < 5632 := (y 1).isLt
    exact ⟨⟨(y 1).val / 256, by rw [show cfg4.N = 22 from N_4]; omega⟩, flush4_6 _, mem4_6 _ y rfl⟩

/-- The taps' gradient. -/
theorem arr4_7 (H : In4 V c u cw cb g) :
    (dat4 V c).arrAt 7 cfg4.N = (blk (DW 2304 u (DC cw cb u g)) 0 0 : Vec Ideal S3x5632 .f32) := by
  refine (dat4 V c).arrAt_eq_of_cover 7 (blk (DW 2304 u (DC cw cb u g)) 0 0 : Vec Ideal S3x5632 .f32) (fun t _ => ?_) fun y => ?_
  · show (cfg4.win 7).cut (grid4.coords t) ((dat4 V c).after 7 t) = _
    rw [after4_7, ib4_0 V c H.hu, ib4_1 V c H.hu, ib4_2 V c H.hcw, ib4_3 V c H.hcb, ib4_4 V c H.hg, out4_7_eq]
    exact rd4_7 (DW 2304 u (DC cw cb u g)) t
  · have h1 : (y 1).val < 5632 := (y 1).isLt
    exact ⟨⟨(y 1).val / 256, by rw [show cfg4.N = 22 from N_4]; omega⟩, flush4_7 _, mem4_7 _ y rfl⟩

/-- The bias's gradient. -/
theorem arr4_8 (H : In4 V c u cw cb g) :
    (dat4 V c).arrAt 8 cfg4.N = (blk (fun _ => DB 2304 (DC cw cb u g)) 0 0 : Vec Ideal S1x5632 .f32) := by
  refine (dat4 V c).arrAt_eq_of_cover 8 (blk (fun _ => DB 2304 (DC cw cb u g)) 0 0 : Vec Ideal S1x5632 .f32) (fun t _ => ?_) fun y => ?_
  · show (cfg4.win 8).cut (grid4.coords t) ((dat4 V c).after 8 t) = _
    rw [after4_8, ib4_0 V c H.hu, ib4_1 V c H.hu, ib4_2 V c H.hcw, ib4_3 V c H.hcb, ib4_4 V c H.hg, out4_8_eq]
    exact rd4_8 (fun _ => DB 2304 (DC cw cb u g)) t
  · have h1 : (y 1).val < 5632 := (y 1).isLt
    exact ⟨⟨(y 1).val / 256, by rw [show cfg4.N = 22 from N_4]; omega⟩, flush4_8 _, mem4_8 _ y rfl⟩

end Cert.Proof.Glu
-- ==== Proof.GluUp.lean ====
module

public import proofs.«01_k».proof.Proof.GluGrad

@[expose] public section

/-!
# The first product's gradients' arrays

The rows' gradient, summed over the gate half and then over the value half, and the weights' gradient, its gate half
written by one kernel and its value half by the next into the same array.
-/

set_option maxRecDepth 16384

noncomputable section
namespace Cert.Proof.Glu
open Idealize.ShloMosaic Idealize.ShloMosaic.TcCoe Idealize.ShloMosaic.Tactic Cert.Kernel2Ideal Cert.Kernel2Ideal.Gen
open Idealize.ShloMosaic.Pipeline (Window)

variable (V : (c : Dev nD) → (b : Ref sig .tc) → Buf (Elt Ideal) ((c : Thread nD τ).loc b)) (c : Dev nD)
variable {h wu d da dv g : ℕ → ℕ → ℝ}

/-- The value half's columns of the weights. -/
theorem val_lead {n m a b : ℕ} : (lead wu a (5632 + b) : (⟨3, ![1, n, m]⟩ : Shape).Idx → EReal) = lead (val wu) a b :=
  funext fun y => by unfold lead val; rw [Nat.add_left_comm]

theorem ld_blk {a n : ℕ} (i : ∀ a, (![0, n] : Fin 2 → ℕ) a + S768x1408.size a ≤ S768x5632.size a) :
    View.ld (Val := Elt Ideal) (e' := .bf16) (blk d a 0) (Rect.unit (s := S768x5632) ![0, n] S768x1408.size i)
      = (blk d a n : (⟨2, ![768, 1408]⟩ : Shape).Idx → EReal) := by
  funext y
  show ((d (0 + 1 * (y 0).val + a) (n + 1 * (y 1).val + 0) : ℝ) : EReal) = ((d ((y 0).val + a) ((y 1).val + n) : ℝ) : EReal)
  rw [Nat.zero_add, Nat.one_mul, Nat.one_mul, Nat.add_zero, Nat.add_comm n]

/-! ## The rows' gradient, gate half -/

theorem idx5_0 : ∀ t : Fin grid5.N, win5_0.index t 0 = t.val / 4 ∧ win5_0.index t 1 = 0 := by decide +kernel
theorem idx5_1 : ∀ t : Fin grid5.N, win5_1.index t 0 = 0 ∧ win5_1.index t 1 = t.val % 4 ∧ win5_1.index t 2 = 0 := by
  decide +kernel
theorem idx5_2 : ∀ t : Fin grid5.N, win5_2.index t 0 = 0 ∧ win5_2.index t 1 = t.val % 4 ∧ win5_2.index t 2 = 1 := by
  decide +kernel
theorem idx5_3 : ∀ t : Fin grid5.N, win5_3.index t 0 = 1 ∧ win5_3.index t 1 = t.val % 4 ∧ win5_3.index t 2 = 0 := by
  decide +kernel
theorem idx5_4 : ∀ t : Fin grid5.N, win5_4.index t 0 = 1 ∧ win5_4.index t 1 = t.val % 4 ∧ win5_4.index t 2 = 1 := by
  decide +kernel
theorem idx5_5 : ∀ t : Fin grid5.N, win5_5.index t 0 = t.val / 4 ∧ win5_5.index t 1 = t.val % 4 := by decide +kernel

theorem ib5_0 (e : V c main_v4_0 = (blk d 0 0 : Vec Ideal S2304x5632 .bf16)) (t : Fin cfg5.N) :
    iblk5 V c 0 t = (blk d (t.val / 4 * 768) 0 : Vec Ideal S768x5632 .bf16) :=
  (congrArg (fun (x : Vec Ideal S2304x5632 .bf16) (y : S768x5632.Idx) => x ((win5_0.rect t).emb y)) e).trans
    (read_blk d (fun y : S768x5632.Idx => (win5_0.rect t).emb y)
      (fun y => (Window.rect_emb_val win5_0 t y 0).trans (by rw [(idx5_0 t).1]; rfl))
      (fun y => (Window.rect_emb_val win5_0 t y 1).trans (by rw [(idx5_0 t).2]; rfl)))

theorem ib5_1 (e : V c main_arg1 = wup wu) (t : Fin cfg5.N) :
    iblk5 V c 1 t = (lead wu (t.val % 4 * 512) 0 : Vec Ideal S1x512x1408 .bf16) :=
  (congrArg (fun (x : Vec Ideal S4x2048x2816 .bf16) (y : S1x512x1408.Idx) => x ((win5_1.rect t).emb y)) e).trans
    (read_wup wu (k := 0) (b := 0) (fun y : S1x512x1408.Idx => (win5_1.rect t).emb y)
      (fun y => (Window.rect_emb_val win5_1 t y 0).trans (by rw [(idx5_1 t).1]; rfl))
      (fun y => (Window.rect_emb_val win5_1 t y 1).trans (by rw [(idx5_1 t).2.1]; rfl))
      (fun y => (congrArg _ (Window.rect_emb_val win5_1 t y 2)).trans (by
        rw [(idx5_1 t).2.2]; show 2816 * _ + (_ * 1408 + (y 2).val) = _; omega)))

theorem ib5_2 (e : V c main_arg1 = wup wu) (t : Fin cfg5.N) :
    iblk5 V c 2 t = (lead wu (t.val % 4 * 512) 1408 : Vec Ideal S1x512x1408 .bf16) :=
  (congrArg (fun (x : Vec Ideal S4x2048x2816 .bf16) (y : S1x512x1408.Idx) => x ((win5_2.rect t).emb y)) e).trans
    (read_wup wu (k := 0) (b := 1408) (fun y : S1x512x1408.Idx => (win5_2.rect t).emb y)
      (fun y => (Window.rect_emb_val win5_2 t y 0).trans (by rw [(idx5_2 t).1]; rfl))
      (fun y => (Window.rect_emb_val win5_2 t y 1).trans (by rw [(idx5_2 t).2.1]; rfl))
      (fun y => (congrArg _ (Window.rect_emb_val win5_2 t y 2)).trans (by
        rw [(idx5_2 t).2.2]; show 2816 * _ + (_ * 1408 + (y 2).val) = _; omega)))

theorem ib5_3 (e : V c main_arg1 = wup wu) (t : Fin cfg5.N) :
    iblk5 V c 3 t = (lead wu (t.val % 4 * 512) 2816 : Vec Ideal S1x512x1408 .bf16) :=
  (congrArg (fun (x : Vec Ideal S4x2048x2816 .bf16) (y : S1x512x1408.Idx) => x ((win5_3.rect t).emb y)) e).trans
    (read_wup wu (k := 1) (b := 2816) (fun y : S1x512x1408.Idx => (win5_3.rect t).emb y)
      (fun y => (Window.rect_emb_val win5_3 t y 0).trans (by rw [(idx5_3 t).1]; rfl))
      (fun y => (Window.rect_emb_val win5_3 t y 1).trans (by rw [(idx5_3 t).2.1]; rfl))
      (fun y => (congrArg _ (Window.rect_emb_val win5_3 t y 2)).trans (by
        rw [(idx5_3 t).2.2]; show 2816 * _ + (_ * 1408 + (y 2).val) = _; omega)))

theorem ib5_4 (e : V c main_arg1 = wup wu) (t : Fin cfg5.N) :
    iblk5 V c 4 t = (lead wu (t.val % 4 * 512) 4224 : Vec Ideal S1x512x1408 .bf16) :=
  (congrArg (fun (x : Vec Ideal S4x2048x2816 .bf16) (y : S1x512x1408.Idx) => x ((win5_4.rect t).emb y)) e).trans
    (read_wup wu (k := 1) (b := 4224) (fun y : S1x512x1408.Idx => (win5_4.rect t).emb y)
      (fun y => (Window.rect_emb_val win5_4 t y 0).trans (by rw [(idx5_4 t).1]; rfl))
      (fun y => (Window.rect_emb_val win5_4 t y 1).trans (by rw [(idx5_4 t).2.1]; rfl))
      (fun y => (congrArg _ (Window.rect_emb_val win5_4 t y 2)).trans (by
        rw [(idx5_4 t).2.2]; show 2816 * _ + (_ * 1408 + (y 2).val) = _; omega)))

theorem rd5_5 (f : ℕ → ℕ → ℝ) (t : Fin cfg5.N) : (blk f (t.val / 4 * 768) (t.val % 4 * 512) : Vec Ideal S768x512 .f32)
    = ((cfg5.win 5).blk t).view.read (Elt Ideal) (blk f 0 0 : Vec Ideal S2304x2048 .f32) :=
  (read_blk f (fun y : S768x512.Idx => (win5_5.rect t).emb y)
    (fun y => (Window.rect_emb_val win5_5 t y 0).trans (by rw [(idx5_5 t).1]; rfl))
    (fun y => (Window.rect_emb_val win5_5 t y 1).trans (by rw [(idx5_5 t).2]; rfl))).symm

theorem mem5_5 (t : Fin cfg5.N) (y : S2304x2048.Idx) (h0 : (y 0).val / 768 = t.val / 4) (h1 : (y 1).val / 512 = t.val % 4) :
    y ∈ ((cfg5.win 5).blk t).view.set := by
  show y ∈ ((View.whole main_v5).slice (win5_5.rect t)).set
  rw [View.set_slice_whole, Rect.mem_set_unit]
  intro a
  match a with
  | ⟨0, _⟩ => show win5_5.index t 0 * 768 ≤ (y 0).val ∧ (y 0).val < win5_5.index t 0 * 768 + 768
              rw [(idx5_5 t).1]; omega
  | ⟨1, _⟩ => show win5_5.index t 1 * 512 ≤ (y 1).val ∧ (y 1).val < win5_5.index t 1 * 512 + 512
              rw [(idx5_5 t).2]; omega

theorem arr5_5 (e0 : V c main_v4_0 = (blk d 0 0 : Vec Ideal S2304x5632 .bf16)) (e1 : V c main_arg1 = wup wu) :
    (dat5 V c).arrAt 5 cfg5.N = (blk (DH wu d) 0 0 : Vec Ideal S2304x2048 .f32) := by
  refine (dat5 V c).arrAt_eq_of_cover 5 (blk (DH wu d) 0 0 : Vec Ideal S2304x2048 .f32) (fun t _ => ?_) fun y => ?_
  · show (cfg5.win 5).cut (grid5.coords t) ((dat5 V c).after 5 t) = _
    rw [after5_5, ib5_0 V c e0, ib5_1 V c e1, ib5_2 V c e1, ib5_3 V c e1, ib5_4 V c e1]
    unfold out5_5
    rw [View.canon_unit_zero (S := S768x512) hz2]
    simp only [View.ld_unit_zero (S := S1x512x1408) hz3, View.ld_unit_zero (S := S768x512) hz2, ld_blk, up_dx_gate_eq]
    exact rd5_5 (DH wu d) t
  · have h0 : (y 0).val < 2304 := (y 0).isLt
    have h1 : (y 1).val < 2048 := (y 1).isLt
    exact ⟨⟨(y 0).val / 768 * 4 + (y 1).val / 512, by rw [show cfg5.N = 12 from N_5]; omega⟩, flush5_5 _,
      mem5_5 _ y (by dsimp only; omega) (by dsimp only; omega)⟩

/-! ## The rows' gradient, value half -/

theorem idx6_0 : ∀ t : Fin grid6.N, win6_0.index t 0 = t.val / 4 ∧ win6_0.index t 1 = 0 := by decide +kernel
theorem idx6_1 : ∀ t : Fin grid6.N, win6_1.index t 0 = 2 ∧ win6_1.index t 1 = t.val % 4 ∧ win6_1.index t 2 = 0 := by
  decide +kernel
theorem idx6_2 : ∀ t : Fin grid6.N, win6_2.index t 0 = 2 ∧ win6_2.index t 1 = t.val % 4 ∧ win6_2.index t 2 = 1 := by
  decide +kernel
theorem idx6_3 : ∀ t : Fin grid6.N, win6_3.index t 0 = 3 ∧ win6_3.index t 1 = t.val % 4 ∧ win6_3.index t 2 = 0 := by
  decide +kernel
theorem idx6_4 : ∀ t : Fin grid6.N, win6_4.index t 0 = 3 ∧ win6_4.index t 1 = t.val % 4 ∧ win6_4.index t 2 = 1 := by
  decide +kernel
theorem idx6_5 : ∀ t : Fin grid6.N, win6_5.index t 0 = t.val / 4 ∧ win6_5.index t 1 = t.val % 4 := by decide +kernel
theorem idx6_6 : ∀ t : Fin grid6.N, win6_6.index t 0 = t.val / 4 ∧ win6_6.index t 1 = t.val % 4 := by decide +kernel

theorem ib6_0 (e : V c main_v4_1 = (blk d 0 0 : Vec Ideal S2304x5632 .bf16)) (t : Fin cfg6.N) :
    iblk6 V c 0 t = (blk d (t.val / 4 * 768) 0 : Vec Ideal S768x5632 .bf16) :=
  (congrArg (fun (x : Vec Ideal S2304x5632 .bf16) (y : S768x5632.Idx) => x ((win6_0.rect t).emb y)) e).trans
    (read_blk d (fun y : S768x5632.Idx => (win6_0.rect t).emb y)
      (fun y => (Window.rect_emb_val win6_0 t y 0).trans (by rw [(idx6_0 t).1]; rfl))
      (fun y => (Window.rect_emb_val win6_0 t y 1).trans (by rw [(idx6_0 t).2]; rfl)))

theorem ib6_1 (e : V c main_arg1 = wup wu) (t : Fin cfg6.N) :
    iblk6 V c 1 t = (lead (val wu) (t.val % 4 * 512) 0 : Vec Ideal S1x512x1408 .bf16) :=
  (congrArg (fun (x : Vec Ideal S4x2048x2816 .bf16) (y : S1x512x1408.Idx) => x ((win6_1.rect t).emb y)) e).trans
    ((read_wup wu (k := 2) (b := (5632 + 0)) (fun y : S1x512x1408.Idx => (win6_1.rect t).emb y)
      (fun y => (Window.rect_emb_val win6_1 t y 0).trans (by rw [(idx6_1 t).1]; rfl))
      (fun y => (Window.rect_emb_val win6_1 t y 1).trans (by rw [(idx6_1 t).2.1]; rfl))
      (fun y => (congrArg _ (Window.rect_emb_val win6_1 t y 2)).trans (by
        rw [(idx6_1 t).2.2]; show 2816 * _ + (_ * 1408 + (y 2).val) = _; omega))).trans val_lead)

theorem ib6_2 (e : V c main_arg1 = wup wu) (t : Fin cfg6.N) :
    iblk6 V c 2 t = (lead (val wu) (t.val % 4 * 512) 1408 : Vec Ideal S1x512x1408 .bf16) :=
  (congrArg (fun (x : Vec Ideal S4x2048x2816 .bf16) (y : S1x512x1408.Idx) => x ((win6_2.rect t).emb y)) e).trans
    ((read_wup wu (k := 2) (b := (5632 + 1408)) (fun y : S1x512x1408.Idx => (win6_2.rect t).emb y)
      (fun y => (Window.rect_emb_val win6_2 t y 0).trans (by rw [(idx6_2 t).1]; rfl))
      (fun y => (Window.rect_emb_val win6_2 t y 1).trans (by rw [(idx6_2 t).2.1]; rfl))
      (fun y => (congrArg _ (Window.rect_emb_val win6_2 t y 2)).trans (by
        rw [(idx6_2 t).2.2]; show 2816 * _ + (_ * 1408 + (y 2).val) = _; omega))).trans val_lead)

theorem ib6_3 (e : V c main_arg1 = wup wu) (t : Fin cfg6.N) :
    iblk6 V c 3 t = (lead (val wu) (t.val % 4 * 512) 2816 : Vec Ideal S1x512x1408 .bf16) :=
  (congrArg (fun (x : Vec Ideal S4x2048x2816 .bf16) (y : S1x512x1408.Idx) => x ((win6_3.rect t).emb y)) e).trans
    ((read_wup wu (k := 3) (b := (5632 + 2816)) (fun y : S1x512x1408.Idx => (win6_3.rect t).emb y)
      (fun y => (Window.rect_emb_val win6_3 t y 0).trans (by rw [(idx6_3 t).1]; rfl))
      (fun y => (Window.rect_emb_val win6_3 t y 1).trans (by rw [(idx6_3 t).2.1]; rfl))
      (fun y => (congrArg _ (Window.rect_emb_val win6_3 t y 2)).trans (by
        rw [(idx6_3 t).2.2]; show 2816 * _ + (_ * 1408 + (y 2).val) = _; omega))).trans val_lead)

theorem ib6_4 (e : V c main_arg1 = wup wu) (t : Fin cfg6.N) :
    iblk6 V c 4 t = (lead (val wu) (t.val % 4 * 512) 4224 : Vec Ideal S1x512x1408 .bf16) :=
  (congrArg (fun (x : Vec Ideal S4x2048x2816 .bf16) (y : S1x512x1408.Idx) => x ((win6_4.rect t).emb y)) e).trans
    ((read_wup wu (k := 3) (b := (5632 + 4224)) (fun y : S1x512x1408.Idx => (win6_4.rect t).emb y)
      (fun y => (Window.rect_emb_val win6_4 t y 0).trans (by rw [(idx6_4 t).1]; rfl))
      (fun y => (Window.rect_emb_val win6_4 t y 1).trans (by rw [(idx6_4 t).2.1]; rfl))
      (fun y => (congrArg _ (Window.rect_emb_val win6_4 t y 2)).trans (by
        rw [(idx6_4 t).2.2]; show 2816 * _ + (_ * 1408 + (y 2).val) = _; omega))).trans val_lead)

theorem ib6_5 (e : V c main_v5 = (blk g 0 0 : Vec Ideal S2304x2048 .f32)) (t : Fin cfg6.N) :
    iblk6 V c 5 t = (blk g (t.val / 4 * 768) (t.val % 4 * 512) : Vec Ideal S768x512 .f32) :=
  (congrArg (fun (x : Vec Ideal S2304x2048 .f32) (y : S768x512.Idx) => x ((win6_5.rect t).emb y)) e).trans
    (read_blk g (fun y : S768x512.Idx => (win6_5.rect t).emb y)
      (fun y => (Window.rect_emb_val win6_5 t y 0).trans (by rw [(idx6_5 t).1]; rfl))
      (fun y => (Window.rect_emb_val win6_5 t y 1).trans (by rw [(idx6_5 t).2]; rfl)))

theorem rd6_6 (f : ℕ → ℕ → ℝ) (t : Fin cfg6.N) : (blk f (t.val / 4 * 768) (t.val % 4 * 512) : Vec Ideal S768x512 .f32)
    = ((cfg6.win 6).blk t).view.read (Elt Ideal) (blk f 0 0 : Vec Ideal S2304x2048 .f32) :=
  (read_blk f (fun y : S768x512.Idx => (win6_6.rect t).emb y)
    (fun y => (Window.rect_emb_val win6_6 t y 0).trans (by rw [(idx6_6 t).1]; rfl))
    (fun y => (Window.rect_emb_val win6_6 t y 1).trans (by rw [(idx6_6 t).2]; rfl))).symm

theorem mem6_6 (t : Fin cfg6.N) (y : S2304x2048.Idx) (h0 : (y 0).val / 768 = t.val / 4) (h1 : (y 1).val / 512 = t.val % 4) :
    y ∈ ((cfg6.win 6).blk t).view.set := by
  show y ∈ ((View.whole main_v6).slice (win6_6.rect t)).set
  rw [View.set_slice_whole, Rect.mem_set_unit]
  intro a
  match a with
  | ⟨0, _⟩ => show win6_6.index t 0 * 768 ≤ (y 0).val ∧ (y 0).val < win6_6.index t 0 * 768 + 768
              rw [(idx6_6 t).1]; omega
  | ⟨1, _⟩ => show win6_6.index t 1 * 512 ≤ (y 1).val ∧ (y 1).val < win6_6.index t 1 * 512 + 512
              rw [(idx6_6 t).2]; omega

theorem arr6_6 (e0 : V c main_v4_1 = (blk d 0 0 : Vec Ideal S2304x5632 .bf16)) (e1 : V c main_arg1 = wup wu)
    (e5 : V c main_v5 = (blk g 0 0 : Vec Ideal S2304x2048 .f32)) :
    (dat6 V c).arrAt 6 cfg6.N = (blk (fun i k => g i k + DH (val wu) d i k) 0 0 : Vec Ideal S2304x2048 .f32) := by
  refine (dat6 V c).arrAt_eq_of_cover 6 (blk (fun i k => g i k + DH (val wu) d i k) 0 0 : Vec Ideal S2304x2048 .f32) (fun t _ => ?_) fun y => ?_
  · show (cfg6.win 6).cut (grid6.coords t) ((dat6 V c).after 6 t) = _
    rw [after6_6, ib6_0 V c e0, ib6_1 V c e1, ib6_2 V c e1, ib6_3 V c e1, ib6_4 V c e1, ib6_5 V c e5]
    unfold out6_6
    rw [View.canon_unit_zero (S := S768x512) hz2]
    simp only [View.ld_unit_zero (S := S1x512x1408) hz3, View.ld_unit_zero (S := S768x512) hz2, ld_blk, up_dx_value_eq]
    exact rd6_6 (fun i k => g i k + DH (val wu) d i k) t
  · have h0 : (y 0).val < 2304 := (y 0).isLt
    have h1 : (y 1).val < 2048 := (y 1).isLt
    exact ⟨⟨(y 0).val / 768 * 4 + (y 1).val / 512, by rw [show cfg6.N = 12 from N_6]; omega⟩, flush6_6 _,
      mem6_6 _ y (by dsimp only; omega) (by dsimp only; omega)⟩

/-! ## The weights' gradient -/

/-- The gate half's columns of the weights' gradient. -/
theorem lead_gate {n a b : ℕ} (hb : b + 1408 ≤ 5632) :
    (lead (DM n h da) a b : Vec Ideal S1x1024x1408 .bf16) = lead (DM n h (beside da dv)) a b :=
  funext fun y => by
    have h2 : (y 2).val < 1408 := (y 2).isLt
    unfold lead DM beside
    simp only [if_pos (show (y 2).val + b < 5632 by omega)]

/-- The value half's. -/
theorem lead_value {n a b : ℕ} :
    (lead (DM n h dv) a b : Vec Ideal S1x1024x1408 .bf16) = lead (DM n h (beside da dv)) a (5632 + b) :=
  funext fun y => by
    unfold lead DM beside
    simp only [if_neg (show ¬ (y 2).val + (5632 + b) < 5632 by omega), show (y 2).val + (5632 + b) - 5632 = (y 2).val + b by omega]

theorem idx7_0 : ∀ t : Fin grid7.N, win7_0.index t 0 = 0 ∧ win7_0.index t 1 = t.val / 4 := by decide +kernel
theorem idx7_1 : ∀ t : Fin grid7.N, win7_1.index t 0 = 0 ∧ win7_1.index t 1 = t.val % 4 := by decide +kernel
theorem idx7_2 : ∀ t : Fin grid7.N, win7_2.index t 0 = t.val % 4 / 2 ∧ win7_2.index t 1 = t.val / 4 ∧ win7_2.index t 2 = t.val % 2 := by
  decide +kernel

theorem ib7_0 (e : V c main_arg0 = (blk h 0 0 : Vec Ideal S2304x2048 .bf16)) (t : Fin cfg7.N) :
    iblk7 V c 0 t = (blk h 0 (t.val / 4 * 1024) : Vec Ideal S2304x1024 .bf16) :=
  (congrArg (fun (x : Vec Ideal S2304x2048 .bf16) (y : S2304x1024.Idx) => x ((win7_0.rect t).emb y)) e).trans
    (read_blk h (fun y : S2304x1024.Idx => (win7_0.rect t).emb y)
      (fun y => (Window.rect_emb_val win7_0 t y 0).trans (by rw [(idx7_0 t).1]; rfl))
      (fun y => (Window.rect_emb_val win7_0 t y 1).trans (by rw [(idx7_0 t).2]; rfl)))

theorem ib7_1 (e : V c main_v4_0 = (blk d 0 0 : Vec Ideal S2304x5632 .bf16)) (t : Fin cfg7.N) :
    iblk7 V c 1 t = (blk d 0 (t.val % 4 * 1408) : Vec Ideal S2304x1408 .bf16) :=
  (congrArg (fun (x : Vec Ideal S2304x5632 .bf16) (y : S2304x1408.Idx) => x ((win7_1.rect t).emb y)) e).trans
    (read_blk d (fun y : S2304x1408.Idx => (win7_1.rect t).emb y)
      (fun y => (Window.rect_emb_val win7_1 t y 0).trans (by rw [(idx7_1 t).1]; rfl))
      (fun y => (Window.rect_emb_val win7_1 t y 1).trans (by rw [(idx7_1 t).2]; rfl)))

theorem rd7_2 (f : ℕ → ℕ → ℝ) (t : Fin cfg7.N) : (lead f (t.val / 4 * 1024) (t.val % 4 * 1408) : Vec Ideal S1x1024x1408 .bf16)
    = ((cfg7.win 2).blk t).view.read (Elt Ideal) (wup f) :=
  (read_wup f (k := t.val % 4 / 2) (fun y : S1x1024x1408.Idx => (win7_2.rect t).emb y)
    (fun y => (Window.rect_emb_val win7_2 t y 0).trans (by rw [(idx7_2 t).1]; exact congrArg (· + _) (Nat.mul_one _)))
    (fun y => (Window.rect_emb_val win7_2 t y 1).trans (by rw [(idx7_2 t).2.1]; rfl))
    (fun y => (congrArg _ (Window.rect_emb_val win7_2 t y 2)).trans (by
      rw [(idx7_2 t).2.2]; show 2816 * _ + (_ * 1408 + (y 2).val) = _; omega))).symm

theorem mem7_2 (t : Fin cfg7.N) (y : S4x2048x2816.Idx) : y ∈ ((cfg7.win 2).blk t).view.set ↔
    (y 0).val = t.val % 4 / 2 ∧ (y 1).val / 1024 = t.val / 4 ∧ (y 2).val / 1408 = t.val % 2 := by
  show y ∈ ((View.whole main_v7).slice (win7_2.rect t)).set ↔ _
  rw [View.set_slice_whole, Rect.mem_set_unit]
  have e0 : win7_2.index t 0 * 1 = t.val % 4 / 2 := by rw [(idx7_2 t).1, Nat.mul_one]
  have e1 : win7_2.index t 1 * 1024 = t.val / 4 * 1024 := by rw [(idx7_2 t).2.1]
  have e2 : win7_2.index t 2 * 1408 = t.val % 2 * 1408 := by rw [(idx7_2 t).2.2]
  constructor
  · intro h
    have h0 : win7_2.index t 0 * 1 ≤ (y 0).val ∧ (y 0).val < win7_2.index t 0 * 1 + 1 := h 0
    have h1 : win7_2.index t 1 * 1024 ≤ (y 1).val ∧ (y 1).val < win7_2.index t 1 * 1024 + 1024 := h 1
    have h2 : win7_2.index t 2 * 1408 ≤ (y 2).val ∧ (y 2).val < win7_2.index t 2 * 1408 + 1408 := h 2
    omega
  · rintro ⟨h0, h1, h2⟩ a
    match a with
    | ⟨0, _⟩ => show win7_2.index t 0 * 1 ≤ (y 0).val ∧ (y 0).val < win7_2.index t 0 * 1 + 1
                omega
    | ⟨1, _⟩ => show win7_2.index t 1 * 1024 ≤ (y 1).val ∧ (y 1).val < win7_2.index t 1 * 1024 + 1024
                omega
    | ⟨2, _⟩ => show win7_2.index t 2 * 1408 ≤ (y 2).val ∧ (y 2).val < win7_2.index t 2 * 1408 + 1408
                omega

/-- The kernel of the gate half leaves the first two blocks of columns. -/
theorem arr7_2 (e0 : V c main_arg0 = (blk h 0 0 : Vec Ideal S2304x2048 .bf16))
    (e1 : V c main_v4_0 = (blk da 0 0 : Vec Ideal S2304x5632 .bf16)) (y : S4x2048x2816.Idx) (hy : (y 0).val < 2) :
    (dat7 V c).arrAt 2 cfg7.N y = wup (DM 2304 h (beside da dv)) y := by
  have h1 : (y 1).val < 2048 := (y 1).isLt
  have h2 : (y 2).val < 2816 := (y 2).isLt
  have ht : (y 1).val / 1024 * 4 + (y 0).val * 2 + (y 2).val / 1408 < cfg7.N := by rw [show cfg7.N = 8 from N_7]; omega
  refine (dat7 V c).arrAt_apply_of_mem 2 (wup (DM 2304 h (beside da dv))) (fun t _ => ?_) cfg7.N ⟨_, ht⟩ y ht (flush7_2 _)
    ((mem7_2 _ y).2 (by dsimp only; omega))
  show (cfg7.win 2).cut (grid7.coords t) ((dat7 V c).after 2 t) = _
  rw [after7_2, ib7_0 V c e0, ib7_1 V c e1]
  unfold out7_2
  rw [View.canon_unit_zero (S := S1x1024x1408) hz3, View.ld_unit_zero (S := S2304x1024) hz2,
    View.ld_unit_zero (S := S2304x1408) hz2, up_dw_gate_eq, lead_gate (dv := dv) (by omega)]
  exact rd7_2 _ t

theorem idx8_0 : ∀ t : Fin grid8.N, win8_0.index t 0 = 0 ∧ win8_0.index t 1 = t.val / 4 := by decide +kernel
theorem idx8_1 : ∀ t : Fin grid8.N, win8_1.index t 0 = 0 ∧ win8_1.index t 1 = t.val % 4 := by decide +kernel
theorem idx8_2 : ∀ t : Fin grid8.N, win8_2.index t 0 = 2 + t.val % 4 / 2 ∧ win8_2.index t 1 = t.val / 4 ∧ win8_2.index t 2 = t.val % 2 := by
  decide +kernel

theorem ib8_0 (e : V c main_arg0 = (blk h 0 0 : Vec Ideal S2304x2048 .bf16)) (t : Fin cfg8.N) :
    iblk8 V c 0 t = (blk h 0 (t.val / 4 * 1024) : Vec Ideal S2304x1024 .bf16) :=
  (congrArg (fun (x : Vec Ideal S2304x2048 .bf16) (y : S2304x1024.Idx) => x ((win8_0.rect t).emb y)) e).trans
    (read_blk h (fun y : S2304x1024.Idx => (win8_0.rect t).emb y)
      (fun y => (Window.rect_emb_val win8_0 t y 0).trans (by rw [(idx8_0 t).1]; rfl))
      (fun y => (Window.rect_emb_val win8_0 t y 1).trans (by rw [(idx8_0 t).2]; rfl)))

theorem ib8_1 (e : V c main_v4_1 = (blk d 0 0 : Vec Ideal S2304x5632 .bf16)) (t : Fin cfg8.N) :
    iblk8 V c 1 t = (blk d 0 (t.val % 4 * 1408) : Vec Ideal S2304x1408 .bf16) :=
  (congrArg (fun (x : Vec Ideal S2304x5632 .bf16) (y : S2304x1408.Idx) => x ((win8_1.rect t).emb y)) e).trans
    (read_blk d (fun y : S2304x1408.Idx => (win8_1.rect t).emb y)
      (fun y => (Window.rect_emb_val win8_1 t y 0).trans (by rw [(idx8_1 t).1]; rfl))
      (fun y => (Window.rect_emb_val win8_1 t y 1).trans (by rw [(idx8_1 t).2]; rfl)))

theorem rd8_2 (f : ℕ → ℕ → ℝ) (t : Fin cfg8.N) : (lead f (t.val / 4 * 1024) (5632 + t.val % 4 * 1408) : Vec Ideal S1x1024x1408 .bf16)
    = ((cfg8.win 2).blk t).view.read (Elt Ideal) (wup f) :=
  (read_wup f (k := 2 + t.val % 4 / 2) (fun y : S1x1024x1408.Idx => (win8_2.rect t).emb y)
    (fun y => (Window.rect_emb_val win8_2 t y 0).trans (by rw [(idx8_2 t).1]; exact congrArg (· + _) (Nat.mul_one _)))
    (fun y => (Window.rect_emb_val win8_2 t y 1).trans (by rw [(idx8_2 t).2.1]; rfl))
    (fun y => (congrArg _ (Window.rect_emb_val win8_2 t y 2)).trans (by
      rw [(idx8_2 t).2.2]; show 2816 * _ + (_ * 1408 + (y 2).val) = _; omega))).symm

theorem mem8_2 (t : Fin cfg8.N) (y : S4x2048x2816.Idx) : y ∈ ((cfg8.win 2).blk t).view.set ↔
    (y 0).val = 2 + t.val % 4 / 2 ∧ (y 1).val / 1024 = t.val / 4 ∧ (y 2).val / 1408 = t.val % 2 := by
  show y ∈ ((View.whole main_v8).slice (win8_2.rect t)).set ↔ _
  rw [View.set_slice_whole, Rect.mem_set_unit]
  have e0 : win8_2.index t 0 * 1 = 2 + t.val % 4 / 2 := by rw [(idx8_2 t).1, Nat.mul_one]
  have e1 : win8_2.index t 1 * 1024 = t.val / 4 * 1024 := by rw [(idx8_2 t).2.1]
  have e2 : win8_2.index t 2 * 1408 = t.val % 2 * 1408 := by rw [(idx8_2 t).2.2]
  constructor
  · intro h
    have h0 : win8_2.index t 0 * 1 ≤ (y 0).val ∧ (y 0).val < win8_2.index t 0 * 1 + 1 := h 0
    have h1 : win8_2.index t 1 * 1024 ≤ (y 1).val ∧ (y 1).val < win8_2.index t 1 * 1024 + 1024 := h 1
    have h2 : win8_2.index t 2 * 1408 ≤ (y 2).val ∧ (y 2).val < win8_2.index t 2 * 1408 + 1408 := h 2
    omega
  · rintro ⟨h0, h1, h2⟩ a
    match a with
    | ⟨0, _⟩ => show win8_2.index t 0 * 1 ≤ (y 0).val ∧ (y 0).val < win8_2.index t 0 * 1 + 1
                omega
    | ⟨1, _⟩ => show win8_2.index t 1 * 1024 ≤ (y 1).val ∧ (y 1).val < win8_2.index t 1 * 1024 + 1024
                omega
    | ⟨2, _⟩ => show win8_2.index t 2 * 1408 ≤ (y 2).val ∧ (y 2).val < win8_2.index t 2 * 1408 + 1408
                omega

theorem outs8_2 (t : Fin cfg8.N) : outsAt8 V c t = k8_pay1 (iblk8 V c 0 t) (iblk8 V c 1 t) := by
  unfold outsAt8
  unfold out8_A_2
  rw [View.read_writes_eq_canon _ _ _ (cover8_A_2 c _ _ _ _ _ _ _ _ _)]
  unfold kernelRun8_A
  dsimp only
  sl_unfold_words
  rw [View.canon_unit_zero (S := S1x1024x1408) hz3]
  simp only [View.readAt_eq_ld, (hs8_0 t).read_unread, (hs8_1 t).read_unread, View.ld_unit_zero (S := S2304x1024) hz2,
    View.ld_unit_zero (S := S2304x1408) hz2]

/-- The kernel of the value half writes the other two and keeps those it finds. -/
theorem arr8_2 (e0 : V c main_arg0 = (blk h 0 0 : Vec Ideal S2304x2048 .bf16))
    (e1 : V c main_v4_1 = (blk dv 0 0 : Vec Ideal S2304x5632 .bf16))
    (e2 : ∀ y : S4x2048x2816.Idx, (y 0).val < 2 → (V c main_v8 : Vec Ideal S4x2048x2816 .bf16) y = wup (DM 2304 h (beside da dv)) y) :
    (dat8 V c).arrAt 2 cfg8.N = wup (DM 2304 h (beside da dv)) := by
  refine funext fun (y : S4x2048x2816.Idx) => ?_
  have h0 : (y 0).val < 4 := (y 0).isLt
  have h1 : (y 1).val < 2048 := (y 1).isLt
  have h2 : (y 2).val < 2816 := (y 2).isLt
  by_cases hy : (y 0).val < 2
  · refine ((dat8 V c).arrAt_apply_of_forall_not_mem 2 cfg8.N y fun t _ _ hm => ?_).trans ((congrFun (A_eq8 V c 2) y).trans (e2 y hy))
    have := (mem8_2 t y).1 hm
    omega
  · have ht : (y 1).val / 1024 * 4 + ((y 0).val - 2) * 2 + (y 2).val / 1408 < cfg8.N := by rw [show cfg8.N = 8 from N_8]; omega
    refine (dat8 V c).arrAt_apply_of_mem 2 (wup (DM 2304 h (beside da dv))) (fun t _ => ?_) cfg8.N ⟨_, ht⟩ y ht (flush8_2 _)
      ((mem8_2 _ y).2 (by dsimp only; omega))
    show (cfg8.win 2).cut (grid8.coords t) ((dat8 V c).after 2 t) = _
    rw [after8_2, outs8_2, ib8_0 V c e0, ib8_1 V c e1, up_dw_value_eq, lead_value (da := da)]
    exact rd8_2 _ t

end Cert.Proof.Glu
-- ==== Proof.GluDown.lean ====
module

public import proofs.«01_k».proof.Proof.GluUp

@[expose] public section

/-!
# The last product's array

The gated result times the last product's weights: four products a tile, one for each block of the weights' rows.
-/

set_option maxRecDepth 16384

noncomputable section
namespace Cert.Proof.Glu
open Idealize.ShloMosaic Idealize.ShloMosaic.TcCoe Idealize.ShloMosaic.Tactic Cert.Kernel2Ideal Cert.Kernel2Ideal.Gen
open Idealize.ShloMosaic.Pipeline (Window)

variable (V : (c : Dev nD) → (b : Ref sig .tc) → Buf (Elt Ideal) ((c : Thread nD τ).loc b)) (c : Dev nD)
variable {wd g : ℕ → ℕ → ℝ}

theorem idx9_0 : ∀ t : Fin grid9.N, win9_0.index t 0 = t.val / 4 ∧ win9_0.index t 1 = 0 := by decide +kernel
theorem idx9_1 : ∀ t : Fin grid9.N, win9_1.index t 0 = 0 ∧ win9_1.index t 1 = 0 ∧ win9_1.index t 2 = t.val % 4 := by
  decide +kernel
theorem idx9_2 : ∀ t : Fin grid9.N, win9_2.index t 0 = 1 ∧ win9_2.index t 1 = 0 ∧ win9_2.index t 2 = t.val % 4 := by
  decide +kernel
theorem idx9_3 : ∀ t : Fin grid9.N, win9_3.index t 0 = 2 ∧ win9_3.index t 1 = 0 ∧ win9_3.index t 2 = t.val % 4 := by
  decide +kernel
theorem idx9_4 : ∀ t : Fin grid9.N, win9_4.index t 0 = 3 ∧ win9_4.index t 1 = 0 ∧ win9_4.index t 2 = t.val % 4 := by
  decide +kernel
theorem idx9_5 : ∀ t : Fin grid9.N, win9_5.index t 0 = t.val / 4 ∧ win9_5.index t 1 = t.val % 4 := by decide +kernel

theorem ib9_0 (e : V c main_v1 = (blk g 0 0 : Vec Ideal S2304x5632 .bf16)) (t : Fin cfg9.N) :
    iblk9 V c 0 t = (blk g (t.val / 4 * 768) 0 : Vec Ideal S768x5632 .bf16) :=
  (congrArg (fun (x : Vec Ideal S2304x5632 .bf16) (y : S768x5632.Idx) => x ((win9_0.rect t).emb y)) e).trans
    (read_blk g (fun y : S768x5632.Idx => (win9_0.rect t).emb y)
      (fun y => (Window.rect_emb_val win9_0 t y 0).trans (by rw [(idx9_0 t).1]; rfl))
      (fun y => (Window.rect_emb_val win9_0 t y 1).trans (by rw [(idx9_0 t).2]; rfl)))

/-- The weights' tile of block row `q` and block column `j`. -/
theorem read_tile {ix : Fin 3 → ℕ} {q j : ℕ} (hx : ix 0 = q ∧ ix 1 = 0 ∧ ix 2 = j) (e : S1x1408x512.Idx → S4x1408x2048.Idx)
    (he : ∀ y a, (e y a).val = ix a * S1x1408x512.size a + (y a).val) :
    (fun y => wdn wd (e y)) = (lead wd (1408 * q) (j * 512) : Vec Ideal S1x1408x512 .bf16) :=
  read_wdn wd (k := q) e (fun y => (he y 0).trans (by rw [hx.1]; exact congrArg (· + _) (Nat.mul_one _)))
    (fun y => (congrArg _ (he y 1)).trans (by rw [hx.2.1]; show 1408 * q + (0 * 1408 + (y 1).val) = _; omega))
    (fun y => (he y 2).trans (by rw [hx.2.2]; rfl))

theorem ib9_1 (e : V c main_arg4 = wdn wd) (t : Fin cfg9.N) :
    iblk9 V c 1 t = (lead wd 0 (t.val % 4 * 512) : Vec Ideal S1x1408x512 .bf16) :=
  (congrArg (fun (x : Vec Ideal S4x1408x2048 .bf16) (y : S1x1408x512.Idx) => x ((win9_1.rect t).emb y)) e).trans
    (read_tile (idx9_1 t) _ (Window.rect_emb_val win9_1 t))

theorem ib9_2 (e : V c main_arg4 = wdn wd) (t : Fin cfg9.N) :
    iblk9 V c 2 t = (lead wd 1408 (t.val % 4 * 512) : Vec Ideal S1x1408x512 .bf16) :=
  (congrArg (fun (x : Vec Ideal S4x1408x2048 .bf16) (y : S1x1408x512.Idx) => x ((win9_2.rect t).emb y)) e).trans
    (read_tile (idx9_2 t) _ (Window.rect_emb_val win9_2 t))

theorem ib9_3 (e : V c main_arg4 = wdn wd) (t : Fin cfg9.N) :
    iblk9 V c 3 t = (lead wd 2816 (t.val % 4 * 512) : Vec Ideal S1x1408x512 .bf16) :=
  (congrArg (fun (x : Vec Ideal S4x1408x2048 .bf16) (y : S1x1408x512.Idx) => x ((win9_3.rect t).emb y)) e).trans
    (read_tile (idx9_3 t) _ (Window.rect_emb_val win9_3 t))

theorem ib9_4 (e : V c main_arg4 = wdn wd) (t : Fin cfg9.N) :
    iblk9 V c 4 t = (lead wd 4224 (t.val % 4 * 512) : Vec Ideal S1x1408x512 .bf16) :=
  (congrArg (fun (x : Vec Ideal S4x1408x2048 .bf16) (y : S1x1408x512.Idx) => x ((win9_4.rect t).emb y)) e).trans
    (read_tile (idx9_4 t) _ (Window.rect_emb_val win9_4 t))

theorem rd9_5 (f : ℕ → ℕ → ℝ) (t : Fin cfg9.N) : (blk f (t.val / 4 * 768) (t.val % 4 * 512) : Vec Ideal S768x512 .f32)
    = ((cfg9.win 5).blk t).view.read (Elt Ideal) (blk f 0 0 : Vec Ideal S2304x2048 .f32) :=
  (read_blk f (fun y : S768x512.Idx => (win9_5.rect t).emb y)
    (fun y => (Window.rect_emb_val win9_5 t y 0).trans (by rw [(idx9_5 t).1]; rfl))
    (fun y => (Window.rect_emb_val win9_5 t y 1).trans (by rw [(idx9_5 t).2]; rfl))).symm

theorem mem9_5 (t : Fin cfg9.N) (y : S2304x2048.Idx) (h0 : (y 0).val / 768 = t.val / 4) (h1 : (y 1).val / 512 = t.val % 4) :
    y ∈ ((cfg9.win 5).blk t).view.set := by
  show y ∈ ((View.whole main_v9).slice (win9_5.rect t)).set
  rw [View.set_slice_whole, Rect.mem_set_unit]
  intro a
  match a with
  | ⟨0, _⟩ => show win9_5.index t 0 * 768 ≤ (y 0).val ∧ (y 0).val < win9_5.index t 0 * 768 + 768
              rw [(idx9_5 t).1]; omega
  | ⟨1, _⟩ => show win9_5.index t 1 * 512 ≤ (y 1).val ∧ (y 1).val < win9_5.index t 1 * 512 + 512
              rw [(idx9_5 t).2]; omega

theorem arr9_5 (e0 : V c main_v1 = (blk g 0 0 : Vec Ideal S2304x5632 .bf16)) (e1 : V c main_arg4 = wdn wd) :
    (dat9 V c).arrAt 5 cfg9.N = (blk (Y wd g) 0 0 : Vec Ideal S2304x2048 .f32) := by
  refine (dat9 V c).arrAt_eq_of_cover 5 (blk (Y wd g) 0 0 : Vec Ideal S2304x2048 .f32) (fun t _ => ?_) fun y => ?_
  · show (cfg9.win 5).cut (grid9.coords t) ((dat9 V c).after 5 t) = _
    rw [after9_5, ib9_0 V c e0, ib9_1 V c e1, ib9_2 V c e1, ib9_3 V c e1, ib9_4 V c e1]
    unfold out9_5
    rw [View.canon_unit_zero (S := S768x512) hz2]
    simp only [View.ld_unit_zero (S := S1x1408x512) hz3, ld_blk, down_proj_eq]
    exact rd9_5 (Y wd g) t
  · have h0 : (y 0).val < 2304 := (y 0).isLt
    have h1 : (y 1).val < 2048 := (y 1).isLt
    exact ⟨⟨(y 0).val / 768 * 4 + (y 1).val / 512, by rw [show cfg9.N = 12 from N_9]; omega⟩, flush9_5 _,
      mem9_5 _ y (by dsimp only; omega) (by dsimp only; omega)⟩

end Cert.Proof.Glu
-- ==== Proof.GluRun.lean ====
module

public import proofs.«01_k».proof.Proof.GluDown

@[expose] public section

/-!
# The gated convolution's run with its results

The frame of the ten regions, read at the six result arrays as well, and what each region finds: the arguments as
launched and the results of the regions before it.
-/

set_option maxRecDepth 16384

noncomputable section
namespace Cert.Proof.Glu
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the regions after the seventh leave of a reference none of them writes. -/
theorem keep7 (c : Dev nD) (r : Ref sig .tc) (h9 : r ∉ hostOps8_W)
    (h8 : ∀ w : Fin cfg7.W, Pipeline.arrRef spec7 w = r → (cfg7.win w).isOut = false)
    (h10 : ∀ w : Fin cfg8.W, Pipeline.arrRef spec8 w = r → (cfg8.win w).isOut = false)
    (h11 : ∀ w : Fin cfg9.W, Pipeline.arrRef spec9 w = r → (cfg9.win w).isOut = false) :
    W11 m ρ c (Proc.devRef .tc r) = W7 m ρ c (Proc.devRef .tc r) :=
  (W11_of m ρ c r h11).trans ((W10_of m ρ c r h10).trans ((W9_of m ρ c r h9).trans (W8_of m ρ c r h8)))

/-- The same from the fifth region on. -/
theorem keep5 (c : Dev nD) (r : Ref sig .tc) (h9 : r ∉ hostOps8_W)
    (h6 : ∀ w : Fin cfg5.W, Pipeline.arrRef spec5 w = r → (cfg5.win w).isOut = false)
    (h7 : ∀ w : Fin cfg6.W, Pipeline.arrRef spec6 w = r → (cfg6.win w).isOut = false)
    (h8 : ∀ w : Fin cfg7.W, Pipeline.arrRef spec7 w = r → (cfg7.win w).isOut = false)
    (h10 : ∀ w : Fin cfg8.W, Pipeline.arrRef spec8 w = r → (cfg8.win w).isOut = false)
    (h11 : ∀ w : Fin cfg9.W, Pipeline.arrRef spec9 w = r → (cfg9.win w).isOut = false) :
    W11 m ρ c (Proc.devRef .tc r) = W5 m ρ c (Proc.devRef .tc r) :=
  (keep7 m ρ c r h9 h8 h10 h11).trans ((W7_of m ρ c r h7).trans (W6_of m ρ c r h6))

set_option backward.isDefEq.respectTransparency.types false in
/-- The run of the ten regions: each result array ends at what its region leaves in it. -/
theorem run : θ_run defs (onTc (τ := τ) (main (F := Ideal))) ⟨m, fun _ => 0, ρ⟩ (fun r => ∀ c : Dev nD,
      r.2.mem ((c.tc : Thread nD τ).loc main_v9) = (dat9 (V10 m ρ) c).arrAt 5 cfg9.N
      ∧ r.2.mem ((c.tc : Thread nD τ).loc main_v6) = (dat6 (V6 m ρ) c).arrAt 6 cfg6.N
      ∧ r.2.mem ((c.tc : Thread nD τ).loc main_v8) = (dat8 (V9 m ρ) c).arrAt 2 cfg8.N
      ∧ r.2.mem ((c.tc : Thread nD τ).loc main_v4_2) = (dat4 (V4 m ρ) c).arrAt 7 cfg4.N
      ∧ r.2.mem ((c.tc : Thread nD τ).loc main_v4_3) = (dat4 (V4 m ρ) c).arrAt 8 cfg4.N
      ∧ r.2.mem ((c.tc : Thread nD τ).loc main_v3) = (dat3 (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨(h c _ (mem_uc main_v9 (by decide))).trans (W11_arr m ρ c 5),
       (h c _ (mem_uc main_v6 (by decide))).trans ((keep7 m ρ c main_v6 (by decide) (by decide) (by decide) (by decide)).trans (W7_arr m ρ c 6)),
       (h c _ (mem_uc main_v8 (by decide))).trans ((W11_of m ρ c main_v8 (by decide)).trans (W10_arr m ρ c 2)),
       (h c _ (mem_uc main_v4_2 (by decide))).trans ((keep5 m ρ c main_v4_2 (by decide) (by decide) (by decide) (by decide) (by decide) (by decide)).trans (W5_arr m ρ c 7)),
       (h c _ (mem_uc main_v4_3 (by decide))).trans ((keep5 m ρ c main_v4_3 (by decide) (by decide) (by decide) (by decide) (by decide) (by decide)).trans (W5_arr m ρ c 8)),
       (h c _ (mem_uc main_v3 (by decide))).trans ((keep5 m ρ c main_v3 (by decide) (by decide) (by decide) (by decide) (by decide) (by decide)).trans
         ((W5_of m ρ c main_v3 (by decide)).trans (W4_arr m ρ c 2))),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

/-- The arguments hold the rows `h`, the first product's weights `wu`, the taps `cw`, the bias `cb`, the last product's
    weights `wd` and the incoming gradient `dy`. -/
structure Ins (h wu cw : ℕ → ℕ → ℝ) (cb : ℕ → ℝ) (wd dy : ℕ → ℕ → ℝ) (x0 : Vec Ideal S2304x2048 .bf16)
    (x1 : Vec Ideal S4x2048x2816 .bf16) (x2 : Vec Ideal S3x5632 .f32) (x3 : Vec Ideal S1x5632 .f32)
    (x4 : Vec Ideal S4x1408x2048 .bf16) (x5 : Vec Ideal S2304x2048 .bf16) : Prop where
  h0 : x0 = blk h 0 0
  h1 : x1 = wup wu
  h2 : x2 = blk cw 0 0
  h3 : x3 = blk (fun _ => cb) 0 0
  h4 : x4 = wdn wd
  h5 : x5 = blk dy 0 0

variable {h wu cw : ℕ → ℕ → ℝ} {cb : ℕ → ℝ} {wd dy : ℕ → ℕ → ℝ} (c : Dev nD)

/-- The gradients of the gate half and of the value half, and of the convolved rows before the gate. -/
abbrev dconv (h wu cw : ℕ → ℕ → ℝ) (cb : ℕ → ℝ) (wd dy : ℕ → ℕ → ℝ) : ℕ → ℕ → ℝ := DC cw cb (U h wu) (DG wd dy)
abbrev dgate (h wu cw : ℕ → ℕ → ℝ) (cb : ℕ → ℝ) (wd dy : ℕ → ℕ → ℝ) : ℕ → ℕ → ℝ := DA cw (dconv h wu cw cb wd dy)
abbrev dval (h wu cw : ℕ → ℕ → ℝ) (cb : ℕ → ℝ) (wd dy : ℕ → ℕ → ℝ) : ℕ → ℕ → ℝ := DV cw cb (U h wu) (DG wd dy)

section
variable (H : Ins h wu cw cb wd dy (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)))
include H

theorem at1_v0 : V1 m ρ c main_v0 = (blk (U h wu) 0 0 : Vec Ideal S2304x11264 .bf16) :=
  (W1_arr m ρ c 2).trans (arr0_2 (V0 m ρ) c H.h0 H.h1)

theorem at2_v1 : V2 m ρ c main_v1 = (blk (G cw cb (U h wu)) 0 0 : Vec Ideal S2304x5632 .bf16) :=
  (W2_arr m ρ c 4).trans (arr1_4 (V1 m ρ) c (at1_v0 m ρ c H) ((W1_args m ρ c main_arg2 (by decide)).trans H.h2)
    ((W1_args m ρ c main_arg3 (by decide)).trans H.h3))

theorem at3_v2 : V3 m ρ c main_v2 = (blk (DG wd dy) 0 0 : Vec Ideal S2304x5632 .f32) :=
  (W3_arr m ρ c 2).trans (arr2_2 (V2 m ρ) c ((W2_args m ρ c main_arg5 (by decide)).trans H.h5)
    ((W2_args m ρ c main_arg4 (by decide)).trans H.h4))

/-- The last product. -/
theorem res_y : (dat9 (V10 m ρ) c).arrAt 5 cfg9.N = (blk (Y wd (G cw cb (U h wu))) 0 0 : Vec Ideal S2304x2048 .f32) :=
  arr9_5 (V10 m ρ) c ((W10_of m ρ c main_v1 (by decide)).trans ((W9_of m ρ c main_v1 (by decide)).trans
      ((W8_of m ρ c main_v1 (by decide)).trans ((W7_of m ρ c main_v1 (by decide)).trans ((W6_of m ρ c main_v1 (by decide)).trans
        ((W5_of m ρ c main_v1 (by decide)).trans ((W4_of m ρ c main_v1 (by decide)).trans
          ((W3_of m ρ c main_v1 (by decide)).trans (at2_v1 m ρ c H)))))))))
    ((W10_args m ρ c main_arg4 (by decide)).trans H.h4)

/-- The last product's weights' gradient. -/
theorem res_down : (dat3 (V3 m ρ) c).arrAt 2 cfg3.N = (blk (DM 2304 (G cw cb (U h wu)) dy) 0 0 : Vec Ideal S5632x2048 .bf16) :=
  arr3_2 (V3 m ρ) c ((W3_of m ρ c main_v1 (by decide)).trans (at2_v1 m ρ c H))
    ((W3_args m ρ c main_arg5 (by decide)).trans H.h5)

theorem in4 : In4 (V4 m ρ) c (U h wu) cw cb (DG wd dy) where
  hu := (W4_of m ρ c main_v0 (by decide)).trans ((W3_of m ρ c main_v0 (by decide)).trans
    ((W2_of m ρ c main_v0 (by decide)).trans (at1_v0 m ρ c H)))
  hcw := (W4_args m ρ c main_arg2 (by decide)).trans H.h2
  hcb := (W4_args m ρ c main_arg3 (by decide)).trans H.h3
  hg := (W4_of m ρ c main_v2 (by decide)).trans (at3_v2 m ρ c H)

theorem at5_da : V5 m ρ c main_v4_0 = (blk (dgate h wu cw cb wd dy) 0 0 : Vec Ideal S2304x5632 .bf16) :=
  (W5_arr m ρ c 5).trans (arr4_5 (V4 m ρ) c (in4 m ρ c H))

theorem at5_dv : V5 m ρ c main_v4_1 = (blk (dval h wu cw cb wd dy) 0 0 : Vec Ideal S2304x5632 .bf16) :=
  (W5_arr m ρ c 6).trans (arr4_6 (V4 m ρ) c (in4 m ρ c H))

theorem at6_v5 : V6 m ρ c main_v5 = (blk (DH wu (dgate h wu cw cb wd dy)) 0 0 : Vec Ideal S2304x2048 .f32) :=
  (W6_arr m ρ c 5).trans (arr5_5 (V5 m ρ) c (at5_da m ρ c H) ((W5_args m ρ c main_arg1 (by decide)).trans H.h1))

/-- The rows' gradient. -/
theorem res_rows : (dat6 (V6 m ρ) c).arrAt 6 cfg6.N = (blk (fun i k => DH wu (dgate h wu cw cb wd dy) i k
    + DH (val wu) (dval h wu cw cb wd dy) i k) 0 0 : Vec Ideal S2304x2048 .f32) :=
  arr6_6 (V6 m ρ) c ((W6_of m ρ c main_v4_1 (by decide)).trans (at5_dv m ρ c H))
    ((W6_args m ρ c main_arg1 (by decide)).trans H.h1) (at6_v5 m ρ c H)

/-- The first product's weights' gradient. -/
theorem res_up : (dat8 (V9 m ρ) c).arrAt 2 cfg8.N
    = wup (DM 2304 h (beside (dgate h wu cw cb wd dy) (dval h wu cw cb wd dy))) :=
  arr8_2 (V9 m ρ) c ((W9_args m ρ c main_arg0 (by decide)).trans H.h0)
    ((W9_of m ρ c main_v4_1 (by decide)).trans ((W8_of m ρ c main_v4_1 (by decide)).trans
      ((W7_of m ρ c main_v4_1 (by decide)).trans ((W6_of m ρ c main_v4_1 (by decide)).trans (at5_dv m ρ c H)))))
    fun y hy => by
      have e : V9 m ρ c main_v8 = (dat7 (V7 m ρ) c).arrAt 2 cfg7.N := W8_arr m ρ c 2
      exact (congrFun e y).trans (arr7_2 (V7 m ρ) c ((W7_args m ρ c main_arg0 (by decide)).trans H.h0)
        ((W7_of m ρ c main_v4_0 (by decide)).trans ((W6_of m ρ c main_v4_0 (by decide)).trans (at5_da m ρ c H))) y hy)

/-- The taps' gradient. -/
theorem res_taps : (dat4 (V4 m ρ) c).arrAt 7 cfg4.N
    = (blk (DW 2304 (U h wu) (dconv h wu cw cb wd dy)) 0 0 : Vec Ideal S3x5632 .f32) := arr4_7 (V4 m ρ) c (in4 m ρ c H)

/-- The bias's gradient. -/
theorem res_bias : (dat4 (V4 m ρ) c).arrAt 8 cfg4.N
    = (blk (fun _ => DB 2304 (dconv h wu cw cb wd dy)) 0 0 : Vec Ideal S1x5632 .f32) := arr4_8 (V4 m ρ) c (in4 m ρ c H)

end
end Cert.Proof.Glu
-- ==== Proof.GluRef.lean ====
module

public import proofs.«01_k».proof.Proof.Gen.Reference2Ideal.Read
public import proofs.«01_k».proof.Proof.GluRun
public import Idealize.ShloMosaic.Lib.Pointwise

@[expose] public section

/-!
# What the gated convolution's reference computes, forward

The reference's terms up to the gated result, read down to the arguments. `lat_*` are the latent rows' terms, `ctx_*` the
context rows', which come 2048 rows further down.
-/

set_option maxRecDepth 16384

noncomputable section
open scoped BigOperators
namespace Cert.Proof.Glu.Ref
open Idealize.ShloMosaic Cert.Reference2Ideal Cert.Reference2Ideal.Gen Cert.Reference2Ideal.Read Cert.Proof.Glu

/-- The logistic function as the reference spells it. -/
theorem logistic (x : ℝ) : Ideal.div 1 (1 + Ideal.exp (-(x : EReal))) = ((sg x : ℝ) : EReal) := by
  rw [← EReal.coe_neg, show Ideal.exp ((-x : ℝ) : EReal) = ((Real.exp (-x) : ℝ) : EReal) from rfl, ← EReal.coe_one,
    ← EReal.coe_add, Row.div_coe_coe _ _ (sg_den x)]
  rfl

/-- A part padded with zeros, as a choice between real numbers. -/
theorem pad_coe {p q : Prop} [Decidable p] [Decidable q] (hpq : p ↔ q) {f : p → ℝ} {g : ℝ} (e : ∀ y, f y = g) :
    (if y : p then ((f y : ℝ) : EReal) else 0) = (((if q then g else 0) : ℝ) : EReal) := by
  by_cases y : p
  · rw [dif_pos y, if_pos (hpq.1 y), e]
  · rw [dif_neg y, if_neg (fun z => y (hpq.2 z)), EReal.coe_zero]

section
variable (f : ℕ → ℕ → ℝ) {n i : ℕ} (j : ℕ)

theorem up_no (y : ¬Prv i) : ((0 : ℝ) : EReal) = ((up f i j : ℝ) : EReal) := congrArg _ (if_neg y).symm
theorem dn_no (y : ¬Nxt i) : ((0 : ℝ) : EReal) = ((dn f i j : ℝ) : EReal) := congrArg _ (if_neg y).symm
theorem up_of (y : Prv i) (e : n = i - 1) : ((f n j : ℝ) : EReal) = ((up f i j : ℝ) : EReal) := by
  subst e; exact congrArg _ (if_pos y).symm
theorem dn_of (y : Nxt i) (e : n = i + 1) : ((f n j : ℝ) : EReal) = ((dn f i j : ℝ) : EReal) := by
  subst e; exact congrArg _ (if_pos y).symm
end

/-- Both halves' products in one. -/
theorem dh_halves (a v w : ℕ → ℕ → ℝ) (i k : ℕ) :
    ∑ j : Fin 11264, beside a v i j * w k j = DH w a i k + DH (val w) v i k := by
  rw [sum_cols fun j => beside a v i j * w k j]
  refine congrArg₂ (· + ·) (Finset.sum_congr rfl fun j _ => ?_) (Finset.sum_congr rfl fun j _ => ?_)
  · unfold beside; rw [if_pos j.isLt]
  · rw [beside_add]; rfl

/-- The taps' gradients, each sequence's and each tap's part on its own. -/
theorem dw_parts (u d : ℕ → ℕ → ℝ) {r : ℕ} (hr : r < 3) (j : ℕ) :
    (if r = 2 then ∑ i : Fin 256, dn u (2048 + i) j * d (2048 + i) j else 0)
      + (if r = 1 then ∑ i : Fin 256, u (2048 + i) j * d (2048 + i) j else 0)
      + (if r = 0 then ∑ i : Fin 256, up u (2048 + i) j * d (2048 + i) j else 0)
      + (if r = 2 then ∑ i : Fin 2048, dn u i j * d i j else 0) + (if r = 1 then ∑ i : Fin 2048, u i j * d i j else 0)
      + (if r = 0 then ∑ i : Fin 2048, up u i j * d i j else 0) = DW 2304 u d r j := by
  unfold DW
  rw [sum_rows fun i => up u i j * d i j, sum_rows fun i => u i j * d i j, sum_rows fun i => dn u i j * d i j]
  rcases (by omega : r = 0 ∨ r = 1 ∨ r = 2) with e | e | e <;> subst e <;> simp

/-- The gate half's gradient, each tap's part padded at its own end. -/
theorem da_parts (w d : ℕ → ℕ → ℝ) (i j : ℕ) : (((if Prv i then d (i - 1) j * w 2 j else 0) : ℝ) : EReal)
    + ((d i j * w 1 j : ℝ) : EReal) + (((if Nxt i then d (i + 1) j * w 0 j else 0) : ℝ) : EReal)
      = ((DA w d i j : ℝ) : EReal) := by
  unfold DA up dn
  simp only [← EReal.coe_add, ite_mul, zero_mul]

variable {x0 : Vec Ideal S2304x2048 .bf16} {x1 : Vec Ideal S4x2048x2816 .bf16} {x2 : Vec Ideal S3x5632 .f32}
  {x3 : Vec Ideal S1x5632 .f32} {x4 : Vec Ideal S4x1408x2048 .bf16} {x5 : Vec Ideal S2304x2048 .bf16}
  {h wu cw : ℕ → ℕ → ℝ} {cb : ℕ → ℝ} {wd dy : ℕ → ℕ → ℝ} (H : Ins h wu cw cb wd dy x0 x1 x2 x3 x4 x5)

/-! ## The arguments -/

section
include H

theorem w_up (k : Fin 2048) (j : Fin 11264) : val_main_v2 (F := Ideal) x1 (ix2 k j) = ((wu k j : ℝ) : EReal) := by
  pointwise [val_main_v2, val_main_v1, val_main_v0]
  rw [H.h1]
  exact congrArg _ (congrArg₂ wu rfl (Nat.div_add_mod j.val 2816))

theorem w_down (r : Fin 5632) (n : Fin 2048) : val_main_v4 (F := Ideal) x4 (ix2 r n) = ((wd r n : ℝ) : EReal) := by
  pointwise [val_main_v4, val_main_v3]
  rw [H.h4]
  exact congrArg _ (congrArg₂ wd (Nat.div_add_mod r.val 1408) rfl)

theorem tap (r : Fin 3) (j : Fin 5632) : x2 (ix2 r j) = ((cw r j : ℝ) : EReal) := by
  rw [H.h2]; rfl

theorem bias (j : Fin 5632) : x3 (ix2 0 j) = ((cb j : ℝ) : EReal) := by
  rw [H.h3]; rfl

theorem lat_h (i k : Fin 2048) : val_main_v7 (F := Ideal) x0 (ix2 i k) = ((h i k : ℝ) : EReal) := by
  pointwise [val_main_v7, val_main_v5]
  rw [H.h0]; rfl

theorem lat_dy (i n : Fin 2048) : val_main_v77 (F := Ideal) x5 (ix2 i n) = ((dy i n : ℝ) : EReal) := by
  pointwise [val_main_v77, val_main_v76]
  rw [H.h5]; rfl

theorem lat_u (i : Fin 2048) (j : Fin 11264) : val_main_v9 (F := Ideal) x0 x1 (ix2 i j) = ((U h wu i j : ℝ) : EReal) := by
  pointwise [val_main_v9]
  simp only [w_up H, lat_h H, ← EReal.coe_mul, ← Row.coe_sum]
  rfl

omit H in
theorem lat_edge (r : Fin 1) (j : Fin 5632) : val_main_v12 (F := Ideal) (ix2 r j) = ((0 : ℝ) : EReal) := by
  pointwise [val_main_v12, val_main_cst]
  rfl

theorem lat_prev (i : Fin 2048) (j : Fin 5632) :
    val_main_v16 (F := Ideal) x0 x1 (ix2 i j) = ((up (U h wu) i j : ℝ) : EReal) := by
  pointwise [val_main_v16, val_main_v13, val_main_v10]
  by_cases e : i.val < 1
  · exact (dif_pos e).trans ((lat_edge _ j).trans (up_no _ _ (by unfold Prv; omega)))
  · refine (dif_neg e).trans ((dif_pos (show i.val - 1 < 2048 by omega)).trans ((lat_u H _ _).trans ?_))
    exact up_of (U h wu) j (by unfold Prv; omega) rfl

theorem lat_here (i : Fin 2048) (j : Fin 5632) :
    val_main_v22 (F := Ideal) x0 x1 (ix2 i j) = ((U h wu i j : ℝ) : EReal) := by
  pointwise [val_main_v22, val_main_v13, val_main_v10]
  exact lat_u H _ _

theorem lat_next (i : Fin 2048) (j : Fin 5632) :
    val_main_v29 (F := Ideal) x0 x1 (ix2 i j) = ((dn (U h wu) i j : ℝ) : EReal) := by
  pointwise [val_main_v29, val_main_v13, val_main_v10]
  by_cases e : i.val = 2047
  · refine Eq.trans (dif_neg (by omega)) (Eq.trans ?_ (dn_no _ _ (by unfold Nxt; omega)))
    exact Eq.trans (dif_neg (by omega)) (lat_edge _ j)
  · refine Eq.trans (dif_neg (by omega)) (Eq.trans (dif_pos (by omega)) ((lat_u H _ _).trans ?_))
    exact dn_of (U h wu) j (by unfold Nxt; omega) (by dsimp only; omega)

theorem lat_val (i : Fin 2048) (j : Fin 5632) :
    val_main_v11 (F := Ideal) x0 x1 (ix2 i j) = ((U h wu i (5632 + j) : ℝ) : EReal) := by
  pointwise [val_main_v11]
  exact lat_u H _ _

theorem lat_c (i : Fin 2048) (j : Fin 5632) :
    val_main_v38 (F := Ideal) x0 x1 x2 x3 (ix2 i j) = ((C cw cb (U h wu) i j : ℝ) : EReal) := by
  pointwise [val_main_v38, val_main_v37, val_main_v36, val_main_v6, val_main_v35, val_main_v34, val_main_v33, val_main_v32,
    val_main_v31, val_main_v30, val_main_v28, val_main_v27, val_main_v26, val_main_v25, val_main_v24, val_main_v23,
    val_main_v21, val_main_v20, val_main_v19, val_main_v18, val_main_v17]
  simp only [lat_prev H, lat_here H, lat_next H, tap H, bias H, ← EReal.coe_mul, ← EReal.coe_add]
  rfl

theorem lat_sg (i : Fin 2048) (j : Fin 5632) :
    val_main_v39_2 (F := Ideal) x0 x1 x2 x3 (ix2 i j) = ((sg (C cw cb (U h wu) i j) : ℝ) : EReal) := by
  pointwise [val_main_v39_2, val_main_call0_v4, val_main_call0_v3, val_main_call0_v2, val_main_call0_v1, val_main_call0_v0,
    val_main_call0_cst, val_main_call0_cst_0]
  rw [lat_c H, logistic]

theorem lat_act (i : Fin 2048) (j : Fin 5632) : val_main_v39_0 (F := Ideal) x0 x1 x2 x3 (ix2 i j)
    = ((C cw cb (U h wu) i j * sg (C cw cb (U h wu) i j) : ℝ) : EReal) := by
  pointwise [val_main_v39_0]
  rw [lat_c H, lat_sg H, ← EReal.coe_mul]

theorem lat_g (i : Fin 2048) (j : Fin 5632) :
    val_main_v40 (F := Ideal) x0 x1 x2 x3 (ix2 i j) = ((G cw cb (U h wu) i j : ℝ) : EReal) := by
  pointwise [val_main_v40]
  rw [lat_act H, lat_val H, ← EReal.coe_mul]
  rfl

theorem lat_y (i n : Fin 2048) :
    val_main_v41 (F := Ideal) x0 x1 x2 x3 x4 (ix2 i n) = ((Y wd (G cw cb (U h wu)) i n : ℝ) : EReal) := by
  pointwise [val_main_v41]
  simp only [lat_g H, w_down H, ← EReal.coe_mul, ← Row.coe_sum]
  rfl

theorem lat_dg (i : Fin 2048) (j : Fin 5632) : val_main_v129 (F := Ideal) x4 x5 (ix2 i j) = ((DG wd dy i j : ℝ) : EReal) := by
  pointwise [val_main_v129]
  simp only [w_down H, lat_dy H, ← EReal.coe_mul, ← Row.coe_sum]
  rfl

theorem lat_dv (i : Fin 2048) (j : Fin 5632) :
    val_main_v130 (F := Ideal) x0 x1 x2 x3 x4 x5 (ix2 i j) = ((dval h wu cw cb wd dy i j : ℝ) : EReal) := by
  pointwise [val_main_v130]
  rw [lat_act H, lat_dg H, ← EReal.coe_mul]
  rfl

theorem lat_dc (i : Fin 2048) (j : Fin 5632) :
    val_main_v132 (F := Ideal) x0 x1 x2 x3 x4 x5 (ix2 i j) = ((dconv h wu cw cb wd dy i j : ℝ) : EReal) := by
  pointwise [val_main_v132, val_main_call3_v0, val_main_call3_v1, val_main_call3_v2, val_main_v131, val_main_v39_1,
    val_main_call0_v7, val_main_call0_v6, val_main_call0_cst_1]
  simp only [lat_c H, lat_sg H, lat_dg H, lat_val H, ← EReal.coe_one, ← EReal.coe_sub, ← EReal.coe_mul, ← EReal.coe_add]
  rfl

theorem lat_da (i : Fin 2048) (j : Fin 5632) :
    val_main_v170 (F := Ideal) x0 x1 x2 x3 x4 x5 (ix2 i j) = ((dgate h wu cw cb wd dy i j : ℝ) : EReal) := by
  pointwise [val_main_v170, val_main_v168, val_main_v167, val_main_cst_32, val_main_v157, val_main_v156, val_main_cst_28,
    val_main_v146, val_main_cst_24, val_main_v141, val_main_v140, val_main_v32, val_main_v31, val_main_v30, val_main_v151,
    val_main_v150, val_main_v25, val_main_v24, val_main_v23, val_main_v162, val_main_v161, val_main_v19, val_main_v18,
    val_main_v17]
  simp only [lat_dc H, tap H, ← EReal.coe_mul]
  rw [← da_parts]
  refine congrArg₂ (· + ·) (congrArg₂ (· + ·) (pad_coe (by unfold Prv; omega) fun y => ?_) rfl)
    (pad_coe (by unfold Nxt; omega) fun y => ?_)
  · exact congrArg (fun n => dconv h wu cw cb wd dy n j * cw 2 j) (by omega)
  · exact congrArg (fun n => dconv h wu cw cb wd dy n j * cw 0 j) (by omega)

theorem lat_dw_down (k : Fin 2048) (j : Fin 5632) : val_main_v126 (F := Ideal) x0 x1 x2 x3 x5 (ix2 k j)
    = ((∑ i : Fin 2048, G cw cb (U h wu) i j * dy i k : ℝ) : EReal) := by
  pointwise [val_main_v126]
  simp only [lat_g H, lat_dy H, ← EReal.coe_mul, ← Row.coe_sum]
  simp only [mul_comm]

theorem lat_db (j : Fin 5632) : val_main_v135 (F := Ideal) x0 x1 x2 x3 x4 x5 (ix1 j)
    = ((∑ i : Fin 2048, dconv h wu cw cb wd dy i j : ℝ) : EReal) := by
  pointwise [val_main_v135, val_main_v134, val_main_v133, val_main_cst_19, val_main_cst_20]
  simp only [lat_dc H, ← Row.coe_sum, Fin.sum_univ_one]

theorem lat_cat (i : Fin 2048) (j : Fin 11264) : val_main_v172 (F := Ideal) x0 x1 x2 x3 x4 x5 (ix2 i j)
    = ((beside (dgate h wu cw cb wd dy) (dval h wu cw cb wd dy) i j : ℝ) : EReal) := by
  pointwise [val_main_v172]
  unfold beside
  by_cases e : j.val < 5632
  · rw [dif_pos e, if_pos e, lat_da H]
  · rw [dif_neg e, if_neg e, lat_dv H]

theorem lat_dw_up (j : Fin 11264) (k : Fin 2048) : val_main_v173 (F := Ideal) x0 x1 x2 x3 x4 x5 (ix2 j k)
    = ((∑ i : Fin 2048, h i k * beside (dgate h wu cw cb wd dy) (dval h wu cw cb wd dy) i j : ℝ) : EReal) := by
  pointwise [val_main_v173]
  simp only [lat_cat H, lat_h H, ← EReal.coe_mul, ← Row.coe_sum]
  simp only [mul_comm]

theorem lat_dh (i k : Fin 2048) : val_main_v176 (F := Ideal) x0 x1 x2 x3 x4 x5 (ix2 i k)
    = ((DH wu (dgate h wu cw cb wd dy) i k + DH (val wu) (dval h wu cw cb wd dy) i k : ℝ) : EReal) := by
  pointwise [val_main_v176]
  simp only [lat_cat H, w_up H, ← EReal.coe_mul, ← Row.coe_sum]
  rw [dh_halves]

/-! ## The context rows -/

theorem ctx_h (i : Fin 256) (k : Fin 2048) : val_main_v8 (F := Ideal) x0 (ix2 i k) = ((h (2048 + i) k : ℝ) : EReal) := by
  pointwise [val_main_v8, val_main_v5]
  rw [H.h0]; rfl

theorem ctx_dy (i : Fin 256) (n : Fin 2048) : val_main_v78 (F := Ideal) x5 (ix2 i n) = ((dy (2048 + i) n : ℝ) : EReal) := by
  pointwise [val_main_v78, val_main_v76]
  rw [H.h5]; rfl

theorem ctx_u (i : Fin 256) (j : Fin 11264) : val_main_v42 (F := Ideal) x0 x1 (ix2 i j) = ((U h wu (2048 + i) j : ℝ) : EReal) := by
  pointwise [val_main_v42]
  simp only [w_up H, ctx_h H, ← EReal.coe_mul, ← Row.coe_sum]
  rfl

omit H in
theorem ctx_edge (r : Fin 1) (j : Fin 5632) : val_main_v45 (F := Ideal) (ix2 r j) = ((0 : ℝ) : EReal) := by
  pointwise [val_main_v45, val_main_cst_2]
  rfl

theorem ctx_prev (i : Fin 256) (j : Fin 5632) :
    val_main_v49 (F := Ideal) x0 x1 (ix2 i j) = ((up (U h wu) (2048 + i) j : ℝ) : EReal) := by
  pointwise [val_main_v49, val_main_v46, val_main_v43]
  by_cases e : i.val < 1
  · exact (dif_pos e).trans ((ctx_edge _ j).trans (up_no _ _ (by unfold Prv; omega)))
  · refine (dif_neg e).trans ((dif_pos (show i.val - 1 < 256 by omega)).trans ((ctx_u H _ _).trans ?_))
    exact up_of (U h wu) j (by unfold Prv; omega) (by dsimp only; omega)

theorem ctx_here (i : Fin 256) (j : Fin 5632) :
    val_main_v55 (F := Ideal) x0 x1 (ix2 i j) = ((U h wu (2048 + i) j : ℝ) : EReal) := by
  pointwise [val_main_v55, val_main_v46, val_main_v43]
  exact ctx_u H _ _

theorem ctx_next (i : Fin 256) (j : Fin 5632) :
    val_main_v62 (F := Ideal) x0 x1 (ix2 i j) = ((dn (U h wu) (2048 + i) j : ℝ) : EReal) := by
  pointwise [val_main_v62, val_main_v46, val_main_v43]
  by_cases e : i.val = 255
  · refine Eq.trans (dif_neg (by omega)) (Eq.trans ?_ (dn_no _ _ (by unfold Nxt; omega)))
    exact Eq.trans (dif_neg (by omega)) (ctx_edge _ j)
  · refine Eq.trans (dif_neg (by omega)) (Eq.trans (dif_pos (by omega)) ((ctx_u H _ _).trans ?_))
    exact dn_of (U h wu) j (by unfold Nxt; omega) (by dsimp only; omega)

theorem ctx_val (i : Fin 256) (j : Fin 5632) :
    val_main_v44 (F := Ideal) x0 x1 (ix2 i j) = ((U h wu (2048 + i) (5632 + j) : ℝ) : EReal) := by
  pointwise [val_main_v44]
  exact ctx_u H _ _

theorem ctx_c (i : Fin 256) (j : Fin 5632) :
    val_main_v71 (F := Ideal) x0 x1 x2 x3 (ix2 i j) = ((C cw cb (U h wu) (2048 + i) j : ℝ) : EReal) := by
  pointwise [val_main_v71, val_main_v70, val_main_v69, val_main_v6, val_main_v68, val_main_v67, val_main_v66, val_main_v65,
    val_main_v64, val_main_v63, val_main_v61, val_main_v60, val_main_v59, val_main_v58, val_main_v57, val_main_v56,
    val_main_v54, val_main_v53, val_main_v52, val_main_v51, val_main_v50]
  simp only [ctx_prev H, ctx_here H, ctx_next H, tap H, bias H, ← EReal.coe_mul, ← EReal.coe_add]
  rfl

theorem ctx_sg (i : Fin 256) (j : Fin 5632) :
    val_main_v72_2 (F := Ideal) x0 x1 x2 x3 (ix2 i j) = ((sg (C cw cb (U h wu) (2048 + i) j) : ℝ) : EReal) := by
  pointwise [val_main_v72_2, val_main_call1_v4, val_main_call1_v3, val_main_call1_v2, val_main_call1_v1, val_main_call1_v0,
    val_main_call1_cst, val_main_call1_cst_0]
  rw [ctx_c H, logistic]

theorem ctx_act (i : Fin 256) (j : Fin 5632) : val_main_v72_0 (F := Ideal) x0 x1 x2 x3 (ix2 i j)
    = ((C cw cb (U h wu) (2048 + i) j * sg (C cw cb (U h wu) (2048 + i) j) : ℝ) : EReal) := by
  pointwise [val_main_v72_0]
  rw [ctx_c H, ctx_sg H, ← EReal.coe_mul]

theorem ctx_g (i : Fin 256) (j : Fin 5632) :
    val_main_v73 (F := Ideal) x0 x1 x2 x3 (ix2 i j) = ((G cw cb (U h wu) (2048 + i) j : ℝ) : EReal) := by
  pointwise [val_main_v73]
  rw [ctx_act H, ctx_val H, ← EReal.coe_mul]
  rfl

theorem ctx_y (i : Fin 256) (n : Fin 2048) :
    val_main_v74 (F := Ideal) x0 x1 x2 x3 x4 (ix2 i n) = ((Y wd (G cw cb (U h wu)) (2048 + i) n : ℝ) : EReal) := by
  pointwise [val_main_v74]
  simp only [ctx_g H, w_down H, ← EReal.coe_mul, ← Row.coe_sum]
  rfl

theorem ctx_dg (i : Fin 256) (j : Fin 5632) : val_main_v81 (F := Ideal) x4 x5 (ix2 i j) = ((DG wd dy (2048 + i) j : ℝ) : EReal) := by
  pointwise [val_main_v81]
  simp only [w_down H, ctx_dy H, ← EReal.coe_mul, ← Row.coe_sum]
  rfl

theorem ctx_dv (i : Fin 256) (j : Fin 5632) :
    val_main_v82 (F := Ideal) x0 x1 x2 x3 x4 x5 (ix2 i j) = ((dval h wu cw cb wd dy (2048 + i) j : ℝ) : EReal) := by
  pointwise [val_main_v82]
  rw [ctx_act H, ctx_dg H, ← EReal.coe_mul]
  rfl

theorem ctx_dc (i : Fin 256) (j : Fin 5632) :
    val_main_v84 (F := Ideal) x0 x1 x2 x3 x4 x5 (ix2 i j) = ((dconv h wu cw cb wd dy (2048 + i) j : ℝ) : EReal) := by
  pointwise [val_main_v84, val_main_call2_v0, val_main_call2_v1, val_main_call2_v2, val_main_v83, val_main_v72_1,
    val_main_call1_v7, val_main_call1_v6, val_main_call1_cst_1]
  simp only [ctx_c H, ctx_sg H, ctx_dg H, ctx_val H, ← EReal.coe_one, ← EReal.coe_sub, ← EReal.coe_mul, ← EReal.coe_add]
  rfl

theorem ctx_da (i : Fin 256) (j : Fin 5632) :
    val_main_v120 (F := Ideal) x0 x1 x2 x3 x4 x5 (ix2 i j) = ((dgate h wu cw cb wd dy (2048 + i) j : ℝ) : EReal) := by
  pointwise [val_main_v120, val_main_v118, val_main_v117, val_main_cst_18, val_main_v107, val_main_v106, val_main_cst_14,
    val_main_v96, val_main_cst_10, val_main_v92, val_main_v91, val_main_v65, val_main_v64, val_main_v63, val_main_v101,
    val_main_v100, val_main_v58, val_main_v57, val_main_v56, val_main_v112, val_main_v111, val_main_v52, val_main_v51,
    val_main_v50]
  simp only [ctx_dc H, tap H, ← EReal.coe_mul]
  rw [← da_parts]
  refine congrArg₂ (· + ·) (congrArg₂ (· + ·) (pad_coe (by unfold Prv; omega) fun y => ?_) rfl)
    (pad_coe (by unfold Nxt; omega) fun y => ?_)
  · exact congrArg (fun n => dconv h wu cw cb wd dy n j * cw 2 j) (by omega)
  · exact congrArg (fun n => dconv h wu cw cb wd dy n j * cw 0 j) (by omega)

theorem ctx_dw_down (k : Fin 2048) (j : Fin 5632) : val_main_v79 (F := Ideal) x0 x1 x2 x3 x5 (ix2 k j)
    = ((∑ i : Fin 256, G cw cb (U h wu) (2048 + i) j * dy (2048 + i) k : ℝ) : EReal) := by
  pointwise [val_main_v79]
  simp only [ctx_g H, ctx_dy H, ← EReal.coe_mul, ← Row.coe_sum]
  simp only [mul_comm]

theorem ctx_db (j : Fin 5632) : val_main_v87 (F := Ideal) x0 x1 x2 x3 x4 x5 (ix1 j)
    = ((∑ i : Fin 256, dconv h wu cw cb wd dy (2048 + i) j : ℝ) : EReal) := by
  pointwise [val_main_v87, val_main_v86, val_main_v85, val_main_cst_5, val_main_cst_6]
  simp only [ctx_dc H, ← Row.coe_sum, Fin.sum_univ_one]

theorem ctx_cat (i : Fin 256) (j : Fin 11264) : val_main_v122 (F := Ideal) x0 x1 x2 x3 x4 x5 (ix2 i j)
    = ((beside (dgate h wu cw cb wd dy) (dval h wu cw cb wd dy) (2048 + i) j : ℝ) : EReal) := by
  pointwise [val_main_v122]
  unfold beside
  by_cases e : j.val < 5632
  · rw [dif_pos e, if_pos e, ctx_da H]
  · rw [dif_neg e, if_neg e, ctx_dv H]

theorem ctx_dw_up (j : Fin 11264) (k : Fin 2048) : val_main_v123 (F := Ideal) x0 x1 x2 x3 x4 x5 (ix2 j k)
    = ((∑ i : Fin 256, h (2048 + i) k * beside (dgate h wu cw cb wd dy) (dval h wu cw cb wd dy) (2048 + i) j : ℝ) : EReal) := by
  pointwise [val_main_v123]
  simp only [ctx_cat H, ctx_h H, ← EReal.coe_mul, ← Row.coe_sum]
  simp only [mul_comm]

theorem ctx_dh (i : Fin 256) (k : Fin 2048) : val_main_v125 (F := Ideal) x0 x1 x2 x3 x4 x5 (ix2 i k)
    = ((DH wu (dgate h wu cw cb wd dy) (2048 + i) k + DH (val wu) (dval h wu cw cb wd dy) (2048 + i) k : ℝ) : EReal) := by
  pointwise [val_main_v125]
  simp only [ctx_cat H, w_up H, ← EReal.coe_mul, ← Row.coe_sum]
  rw [dh_halves]

/-! ## The results -/

theorem y_eq : val_main_v75 (F := Ideal) x0 x1 x2 x3 x4 = blk (Y wd (G cw cb (U h wu))) 0 0 := by
  funext y
  idx_vars y
  pointwise [val_main_v75]
  by_cases e : y0.val < 2048
  · exact (dif_pos e).trans (lat_y H _ _)
  · refine (dif_neg e).trans ((ctx_y H _ _).trans ?_)
    exact congrArg (fun n => ((Y wd (G cw cb (U h wu)) n y1 : ℝ) : EReal)) (show 2048 + (y0.val - 2048) = y0.val by omega)

theorem dw_down_eq : val_main_v184 (F := Ideal) x0 x1 x2 x3 x5 = blk (DM 2304 (G cw cb (U h wu)) dy) 0 0 := by
  funext y
  idx_vars y
  pointwise [val_main_v184, val_main_v128, val_main_v127, val_main_v80]
  rw [ctx_dw_down H, lat_dw_down H, ← EReal.coe_add]
  exact congrArg _ (sum_rows fun i => G cw cb (U h wu) i y0 * dy i y1).symm

theorem db_eq : val_main_v183 (F := Ideal) x0 x1 x2 x3 x4 x5 = blk (fun _ => DB 2304 (dconv h wu cw cb wd dy)) 0 0 := by
  funext y
  idx_vars y
  pointwise [val_main_v183, val_main_v136]
  rw [ctx_db H, lat_db H, ← EReal.coe_add]
  exact congrArg _ (sum_rows fun i => dconv h wu cw cb wd dy i y1).symm

theorem dw_eq : val_main_v166 (F := Ideal) x0 x1 x2 x3 x4 x5 = blk (DW 2304 (U h wu) (dconv h wu cw cb wd dy)) 0 0 := by
  funext y
  idx_vars y
  pointwise [val_main_v166, val_main_v165, val_main_v164, val_main_v163, val_main_v160, val_main_v159, val_main_v158,
    val_main_v155, val_main_v154, val_main_v153, val_main_v152, val_main_v149, val_main_v148, val_main_v147,
    val_main_v145, val_main_v144, val_main_v143, val_main_v142, val_main_v139, val_main_v138, val_main_v137,
    val_main_v116, val_main_v115, val_main_v114, val_main_v113, val_main_v110, val_main_v109, val_main_v108,
    val_main_v105, val_main_v104, val_main_v103, val_main_v102, val_main_v99, val_main_v98, val_main_v97,
    val_main_v95, val_main_v94, val_main_v93, val_main_v90, val_main_v89, val_main_v88,
    val_main_cst_7, val_main_cst_8, val_main_cst_9, val_main_cst_11, val_main_cst_12, val_main_cst_13, val_main_cst_15,
    val_main_cst_16, val_main_cst_17, val_main_cst_21, val_main_cst_22, val_main_cst_23, val_main_cst_25, val_main_cst_26,
    val_main_cst_27, val_main_cst_29, val_main_cst_30, val_main_cst_31]
  simp only [lat_prev H, lat_here H, lat_next H, lat_dc H, ctx_prev H, ctx_here H, ctx_next H, ctx_dc H, ← EReal.coe_mul,
    ← Row.coe_sum, Fin.sum_univ_one]
  refine Eq.trans ?_ (congrArg Real.toEReal (dw_parts (U h wu) (dconv h wu cw cb wd dy) y0.isLt y1.val))
  simp only [EReal.coe_add]
  refine congrArg₂ (· + ·) (congrArg₂ (· + ·) (congrArg₂ (· + ·) (congrArg₂ (· + ·) (congrArg₂ (· + ·) ?_ ?_) ?_) ?_) ?_) ?_ <;>
    exact pad_coe (by omega) fun _ => rfl

theorem dw_up_eq : val_main_v182 (F := Ideal) x0 x1 x2 x3 x4 x5
    = wup (DM 2304 h (beside (dgate h wu cw cb wd dy) (dval h wu cw cb wd dy))) := by
  funext y
  idx_vars y
  pointwise [val_main_v182, val_main_v181, val_main_v180, val_main_v175, val_main_v174, val_main_v124]
  rw [ctx_dw_up H, lat_dw_up H, ← EReal.coe_add]
  rw [← sum_rows fun i => h i y1 * beside (dgate h wu cw cb wd dy) (dval h wu cw cb wd dy) i (y0 * 2816 + y2)]
  exact congrArg (fun j => ((DM 2304 h (beside (dgate h wu cw cb wd dy) (dval h wu cw cb wd dy)) y1 j : ℝ) : EReal))
    (congrArg (· + y2.val) (Nat.mul_comm _ _))

theorem dh_eq : val_main_v179 (F := Ideal) x0 x1 x2 x3 x4 x5 = blk (fun i k => DH wu (dgate h wu cw cb wd dy) i k
    + DH (val wu) (dval h wu cw cb wd dy) i k) 0 0 := by
  funext y
  idx_vars y
  pointwise [val_main_v179, val_main_v178, val_main_v177, val_main_cst_33, val_main_cst_34]
  simp only [lat_dh H, ctx_dh H]
  by_cases e : 2048 ≤ y0.val
  · rw [dif_pos (by omega), dif_neg (by omega), add_zero]
    simp only [show 2048 + (y0.val - 2048) = y0.val by omega]
    rfl
  · rw [dif_neg (by omega), dif_pos (by omega), zero_add]
    rfl

end
end Cert.Proof.Glu.Ref
-- ==== Proof.Finite2.lean ====
module

public import proofs.«01_k».proof.Defs
public import proofs.«01_k».proof.Proof.Finite
public import proofs.«01_k».proof.Proof.GluRun

@[expose] public section

/-!
# The second precondition

Where it holds, the second pair of programs' arguments hold real numbers.
-/

set_option maxRecDepth 16384

noncomputable section
namespace Cert.Proof
open Idealize.ShloMosaic

theorem preFacts2 : Cert.Pre_finite2.Facts where
  bitsLt_bf16_f32 := by decide
  bcast_S_S2304x2048 := by decide
  bcast_S_S4x2048x2816 := by decide
  bcast_S_S3x5632 := by decide
  bcast_S_S1x5632 := by decide
  bcast_S_S4x1408x2048 := by decide

instance : Cert.Pre_finite2.Facts := preFacts2

open Cert.Pre_finite2

/-- An array whose mask says that every entry is finite holds real numbers. -/
theorem real_of_mask {S : Shape} {x : S.Idx → EReal} (b : S_.BroadcastsInDim S (![] : Fin 0 → Fin S.rank))
    (h : cmpf .olt (Host.absf (F := Ideal) (φ := .f32) x) (broadcastInDim S ![] b (constant S_ .f32 0x7F800000#32))
      = fun _ => 1#1) (y : S.Idx) : x y = ((x y).toReal : EReal) :=
  real_of_lt (congrFun h y)

/-- An array's entry by three numbers, zero outside. -/
def entry3 {n m l : ℕ} (x : (⟨3, ![n, m, l]⟩ : Shape).Idx → EReal) (i j k : ℕ) : ℝ :=
  if h : i < n ∧ j < m ∧ k < l then (x (ix3 ⟨i, h.1⟩ ⟨j, h.2.1⟩ ⟨k, h.2.2⟩)).toReal else 0

theorem entry3_eq {n m l : ℕ} (x : (⟨3, ![n, m, l]⟩ : Shape).Idx → EReal) (i : Fin n) (j : Fin m) (k : Fin l)
    (hr : x (ix3 i j k) = ((x (ix3 i j k)).toReal : EReal)) {i' j' k' : ℕ} (hi : i.val = i') (hj : j.val = j')
    (hk : k.val = k') : x (ix3 i j k) = ((entry3 x i' j' k' : ℝ) : EReal) := by
  subst hi hj hk
  unfold entry3; rw [dif_pos ⟨i.isLt, j.isLt, k.isLt⟩]; exact hr

section
variable {n m : ℕ}

/-- The mask of an array whose entries are all finite. -/
abbrev Masked {S : Shape} (x : S.Idx → EReal) : Prop := ∃ b : S_.BroadcastsInDim S (![] : Fin 0 → Fin S.rank),
  cmpf .olt (Host.absf (F := Ideal) (φ := .f32) x) (broadcastInDim S ![] b (constant S_ .f32 0x7F800000#32)) = fun _ => 1#1

theorem ext2 {x z : (⟨2, ![n, m]⟩ : Shape).Idx → EReal} (h : ∀ i j, x (ix2 i j) = z (ix2 i j)) : x = z := funext fun y => by
  rw [show y = ix2 (y 0) (y 1) from funext fun b => by fin_cases b <;> rfl]
  exact h _ _

theorem real_blk (x : (⟨2, ![n, m]⟩ : Shape).Idx → EReal) (h : Masked x) : x = Glu.blk (entry x) 0 0 := by
  obtain ⟨b, h⟩ := h
  exact ext2 fun i j => entry_eq x i j (real_of_mask b h _) rfl rfl

theorem real_row (x : (⟨2, ![1, m]⟩ : Shape).Idx → EReal) (h : Masked x) : x = Glu.blk (fun _ => entry x 0) 0 0 := by
  obtain ⟨b, h⟩ := h
  exact ext2 fun i j => entry_eq x i j (real_of_mask b h _) (by omega) rfl

theorem real_wup (x : S4x2048x2816.Idx → EReal) (h : Masked x) :
    x = Glu.wup fun k j => entry3 x (j / 2816) k (j % 2816) := by
  obtain ⟨b, h⟩ := h
  funext y; idx_vars y
  refine entry3_eq x y0 y1 y2 (real_of_mask b h _) ?_ rfl ?_
  · show y0.val = (2816 * y0.val + y2.val) / 2816
    omega
  · show y2.val = (2816 * y0.val + y2.val) % 2816
    omega

theorem real_wdn (x : S4x1408x2048.Idx → EReal) (h : Masked x) :
    x = Glu.wdn fun r k => entry3 x (r / 1408) (r % 1408) k := by
  obtain ⟨b, h⟩ := h
  funext y; idx_vars y
  refine entry3_eq x y0 y1 y2 (real_of_mask b h _) ?_ ?_ rfl
  · show y0.val = (1408 * y0.val + y1.val) / 1408
    omega
  · show y1.val = (1408 * y0.val + y1.val) % 1408
    omega
end

variable {x0 : Vec Ideal S2304x2048 .bf16} {x1 : Vec Ideal S4x2048x2816 .bf16} {x2 : Vec Ideal S3x5632 .f32}
  {x3 : Vec Ideal S1x5632 .f32} {x4 : Vec Ideal S4x1408x2048 .bf16} {x5 : Vec Ideal S2304x2048 .bf16}

/-- The arguments as real numbers. -/
theorem ins2 (h : (fn (F := Ideal) x0 x1 x2 x3 x4 x5).1 = (fun _ => 1#1)
      ∧ (fn (F := Ideal) x0 x1 x2 x3 x4 x5).2.1 = (fun _ => 1#1) ∧ (fn (F := Ideal) x0 x1 x2 x3 x4 x5).2.2.1 = (fun _ => 1#1)
      ∧ (fn (F := Ideal) x0 x1 x2 x3 x4 x5).2.2.2.1 = (fun _ => 1#1)
      ∧ (fn (F := Ideal) x0 x1 x2 x3 x4 x5).2.2.2.2.1 = (fun _ => 1#1)
      ∧ (fn (F := Ideal) x0 x1 x2 x3 x4 x5).2.2.2.2.2 = (fun _ => 1#1)) :
    Glu.Ins (entry x0) (fun k j => entry3 x1 (j / 2816) k (j % 2816)) (entry x2) (entry x3 0)
      (fun r n => entry3 x4 (r / 1408) (r % 1408) n) (entry x5) x0 x1 x2 x3 x4 x5 := by
  obtain ⟨h0, h1, h2, h3, h4, h5⟩ := h
  exact ⟨real_blk x0 ⟨_, h0⟩, real_wup x1 ⟨_, h1⟩, real_blk x2 ⟨_, h2⟩, real_row x3 ⟨_, h3⟩, real_wdn x4 ⟨_, h4⟩, real_blk x5 ⟨_, h5⟩⟩

end Cert.Proof
-- ==== Proof.ProjBlock.lean ====
module

public import proofs.«01_k».proof.Proof.Gen.Kernel3Ideal.Skeleton
public import Idealize.ShloMosaic.Lib.Pointwise

@[expose] public section

/-!
# The blocks the projections' nine kernels compute

Arrays of extended reals by functions of row and column number: each kernel's stored value, of input blocks of such
arrays, is a block of a product.
-/

set_option maxRecDepth 16384

noncomputable section
open scoped BigOperators
namespace Cert.Proof.Proj
open Idealize.ShloMosaic Cert.Kernel3Ideal Cert.Kernel3Ideal.Gen

/-- The block at row `a` and column `b` of an array holding `f`. -/
def blk {n m : ℕ} (f : ℕ → ℕ → EReal) (a b : ℕ) : (⟨2, ![n, m]⟩ : Shape).Idx → EReal :=
  fun y => f ((y 0).val + a) ((y 1).val + b)

/-- The same with a leading axis of one. -/
def lead {n m : ℕ} (f : ℕ → ℕ → EReal) (a b : ℕ) : (⟨3, ![1, n, m]⟩ : Shape).Idx → EReal :=
  fun y => f ((y 1).val + a) ((y 2).val + b)

theorem blk_apply {n m : ℕ} (f : ℕ → ℕ → EReal) (a b : ℕ) (i : Fin n) (j : Fin m) :
    blk f a b (ix2 i j) = f (i.val + a) (j.val + b) := rfl

theorem lead_apply {n m : ℕ} (f : ℕ → ℕ → EReal) (a b : ℕ) (x : Fin 1) (i : Fin n) (j : Fin m) :
    lead f a b (ix3 x i j) = f (i.val + a) (j.val + b) := rfl

/-- The product over `K` terms, with the second factor transposed, with the first one transposed. -/
def mul (K : ℕ) (f g : ℕ → ℕ → EReal) (i j : ℕ) : EReal := ∑ k : Fin K, f i k * g k j
def mulT (K : ℕ) (f g : ℕ → ℕ → EReal) (i j : ℕ) : EReal := ∑ k : Fin K, f i k * g j k
def tmul (K : ℕ) (f g : ℕ → ℕ → EReal) (i j : ℕ) : EReal := ∑ k : Fin K, f k i * g k j

/-- A sum of 2048 terms by its four quarters. -/
theorem sum_quarters (f : ℕ → EReal) : ∑ k : Fin 2048, f k
    = ∑ k : Fin 512, f k + ∑ k : Fin 512, f (k + 512) + ∑ k : Fin 512, f (k + 1024) + ∑ k : Fin 512, f (k + 1536) := by
  simp only [Fin.sum_univ_eq_sum_range (fun n => f n), Fin.sum_univ_eq_sum_range (fun n => f (n + 512)),
    Fin.sum_univ_eq_sum_range (fun n => f (n + 1024)), Fin.sum_univ_eq_sum_range (fun n => f (n + 1536))]
  rw [show 2048 = 512 + 512 + 512 + 512 from rfl, Finset.sum_range_add, Finset.sum_range_add, Finset.sum_range_add]
  simp only [Nat.add_comm]

variable (f g d : ℕ → ℕ → EReal) (a b : ℕ)

theorem in_proj_eq : k0_pay1 (F := Ideal) (blk f a 0) (blk g 0 b) = blk (mul 2048 f g) a b := by
  funext y; idx_vars y
  pointwise [k0_pay1]
  rfl

theorem gate_proj_eq : k1_pay1 (F := Ideal) (blk f a 0) (blk g 0 b) = blk (mul 2048 f g) a b := by
  funext y; idx_vars y
  pointwise [k1_pay1]
  rfl

theorem out_proj_eq : k2_pay1 (F := Ideal) (blk f a 0) (lead g 0 b) (blk f a 512) (lead g 512 b) (blk f a 1024)
    (lead g 1024 b) (blk f a 1536) (lead g 1536 b) = blk (mul 2048 f g) a b := by
  funext y; idx_vars y
  pointwise [k2_pay1]
  exact (sum_quarters fun k => f (y0.val + a) k * g k (y1.val + b)).symm

theorem out_dx_eq : k3_pay1 (F := Ideal) (blk f a 0) (lead g b 0) = blk (mulT 2048 f g) a b := by
  funext y; idx_vars y
  pointwise [k3_pay1]
  rfl

theorem out_dw_eq : k4_pay1 (F := Ideal) (blk f 0 a) (blk g 0 b) = blk (tmul 2304 f g) a b := by
  funext y; idx_vars y
  pointwise [k4_pay1]
  rfl

theorem gate_dx_eq : k5_pay1 (F := Ideal) (blk f a 0) (blk g b 0) = blk (mulT 128 f g) a b := by
  funext y; idx_vars y
  pointwise [k5_pay1]
  rfl

theorem in_dx_eq : k6_pay1 (F := Ideal) (blk f a 0) (blk g b 0) (blk d a b)
    = blk (fun i j => mulT 5120 f g i j + d i j) a b := by
  funext y; idx_vars y
  pointwise [k6_pay1]
  rfl

theorem in_dw_eq : k7_pay1 (F := Ideal) (blk f 0 a) (blk g 0 b) = blk (tmul 2304 f g) a b := by
  funext y; idx_vars y
  pointwise [k7_pay1]
  rfl

theorem gate_dw_eq : k8_pay1 (F := Ideal) (blk f 0 a) (blk g 0 b) = blk (tmul 2304 f g) a b := by
  funext y; idx_vars y
  pointwise [k8_pay1]
  rfl

end Cert.Proof.Proj
-- ==== Proof.ProjArr.lean ====
module

public import proofs.«01_k».proof.Proof.ProjBlock
public import proofs.«01_k».proof.Proof.Gen.Kernel3Ideal.Frame
public import Idealize.ShloMosaic.Lib.Pipeline.Value

@[expose] public section

/-!
# The arrays the projections' nine kernels leave

How a block lies in its array, once for all windows, and each kernel's array: a product of the arrays it finds.
-/

set_option maxRecDepth 16384

noncomputable section
namespace Cert.Proof.Proj
open Idealize.ShloMosaic Idealize.ShloMosaic.TcCoe Idealize.ShloMosaic.Tactic Cert.Kernel3Ideal Cert.Kernel3Ideal.Gen
open Idealize.ShloMosaic.Pipeline (Window)

/-- The output projection's weights as four blocks of rows. -/
def rows4 (f : ℕ → ℕ → EReal) : Vec Ideal S4x512x2048 .bf16 := fun y => f (512 * (y 0).val + (y 1).val) (y 2).val

section
variable {n m N M p q k : ℕ} (f : ℕ → ℕ → EReal)

/-- `e` places a block as the block `p, q` of its array. -/
def Lies (p q : ℕ) (e : (⟨2, ![n, m]⟩ : Shape).Idx → (⟨2, ![N, M]⟩ : Shape).Idx) : Prop :=
  ∀ y, (e y 0).val = p * n + (y 0).val ∧ (e y 1).val = q * m + (y 1).val

theorem Lies.of {e : (⟨2, ![n, m]⟩ : Shape).Idx → (⟨2, ![N, M]⟩ : Shape).Idx} {u : Fin 2 → ℕ}
    (h : ∀ y a, (e y a).val = u a * ![n, m] a + (y a).val) (hu : u 0 = p ∧ u 1 = q) : Lies p q e := fun y =>
  ⟨(h y 0).trans (congrArg (· * n + (y 0).val) hu.1), (h y 1).trans (congrArg (· * m + (y 1).val) hu.2)⟩

/-- What a block of an array holds. -/
theorem Lies.read {e : (⟨2, ![n, m]⟩ : Shape).Idx → (⟨2, ![N, M]⟩ : Shape).Idx} (h : Lies p q e) :
    (fun y => (blk f 0 0 : (⟨2, ![N, M]⟩ : Shape).Idx → EReal) (e y)) = blk f (p * n) (q * m) := by
  funext y; unfold blk; rw [(h y).1, (h y).2, add_zero, add_zero, add_comm (p * n), add_comm (q * m)]

/-- The elements of a block. -/
theorem Lies.mem {e : (⟨2, ![n, m]⟩ : Shape).Idx ↪ (⟨2, ![N, M]⟩ : Shape).Idx} (h : Lies p q e)
    (y : (⟨2, ![N, M]⟩ : Shape).Idx) (h0 : p * n ≤ (y 0).val ∧ (y 0).val < p * n + n)
    (h1 : q * m ≤ (y 1).val ∧ (y 1).val < q * m + m) : y ∈ Finset.univ.map e := by
  refine Finset.mem_map.2 ⟨ix2 ⟨(y 0).val - p * n, by omega⟩ ⟨(y 1).val - q * m, by omega⟩, Finset.mem_univ _,
    funext fun a => Fin.ext ?_⟩
  match a with
  | ⟨0, _⟩ => exact (h _).1.trans (Nat.add_sub_cancel' h0.1)
  | ⟨1, _⟩ => exact (h _).2.trans (Nat.add_sub_cancel' h1.1)

/-- `e` places a block in block `k` of the output projection's weights. -/
theorem read4 {e : (⟨3, ![1, 512, m]⟩ : Shape).Idx → S4x512x2048.Idx} {u : Fin 3 → ℕ}
    (h : ∀ y a, (e y a).val = u a * ![1, 512, m] a + (y a).val) (hu : u 0 = k ∧ u 1 = 0 ∧ u 2 = q) :
    (fun y => rows4 f (e y)) = lead f (k * 512) (q * m) := by
  funext y
  have h0 : (e y 0).val = u 0 * 1 + (y 0).val := h y 0
  have h1 : (e y 1).val = u 1 * 512 + (y 1).val := h y 1
  have h2 : (e y 2).val = u 2 * m + (y 2).val := h y 2
  have hy : (y 0).val < 1 := (y 0).isLt
  unfold rows4 lead
  rw [h2, hu.2.2, show 512 * (e y 0).val + (e y 1).val = (y 1).val + k * 512 by omega, add_comm (q * m)]
end

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)
variable {f g d : ℕ → ℕ → EReal}

/-! ## The input projection -/

theorem lies0_0 (t : Fin cfg0.N) : Lies (t.val / 4) 0 fun y : S1152x2048.Idx => (win0_0.rect t).emb y :=
  .of (Window.rect_emb_val win0_0 t)
    ((by decide +kernel : ∀ t : Fin grid0.N, win0_0.index t 0 = t.val / 4 ∧ win0_0.index t 1 = 0) t)

theorem lies0_1 (t : Fin cfg0.N) : Lies 0 (t.val % 4) fun y : S2048x1280.Idx => (win0_1.rect t).emb y :=
  .of (Window.rect_emb_val win0_1 t)
    ((by decide +kernel : ∀ t : Fin grid0.N, win0_1.index t 0 = 0 ∧ win0_1.index t 1 = t.val % 4) t)

theorem lies0_2 (t : Fin cfg0.N) : Lies (t.val / 4) (t.val % 4) fun y : S1152x1280.Idx => (win0_2.rect t).emb y :=
  .of (Window.rect_emb_val win0_2 t)
    ((by decide +kernel : ∀ t : Fin grid0.N, win0_2.index t 0 = t.val / 4 ∧ win0_2.index t 1 = t.val % 4) t)

theorem ib0_0 (e : V c main_arg0 = (blk f 0 0 : Vec Ideal S2304x2048 .bf16)) (t : Fin cfg0.N) :
    iblk0 V c 0 t = (blk f (t.val / 4 * 1152) 0 : Vec Ideal S1152x2048 .bf16) :=
  (congrArg (fun (x : Vec Ideal S2304x2048 .bf16) (y : S1152x2048.Idx) => x ((win0_0.rect t).emb y)) e).trans
    (Lies.read f (lies0_0 t))

theorem ib0_1 (e : V c main_arg1 = (blk g 0 0 : Vec Ideal S2048x5120 .bf16)) (t : Fin cfg0.N) :
    iblk0 V c 1 t = (blk g 0 (t.val % 4 * 1280) : Vec Ideal S2048x1280 .bf16) :=
  (congrArg (fun (x : Vec Ideal S2048x5120 .bf16) (y : S2048x1280.Idx) => x ((win0_1.rect t).emb y)) e).trans
    (Lies.read g (lies0_1 t))

theorem arr0 (e0 : V c main_arg0 = (blk f 0 0 : Vec Ideal S2304x2048 .bf16))
    (e1 : V c main_arg1 = (blk g 0 0 : Vec Ideal S2048x5120 .bf16)) :
    (dat0 V c).arrAt 2 cfg0.N = (blk (mul 2048 f g) 0 0 : Vec Ideal S2304x5120 .bf16) := by
  refine (dat0 V c).arrAt_eq_of_cover 2 (blk (mul 2048 f g) 0 0 : Vec Ideal S2304x5120 .bf16) (fun t _ => ?_) fun y => ?_
  · show (cfg0.win 2).cut (grid0.coords t) ((dat0 V c).after 2 t) = _
    rw [after0_2, ib0_0 V c e0, ib0_1 V c e1]
    unfold out0_2
    rw [View.canon_unit_zero (S := S1152x1280) hz2, View.ld_unit_zero (S := S1152x2048) hz2,
      View.ld_unit_zero (S := S2048x1280) hz2, in_proj_eq]
    exact (Lies.read _ (lies0_2 t)).symm
  · have h0 : (y 0).val < 2304 := (y 0).isLt
    have h1 : (y 1).val < 5120 := (y 1).isLt
    have ht : (y 0).val / 1152 * 4 + (y 1).val / 1280 < cfg0.N := by rw [show cfg0.N = 8 from N_0]; omega
    refine ⟨⟨_, ht⟩, flush0_2 _, ?_⟩
    show y ∈ ((View.whole main_v0).slice (win0_2.rect ⟨_, ht⟩)).set
    rw [View.set_slice_whole, ← Rect.map_emb_univ]
    exact (lies0_2 ⟨_, ht⟩).mem y (by dsimp only; omega) (by dsimp only; omega)

/-! ## The gates' projection -/

theorem lies1_0 (t : Fin cfg1.N) : Lies t.val 0 fun y : S1152x2048.Idx => (win1_0.rect t).emb y :=
  .of (Window.rect_emb_val win1_0 t)
    ((by decide +kernel : ∀ t : Fin grid1.N, win1_0.index t 0 = t.val ∧ win1_0.index t 1 = 0) t)

theorem lies1_1 (t : Fin cfg1.N) : Lies 0 0 fun y : S2048x128.Idx => (win1_1.rect t).emb y :=
  .of (Window.rect_emb_val win1_1 t)
    ((by decide +kernel : ∀ t : Fin grid1.N, win1_1.index t 0 = 0 ∧ win1_1.index t 1 = 0) t)

theorem lies1_2 (t : Fin cfg1.N) : Lies t.val 0 fun y : S1152x128.Idx => (win1_2.rect t).emb y :=
  .of (Window.rect_emb_val win1_2 t)
    ((by decide +kernel : ∀ t : Fin grid1.N, win1_2.index t 0 = t.val ∧ win1_2.index t 1 = 0) t)

theorem ib1_0 (e : V c main_arg0 = (blk f 0 0 : Vec Ideal S2304x2048 .bf16)) (t : Fin cfg1.N) :
    iblk1 V c 0 t = (blk f (t.val * 1152) 0 : Vec Ideal S1152x2048 .bf16) :=
  (congrArg (fun (x : Vec Ideal S2304x2048 .bf16) (y : S1152x2048.Idx) => x ((win1_0.rect t).emb y)) e).trans
    (Lies.read f (lies1_0 t))

theorem ib1_1 (e : V c main_arg2 = (blk g 0 0 : Vec Ideal S2048x128 .bf16)) (t : Fin cfg1.N) :
    iblk1 V c 1 t = (blk g 0 0 : Vec Ideal S2048x128 .bf16) :=
  (congrArg (fun (x : Vec Ideal S2048x128 .bf16) (y : S2048x128.Idx) => x ((win1_1.rect t).emb y)) e).trans
    (Lies.read g (lies1_1 t))

theorem arr1 (e0 : V c main_arg0 = (blk f 0 0 : Vec Ideal S2304x2048 .bf16))
    (e1 : V c main_arg2 = (blk g 0 0 : Vec Ideal S2048x128 .bf16)) :
    (dat1 V c).arrAt 2 cfg1.N = (blk (mul 2048 f g) 0 0 : Vec Ideal S2304x128 .f32) := by
  refine (dat1 V c).arrAt_eq_of_cover 2 (blk (mul 2048 f g) 0 0 : Vec Ideal S2304x128 .f32) (fun t _ => ?_) fun y => ?_
  · show (cfg1.win 2).cut (grid1.coords t) ((dat1 V c).after 2 t) = _
    rw [after1_2, ib1_0 V c e0, ib1_1 V c e1]
    unfold out1_2
    rw [View.canon_unit_zero (S := S1152x128) hz2, View.ld_unit_zero (S := S1152x2048) hz2,
      View.ld_unit_zero (S := S2048x128) hz2, gate_proj_eq]
    exact (Lies.read _ (lies1_2 t)).symm
  · have h0 : (y 0).val < 2304 := (y 0).isLt
    have h1 : (y 1).val < 128 := (y 1).isLt
    have ht : (y 0).val / 1152 < cfg1.N := by rw [show cfg1.N = 2 from N_1]; omega
    refine ⟨⟨_, ht⟩, flush1_2 _, ?_⟩
    show y ∈ ((View.whole main_v1).slice (win1_2.rect ⟨_, ht⟩)).set
    rw [View.set_slice_whole, ← Rect.map_emb_univ]
    exact (lies1_2 ⟨_, ht⟩).mem y (by dsimp only; omega) (by dsimp only; omega)

/-! ## The output projection -/

theorem lies2_0 (t : Fin cfg2.N) : Lies (t.val / 2) 0 fun y : S1152x2048.Idx => (win2_0.rect t).emb y :=
  .of (Window.rect_emb_val win2_0 t)
    ((by decide +kernel : ∀ t : Fin grid2.N, win2_0.index t 0 = t.val / 2 ∧ win2_0.index t 1 = 0) t)

theorem lies2_5 (t : Fin cfg2.N) : Lies (t.val / 2) (t.val % 2) fun y : S1152x1024.Idx => (win2_5.rect t).emb y :=
  .of (Window.rect_emb_val win2_5 t)
    ((by decide +kernel : ∀ t : Fin grid2.N, win2_5.index t 0 = t.val / 2 ∧ win2_5.index t 1 = t.val % 2) t)

theorem ib2_0 (e : V c main_arg5 = (blk f 0 0 : Vec Ideal S2304x2048 .bf16)) (t : Fin cfg2.N) :
    iblk2 V c 0 t = (blk f (t.val / 2 * 1152) 0 : Vec Ideal S1152x2048 .bf16) :=
  (congrArg (fun (x : Vec Ideal S2304x2048 .bf16) (y : S1152x2048.Idx) => x ((win2_0.rect t).emb y)) e).trans
    (Lies.read f (lies2_0 t))

theorem ib2_1 (e : V c main_arg6 = rows4 g) (t : Fin cfg2.N) :
    iblk2 V c 1 t = (lead g 0 (t.val % 2 * 1024) : Vec Ideal S1x512x1024 .bf16) :=
  (congrArg (fun (x : Vec Ideal S4x512x2048 .bf16) (y : S1x512x1024.Idx) => x ((win2_1.rect t).emb y)) e).trans
    (read4 g (k := 0) (Window.rect_emb_val win2_1 t) ((by decide +kernel : ∀ t : Fin grid2.N,
      win2_1.index t 0 = 0 ∧ win2_1.index t 1 = 0 ∧ win2_1.index t 2 = t.val % 2) t))

theorem ib2_2 (e : V c main_arg6 = rows4 g) (t : Fin cfg2.N) :
    iblk2 V c 2 t = (lead g 512 (t.val % 2 * 1024) : Vec Ideal S1x512x1024 .bf16) :=
  (congrArg (fun (x : Vec Ideal S4x512x2048 .bf16) (y : S1x512x1024.Idx) => x ((win2_2.rect t).emb y)) e).trans
    (read4 g (k := 1) (Window.rect_emb_val win2_2 t) ((by decide +kernel : ∀ t : Fin grid2.N,
      win2_2.index t 0 = 1 ∧ win2_2.index t 1 = 0 ∧ win2_2.index t 2 = t.val % 2) t))

theorem ib2_3 (e : V c main_arg6 = rows4 g) (t : Fin cfg2.N) :
    iblk2 V c 3 t = (lead g 1024 (t.val % 2 * 1024) : Vec Ideal S1x512x1024 .bf16) :=
  (congrArg (fun (x : Vec Ideal S4x512x2048 .bf16) (y : S1x512x1024.Idx) => x ((win2_3.rect t).emb y)) e).trans
    (read4 g (k := 2) (Window.rect_emb_val win2_3 t) ((by decide +kernel : ∀ t : Fin grid2.N,
      win2_3.index t 0 = 2 ∧ win2_3.index t 1 = 0 ∧ win2_3.index t 2 = t.val % 2) t))

theorem ib2_4 (e : V c main_arg6 = rows4 g) (t : Fin cfg2.N) :
    iblk2 V c 4 t = (lead g 1536 (t.val % 2 * 1024) : Vec Ideal S1x512x1024 .bf16) :=
  (congrArg (fun (x : Vec Ideal S4x512x2048 .bf16) (y : S1x512x1024.Idx) => x ((win2_4.rect t).emb y)) e).trans
    (read4 g (k := 3) (Window.rect_emb_val win2_4 t) ((by decide +kernel : ∀ t : Fin grid2.N,
      win2_4.index t 0 = 3 ∧ win2_4.index t 1 = 0 ∧ win2_4.index t 2 = t.val % 2) t))

/-- A quarter of a block's columns. -/
theorem ld_blk {a n : ℕ} (i : ∀ a, (![0, n] : Fin 2 → ℕ) a + S1152x512.size a ≤ S1152x2048.size a) :
    View.ld (Val := Elt Ideal) (e' := .bf16) (blk f a 0) (Rect.unit (s := S1152x2048) ![0, n] S1152x512.size i)
      = (blk f a n : (⟨2, ![1152, 512]⟩ : Shape).Idx → EReal) := by
  funext y
  show f (0 + 1 * (y 0).val + a) (n + 1 * (y 1).val + 0) = f ((y 0).val + a) ((y 1).val + n)
  rw [Nat.zero_add, Nat.one_mul, Nat.one_mul, Nat.add_zero, Nat.add_comm n]

theorem arr2 (e0 : V c main_arg5 = (blk f 0 0 : Vec Ideal S2304x2048 .bf16)) (e1 : V c main_arg6 = rows4 g) :
    (dat2 V c).arrAt 5 cfg2.N = (blk (mul 2048 f g) 0 0 : Vec Ideal S2304x2048 .f32) := by
  refine (dat2 V c).arrAt_eq_of_cover 5 (blk (mul 2048 f g) 0 0 : Vec Ideal S2304x2048 .f32) (fun t _ => ?_) fun y => ?_
  · show (cfg2.win 5).cut (grid2.coords t) ((dat2 V c).after 5 t) = _
    rw [after2_5, ib2_0 V c e0, ib2_1 V c e1, ib2_2 V c e1, ib2_3 V c e1, ib2_4 V c e1]
    unfold out2_5
    rw [View.canon_unit_zero (S := S1152x1024) hz2]
    simp only [View.ld_unit_zero (S := S1x512x1024) hz3, ld_blk, out_proj_eq]
    exact (Lies.read _ (lies2_5 t)).symm
  · have h0 : (y 0).val < 2304 := (y 0).isLt
    have h1 : (y 1).val < 2048 := (y 1).isLt
    have ht : (y 0).val / 1152 * 2 + (y 1).val / 1024 < cfg2.N := by rw [show cfg2.N = 4 from N_2]; omega
    refine ⟨⟨_, ht⟩, flush2_5 _, ?_⟩
    show y ∈ ((View.whole main_v2).slice (win2_5.rect ⟨_, ht⟩)).set
    rw [View.set_slice_whole, ← Rect.map_emb_univ]
    exact (lies2_5 ⟨_, ht⟩).mem y (by dsimp only; omega) (by dsimp only; omega)

/-! ## The mixed rows' gradient -/

theorem lies3_0 (t : Fin cfg3.N) : Lies (t.val / 4) 0 fun y : S1152x2048.Idx => (win3_0.rect t).emb y :=
  .of (Window.rect_emb_val win3_0 t)
    ((by decide +kernel : ∀ t : Fin grid3.N, win3_0.index t 0 = t.val / 4 ∧ win3_0.index t 1 = 0) t)

theorem lies3_2 (t : Fin cfg3.N) : Lies (t.val / 4) (t.val % 4) fun y : S1152x512.Idx => (win3_2.rect t).emb y :=
  .of (Window.rect_emb_val win3_2 t)
    ((by decide +kernel : ∀ t : Fin grid3.N, win3_2.index t 0 = t.val / 4 ∧ win3_2.index t 1 = t.val % 4) t)

theorem ib3_0 (e : V c main_arg7 = (blk f 0 0 : Vec Ideal S2304x2048 .bf16)) (t : Fin cfg3.N) :
    iblk3 V c 0 t = (blk f (t.val / 4 * 1152) 0 : Vec Ideal S1152x2048 .bf16) :=
  (congrArg (fun (x : Vec Ideal S2304x2048 .bf16) (y : S1152x2048.Idx) => x ((win3_0.rect t).emb y)) e).trans
    (Lies.read f (lies3_0 t))

theorem ib3_1 (e : V c main_arg6 = rows4 g) (t : Fin cfg3.N) :
    iblk3 V c 1 t = (lead g (t.val % 4 * 512) 0 : Vec Ideal S1x512x2048 .bf16) :=
  (congrArg (fun (x : Vec Ideal S4x512x2048 .bf16) (y : S1x512x2048.Idx) => x ((win3_1.rect t).emb y)) e).trans
    (read4 g (q := 0) (Window.rect_emb_val win3_1 t) ((by decide +kernel : ∀ t : Fin grid3.N,
      win3_1.index t 0 = t.val % 4 ∧ win3_1.index t 1 = 0 ∧ win3_1.index t 2 = 0) t))

theorem arr3 (e0 : V c main_arg7 = (blk f 0 0 : Vec Ideal S2304x2048 .bf16)) (e1 : V c main_arg6 = rows4 g) :
    (dat3 V c).arrAt 2 cfg3.N = (blk (mulT 2048 f g) 0 0 : Vec Ideal S2304x2048 .f32) := by
  refine (dat3 V c).arrAt_eq_of_cover 2 (blk (mulT 2048 f g) 0 0 : Vec Ideal S2304x2048 .f32) (fun t _ => ?_) fun y => ?_
  · show (cfg3.win 2).cut (grid3.coords t) ((dat3 V c).after 2 t) = _
    rw [after3_2, ib3_0 V c e0, ib3_1 V c e1]
    unfold out3_2
    rw [View.canon_unit_zero (S := S1152x512) hz2, View.ld_unit_zero (S := S1152x2048) hz2,
      View.ld_unit_zero (S := S1x512x2048) hz3, out_dx_eq]
    exact (Lies.read _ (lies3_2 t)).symm
  · have h0 : (y 0).val < 2304 := (y 0).isLt
    have h1 : (y 1).val < 2048 := (y 1).isLt
    have ht : (y 0).val / 1152 * 4 + (y 1).val / 512 < cfg3.N := by rw [show cfg3.N = 8 from N_3]; omega
    refine ⟨⟨_, ht⟩, flush3_2 _, ?_⟩
    show y ∈ ((View.whole main_v3).slice (win3_2.rect ⟨_, ht⟩)).set
    rw [View.set_slice_whole, ← Rect.map_emb_univ]
    exact (lies3_2 ⟨_, ht⟩).mem y (by dsimp only; omega) (by dsimp only; omega)

/-! ## The output projection's weights' gradient -/

theorem lies4_0 (t : Fin cfg4.N) : Lies 0 (t.val / 2) fun y : S2304x1024.Idx => (win4_0.rect t).emb y :=
  .of (Window.rect_emb_val win4_0 t)
    ((by decide +kernel : ∀ t : Fin grid4.N, win4_0.index t 0 = 0 ∧ win4_0.index t 1 = t.val / 2) t)

theorem lies4_1 (t : Fin cfg4.N) : Lies 0 (t.val % 2) fun y : S2304x1024.Idx => (win4_1.rect t).emb y :=
  .of (Window.rect_emb_val win4_1 t)
    ((by decide +kernel : ∀ t : Fin grid4.N, win4_1.index t 0 = 0 ∧ win4_1.index t 1 = t.val % 2) t)

theorem lies4_2 (t : Fin cfg4.N) : Lies (t.val / 2) (t.val % 2) fun y : S1024x1024.Idx => (win4_2.rect t).emb y :=
  .of (Window.rect_emb_val win4_2 t)
    ((by decide +kernel : ∀ t : Fin grid4.N, win4_2.index t 0 = t.val / 2 ∧ win4_2.index t 1 = t.val % 2) t)

theorem ib4_0 (e : V c main_arg5 = (blk f 0 0 : Vec Ideal S2304x2048 .bf16)) (t : Fin cfg4.N) :
    iblk4 V c 0 t = (blk f 0 (t.val / 2 * 1024) : Vec Ideal S2304x1024 .bf16) :=
  (congrArg (fun (x : Vec Ideal S2304x2048 .bf16) (y : S2304x1024.Idx) => x ((win4_0.rect t).emb y)) e).trans
    (Lies.read f (lies4_0 t))

theorem ib4_1 (e : V c main_arg7 = (blk g 0 0 : Vec Ideal S2304x2048 .bf16)) (t : Fin cfg4.N) :
    iblk4 V c 1 t = (blk g 0 (t.val % 2 * 1024) : Vec Ideal S2304x1024 .bf16) :=
  (congrArg (fun (x : Vec Ideal S2304x2048 .bf16) (y : S2304x1024.Idx) => x ((win4_1.rect t).emb y)) e).trans
    (Lies.read g (lies4_1 t))

theorem arr4 (e0 : V c main_arg5 = (blk f 0 0 : Vec Ideal S2304x2048 .bf16))
    (e1 : V c main_arg7 = (blk g 0 0 : Vec Ideal S2304x2048 .bf16)) :
    (dat4 V c).arrAt 2 cfg4.N = (blk (tmul 2304 f g) 0 0 : Vec Ideal S2048x2048 .bf16) := by
  refine (dat4 V c).arrAt_eq_of_cover 2 (blk (tmul 2304 f g) 0 0 : Vec Ideal S2048x2048 .bf16) (fun t _ => ?_) fun y => ?_
  · show (cfg4.win 2).cut (grid4.coords t) ((dat4 V c).after 2 t) = _
    rw [after4_2, ib4_0 V c e0, ib4_1 V c e1]
    unfold out4_2
    simp only [View.canon_unit_zero (S := S1024x1024) hz2, View.ld_unit_zero (S := S2304x1024) hz2, out_dw_eq]
    exact (Lies.read _ (lies4_2 t)).symm
  · have h0 : (y 0).val < 2048 := (y 0).isLt
    have h1 : (y 1).val < 2048 := (y 1).isLt
    have ht : (y 0).val / 1024 * 2 + (y 1).val / 1024 < cfg4.N := by rw [show cfg4.N = 4 from N_4]; omega
    refine ⟨⟨_, ht⟩, flush4_2 _, ?_⟩
    show y ∈ ((View.whole main_v4).slice (win4_2.rect ⟨_, ht⟩)).set
    rw [View.set_slice_whole, ← Rect.map_emb_univ]
    exact (lies4_2 ⟨_, ht⟩).mem y (by dsimp only; omega) (by dsimp only; omega)

/-! ## The rows' gradient from the gates -/

theorem lies5_0 (t : Fin cfg5.N) : Lies t.val 0 fun y : S1152x128.Idx => (win5_0.rect t).emb y :=
  .of (Window.rect_emb_val win5_0 t)
    ((by decide +kernel : ∀ t : Fin grid5.N, win5_0.index t 0 = t.val ∧ win5_0.index t 1 = 0) t)

theorem lies5_1 (t : Fin cfg5.N) : Lies 0 0 fun y : S2048x128.Idx => (win5_1.rect t).emb y :=
  .of (Window.rect_emb_val win5_1 t)
    ((by decide +kernel : ∀ t : Fin grid5.N, win5_1.index t 0 = 0 ∧ win5_1.index t 1 = 0) t)

theorem lies5_2 (t : Fin cfg5.N) : Lies t.val 0 fun y : S1152x2048.Idx => (win5_2.rect t).emb y :=
  .of (Window.rect_emb_val win5_2 t)
    ((by decide +kernel : ∀ t : Fin grid5.N, win5_2.index t 0 = t.val ∧ win5_2.index t 1 = 0) t)

theorem ib5_0 (e : V c main_arg4 = (blk f 0 0 : Vec Ideal S2304x128 .bf16)) (t : Fin cfg5.N) :
    iblk5 V c 0 t = (blk f (t.val * 1152) 0 : Vec Ideal S1152x128 .bf16) :=
  (congrArg (fun (x : Vec Ideal S2304x128 .bf16) (y : S1152x128.Idx) => x ((win5_0.rect t).emb y)) e).trans
    (Lies.read f (lies5_0 t))

theorem ib5_1 (e : V c main_arg2 = (blk g 0 0 : Vec Ideal S2048x128 .bf16)) (t : Fin cfg5.N) :
    iblk5 V c 1 t = (blk g 0 0 : Vec Ideal S2048x128 .bf16) :=
  (congrArg (fun (x : Vec Ideal S2048x128 .bf16) (y : S2048x128.Idx) => x ((win5_1.rect t).emb y)) e).trans
    (Lies.read g (lies5_1 t))

theorem arr5 (e0 : V c main_arg4 = (blk f 0 0 : Vec Ideal S2304x128 .bf16))
    (e1 : V c main_arg2 = (blk g 0 0 : Vec Ideal S2048x128 .bf16)) :
    (dat5 V c).arrAt 2 cfg5.N = (blk (mulT 128 f g) 0 0 : Vec Ideal S2304x2048 .f32) := by
  refine (dat5 V c).arrAt_eq_of_cover 2 (blk (mulT 128 f g) 0 0 : Vec Ideal S2304x2048 .f32) (fun t _ => ?_) fun y => ?_
  · show (cfg5.win 2).cut (grid5.coords t) ((dat5 V c).after 2 t) = _
    rw [after5_2, ib5_0 V c e0, ib5_1 V c e1]
    unfold out5_2
    rw [View.canon_unit_zero (S := S1152x2048) hz2, View.ld_unit_zero (S := S1152x128) hz2,
      View.ld_unit_zero (S := S2048x128) hz2, gate_dx_eq]
    exact (Lies.read _ (lies5_2 t)).symm
  · have h0 : (y 0).val < 2304 := (y 0).isLt
    have h1 : (y 1).val < 2048 := (y 1).isLt
    have ht : (y 0).val / 1152 < cfg5.N := by rw [show cfg5.N = 2 from N_5]; omega
    refine ⟨⟨_, ht⟩, flush5_2 _, ?_⟩
    show y ∈ ((View.whole main_v5).slice (win5_2.rect ⟨_, ht⟩)).set
    rw [View.set_slice_whole, ← Rect.map_emb_univ]
    exact (lies5_2 ⟨_, ht⟩).mem y (by dsimp only; omega) (by dsimp only; omega)

/-! ## The rows' gradient -/

theorem lies6_0 (t : Fin cfg6.N) : Lies (t.val / 4) 0 fun y : S768x5120.Idx => (win6_0.rect t).emb y :=
  .of (Window.rect_emb_val win6_0 t)
    ((by decide +kernel : ∀ t : Fin grid6.N, win6_0.index t 0 = t.val / 4 ∧ win6_0.index t 1 = 0) t)

theorem lies6_1 (t : Fin cfg6.N) : Lies (t.val % 4) 0 fun y : S512x5120.Idx => (win6_1.rect t).emb y :=
  .of (Window.rect_emb_val win6_1 t)
    ((by decide +kernel : ∀ t : Fin grid6.N, win6_1.index t 0 = t.val % 4 ∧ win6_1.index t 1 = 0) t)

theorem lies6_2 (t : Fin cfg6.N) : Lies (t.val / 4) (t.val % 4) fun y : S768x512.Idx => (win6_2.rect t).emb y :=
  .of (Window.rect_emb_val win6_2 t)
    ((by decide +kernel : ∀ t : Fin grid6.N, win6_2.index t 0 = t.val / 4 ∧ win6_2.index t 1 = t.val % 4) t)

theorem lies6_3 (t : Fin cfg6.N) : Lies (t.val / 4) (t.val % 4) fun y : S768x512.Idx => (win6_3.rect t).emb y :=
  .of (Window.rect_emb_val win6_3 t)
    ((by decide +kernel : ∀ t : Fin grid6.N, win6_3.index t 0 = t.val / 4 ∧ win6_3.index t 1 = t.val % 4) t)

theorem ib6_0 (e : V c main_arg3 = (blk f 0 0 : Vec Ideal S2304x5120 .bf16)) (t : Fin cfg6.N) :
    iblk6 V c 0 t = (blk f (t.val / 4 * 768) 0 : Vec Ideal S768x5120 .bf16) :=
  (congrArg (fun (x : Vec Ideal S2304x5120 .bf16) (y : S768x5120.Idx) => x ((win6_0.rect t).emb y)) e).trans
    (Lies.read f (lies6_0 t))

theorem ib6_1 (e : V c main_arg1 = (blk g 0 0 : Vec Ideal S2048x5120 .bf16)) (t : Fin cfg6.N) :
    iblk6 V c 1 t = (blk g (t.val % 4 * 512) 0 : Vec Ideal S512x5120 .bf16) :=
  (congrArg (fun (x : Vec Ideal S2048x5120 .bf16) (y : S512x5120.Idx) => x ((win6_1.rect t).emb y)) e).trans
    (Lies.read g (lies6_1 t))

theorem ib6_2 (e : V c main_v5 = (blk d 0 0 : Vec Ideal S2304x2048 .f32)) (t : Fin cfg6.N) :
    iblk6 V c 2 t = (blk d (t.val / 4 * 768) (t.val % 4 * 512) : Vec Ideal S768x512 .f32) :=
  (congrArg (fun (x : Vec Ideal S2304x2048 .f32) (y : S768x512.Idx) => x ((win6_2.rect t).emb y)) e).trans
    (Lies.read d (lies6_2 t))

theorem arr6 (e0 : V c main_arg3 = (blk f 0 0 : Vec Ideal S2304x5120 .bf16))
    (e1 : V c main_arg1 = (blk g 0 0 : Vec Ideal S2048x5120 .bf16))
    (e2 : V c main_v5 = (blk d 0 0 : Vec Ideal S2304x2048 .f32)) : (dat6 V c).arrAt 3 cfg6.N
      = (blk (fun i j => mulT 5120 f g i j + d i j) 0 0 : Vec Ideal S2304x2048 .f32) := by
  refine (dat6 V c).arrAt_eq_of_cover 3 (blk (fun i j => mulT 5120 f g i j + d i j) 0 0 : Vec Ideal S2304x2048 .f32)
    (fun t _ => ?_) fun y => ?_
  · show (cfg6.win 3).cut (grid6.coords t) ((dat6 V c).after 3 t) = _
    rw [after6_3, ib6_0 V c e0, ib6_1 V c e1, ib6_2 V c e2]
    unfold out6_3
    simp only [View.canon_unit_zero (S := S768x512) hz2, View.ld_unit_zero (S := S768x5120) hz2,
      View.ld_unit_zero (S := S512x5120) hz2, View.ld_unit_zero (S := S768x512) hz2, in_dx_eq]
    exact (Lies.read _ (lies6_3 t)).symm
  · have h0 : (y 0).val < 2304 := (y 0).isLt
    have h1 : (y 1).val < 2048 := (y 1).isLt
    have ht : (y 0).val / 768 * 4 + (y 1).val / 512 < cfg6.N := by rw [show cfg6.N = 12 from N_6]; omega
    refine ⟨⟨_, ht⟩, flush6_3 _, ?_⟩
    show y ∈ ((View.whole main_v6).slice (win6_3.rect ⟨_, ht⟩)).set
    rw [View.set_slice_whole, ← Rect.map_emb_univ]
    exact (lies6_3 ⟨_, ht⟩).mem y (by dsimp only; omega) (by dsimp only; omega)

/-! ## The input projection's weights' gradient -/

theorem lies7_0 (t : Fin cfg7.N) : Lies 0 (t.val / 4) fun y : S2304x1024.Idx => (win7_0.rect t).emb y :=
  .of (Window.rect_emb_val win7_0 t)
    ((by decide +kernel : ∀ t : Fin grid7.N, win7_0.index t 0 = 0 ∧ win7_0.index t 1 = t.val / 4) t)

theorem lies7_1 (t : Fin cfg7.N) : Lies 0 (t.val % 4) fun y : S2304x1280.Idx => (win7_1.rect t).emb y :=
  .of (Window.rect_emb_val win7_1 t)
    ((by decide +kernel : ∀ t : Fin grid7.N, win7_1.index t 0 = 0 ∧ win7_1.index t 1 = t.val % 4) t)

theorem lies7_2 (t : Fin cfg7.N) : Lies (t.val / 4) (t.val % 4) fun y : S1024x1280.Idx => (win7_2.rect t).emb y :=
  .of (Window.rect_emb_val win7_2 t)
    ((by decide +kernel : ∀ t : Fin grid7.N, win7_2.index t 0 = t.val / 4 ∧ win7_2.index t 1 = t.val % 4) t)

theorem ib7_0 (e : V c main_arg0 = (blk f 0 0 : Vec Ideal S2304x2048 .bf16)) (t : Fin cfg7.N) :
    iblk7 V c 0 t = (blk f 0 (t.val / 4 * 1024) : Vec Ideal S2304x1024 .bf16) :=
  (congrArg (fun (x : Vec Ideal S2304x2048 .bf16) (y : S2304x1024.Idx) => x ((win7_0.rect t).emb y)) e).trans
    (Lies.read f (lies7_0 t))

theorem ib7_1 (e : V c main_arg3 = (blk g 0 0 : Vec Ideal S2304x5120 .bf16)) (t : Fin cfg7.N) :
    iblk7 V c 1 t = (blk g 0 (t.val % 4 * 1280) : Vec Ideal S2304x1280 .bf16) :=
  (congrArg (fun (x : Vec Ideal S2304x5120 .bf16) (y : S2304x1280.Idx) => x ((win7_1.rect t).emb y)) e).trans
    (Lies.read g (lies7_1 t))

theorem arr7 (e0 : V c main_arg0 = (blk f 0 0 : Vec Ideal S2304x2048 .bf16))
    (e1 : V c main_arg3 = (blk g 0 0 : Vec Ideal S2304x5120 .bf16)) :
    (dat7 V c).arrAt 2 cfg7.N = (blk (tmul 2304 f g) 0 0 : Vec Ideal S2048x5120 .bf16) := by
  refine (dat7 V c).arrAt_eq_of_cover 2 (blk (tmul 2304 f g) 0 0 : Vec Ideal S2048x5120 .bf16) (fun t _ => ?_) fun y => ?_
  · show (cfg7.win 2).cut (grid7.coords t) ((dat7 V c).after 2 t) = _
    rw [after7_2, ib7_0 V c e0, ib7_1 V c e1]
    unfold out7_2
    rw [View.canon_unit_zero (S := S1024x1280) hz2, View.ld_unit_zero (S := S2304x1024) hz2,
      View.ld_unit_zero (S := S2304x1280) hz2, in_dw_eq]
    exact (Lies.read _ (lies7_2 t)).symm
  · have h0 : (y 0).val < 2048 := (y 0).isLt
    have h1 : (y 1).val < 5120 := (y 1).isLt
    have ht : (y 0).val / 1024 * 4 + (y 1).val / 1280 < cfg7.N := by rw [show cfg7.N = 8 from N_7]; omega
    refine ⟨⟨_, ht⟩, flush7_2 _, ?_⟩
    show y ∈ ((View.whole main_v7).slice (win7_2.rect ⟨_, ht⟩)).set
    rw [View.set_slice_whole, ← Rect.map_emb_univ]
    exact (lies7_2 ⟨_, ht⟩).mem y (by dsimp only; omega) (by dsimp only; omega)

/-! ## The gates' weights' gradient -/

theorem lies8_0 (t : Fin cfg8.N) : Lies 0 t.val fun y : S2304x1024.Idx => (win8_0.rect t).emb y :=
  .of (Window.rect_emb_val win8_0 t)
    ((by decide +kernel : ∀ t : Fin grid8.N, win8_0.index t 0 = 0 ∧ win8_0.index t 1 = t.val) t)

theorem lies8_1 (t : Fin cfg8.N) : Lies 0 0 fun y : S2304x128.Idx => (win8_1.rect t).emb y :=
  .of (Window.rect_emb_val win8_1 t)
    ((by decide +kernel : ∀ t : Fin grid8.N, win8_1.index t 0 = 0 ∧ win8_1.index t 1 = 0) t)

theorem lies8_2 (t : Fin cfg8.N) : Lies t.val 0 fun y : S1024x128.Idx => (win8_2.rect t).emb y :=
  .of (Window.rect_emb_val win8_2 t)
    ((by decide +kernel : ∀ t : Fin grid8.N, win8_2.index t 0 = t.val ∧ win8_2.index t 1 = 0) t)

theorem ib8_0 (e : V c main_arg0 = (blk f 0 0 : Vec Ideal S2304x2048 .bf16)) (t : Fin cfg8.N) :
    iblk8 V c 0 t = (blk f 0 (t.val * 1024) : Vec Ideal S2304x1024 .bf16) :=
  (congrArg (fun (x : Vec Ideal S2304x2048 .bf16) (y : S2304x1024.Idx) => x ((win8_0.rect t).emb y)) e).trans
    (Lies.read f (lies8_0 t))

theorem ib8_1 (e : V c main_arg4 = (blk g 0 0 : Vec Ideal S2304x128 .bf16)) (t : Fin cfg8.N) :
    iblk8 V c 1 t = (blk g 0 0 : Vec Ideal S2304x128 .bf16) :=
  (congrArg (fun (x : Vec Ideal S2304x128 .bf16) (y : S2304x128.Idx) => x ((win8_1.rect t).emb y)) e).trans
    (Lies.read g (lies8_1 t))

theorem arr8 (e0 : V c main_arg0 = (blk f 0 0 : Vec Ideal S2304x2048 .bf16))
    (e1 : V c main_arg4 = (blk g 0 0 : Vec Ideal S2304x128 .bf16)) :
    (dat8 V c).arrAt 2 cfg8.N = (blk (tmul 2304 f g) 0 0 : Vec Ideal S2048x128 .bf16) := by
  refine (dat8 V c).arrAt_eq_of_cover 2 (blk (tmul 2304 f g) 0 0 : Vec Ideal S2048x128 .bf16) (fun t _ => ?_) fun y => ?_
  · show (cfg8.win 2).cut (grid8.coords t) ((dat8 V c).after 2 t) = _
    rw [after8_2, ib8_0 V c e0, ib8_1 V c e1]
    unfold out8_2
    rw [View.canon_unit_zero (S := S1024x128) hz2, View.ld_unit_zero (S := S2304x1024) hz2,
      View.ld_unit_zero (S := S2304x128) hz2, gate_dw_eq]
    exact (Lies.read _ (lies8_2 t)).symm
  · have h0 : (y 0).val < 2048 := (y 0).isLt
    have h1 : (y 1).val < 128 := (y 1).isLt
    have ht : (y 0).val / 1024 < cfg8.N := by rw [show cfg8.N = 2 from N_8]; omega
    refine ⟨⟨_, ht⟩, flush8_2 _, ?_⟩
    show y ∈ ((View.whole main_v8).slice (win8_2.rect ⟨_, ht⟩)).set
    rw [View.set_slice_whole, ← Rect.map_emb_univ]
    exact (lies8_2 ⟨_, ht⟩).mem y (by dsimp only; omega) (by dsimp only; omega)

end Cert.Proof.Proj
-- ==== Proof.ProjRun.lean ====
module

public import proofs.«01_k».proof.Proof.ProjArr

@[expose] public section

/-!
# The projections' run with its results

The frame of the nine regions, read at the eight result arrays as well, and what each region finds: the arguments as
launched and, for the rows' gradient, the gates' part of it.
-/

set_option maxRecDepth 16384

noncomputable section
namespace Cert.Proof.Proj
open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the last four regions leave of a reference none of them writes. -/
theorem keep5 (c : Dev nD) (r : Ref sig .tc)
    (h6 : ∀ w : Fin cfg5.W, Pipeline.arrRef spec5 w = r → (cfg5.win w).isOut = false)
    (h7 : ∀ w : Fin cfg6.W, Pipeline.arrRef spec6 w = r → (cfg6.win w).isOut = false)
    (h8 : ∀ w : Fin cfg7.W, Pipeline.arrRef spec7 w = r → (cfg7.win w).isOut = false)
    (h9 : ∀ w : Fin cfg8.W, Pipeline.arrRef spec8 w = r → (cfg8.win w).isOut = false) :
    W9 m ρ c (Proc.devRef .tc r) = W5 m ρ c (Proc.devRef .tc r) :=
  (W9_of m ρ c r h9).trans ((W8_of m ρ c r h8).trans ((W7_of m ρ c r h7).trans (W6_of m ρ c r h6)))

/-- What the regions from the third on leave of a reference none of them writes. -/
theorem keep2 (c : Dev nD) (r : Ref sig .tc)
    (h3 : ∀ w : Fin cfg2.W, Pipeline.arrRef spec2 w = r → (cfg2.win w).isOut = false)
    (h4 : ∀ w : Fin cfg3.W, Pipeline.arrRef spec3 w = r → (cfg3.win w).isOut = false)
    (h5 : ∀ w : Fin cfg4.W, Pipeline.arrRef spec4 w = r → (cfg4.win w).isOut = false)
    (h : W9 m ρ c (Proc.devRef .tc r) = W5 m ρ c (Proc.devRef .tc r)) :
    W9 m ρ c (Proc.devRef .tc r) = W2 m ρ c (Proc.devRef .tc r) :=
  h.trans ((W5_of m ρ c r h5).trans ((W4_of m ρ c r h4).trans (W3_of m ρ c r h3)))

set_option backward.isDefEq.respectTransparency.types false in
/-- The run of the nine regions: each result array ends at what its region leaves in it. -/
theorem run : θ_run defs (onTc (τ := τ) (main (F := Ideal))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_v2) = (dat2 (V2 m ρ) c).arrAt 5 cfg2.N
      ∧ r.2.mem ((c.tc : Thread nD τ).loc main_v6) = (dat6 (V6 m ρ) c).arrAt 3 cfg6.N
      ∧ r.2.mem ((c.tc : Thread nD τ).loc main_v7) = (dat7 (V7 m ρ) c).arrAt 2 cfg7.N
      ∧ r.2.mem ((c.tc : Thread nD τ).loc main_v8) = (dat8 (V8 m ρ) c).arrAt 2 cfg8.N
      ∧ r.2.mem ((c.tc : Thread nD τ).loc main_v3) = (dat3 (V3 m ρ) c).arrAt 2 cfg3.N
      ∧ r.2.mem ((c.tc : Thread nD τ).loc main_v4) = (dat4 (V4 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨(h c _ (mem_uc main_v0 (by decide))).trans ((keep2 m ρ c main_v0 (by decide) (by decide) (by decide)
         (keep5 m ρ c main_v0 (by decide) (by decide) (by decide) (by decide))).trans
         ((W2_of m ρ c main_v0 (by decide)).trans (W1_arr m ρ c 2))),
       (h c _ (mem_uc main_v1 (by decide))).trans ((keep2 m ρ c main_v1 (by decide) (by decide) (by decide)
         (keep5 m ρ c main_v1 (by decide) (by decide) (by decide) (by decide))).trans (W2_arr m ρ c 2)),
       (h c _ (mem_uc main_v2 (by decide))).trans ((keep5 m ρ c main_v2 (by decide) (by decide) (by decide) (by decide)).trans
         ((W5_of m ρ c main_v2 (by decide)).trans ((W4_of m ρ c main_v2 (by decide)).trans (W3_arr m ρ c 5)))),
       (h c _ (mem_uc main_v6 (by decide))).trans ((W9_of m ρ c main_v6 (by decide)).trans
         ((W8_of m ρ c main_v6 (by decide)).trans (W7_arr m ρ c 3))),
       (h c _ (mem_uc main_v7 (by decide))).trans ((W9_of m ρ c main_v7 (by decide)).trans (W8_arr m ρ c 2)),
       (h c _ (mem_uc main_v8 (by decide))).trans (W9_arr m ρ c 2),
       (h c _ (mem_uc main_v3 (by decide))).trans ((keep5 m ρ c main_v3 (by decide) (by decide) (by decide) (by decide)).trans
         ((W5_of m ρ c main_v3 (by decide)).trans (W4_arr m ρ c 2))),
       (h c _ (mem_uc main_v4 (by decide))).trans ((keep5 m ρ c main_v4 (by decide) (by decide) (by decide) (by decide)).trans
         (W5_arr m ρ c 2)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

/-- The arguments hold the rows `h`, the input projection's weights `wm` and the gates' `wg`, the projections' incoming
    gradients `dz` and `dg`, the mixed rows `x`, the output projection's weights `wo` and its incoming gradient `dy`. -/
structure Ins (h wm wg dz dg x wo dy : ℕ → ℕ → EReal) (x0 : Vec Ideal S2304x2048 .bf16) (x1 : Vec Ideal S2048x5120 .bf16)
    (x2 : Vec Ideal S2048x128 .bf16) (x3 : Vec Ideal S2304x5120 .bf16) (x4 : Vec Ideal S2304x128 .bf16)
    (x5 : Vec Ideal S2304x2048 .bf16) (x6 : Vec Ideal S4x512x2048 .bf16) (x7 : Vec Ideal S2304x2048 .bf16) : Prop where
  h0 : x0 = blk h 0 0
  h1 : x1 = blk wm 0 0
  h2 : x2 = blk wg 0 0
  h3 : x3 = blk dz 0 0
  h4 : x4 = blk dg 0 0
  h5 : x5 = blk x 0 0
  h6 : x6 = rows4 wo
  h7 : x7 = blk dy 0 0

/-- The entries of an array, by row and column number. -/
def ent {n k : ℕ} (x : (⟨2, ![n, k]⟩ : Shape).Idx → EReal) (i j : ℕ) : EReal :=
  if h : i < n ∧ j < k then x (ix2 ⟨i, h.1⟩ ⟨j, h.2⟩) else 0

theorem eq_ent {n k : ℕ} (x : (⟨2, ![n, k]⟩ : Shape).Idx → EReal) : x = blk (ent x) 0 0 := by
  funext y
  show x y = ent x (y 0).val (y 1).val
  unfold ent
  rw [dif_pos ⟨(y 0).isLt, (y 1).isLt⟩]
  exact congrArg x (eq_ix2 y)

/-- The same for the four blocks of rows. -/
def ent4 (x : Vec Ideal S4x512x2048 .bf16) (i j : ℕ) : EReal :=
  if h : i < 2048 ∧ j < 2048 then x (ix3 ⟨i / 512, by omega⟩ ⟨i % 512, by omega⟩ ⟨j, h.2⟩) else 0

theorem eq_ent4 (x : Vec Ideal S4x512x2048 .bf16) : x = rows4 (ent4 x) := by
  funext y; idx_vars y
  show x (ix3 y0 y1 y2) = ent4 x (512 * y0.val + y1.val) y2.val
  unfold ent4
  rw [dif_pos ⟨by omega, y2.isLt⟩]
  exact congrArg x (congrArg₂ (fun a b => ix3 a b y2) (Fin.ext (by dsimp only; omega)) (Fin.ext (by dsimp only; omega)))

/-- Any arguments hold some entries. -/
theorem ins (x0 : Vec Ideal S2304x2048 .bf16) (x1 : Vec Ideal S2048x5120 .bf16)
    (x2 : Vec Ideal S2048x128 .bf16) (x3 : Vec Ideal S2304x5120 .bf16) (x4 : Vec Ideal S2304x128 .bf16)
    (x5 : Vec Ideal S2304x2048 .bf16) (x6 : Vec Ideal S4x512x2048 .bf16) (x7 : Vec Ideal S2304x2048 .bf16) :
    Ins (ent x0) (ent x1) (ent x2) (ent x3) (ent x4) (ent x5) (ent4 x6) (ent x7) x0 x1 x2 x3 x4 x5 x6 x7 :=
  ⟨eq_ent x0, eq_ent x1, eq_ent x2, eq_ent x3, eq_ent x4, eq_ent x5, eq_ent4 x6, eq_ent x7⟩

variable {h wm wg dz dg x wo dy : ℕ → ℕ → EReal} (c : Dev nD)

section
variable (H : Ins h wm wg dz dg x wo dy (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)))
include H

theorem res_z : (dat0 (V0 m ρ) c).arrAt 2 cfg0.N = (blk (mul 2048 h wm) 0 0 : Vec Ideal S2304x5120 .bf16) :=
  arr0 (V0 m ρ) c H.h0 H.h1

theorem res_zg : (dat1 (V1 m ρ) c).arrAt 2 cfg1.N = (blk (mul 2048 h wg) 0 0 : Vec Ideal S2304x128 .f32) :=
  arr1 (V1 m ρ) c ((W1_args m ρ c main_arg0 (by decide)).trans H.h0) ((W1_args m ρ c main_arg2 (by decide)).trans H.h2)

theorem res_y : (dat2 (V2 m ρ) c).arrAt 5 cfg2.N = (blk (mul 2048 x wo) 0 0 : Vec Ideal S2304x2048 .f32) :=
  arr2 (V2 m ρ) c ((W2_args m ρ c main_arg5 (by decide)).trans H.h5) ((W2_args m ρ c main_arg6 (by decide)).trans H.h6)

theorem res_dm : (dat3 (V3 m ρ) c).arrAt 2 cfg3.N = (blk (mulT 2048 dy wo) 0 0 : Vec Ideal S2304x2048 .f32) :=
  arr3 (V3 m ρ) c ((W3_args m ρ c main_arg7 (by decide)).trans H.h7) ((W3_args m ρ c main_arg6 (by decide)).trans H.h6)

theorem res_dw_out : (dat4 (V4 m ρ) c).arrAt 2 cfg4.N = (blk (tmul 2304 x dy) 0 0 : Vec Ideal S2048x2048 .bf16) :=
  arr4 (V4 m ρ) c ((W4_args m ρ c main_arg5 (by decide)).trans H.h5) ((W4_args m ρ c main_arg7 (by decide)).trans H.h7)

theorem at6_v5 : V6 m ρ c main_v5 = (blk (mulT 128 dg wg) 0 0 : Vec Ideal S2304x2048 .f32) :=
  (W6_arr m ρ c 2).trans (arr5 (V5 m ρ) c ((W5_args m ρ c main_arg4 (by decide)).trans H.h4)
    ((W5_args m ρ c main_arg2 (by decide)).trans H.h2))

theorem res_dh : (dat6 (V6 m ρ) c).arrAt 3 cfg6.N
    = (blk (fun i j => mulT 5120 dz wm i j + mulT 128 dg wg i j) 0 0 : Vec Ideal S2304x2048 .f32) :=
  arr6 (V6 m ρ) c ((W6_args m ρ c main_arg3 (by decide)).trans H.h3)
    ((W6_args m ρ c main_arg1 (by decide)).trans H.h1) (at6_v5 m ρ c H)

theorem res_dw_main : (dat7 (V7 m ρ) c).arrAt 2 cfg7.N = (blk (tmul 2304 h dz) 0 0 : Vec Ideal S2048x5120 .bf16) :=
  arr7 (V7 m ρ) c ((W7_args m ρ c main_arg0 (by decide)).trans H.h0) ((W7_args m ρ c main_arg3 (by decide)).trans H.h3)

theorem res_dw_gate : (dat8 (V8 m ρ) c).arrAt 2 cfg8.N = (blk (tmul 2304 h dg) 0 0 : Vec Ideal S2048x128 .bf16) :=
  arr8 (V8 m ρ) c ((W8_args m ρ c main_arg0 (by decide)).trans H.h0) ((W8_args m ρ c main_arg4 (by decide)).trans H.h4)

end
end Cert.Proof.Proj
-- ==== Proof.ProjRef.lean ====
module

public import proofs.«01_k».proof.Proof.Gen.Reference3Ideal.Read
public import proofs.«01_k».proof.Proof.ProjRun

@[expose] public section

/-!
# What the projections' reference computes

Each of its eight results as a product of the entries the arguments hold.
-/

set_option maxRecDepth 16384

noncomputable section
open scoped BigOperators
namespace Cert.Proof.Proj.Ref
open Idealize.ShloMosaic Cert.Reference3Ideal Cert.Reference3Ideal.Gen Cert.Reference3Ideal.Read Cert.Proof.Proj

/-- A product with its first factor transposed, the factors in the other order. -/
theorem tmul_comm (K : ℕ) (f g : ℕ → ℕ → EReal) (i j : ℕ) : ∑ k : Fin K, g k j * f k i = tmul K f g i j :=
  Finset.sum_congr rfl fun _ _ => mul_comm _ _

variable {h wm wg dz dg x wo dy : ℕ → ℕ → EReal} {x0 : Vec Ideal S2304x2048 .bf16} {x1 : Vec Ideal S2048x5120 .bf16}
  {x2 : Vec Ideal S2048x128 .bf16} {x3 : Vec Ideal S2304x5120 .bf16} {x4 : Vec Ideal S2304x128 .bf16}
  {x5 : Vec Ideal S2304x2048 .bf16} {x6 : Vec Ideal S4x512x2048 .bf16} {x7 : Vec Ideal S2304x2048 .bf16}
  (H : Ins h wm wg dz dg x wo dy x0 x1 x2 x3 x4 x5 x6 x7)
include H

theorem z_eq : val_main_v22 (F := Ideal) x0 x1 = blk (mul 2048 h wm) 0 0 := by
  rw [H.h0, H.h1]; funext y; idx_vars y
  pointwise [val_main_v22, val_main_v8, val_main_v0, val_main_v1]
  rfl

theorem zg_eq : val_main_v9 (F := Ideal) x0 x2 = blk (mul 2048 h wg) 0 0 := by
  rw [H.h0, H.h2]; funext y; idx_vars y
  pointwise [val_main_v9, val_main_v0, val_main_v2]
  rfl

/-- The output projection's weights, the four blocks put together. -/
theorem wo_eq : val_main_v10 (F := Ideal) x6 = blk wo 0 0 := by
  rw [H.h6]; funext y; idx_vars y
  pointwise [val_main_v10, val_main_v6]
  unfold rows4 blk
  dsimp only [ix2, ix3]
  congr 1 <;> dsimp <;> omega

theorem y_eq : val_main_v11 (F := Ideal) x5 x6 = blk (mul 2048 x wo) 0 0 := by
  unfold val_main_v11
  rw [wo_eq H, H.h5]; funext y; idx_vars y
  pointwise [val_main_v5]
  rfl

theorem dh_eq : val_main_v18 (F := Ideal) x1 x2 x3 x4 = blk (fun i j => mulT 5120 dz wm i j + mulT 128 dg wg i j) 0 0 := by
  rw [H.h1, H.h2, H.h3, H.h4]; funext y; idx_vars y
  pointwise [val_main_v18, val_main_v14, val_main_v17, val_main_v1, val_main_v2, val_main_v3, val_main_v4]
  exact add_comm _ _

theorem dw_main_eq : val_main_v23 (F := Ideal) x0 x3 = blk (tmul 2304 h dz) 0 0 := by
  rw [H.h0, H.h3]; funext y; idx_vars y
  pointwise [val_main_v23, val_main_v16, val_main_v15, val_main_v0, val_main_v3]
  exact tmul_comm 2304 h dz y0.val y1.val

theorem dw_gate_eq : val_main_v24 (F := Ideal) x0 x4 = blk (tmul 2304 h dg) 0 0 := by
  rw [H.h0, H.h4]; funext y; idx_vars y
  pointwise [val_main_v24, val_main_v13, val_main_v12, val_main_v0, val_main_v4]
  exact tmul_comm 2304 h dg y0.val y1.val

theorem dm_eq : val_main_v21 (F := Ideal) x6 x7 = blk (mulT 2048 dy wo) 0 0 := by
  unfold val_main_v21
  rw [wo_eq H, H.h7]; funext y; idx_vars y
  pointwise [val_main_v7]
  rfl

theorem dw_out_eq : val_main_v25 (F := Ideal) x5 x7 = blk (tmul 2304 x dy) 0 0 := by
  rw [H.h5, H.h7]; funext y; idx_vars y
  pointwise [val_main_v25, val_main_v20, val_main_v19, val_main_v5, val_main_v7]
  exact tmul_comm 2304 x dy y0.val y1.val

end Cert.Proof.Proj.Ref
-- ==== Proof.LatBlock.lean ====
module

public import proofs.«01_k».proof.Proof.Gen.Kernel4Ideal.Skeleton
public import proofs.«01_k».proof.Proof.GluBlock
public import Idealize.ShloMosaic.Lib.Pointwise

@[expose] public section

/-!
# The blocks the ten kernels compute, of the latent rows alone

Blocks of real numbers go to blocks of real numbers: each kernel's stored value, of input blocks that hold the numbers
of GluMath.lean. The rows are one sequence of 2048.
-/

set_option maxRecDepth 16384

noncomputable section
namespace Cert.Proof.Glu.Lat
open Idealize.ShloMosaic Cert.Kernel4Ideal Cert.Kernel4Ideal.Gen

variable (h wu cw : ℕ → ℕ → ℝ) (cb : ℕ → ℝ) (wd dy u g d : ℕ → ℕ → ℝ) (a b : ℕ)

theorem up_proj_eq : k0_pay1 (F := Ideal) (blk h a 0) (lead wu 0 b) = blk (U h wu) a b := by
  funext y; idx_vars y
  pointwise [k0_pay1]
  simp only [blk_apply, lead_apply, ← EReal.coe_mul, ← Row.coe_sum]
  rfl

theorem down_dx_eq : k2_pay1 (F := Ideal) (blk dy a 0) (lead wd b 0) = blk (DG wd dy) a b := by
  funext y; idx_vars y
  pointwise [k2_pay1]
  simp only [blk_apply, lead_apply, ← EReal.coe_mul, ← Row.coe_sum]
  rfl

theorem down_dw_eq : k3_pay1 (F := Ideal) (blk g 0 a) (blk dy 0 0) = blk (DM 2048 g dy) a 0 := by
  funext y; idx_vars y
  pointwise [k3_pay1]
  simp only [blk_apply, ← EReal.coe_mul, ← Row.coe_sum]
  rfl

theorem bits_prv : ∀ r : Fin 2048, BitVec.setWidth 32 (IntOp.andi (IntOp.cmpi .ne (BitVec.ofNat 32 r.val) 0#32)
    (IntOp.cmpi .ne (BitVec.ofNat 32 r.val) 2048#32)) = if Prv r then 1#32 else 0#32 := by
  decide +kernel

theorem bits_nxt : ∀ r : Fin 2048, BitVec.setWidth 32 (IntOp.andi (IntOp.cmpi .ne (BitVec.ofNat 32 r.val) 2047#32)
    (IntOp.cmpi .ne (BitVec.ofNat 32 r.val) 2047#32)) = if Nxt r then 1#32 else 0#32 := by
  decide +kernel

theorem mask6 (r : Fin 2048) : k4_pay6 (F := Ideal) (ix2 r 0) = ((if Prv r then 1 else 0 : ℝ) : EReal) := by
  pointwise [k4_pay6]
  exact (congrArg _ (bits_prv r)).trans (bit _)

theorem mask7 (r : Fin 2048) : k4_pay7 (F := Ideal) (ix2 r 0) = ((if Nxt r then 1 else 0 : ℝ) : EReal) := by
  pointwise [k4_pay7]
  exact (congrArg _ (bits_nxt r)).trans (bit _)

/-- The rows turned down by one, the first of each sequence masked. -/
theorem turn_up (f : ℕ → ℕ → ℝ) {i : ℕ} (hi : i < 2048) (j : ℕ) :
    f ((i + 2048 - 1) % 2048) j * (if Prv i then 1 else 0) = up f i j := by
  unfold up
  split
  · rename_i hp
    rw [mul_one, show (i + 2048 - 1) % 2048 = i - 1 by have := hp.1; omega]
  · rw [mul_zero]

/-- The rows turned up by one, the last of each sequence masked. -/
theorem turn_dn (f : ℕ → ℕ → ℝ) {i : ℕ} (hi : i < 2048) (j : ℕ) :
    f ((i + 2048 - 2047) % 2048) j * (if Nxt i then 1 else 0) = dn f i j := by
  unfold dn
  split
  · rename_i hn
    rw [mul_one, show (i + 2048 - 2047) % 2048 = i + 1 by have := hn.1; omega]
  · rw [mul_zero]

/-- A row follows one that has a row after it exactly when it has a row before it. -/
theorem nxt_turn {i : ℕ} (hi : i < 2048) : Nxt ((i + 2048 - 1) % 2048) ↔ Prv i := by
  unfold Nxt Prv; omega

theorem prv_turn {i : ℕ} (hi : i < 2048) : Prv ((i + 2048 - 2047) % 2048) ↔ Nxt i := by
  unfold Nxt Prv; omega

theorem pay4_eq : k4_pay4 (F := Ideal) (blk u 0 b) = blk u 0 b := by
  funext y; idx_vars y
  pointwise [k4_pay4]

theorem pay5_eq : k4_pay5 (F := Ideal) (blk u 0 b) = blk u 0 b := by
  funext y; idx_vars y
  pointwise [k4_pay5]

theorem pay8_eq : k4_pay8 (F := Ideal) (blk u 0 b) = blk (up u) 0 b := by
  funext y; idx_vars y
  simp only [k4_pay8, pay4_eq]
  pointwise []
  rw [mask6, blk_apply, blk_apply, ← EReal.coe_mul]
  exact congrArg _ (turn_up u y0.isLt _)

theorem pay11_eq : k4_pay11 (F := Ideal) (blk u 0 b) = blk (dn u) 0 b := by
  funext y; idx_vars y
  simp only [k4_pay11, pay4_eq]
  pointwise []
  rw [mask7, blk_apply, blk_apply, ← EReal.coe_mul]
  exact congrArg _ (turn_dn u y0.isLt _)

theorem pay13_eq : k4_pay13 (F := Ideal) (blk u 0 b) (blk cw 0 b) (blk (fun _ => cb) 0 b) = blk (C cw cb u) 0 b := by
  funext y; idx_vars y
  simp only [k4_pay13, pay4_eq, pay8_eq, pay11_eq]
  pointwise [k4_pay9, k4_pay10, k4_pay12]
  simp only [blk_apply, ← EReal.coe_mul, ← EReal.coe_add]
  rfl

theorem pay14_eq : k4_pay14 (F := Ideal) (blk u 0 b) (blk cw 0 b) (blk (fun _ => cb) 0 b)
    = blk (fun i j => 1 / 2 * C cw cb u i j) 0 b := by
  funext y; idx_vars y
  simp only [k4_pay14, pay13_eq]
  pointwise []
  rw [half]; rfl

theorem pay16_eq : k4_pay16 (F := Ideal) (blk (fun i j => 1 / 2 * C cw cb u i j) 0 b) = blk (gate cw cb u) 0 b := by
  funext y; idx_vars y
  pointwise [k4_pay16, k4_pay15]
  rw [half, blk_apply, blk_apply, Ideal.tanh_coe, ← EReal.coe_mul, ← EReal.coe_add]
  exact congrArg _ (sg_tanh _)

theorem conv_glu_eq : k1_pay1 (F := Ideal) (k1_pay2 (blk (val u) 0 b)) (k1_pay3 (blk u 0 b) (blk cw 0 b) (blk (fun _ => cb) 0 b))
    (k1_pay4 (blk u 0 b) (blk cw 0 b) (blk (fun _ => cb) 0 b)) = blk (G cw cb u) 0 b := by
  refine Eq.trans (b := mulf (mulf (k4_pay13 (F := Ideal) (blk u 0 b) (blk cw 0 b) (blk (fun _ => cb) 0 b))
    (k4_pay16 (k4_pay14 (blk u 0 b) (blk cw 0 b) (blk (fun _ => cb) 0 b)))) (k4_pay5 (blk (val u) 0 b))) rfl ?_
  rw [pay13_eq, pay14_eq, pay16_eq, pay5_eq]
  rfl

theorem pay18_eq : k4_pay18 (F := Ideal) (blk (C cw cb u) 0 b) (blk (fun i j => 1 / 2 * C cw cb u i j) 0 b) (blk g 0 b)
    = blk (DV cw cb u g) 0 b := by
  funext y; idx_vars y
  simp only [k4_pay18, pay16_eq]
  pointwise [k4_pay17]
  rfl

theorem pay19_eq : k4_pay19 (F := Ideal) (blk (val u) 0 b) (blk (C cw cb u) 0 b) (blk (fun i j => 1 / 2 * C cw cb u i j) 0 b)
    (blk g 0 b) = blk (DC cw cb u g) 0 b := by
  funext y; idx_vars y
  pointwise [k4_pay19, k4_pay17, k4_pay16, k4_pay15]
  rw [half]
  simp only [blk_apply, Ideal.tanh_coe, ← EReal.coe_one, ← EReal.coe_mul, ← EReal.coe_add, ← EReal.coe_sub]
  exact congrArg _ (DC_tanh _ _)

theorem pay20_eq : k4_pay20 (F := Ideal) (blk (val u) 0 b) (blk (C cw cb u) 0 b) (blk (fun i j => 1 / 2 * C cw cb u i j) 0 b)
    (blk g 0 b) = blk (fun _ => DB 2048 (DC cw cb u g)) 0 b := by
  funext y; idx_vars y
  simp only [k4_pay20, pay19_eq]
  pointwise []
  simp only [blk_apply, ← Row.coe_sum]
  rfl

theorem grad_gate_eq : k4_pay2 (F := Ideal) k4_pay6 (k4_pay9 (blk cw 0 b)) (blk (DC cw cb u g) 0 b)
    (k4_pay21 (blk (val u) 0 b) k4_pay7 (k4_pay10 (blk cw 0 b)) (k4_pay12 (blk cw 0 b)) (blk (C cw cb u) 0 b)
      (blk (fun i j => 1 / 2 * C cw cb u i j) 0 b) (blk g 0 b)) = blk (DA cw (DC cw cb u g)) 0 b := by
  funext y; idx_vars y
  simp only [k4_pay2, k4_pay21, pay19_eq]
  generalize DC cw cb u g = d
  pointwise [k4_pay9, k4_pay10, k4_pay12]
  rw [mask6, mask7]
  simp only [blk_apply, ← EReal.coe_mul, ← EReal.coe_add]
  refine congrArg _ ?_
  simp only [nxt_turn y0.isLt, prv_turn y0.isLt]
  simp only [Nat.add_zero]
  rw [mul_right_comm, turn_up d y0.isLt, mul_right_comm _ (cw _ _), turn_dn d y0.isLt]
  rfl

theorem grad_taps_eq : k4_pay1 (F := Ideal) (blk (up u) 0 b) (blk (DC cw cb u g) 0 b)
    (k4_pay22 (blk u 0 b) (blk (val u) 0 b) (blk (dn u) 0 b) (blk (C cw cb u) 0 b)
      (blk (fun i j => 1 / 2 * C cw cb u i j) 0 b) (blk g 0 b)) = blk (DW 2048 u (DC cw cb u g)) 0 b := by
  funext y; idx_vars y
  fin_cases y0 <;> pointwise [k4_pay1, k4_pay22] <;> simp only [pay19_eq, blk_apply, ← EReal.coe_mul, ← Row.coe_sum] <;> rfl

theorem up_dx_gate_eq : k5_pay1 (F := Ideal) (blk d a 0) (lead wu b 0) (blk d a 1408) (lead wu b 1408) (blk d a 2816)
    (lead wu b 2816) (blk d a 4224) (lead wu b 4224) = blk (DH wu d) a b := by
  funext y; idx_vars y
  pointwise [k5_pay1]
  simp only [blk_apply, lead_apply, ← EReal.coe_mul, ← Row.coe_sum, ← EReal.coe_add]
  exact congrArg _ (sum_quarters fun c => d (y0.val + a) c * wu (y1.val + b) c).symm

theorem up_dx_value_eq : k6_pay1 (F := Ideal) (blk d a 0) (lead wu b 0) (blk d a 1408) (lead wu b 1408) (blk d a 2816)
    (lead wu b 2816) (blk d a 4224) (lead wu b 4224) (blk g a b) = blk (fun i k => g i k + DH wu d i k) a b := by
  funext y; idx_vars y
  pointwise [k6_pay1]
  simp only [blk_apply, lead_apply, ← EReal.coe_mul, ← Row.coe_sum, ← EReal.coe_add]
  refine congrArg _ ?_
  rw [add_comm]
  exact congrArg _ (sum_quarters fun c => d (y0.val + a) c * wu (y1.val + b) c).symm

theorem up_dw_gate_eq : k7_pay1 (F := Ideal) (blk h 0 a) (blk d 0 b) = lead (DM 2048 h d) a b := by
  funext y; idx_vars y
  pointwise [k7_pay1]
  simp only [blk_apply, lead_apply, ← EReal.coe_mul, ← Row.coe_sum]
  rfl

theorem up_dw_value_eq : k8_pay1 (F := Ideal) (blk h 0 a) (blk d 0 b) = lead (DM 2048 h d) a b :=
  up_dw_gate_eq h d a b

theorem down_proj_eq : k9_pay1 (F := Ideal) (blk g a 0) (lead wd 0 b) (blk g a 1408) (lead wd 1408 b) (blk g a 2816)
    (lead wd 2816 b) (blk g a 4224) (lead wd 4224 b) = blk (Y wd g) a b := by
  funext y; idx_vars y
  pointwise [k9_pay1]
  simp only [blk_apply, lead_apply, ← EReal.coe_mul, ← Row.coe_sum, ← EReal.coe_add]
  exact congrArg _ (sum_quarters fun c => g (y0.val + a) c * wd c (y1.val + b)).symm

end Cert.Proof.Glu.Lat
-- ==== Proof.LatArr.lean ====
module

public import proofs.«01_k».proof.Proof.LatBlock
public import proofs.«01_k».proof.Proof.GluUp
public import proofs.«01_k».proof.Proof.ProjArr
public import proofs.«01_k».proof.Proof.Gen.Kernel4Ideal.Frame
public import Idealize.ShloMosaic.Lib.Pipeline.Value

@[expose] public section

/-!
# The forward products' arrays, of the latent rows alone

What a block of an array holds, and the arrays the first four kernels leave: the first product, the gated result, the
gated result's gradient and the last product's weights' gradient.
-/

set_option maxRecDepth 16384

noncomputable section
namespace Cert.Proof.Glu.Lat
open Idealize.ShloMosaic Idealize.ShloMosaic.TcCoe Idealize.ShloMosaic.Tactic Cert.Kernel4Ideal Cert.Kernel4Ideal.Gen
open Idealize.ShloMosaic.Pipeline (Window)

section
variable (f : ℕ → ℕ → ℝ) {n m N M p q k a b : ℕ}

/-- What a block of an array of real numbers holds. -/
theorem held {e : (⟨2, ![n, m]⟩ : Shape).Idx → (⟨2, ![N, M]⟩ : Shape).Idx} (h : Proj.Lies p q e) :
    (fun y => (blk f 0 0 : (⟨2, ![N, M]⟩ : Shape).Idx → EReal) (e y)) = blk f (p * n) (q * m) :=
  Proj.Lies.read (fun i j => ((f i j : ℝ) : EReal)) h

/-- What a block of the first product's weights holds, block `p, q` of the `k`-th of their four. -/
theorem held_wup {e : (⟨3, ![1, n, m]⟩ : Shape).Idx → S4x2048x2816.Idx} {u : Fin 3 → ℕ}
    (h : ∀ y a, (e y a).val = u a * ![1, n, m] a + (y a).val) (hu : u 0 = k ∧ u 1 = p ∧ u 2 = q)
    (hb : 2816 * k + q * m = b) : (fun y => wup f (e y)) = lead f (p * n) b :=
  read_wup f (k := k) e (fun y => (h y 0).trans (by rw [hu.1]; exact congrArg (· + _) (Nat.mul_one _)))
    (fun y => (h y 1).trans (by rw [hu.2.1]; rfl))
    (fun y => (congrArg _ (h y 2)).trans (by rw [hu.2.2, ← hb]; exact (Nat.add_assoc _ _ _).symm))

/-- The same of the last product's weights. -/
theorem held_wdn {e : (⟨3, ![1, n, m]⟩ : Shape).Idx → S4x1408x2048.Idx} {u : Fin 3 → ℕ}
    (h : ∀ y a, (e y a).val = u a * ![1, n, m] a + (y a).val) (hu : u 0 = k ∧ u 1 = p ∧ u 2 = q)
    (ha : 1408 * k + p * n = a) : (fun y => wdn f (e y)) = lead f a (q * m) :=
  read_wdn f (k := k) e (fun y => (h y 0).trans (by rw [hu.1]; exact congrArg (· + _) (Nat.mul_one _)))
    (fun y => (congrArg _ (h y 1)).trans (by rw [hu.2.1, ← ha]; exact (Nat.add_assoc _ _ _).symm))
    (fun y => (h y 2).trans (by rw [hu.2.2]; rfl))

/-- The elements of a block of the first product's weights. -/
theorem mem_wup {e : (⟨3, ![1, n, m]⟩ : Shape).Idx ↪ S4x2048x2816.Idx} {u : Fin 3 → ℕ}
    (h : ∀ y a, (e y a).val = u a * ![1, n, m] a + (y a).val) (hu : u 0 = k ∧ u 1 = p ∧ u 2 = q) (y : S4x2048x2816.Idx) :
    y ∈ Finset.univ.map e ↔ (y 0).val = k ∧ (p * n ≤ (y 1).val ∧ (y 1).val < p * n + n)
      ∧ q * m ≤ (y 2).val ∧ (y 2).val < q * m + m := by
  constructor
  · intro hy
    obtain ⟨z, -, rfl⟩ := Finset.mem_map.1 hy
    have h0 : (e z 0).val = u 0 * 1 + (z 0).val := h z 0
    have h1 : (e z 1).val = u 1 * n + (z 1).val := h z 1
    have h2 : (e z 2).val = u 2 * m + (z 2).val := h z 2
    have z0 : (z 0).val < 1 := (z 0).isLt
    have z1 : (z 1).val < n := (z 1).isLt
    have z2 : (z 2).val < m := (z 2).isLt
    rw [hu.1] at h0; rw [hu.2.1] at h1; rw [hu.2.2] at h2
    omega
  · rintro ⟨h0, h1, h2⟩
    refine Finset.mem_map.2 ⟨ix3 ⟨0, one_pos⟩ ⟨(y 1).val - p * n, by omega⟩ ⟨(y 2).val - q * m, by omega⟩,
      Finset.mem_univ _, funext fun a => Fin.ext ?_⟩
    match a with
    | ⟨0, _⟩ => exact (h _ 0).trans (by rw [hu.1]; exact (Nat.mul_one k).trans h0.symm)
    | ⟨1, _⟩ => exact (h _ 1).trans (by rw [hu.2.1]; exact Nat.add_sub_cancel' h1.1)
    | ⟨2, _⟩ => exact (h _ 2).trans (by rw [hu.2.2]; exact Nat.add_sub_cancel' h2.1)
end

variable (V : (c : Dev nD) → (b : Ref sig .tc) → Buf (Elt Ideal) ((c : Thread nD τ).loc b)) (c : Dev nD)
variable {h wu cw : ℕ → ℕ → ℝ} {cb : ℕ → ℝ} {wd dy u g d : ℕ → ℕ → ℝ}

/-! ## The first product -/

theorem lies0_0 (t : Fin cfg0.N) : Proj.Lies (t.val / 8) 0 fun y : S1024x2048.Idx => (win0_0.rect t).emb y :=
  .of (Window.rect_emb_val win0_0 t)
    ((by decide +kernel : ∀ t : Fin grid0.N, win0_0.index t 0 = t.val / 8 ∧ win0_0.index t 1 = 0) t)

theorem idx0_1 : ∀ t : Fin grid0.N, win0_1.index t 0 = t.val % 8 / 2 ∧ win0_1.index t 1 = 0 ∧ win0_1.index t 2 = t.val % 2 := by
  decide +kernel
theorem lies0_2 (t : Fin cfg0.N) : Proj.Lies (t.val / 8) (t.val % 8) fun y : S1024x1408.Idx => (win0_2.rect t).emb y :=
  .of (Window.rect_emb_val win0_2 t)
    ((by decide +kernel : ∀ t : Fin grid0.N, win0_2.index t 0 = t.val / 8 ∧ win0_2.index t 1 = t.val % 8) t)

theorem ib0_0 (e : V c main_arg0 = (blk h 0 0 : Vec Ideal S2048x2048 .bf16)) (t : Fin cfg0.N) :
    iblk0 V c 0 t = (blk h (t.val / 8 * 1024) 0 : Vec Ideal S1024x2048 .bf16) :=
  (congrArg (fun (x : Vec Ideal S2048x2048 .bf16) (y : S1024x2048.Idx) => x ((win0_0.rect t).emb y)) e).trans
    (held h (lies0_0 t))

theorem ib0_1 (e : V c main_arg1 = wup wu) (t : Fin cfg0.N) :
    iblk0 V c 1 t = (lead wu 0 (t.val % 8 * 1408) : Vec Ideal S1x2048x1408 .bf16) :=
  (congrArg (fun (x : Vec Ideal S4x2048x2816 .bf16) (y : S1x2048x1408.Idx) => x ((win0_1.rect t).emb y)) e).trans
    (held_wup wu (Window.rect_emb_val win0_1 t) (idx0_1 t) (by omega))

theorem arr0_2 (e0 : V c main_arg0 = (blk h 0 0 : Vec Ideal S2048x2048 .bf16)) (e1 : V c main_arg1 = wup wu) :
    (dat0 V c).arrAt 2 cfg0.N = (blk (U h wu) 0 0 : Vec Ideal S2048x11264 .bf16) := by
  refine (dat0 V c).arrAt_eq_of_cover 2 (blk (U h wu) 0 0 : Vec Ideal S2048x11264 .bf16) (fun t _ => ?_) fun y => ?_
  · show (cfg0.win 2).cut (grid0.coords t) ((dat0 V c).after 2 t) = _
    rw [after0_2, ib0_0 V c e0, ib0_1 V c e1]
    unfold out0_2
    rw [View.canon_unit_zero (S := S1024x1408) hz2, View.ld_unit_zero (S := S1024x2048) hz2,
      View.ld_unit_zero (S := S1x2048x1408) hz3, up_proj_eq]
    exact (held (U h wu) (lies0_2 t)).symm
  · have h0 : (y 0).val < 2048 := (y 0).isLt
    have h1 : (y 1).val < 11264 := (y 1).isLt
    have ht : (y 0).val / 1024 * 8 + (y 1).val / 1408 < cfg0.N := by rw [show cfg0.N = 16 from N_0]; omega
    refine ⟨⟨_, ht⟩, flush0_2 _, ?_⟩
    show y ∈ ((View.whole main_v0).slice (win0_2.rect ⟨_, ht⟩)).set
    rw [View.set_slice_whole, ← Rect.map_emb_univ]
    exact (lies0_2 ⟨_, ht⟩).mem y (by dsimp only; omega) (by dsimp only; omega)

/-! ## The gated result -/

theorem lies1_0 (t : Fin cfg1.N) : Proj.Lies 0 t.val fun y : S2048x256.Idx => (win1_0.rect t).emb y :=
  .of (Window.rect_emb_val win1_0 t)
    ((by decide +kernel : ∀ t : Fin grid1.N, win1_0.index t 0 = 0 ∧ win1_0.index t 1 = t.val) t)

theorem lies1_1 (t : Fin cfg1.N) : Proj.Lies 0 (22 + t.val) fun y : S2048x256.Idx => (win1_1.rect t).emb y :=
  .of (Window.rect_emb_val win1_1 t)
    ((by decide +kernel : ∀ t : Fin grid1.N, win1_1.index t 0 = 0 ∧ win1_1.index t 1 = 22 + t.val) t)

theorem lies1_2 (t : Fin cfg1.N) : Proj.Lies 0 t.val fun y : S3x256.Idx => (win1_2.rect t).emb y :=
  .of (Window.rect_emb_val win1_2 t)
    ((by decide +kernel : ∀ t : Fin grid1.N, win1_2.index t 0 = 0 ∧ win1_2.index t 1 = t.val) t)

theorem lies1_3 (t : Fin cfg1.N) : Proj.Lies 0 t.val fun y : S1x256.Idx => (win1_3.rect t).emb y :=
  .of (Window.rect_emb_val win1_3 t)
    ((by decide +kernel : ∀ t : Fin grid1.N, win1_3.index t 0 = 0 ∧ win1_3.index t 1 = t.val) t)

theorem lies1_4 (t : Fin cfg1.N) : Proj.Lies 0 t.val fun y : S2048x256.Idx => (win1_4.rect t).emb y :=
  .of (Window.rect_emb_val win1_4 t)
    ((by decide +kernel : ∀ t : Fin grid1.N, win1_4.index t 0 = 0 ∧ win1_4.index t 1 = t.val) t)

theorem ib1_0 (e : V c main_v0 = (blk u 0 0 : Vec Ideal S2048x11264 .bf16)) (t : Fin cfg1.N) :
    iblk1 V c 0 t = (blk u 0 (t.val * 256) : Vec Ideal S2048x256 .bf16) :=
  (congrArg (fun (x : Vec Ideal S2048x11264 .bf16) (y : S2048x256.Idx) => x ((win1_0.rect t).emb y)) e).trans
    (held u (lies1_0 t))

theorem ib1_1 (e : V c main_v0 = (blk u 0 0 : Vec Ideal S2048x11264 .bf16)) (t : Fin cfg1.N) :
    iblk1 V c 1 t = (blk (val u) 0 (t.val * 256) : Vec Ideal S2048x256 .bf16) :=
  (congrArg (fun (x : Vec Ideal S2048x11264 .bf16) (y : S2048x256.Idx) => x ((win1_1.rect t).emb y)) e).trans
    ((held u (lies1_1 t)).trans ((congrArg (blk u 0) (by omega)).trans val_blk))

theorem ib1_2 (e : V c main_arg2 = (blk cw 0 0 : Vec Ideal S3x5632 .f32)) (t : Fin cfg1.N) :
    iblk1 V c 2 t = (blk cw 0 (t.val * 256) : Vec Ideal S3x256 .f32) :=
  (congrArg (fun (x : Vec Ideal S3x5632 .f32) (y : S3x256.Idx) => x ((win1_2.rect t).emb y)) e).trans
    (held cw (lies1_2 t))

theorem ib1_3 (e : V c main_arg3 = (blk (fun _ => cb) 0 0 : Vec Ideal S1x5632 .f32)) (t : Fin cfg1.N) :
    iblk1 V c 3 t = (blk (fun _ => cb) 0 (t.val * 256) : Vec Ideal S1x256 .f32) :=
  (congrArg (fun (x : Vec Ideal S1x5632 .f32) (y : S1x256.Idx) => x ((win1_3.rect t).emb y)) e).trans
    (held (fun _ => cb) (lies1_3 t))

theorem arr1_4 (e0 : V c main_v0 = (blk u 0 0 : Vec Ideal S2048x11264 .bf16))
    (e2 : V c main_arg2 = (blk cw 0 0 : Vec Ideal S3x5632 .f32))
    (e3 : V c main_arg3 = (blk (fun _ => cb) 0 0 : Vec Ideal S1x5632 .f32)) :
    (dat1 V c).arrAt 4 cfg1.N = (blk (G cw cb u) 0 0 : Vec Ideal S2048x5632 .bf16) := by
  refine (dat1 V c).arrAt_eq_of_cover 4 (blk (G cw cb u) 0 0 : Vec Ideal S2048x5632 .bf16) (fun t _ => ?_) fun y => ?_
  · show (cfg1.win 4).cut (grid1.coords t) ((dat1 V c).after 4 t) = _
    rw [after1_4, ib1_0 V c e0, ib1_1 V c e0, ib1_2 V c e2, ib1_3 V c e3]
    unfold out1_4
    rw [View.canon_unit_zero (S := S2048x256) hz2]
    simp only [View.ld_unit_zero (S := S2048x256) hz2, View.ld_unit_zero (S := S3x256) hz2, View.ld_unit_zero (S := S1x256) hz2]
    rw [conv_glu_eq]
    exact (held (G cw cb u) (lies1_4 t)).symm
  · have h0 : (y 0).val < 2048 := (y 0).isLt
    have h1 : (y 1).val < 5632 := (y 1).isLt
    have ht : (y 1).val / 256 < cfg1.N := by rw [show cfg1.N = 22 from N_1]; omega
    refine ⟨⟨_, ht⟩, flush1_4 _, ?_⟩
    show y ∈ ((View.whole main_v1).slice (win1_4.rect ⟨_, ht⟩)).set
    rw [View.set_slice_whole, ← Rect.map_emb_univ]
    exact (lies1_4 ⟨_, ht⟩).mem y (by dsimp only; omega) (by dsimp only; omega)

/-! ## The gated result's gradient -/

theorem lies2_0 (t : Fin cfg2.N) : Proj.Lies (t.val / 4) 0 fun y : S512x2048.Idx => (win2_0.rect t).emb y :=
  .of (Window.rect_emb_val win2_0 t)
    ((by decide +kernel : ∀ t : Fin grid2.N, win2_0.index t 0 = t.val / 4 ∧ win2_0.index t 1 = 0) t)

theorem idx2_1 : ∀ t : Fin grid2.N, win2_1.index t 0 = t.val % 4 ∧ win2_1.index t 1 = 0 ∧ win2_1.index t 2 = 0 := by
  decide +kernel
theorem lies2_2 (t : Fin cfg2.N) : Proj.Lies (t.val / 4) (t.val % 4) fun y : S512x1408.Idx => (win2_2.rect t).emb y :=
  .of (Window.rect_emb_val win2_2 t)
    ((by decide +kernel : ∀ t : Fin grid2.N, win2_2.index t 0 = t.val / 4 ∧ win2_2.index t 1 = t.val % 4) t)

theorem ib2_0 (e : V c main_arg5 = (blk dy 0 0 : Vec Ideal S2048x2048 .bf16)) (t : Fin cfg2.N) :
    iblk2 V c 0 t = (blk dy (t.val / 4 * 512) 0 : Vec Ideal S512x2048 .bf16) :=
  (congrArg (fun (x : Vec Ideal S2048x2048 .bf16) (y : S512x2048.Idx) => x ((win2_0.rect t).emb y)) e).trans
    (held dy (lies2_0 t))

theorem ib2_1 (e : V c main_arg4 = wdn wd) (t : Fin cfg2.N) :
    iblk2 V c 1 t = (lead wd (t.val % 4 * 1408) 0 : Vec Ideal S1x1408x2048 .bf16) :=
  (congrArg (fun (x : Vec Ideal S4x1408x2048 .bf16) (y : S1x1408x2048.Idx) => x ((win2_1.rect t).emb y)) e).trans
    (held_wdn wd (Window.rect_emb_val win2_1 t) (idx2_1 t) (by omega))

theorem arr2_2 (e0 : V c main_arg5 = (blk dy 0 0 : Vec Ideal S2048x2048 .bf16)) (e1 : V c main_arg4 = wdn wd) :
    (dat2 V c).arrAt 2 cfg2.N = (blk (DG wd dy) 0 0 : Vec Ideal S2048x5632 .f32) := by
  refine (dat2 V c).arrAt_eq_of_cover 2 (blk (DG wd dy) 0 0 : Vec Ideal S2048x5632 .f32) (fun t _ => ?_) fun y => ?_
  · show (cfg2.win 2).cut (grid2.coords t) ((dat2 V c).after 2 t) = _
    rw [after2_2, ib2_0 V c e0, ib2_1 V c e1]
    unfold out2_2
    rw [View.canon_unit_zero (S := S512x1408) hz2, View.ld_unit_zero (S := S512x2048) hz2,
      View.ld_unit_zero (S := S1x1408x2048) hz3, down_dx_eq]
    exact (held (DG wd dy) (lies2_2 t)).symm
  · have h0 : (y 0).val < 2048 := (y 0).isLt
    have h1 : (y 1).val < 5632 := (y 1).isLt
    have ht : (y 0).val / 512 * 4 + (y 1).val / 1408 < cfg2.N := by rw [show cfg2.N = 16 from N_2]; omega
    refine ⟨⟨_, ht⟩, flush2_2 _, ?_⟩
    show y ∈ ((View.whole main_v2).slice (win2_2.rect ⟨_, ht⟩)).set
    rw [View.set_slice_whole, ← Rect.map_emb_univ]
    exact (lies2_2 ⟨_, ht⟩).mem y (by dsimp only; omega) (by dsimp only; omega)

/-! ## The last product's weights' gradient -/

theorem lies3_0 (t : Fin cfg3.N) : Proj.Lies 0 t.val fun y : S2048x512.Idx => (win3_0.rect t).emb y :=
  .of (Window.rect_emb_val win3_0 t)
    ((by decide +kernel : ∀ t : Fin grid3.N, win3_0.index t 0 = 0 ∧ win3_0.index t 1 = t.val) t)

theorem lies3_1 (t : Fin cfg3.N) : Proj.Lies 0 0 fun y : S2048x2048.Idx => (win3_1.rect t).emb y :=
  .of (Window.rect_emb_val win3_1 t)
    ((by decide +kernel : ∀ t : Fin grid3.N, win3_1.index t 0 = 0 ∧ win3_1.index t 1 = 0) t)

theorem lies3_2 (t : Fin cfg3.N) : Proj.Lies t.val 0 fun y : S512x2048.Idx => (win3_2.rect t).emb y :=
  .of (Window.rect_emb_val win3_2 t)
    ((by decide +kernel : ∀ t : Fin grid3.N, win3_2.index t 0 = t.val ∧ win3_2.index t 1 = 0) t)

theorem ib3_0 (e : V c main_v1 = (blk g 0 0 : Vec Ideal S2048x5632 .bf16)) (t : Fin cfg3.N) :
    iblk3 V c 0 t = (blk g 0 (t.val * 512) : Vec Ideal S2048x512 .bf16) :=
  (congrArg (fun (x : Vec Ideal S2048x5632 .bf16) (y : S2048x512.Idx) => x ((win3_0.rect t).emb y)) e).trans
    (held g (lies3_0 t))

theorem ib3_1 (e : V c main_arg5 = (blk dy 0 0 : Vec Ideal S2048x2048 .bf16)) (t : Fin cfg3.N) :
    iblk3 V c 1 t = (blk dy 0 0 : Vec Ideal S2048x2048 .bf16) :=
  (congrArg (fun (x : Vec Ideal S2048x2048 .bf16) (y : S2048x2048.Idx) => x ((win3_1.rect t).emb y)) e).trans
    (held dy (lies3_1 t))

theorem arr3_2 (e0 : V c main_v1 = (blk g 0 0 : Vec Ideal S2048x5632 .bf16))
    (e1 : V c main_arg5 = (blk dy 0 0 : Vec Ideal S2048x2048 .bf16)) :
    (dat3 V c).arrAt 2 cfg3.N = (blk (DM 2048 g dy) 0 0 : Vec Ideal S5632x2048 .bf16) := by
  refine (dat3 V c).arrAt_eq_of_cover 2 (blk (DM 2048 g dy) 0 0 : Vec Ideal S5632x2048 .bf16) (fun t _ => ?_) fun y => ?_
  · show (cfg3.win 2).cut (grid3.coords t) ((dat3 V c).after 2 t) = _
    rw [after3_2, ib3_0 V c e0, ib3_1 V c e1]
    unfold out3_2
    rw [View.canon_unit_zero (S := S512x2048) hz2, View.ld_unit_zero (S := S2048x512) hz2,
      View.ld_unit_zero (S := S2048x2048) hz2, down_dw_eq]
    exact (held (DM 2048 g dy) (lies3_2 t)).symm
  · have h0 : (y 0).val < 5632 := (y 0).isLt
    have h1 : (y 1).val < 2048 := (y 1).isLt
    have ht : (y 0).val / 512 < cfg3.N := by rw [show cfg3.N = 11 from N_3]; omega
    refine ⟨⟨_, ht⟩, flush3_2 _, ?_⟩
    show y ∈ ((View.whole main_v3).slice (win3_2.rect ⟨_, ht⟩)).set
    rw [View.set_slice_whole, ← Rect.map_emb_univ]
    exact (lies3_2 ⟨_, ht⟩).mem y (by dsimp only; omega) (by dsimp only; omega)

end Cert.Proof.Glu.Lat
-- ==== Proof.LatGrad.lean ====
module

public import proofs.«01_k».proof.Proof.LatArr

@[expose] public section

/-!
# The gated convolution's gradients' arrays, of the latent rows alone

The four arrays the convolution's backward kernel leaves: the gradients of the gate half, of the value half, of the taps
and of the bias.
-/

set_option maxRecDepth 16384

noncomputable section
namespace Cert.Proof.Glu.Lat
open Idealize.ShloMosaic Idealize.ShloMosaic.TcCoe Idealize.ShloMosaic.Tactic Cert.Kernel4Ideal Cert.Kernel4Ideal.Gen
open Idealize.ShloMosaic.Pipeline (Window)

variable (V : (c : Dev nD) → (b : Ref sig .tc) → Buf (Elt Ideal) ((c : Thread nD τ).loc b)) (c : Dev nD)
variable {u cw g : ℕ → ℕ → ℝ} {cb : ℕ → ℝ}

theorem lies4_0 (t : Fin cfg4.N) : Proj.Lies 0 t.val fun y : S2048x256.Idx => (win4_0.rect t).emb y :=
  .of (Window.rect_emb_val win4_0 t)
    ((by decide +kernel : ∀ t : Fin grid4.N, win4_0.index t 0 = 0 ∧ win4_0.index t 1 = t.val) t)

theorem lies4_1 (t : Fin cfg4.N) : Proj.Lies 0 (22 + t.val) fun y : S2048x256.Idx => (win4_1.rect t).emb y :=
  .of (Window.rect_emb_val win4_1 t)
    ((by decide +kernel : ∀ t : Fin grid4.N, win4_1.index t 0 = 0 ∧ win4_1.index t 1 = 22 + t.val) t)

theorem lies4_2 (t : Fin cfg4.N) : Proj.Lies 0 t.val fun y : S3x256.Idx => (win4_2.rect t).emb y :=
  .of (Window.rect_emb_val win4_2 t)
    ((by decide +kernel : ∀ t : Fin grid4.N, win4_2.index t 0 = 0 ∧ win4_2.index t 1 = t.val) t)

theorem lies4_3 (t : Fin cfg4.N) : Proj.Lies 0 t.val fun y : S1x256.Idx => (win4_3.rect t).emb y :=
  .of (Window.rect_emb_val win4_3 t)
    ((by decide +kernel : ∀ t : Fin grid4.N, win4_3.index t 0 = 0 ∧ win4_3.index t 1 = t.val) t)

theorem lies4_4 (t : Fin cfg4.N) : Proj.Lies 0 t.val fun y : S2048x256.Idx => (win4_4.rect t).emb y :=
  .of (Window.rect_emb_val win4_4 t)
    ((by decide +kernel : ∀ t : Fin grid4.N, win4_4.index t 0 = 0 ∧ win4_4.index t 1 = t.val) t)

theorem lies4_5 (t : Fin cfg4.N) : Proj.Lies 0 t.val fun y : S2048x256.Idx => (win4_5.rect t).emb y :=
  .of (Window.rect_emb_val win4_5 t)
    ((by decide +kernel : ∀ t : Fin grid4.N, win4_5.index t 0 = 0 ∧ win4_5.index t 1 = t.val) t)

theorem lies4_6 (t : Fin cfg4.N) : Proj.Lies 0 t.val fun y : S2048x256.Idx => (win4_6.rect t).emb y :=
  .of (Window.rect_emb_val win4_6 t)
    ((by decide +kernel : ∀ t : Fin grid4.N, win4_6.index t 0 = 0 ∧ win4_6.index t 1 = t.val) t)

theorem lies4_7 (t : Fin cfg4.N) : Proj.Lies 0 t.val fun y : S3x256.Idx => (win4_7.rect t).emb y :=
  .of (Window.rect_emb_val win4_7 t)
    ((by decide +kernel : ∀ t : Fin grid4.N, win4_7.index t 0 = 0 ∧ win4_7.index t 1 = t.val) t)

theorem lies4_8 (t : Fin cfg4.N) : Proj.Lies 0 t.val fun y : S1x256.Idx => (win4_8.rect t).emb y :=
  .of (Window.rect_emb_val win4_8 t)
    ((by decide +kernel : ∀ t : Fin grid4.N, win4_8.index t 0 = 0 ∧ win4_8.index t 1 = t.val) t)

theorem ib4_0 (e : V c main_v0 = (blk u 0 0 : Vec Ideal S2048x11264 .bf16)) (t : Fin cfg4.N) :
    iblk4 V c 0 t = (blk u 0 (t.val * 256) : Vec Ideal S2048x256 .bf16) :=
  (congrArg (fun (x : Vec Ideal S2048x11264 .bf16) (y : S2048x256.Idx) => x ((win4_0.rect t).emb y)) e).trans
    (held u (lies4_0 t))

theorem ib4_1 (e : V c main_v0 = (blk u 0 0 : Vec Ideal S2048x11264 .bf16)) (t : Fin cfg4.N) :
    iblk4 V c 1 t = (blk (val u) 0 (t.val * 256) : Vec Ideal S2048x256 .bf16) :=
  (congrArg (fun (x : Vec Ideal S2048x11264 .bf16) (y : S2048x256.Idx) => x ((win4_1.rect t).emb y)) e).trans
    ((held u (lies4_1 t)).trans ((congrArg (blk u 0) (by omega)).trans val_blk))

theorem ib4_2 (e : V c main_arg2 = (blk cw 0 0 : Vec Ideal S3x5632 .f32)) (t : Fin cfg4.N) :
    iblk4 V c 2 t = (blk cw 0 (t.val * 256) : Vec Ideal S3x256 .f32) :=
  (congrArg (fun (x : Vec Ideal S3x5632 .f32) (y : S3x256.Idx) => x ((win4_2.rect t).emb y)) e).trans
    (held cw (lies4_2 t))

theorem ib4_3 (e : V c main_arg3 = (blk (fun _ => cb) 0 0 : Vec Ideal S1x5632 .f32)) (t : Fin cfg4.N) :
    iblk4 V c 3 t = (blk (fun _ => cb) 0 (t.val * 256) : Vec Ideal S1x256 .f32) :=
  (congrArg (fun (x : Vec Ideal S1x5632 .f32) (y : S1x256.Idx) => x ((win4_3.rect t).emb y)) e).trans
    (held (fun _ => cb) (lies4_3 t))

theorem ib4_4 (e : V c main_v2 = (blk g 0 0 : Vec Ideal S2048x5632 .f32)) (t : Fin cfg4.N) :
    iblk4 V c 4 t = (blk g 0 (t.val * 256) : Vec Ideal S2048x256 .f32) :=
  (congrArg (fun (x : Vec Ideal S2048x5632 .f32) (y : S2048x256.Idx) => x ((win4_4.rect t).emb y)) e).trans
    (held g (lies4_4 t))

/-- What the convolution's backward kernel reads: the first product, the taps, the bias, the gated result's gradient. -/
structure In4 (u cw : ℕ → ℕ → ℝ) (cb : ℕ → ℝ) (g : ℕ → ℕ → ℝ) : Prop where
  hu : V c main_v0 = (blk u 0 0 : Vec Ideal S2048x11264 .bf16)
  hcw : V c main_arg2 = (blk cw 0 0 : Vec Ideal S3x5632 .f32)
  hcb : V c main_arg3 = (blk (fun _ => cb) 0 0 : Vec Ideal S1x5632 .f32)
  hg : V c main_v2 = (blk g 0 0 : Vec Ideal S2048x5632 .f32)

section
variable {b : ℕ}

theorem out4_5_eq : out4_5 (F := Ideal) (blk u 0 b) (blk (val u) 0 b) (blk cw 0 b) (blk (fun _ => cb) 0 b) (blk g 0 b)
    = blk (DA cw (DC cw cb u g)) 0 b := by
  unfold_out out4_5
  rw [View.canon_unit_zero (S := S2048x256) hz2]
  simp only [View.ld_unit_zero (S := S2048x256) hz2, View.ld_unit_zero (S := S3x256) hz2, View.ld_unit_zero (S := S1x256) hz2,
    pay5_eq, pay13_eq, pay14_eq, pay19_eq]
  exact grad_gate_eq cw cb u g b

theorem out4_6_eq : out4_6 (F := Ideal) (blk u 0 b) (blk (val u) 0 b) (blk cw 0 b) (blk (fun _ => cb) 0 b) (blk g 0 b)
    = blk (DV cw cb u g) 0 b := by
  unfold_out out4_6
  rw [View.canon_unit_zero (S := S2048x256) hz2]
  simp only [View.ld_unit_zero (S := S2048x256) hz2, View.ld_unit_zero (S := S3x256) hz2, View.ld_unit_zero (S := S1x256) hz2,
    pay13_eq, pay14_eq, pay18_eq]
  rfl

theorem out4_7_eq : out4_7 (F := Ideal) (blk u 0 b) (blk (val u) 0 b) (blk cw 0 b) (blk (fun _ => cb) 0 b) (blk g 0 b)
    = blk (DW 2048 u (DC cw cb u g)) 0 b := by
  unfold_out out4_7
  rw [View.canon_unit_zero (S := S3x256) hz2]
  simp only [View.ld_unit_zero (S := S2048x256) hz2, View.ld_unit_zero (S := S3x256) hz2, View.ld_unit_zero (S := S1x256) hz2,
    pay4_eq, pay5_eq, pay8_eq, pay11_eq, pay13_eq, pay14_eq, pay19_eq]
  exact grad_taps_eq cw cb u g b

theorem out4_8_eq : out4_8 (F := Ideal) (blk u 0 b) (blk (val u) 0 b) (blk cw 0 b) (blk (fun _ => cb) 0 b) (blk g 0 b)
    = blk (fun _ => DB 2048 (DC cw cb u g)) 0 b := by
  unfold_out out4_8
  rw [View.canon_unit_zero (S := S1x256) hz2]
  simp only [View.ld_unit_zero (S := S2048x256) hz2, View.ld_unit_zero (S := S3x256) hz2, View.ld_unit_zero (S := S1x256) hz2,
    pay5_eq, pay13_eq, pay14_eq]
  exact pay20_eq cw cb u g b
end

/-- The gate half's gradient. -/
theorem arr4_5 (H : In4 V c u cw cb g) :
    (dat4 V c).arrAt 5 cfg4.N = (blk (DA cw (DC cw cb u g)) 0 0 : Vec Ideal S2048x5632 .bf16) := by
  refine (dat4 V c).arrAt_eq_of_cover 5 (blk (DA cw (DC cw cb u g)) 0 0 : Vec Ideal S2048x5632 .bf16) (fun t _ => ?_) fun y => ?_
  · show (cfg4.win 5).cut (grid4.coords t) ((dat4 V c).after 5 t) = _
    rw [after4_5, ib4_0 V c H.hu, ib4_1 V c H.hu, ib4_2 V c H.hcw, ib4_3 V c H.hcb, ib4_4 V c H.hg, out4_5_eq]
    exact (held (DA cw (DC cw cb u g)) (lies4_5 t)).symm
  · have h0 : (y 0).val < 2048 := (y 0).isLt
    have h1 : (y 1).val < 5632 := (y 1).isLt
    have ht : (y 1).val / 256 < cfg4.N := by rw [show cfg4.N = 22 from N_4]; omega
    refine ⟨⟨_, ht⟩, flush4_5 _, ?_⟩
    show y ∈ ((View.whole main_v4_0).slice (win4_5.rect ⟨_, ht⟩)).set
    rw [View.set_slice_whole, ← Rect.map_emb_univ]
    exact (lies4_5 ⟨_, ht⟩).mem y (by dsimp only; omega) (by dsimp only; omega)

/-- The value half's gradient. -/
theorem arr4_6 (H : In4 V c u cw cb g) :
    (dat4 V c).arrAt 6 cfg4.N = (blk (DV cw cb u g) 0 0 : Vec Ideal S2048x5632 .bf16) := by
  refine (dat4 V c).arrAt_eq_of_cover 6 (blk (DV cw cb u g) 0 0 : Vec Ideal S2048x5632 .bf16) (fun t _ => ?_) fun y => ?_
  · show (cfg4.win 6).cut (grid4.coords t) ((dat4 V c).after 6 t) = _
    rw [after4_6, ib4_0 V c H.hu, ib4_1 V c H.hu, ib4_2 V c H.hcw, ib4_3 V c H.hcb, ib4_4 V c H.hg, out4_6_eq]
    exact (held (DV cw cb u g) (lies4_6 t)).symm
  · have h0 : (y 0).val < 2048 := (y 0).isLt
    have h1 : (y 1).val < 5632 := (y 1).isLt
    have ht : (y 1).val / 256 < cfg4.N := by rw [show cfg4.N = 22 from N_4]; omega
    refine ⟨⟨_, ht⟩, flush4_6 _, ?_⟩
    show y ∈ ((View.whole main_v4_1).slice (win4_6.rect ⟨_, ht⟩)).set
    rw [View.set_slice_whole, ← Rect.map_emb_univ]
    exact (lies4_6 ⟨_, ht⟩).mem y (by dsimp only; omega) (by dsimp only; omega)

/-- The taps' gradient. -/
theorem arr4_7 (H : In4 V c u cw cb g) :
    (dat4 V c).arrAt 7 cfg4.N = (blk (DW 2048 u (DC cw cb u g)) 0 0 : Vec Ideal S3x5632 .f32) := by
  refine (dat4 V c).arrAt_eq_of_cover 7 (blk (DW 2048 u (DC cw cb u g)) 0 0 : Vec Ideal S3x5632 .f32) (fun t _ => ?_) fun y => ?_
  · show (cfg4.win 7).cut (grid4.coords t) ((dat4 V c).after 7 t) = _
    rw [after4_7, ib4_0 V c H.hu, ib4_1 V c H.hu, ib4_2 V c H.hcw, ib4_3 V c H.hcb, ib4_4 V c H.hg, out4_7_eq]
    exact (held (DW 2048 u (DC cw cb u g)) (lies4_7 t)).symm
  · have h0 : (y 0).val < 3 := (y 0).isLt
    have h1 : (y 1).val < 5632 := (y 1).isLt
    have ht : (y 1).val / 256 < cfg4.N := by rw [show cfg4.N = 22 from N_4]; omega
    refine ⟨⟨_, ht⟩, flush4_7 _, ?_⟩
    show y ∈ ((View.whole main_v4_2).slice (win4_7.rect ⟨_, ht⟩)).set
    rw [View.set_slice_whole, ← Rect.map_emb_univ]
    exact (lies4_7 ⟨_, ht⟩).mem y (by dsimp only; omega) (by dsimp only; omega)

/-- The bias's gradient. -/
theorem arr4_8 (H : In4 V c u cw cb g) :
    (dat4 V c).arrAt 8 cfg4.N = (blk (fun _ => DB 2048 (DC cw cb u g)) 0 0 : Vec Ideal S1x5632 .f32) := by
  refine (dat4 V c).arrAt_eq_of_cover 8 (blk (fun _ => DB 2048 (DC cw cb u g)) 0 0 : Vec Ideal S1x5632 .f32) (fun t _ => ?_) fun y => ?_
  · show (cfg4.win 8).cut (grid4.coords t) ((dat4 V c).after 8 t) = _
    rw [after4_8, ib4_0 V c H.hu, ib4_1 V c H.hu, ib4_2 V c H.hcw, ib4_3 V c H.hcb, ib4_4 V c H.hg, out4_8_eq]
    exact (held (fun _ => DB 2048 (DC cw cb u g)) (lies4_8 t)).symm
  · have h0 : (y 0).val < 1 := (y 0).isLt
    have h1 : (y 1).val < 5632 := (y 1).isLt
    have ht : (y 1).val / 256 < cfg4.N := by rw [show cfg4.N = 22 from N_4]; omega
    refine ⟨⟨_, ht⟩, flush4_8 _, ?_⟩
    show y ∈ ((View.whole main_v4_3).slice (win4_8.rect ⟨_, ht⟩)).set
    rw [View.set_slice_whole, ← Rect.map_emb_univ]
    exact (lies4_8 ⟨_, ht⟩).mem y (by dsimp only; omega) (by dsimp only; omega)

end Cert.Proof.Glu.Lat
-- ==== Proof.LatUp.lean ====
module

public import proofs.«01_k».proof.Proof.LatGrad

@[expose] public section

/-!
# The first product's gradients' arrays, of the latent rows alone

The rows' gradient, summed over the gate half and then over the value half, and the weights' gradient, its gate half
written by one kernel and its value half by the next into the same array.
-/

set_option maxRecDepth 16384

noncomputable section
namespace Cert.Proof.Glu.Lat
open Idealize.ShloMosaic Idealize.ShloMosaic.TcCoe Idealize.ShloMosaic.Tactic Cert.Kernel4Ideal Cert.Kernel4Ideal.Gen
open Idealize.ShloMosaic.Pipeline (Window)

variable (V : (c : Dev nD) → (b : Ref sig .tc) → Buf (Elt Ideal) ((c : Thread nD τ).loc b)) (c : Dev nD)
variable {h wu d da dv g : ℕ → ℕ → ℝ}

theorem ld_blk {a n : ℕ} (i : ∀ a, (![0, n] : Fin 2 → ℕ) a + S1024x1408.size a ≤ S1024x5632.size a) :
    View.ld (Val := Elt Ideal) (e' := .bf16) (blk d a 0) (Rect.unit (s := S1024x5632) ![0, n] S1024x1408.size i)
      = (blk d a n : (⟨2, ![1024, 1408]⟩ : Shape).Idx → EReal) := by
  funext y
  show ((d (0 + 1 * (y 0).val + a) (n + 1 * (y 1).val + 0) : ℝ) : EReal) = ((d ((y 0).val + a) ((y 1).val + n) : ℝ) : EReal)
  rw [Nat.zero_add, Nat.one_mul, Nat.one_mul, Nat.add_zero, Nat.add_comm n]

/-! ## The rows' gradient, gate half -/

theorem lies5_0 (t : Fin cfg5.N) : Proj.Lies (t.val / 4) 0 fun y : S1024x5632.Idx => (win5_0.rect t).emb y :=
  .of (Window.rect_emb_val win5_0 t)
    ((by decide +kernel : ∀ t : Fin grid5.N, win5_0.index t 0 = t.val / 4 ∧ win5_0.index t 1 = 0) t)

theorem idx5_1 : ∀ t : Fin grid5.N, win5_1.index t 0 = 0 ∧ win5_1.index t 1 = t.val % 4 ∧ win5_1.index t 2 = 0 := by
  decide +kernel
theorem idx5_2 : ∀ t : Fin grid5.N, win5_2.index t 0 = 0 ∧ win5_2.index t 1 = t.val % 4 ∧ win5_2.index t 2 = 1 := by
  decide +kernel
theorem idx5_3 : ∀ t : Fin grid5.N, win5_3.index t 0 = 1 ∧ win5_3.index t 1 = t.val % 4 ∧ win5_3.index t 2 = 0 := by
  decide +kernel
theorem idx5_4 : ∀ t : Fin grid5.N, win5_4.index t 0 = 1 ∧ win5_4.index t 1 = t.val % 4 ∧ win5_4.index t 2 = 1 := by
  decide +kernel
theorem lies5_5 (t : Fin cfg5.N) : Proj.Lies (t.val / 4) (t.val % 4) fun y : S1024x512.Idx => (win5_5.rect t).emb y :=
  .of (Window.rect_emb_val win5_5 t)
    ((by decide +kernel : ∀ t : Fin grid5.N, win5_5.index t 0 = t.val / 4 ∧ win5_5.index t 1 = t.val % 4) t)

theorem ib5_0 (e : V c main_v4_0 = (blk d 0 0 : Vec Ideal S2048x5632 .bf16)) (t : Fin cfg5.N) :
    iblk5 V c 0 t = (blk d (t.val / 4 * 1024) 0 : Vec Ideal S1024x5632 .bf16) :=
  (congrArg (fun (x : Vec Ideal S2048x5632 .bf16) (y : S1024x5632.Idx) => x ((win5_0.rect t).emb y)) e).trans
    (held d (lies5_0 t))

theorem ib5_1 (e : V c main_arg1 = wup wu) (t : Fin cfg5.N) :
    iblk5 V c 1 t = (lead wu (t.val % 4 * 512) 0 : Vec Ideal S1x512x1408 .bf16) :=
  (congrArg (fun (x : Vec Ideal S4x2048x2816 .bf16) (y : S1x512x1408.Idx) => x ((win5_1.rect t).emb y)) e).trans
    (held_wup wu (Window.rect_emb_val win5_1 t) (idx5_1 t) (by omega))

theorem ib5_2 (e : V c main_arg1 = wup wu) (t : Fin cfg5.N) :
    iblk5 V c 2 t = (lead wu (t.val % 4 * 512) 1408 : Vec Ideal S1x512x1408 .bf16) :=
  (congrArg (fun (x : Vec Ideal S4x2048x2816 .bf16) (y : S1x512x1408.Idx) => x ((win5_2.rect t).emb y)) e).trans
    (held_wup wu (Window.rect_emb_val win5_2 t) (idx5_2 t) (by omega))

theorem ib5_3 (e : V c main_arg1 = wup wu) (t : Fin cfg5.N) :
    iblk5 V c 3 t = (lead wu (t.val % 4 * 512) 2816 : Vec Ideal S1x512x1408 .bf16) :=
  (congrArg (fun (x : Vec Ideal S4x2048x2816 .bf16) (y : S1x512x1408.Idx) => x ((win5_3.rect t).emb y)) e).trans
    (held_wup wu (Window.rect_emb_val win5_3 t) (idx5_3 t) (by omega))

theorem ib5_4 (e : V c main_arg1 = wup wu) (t : Fin cfg5.N) :
    iblk5 V c 4 t = (lead wu (t.val % 4 * 512) 4224 : Vec Ideal S1x512x1408 .bf16) :=
  (congrArg (fun (x : Vec Ideal S4x2048x2816 .bf16) (y : S1x512x1408.Idx) => x ((win5_4.rect t).emb y)) e).trans
    (held_wup wu (Window.rect_emb_val win5_4 t) (idx5_4 t) (by omega))

theorem arr5_5 (e0 : V c main_v4_0 = (blk d 0 0 : Vec Ideal S2048x5632 .bf16)) (e1 : V c main_arg1 = wup wu) :
    (dat5 V c).arrAt 5 cfg5.N = (blk (DH wu d) 0 0 : Vec Ideal S2048x2048 .f32) := by
  refine (dat5 V c).arrAt_eq_of_cover 5 (blk (DH wu d) 0 0 : Vec Ideal S2048x2048 .f32) (fun t _ => ?_) fun y => ?_
  · show (cfg5.win 5).cut (grid5.coords t) ((dat5 V c).after 5 t) = _
    rw [after5_5, ib5_0 V c e0, ib5_1 V c e1, ib5_2 V c e1, ib5_3 V c e1, ib5_4 V c e1]
    unfold out5_5
    rw [View.canon_unit_zero (S := S1024x512) hz2]
    simp only [View.ld_unit_zero (S := S1x512x1408) hz3, View.ld_unit_zero (S := S1024x512) hz2, ld_blk, up_dx_gate_eq]
    exact (held (DH wu d) (lies5_5 t)).symm
  · have h0 : (y 0).val < 2048 := (y 0).isLt
    have h1 : (y 1).val < 2048 := (y 1).isLt
    have ht : (y 0).val / 1024 * 4 + (y 1).val / 512 < cfg5.N := by rw [show cfg5.N = 8 from N_5]; omega
    refine ⟨⟨_, ht⟩, flush5_5 _, ?_⟩
    show y ∈ ((View.whole main_v5).slice (win5_5.rect ⟨_, ht⟩)).set
    rw [View.set_slice_whole, ← Rect.map_emb_univ]
    exact (lies5_5 ⟨_, ht⟩).mem y (by dsimp only; omega) (by dsimp only; omega)

/-! ## The rows' gradient, value half -/

theorem lies6_0 (t : Fin cfg6.N) : Proj.Lies (t.val / 4) 0 fun y : S1024x5632.Idx => (win6_0.rect t).emb y :=
  .of (Window.rect_emb_val win6_0 t)
    ((by decide +kernel : ∀ t : Fin grid6.N, win6_0.index t 0 = t.val / 4 ∧ win6_0.index t 1 = 0) t)

theorem idx6_1 : ∀ t : Fin grid6.N, win6_1.index t 0 = 2 ∧ win6_1.index t 1 = t.val % 4 ∧ win6_1.index t 2 = 0 := by
  decide +kernel
theorem idx6_2 : ∀ t : Fin grid6.N, win6_2.index t 0 = 2 ∧ win6_2.index t 1 = t.val % 4 ∧ win6_2.index t 2 = 1 := by
  decide +kernel
theorem idx6_3 : ∀ t : Fin grid6.N, win6_3.index t 0 = 3 ∧ win6_3.index t 1 = t.val % 4 ∧ win6_3.index t 2 = 0 := by
  decide +kernel
theorem idx6_4 : ∀ t : Fin grid6.N, win6_4.index t 0 = 3 ∧ win6_4.index t 1 = t.val % 4 ∧ win6_4.index t 2 = 1 := by
  decide +kernel
theorem lies6_5 (t : Fin cfg6.N) : Proj.Lies (t.val / 4) (t.val % 4) fun y : S1024x512.Idx => (win6_5.rect t).emb y :=
  .of (Window.rect_emb_val win6_5 t)
    ((by decide +kernel : ∀ t : Fin grid6.N, win6_5.index t 0 = t.val / 4 ∧ win6_5.index t 1 = t.val % 4) t)

theorem lies6_6 (t : Fin cfg6.N) : Proj.Lies (t.val / 4) (t.val % 4) fun y : S1024x512.Idx => (win6_6.rect t).emb y :=
  .of (Window.rect_emb_val win6_6 t)
    ((by decide +kernel : ∀ t : Fin grid6.N, win6_6.index t 0 = t.val / 4 ∧ win6_6.index t 1 = t.val % 4) t)

theorem ib6_0 (e : V c main_v4_1 = (blk d 0 0 : Vec Ideal S2048x5632 .bf16)) (t : Fin cfg6.N) :
    iblk6 V c 0 t = (blk d (t.val / 4 * 1024) 0 : Vec Ideal S1024x5632 .bf16) :=
  (congrArg (fun (x : Vec Ideal S2048x5632 .bf16) (y : S1024x5632.Idx) => x ((win6_0.rect t).emb y)) e).trans
    (held d (lies6_0 t))

theorem ib6_1 (e : V c main_arg1 = wup wu) (t : Fin cfg6.N) :
    iblk6 V c 1 t = (lead (val wu) (t.val % 4 * 512) 0 : Vec Ideal S1x512x1408 .bf16) :=
  (congrArg (fun (x : Vec Ideal S4x2048x2816 .bf16) (y : S1x512x1408.Idx) => x ((win6_1.rect t).emb y)) e).trans
    ((held_wup wu (b := (5632 + 0)) (Window.rect_emb_val win6_1 t) (idx6_1 t) rfl).trans val_lead)

theorem ib6_2 (e : V c main_arg1 = wup wu) (t : Fin cfg6.N) :
    iblk6 V c 2 t = (lead (val wu) (t.val % 4 * 512) 1408 : Vec Ideal S1x512x1408 .bf16) :=
  (congrArg (fun (x : Vec Ideal S4x2048x2816 .bf16) (y : S1x512x1408.Idx) => x ((win6_2.rect t).emb y)) e).trans
    ((held_wup wu (b := (5632 + 1408)) (Window.rect_emb_val win6_2 t) (idx6_2 t) rfl).trans val_lead)

theorem ib6_3 (e : V c main_arg1 = wup wu) (t : Fin cfg6.N) :
    iblk6 V c 3 t = (lead (val wu) (t.val % 4 * 512) 2816 : Vec Ideal S1x512x1408 .bf16) :=
  (congrArg (fun (x : Vec Ideal S4x2048x2816 .bf16) (y : S1x512x1408.Idx) => x ((win6_3.rect t).emb y)) e).trans
    ((held_wup wu (b := (5632 + 2816)) (Window.rect_emb_val win6_3 t) (idx6_3 t) rfl).trans val_lead)

theorem ib6_4 (e : V c main_arg1 = wup wu) (t : Fin cfg6.N) :
    iblk6 V c 4 t = (lead (val wu) (t.val % 4 * 512) 4224 : Vec Ideal S1x512x1408 .bf16) :=
  (congrArg (fun (x : Vec Ideal S4x2048x2816 .bf16) (y : S1x512x1408.Idx) => x ((win6_4.rect t).emb y)) e).trans
    ((held_wup wu (b := (5632 + 4224)) (Window.rect_emb_val win6_4 t) (idx6_4 t) rfl).trans val_lead)

theorem ib6_5 (e : V c main_v5 = (blk g 0 0 : Vec Ideal S2048x2048 .f32)) (t : Fin cfg6.N) :
    iblk6 V c 5 t = (blk g (t.val / 4 * 1024) (t.val % 4 * 512) : Vec Ideal S1024x512 .f32) :=
  (congrArg (fun (x : Vec Ideal S2048x2048 .f32) (y : S1024x512.Idx) => x ((win6_5.rect t).emb y)) e).trans
    (held g (lies6_5 t))

theorem arr6_6 (e0 : V c main_v4_1 = (blk d 0 0 : Vec Ideal S2048x5632 .bf16)) (e1 : V c main_arg1 = wup wu)
    (e5 : V c main_v5 = (blk g 0 0 : Vec Ideal S2048x2048 .f32)) :
    (dat6 V c).arrAt 6 cfg6.N = (blk (fun i k => g i k + DH (val wu) d i k) 0 0 : Vec Ideal S2048x2048 .f32) := by
  refine (dat6 V c).arrAt_eq_of_cover 6 (blk (fun i k => g i k + DH (val wu) d i k) 0 0 : Vec Ideal S2048x2048 .f32) (fun t _ => ?_) fun y => ?_
  · show (cfg6.win 6).cut (grid6.coords t) ((dat6 V c).after 6 t) = _
    rw [after6_6, ib6_0 V c e0, ib6_1 V c e1, ib6_2 V c e1, ib6_3 V c e1, ib6_4 V c e1, ib6_5 V c e5]
    unfold out6_6
    rw [View.canon_unit_zero (S := S1024x512) hz2]
    simp only [View.ld_unit_zero (S := S1x512x1408) hz3, View.ld_unit_zero (S := S1024x512) hz2, ld_blk, up_dx_value_eq]
    exact (held (fun i k => g i k + DH (val wu) d i k) (lies6_6 t)).symm
  · have h0 : (y 0).val < 2048 := (y 0).isLt
    have h1 : (y 1).val < 2048 := (y 1).isLt
    have ht : (y 0).val / 1024 * 4 + (y 1).val / 512 < cfg6.N := by rw [show cfg6.N = 8 from N_6]; omega
    refine ⟨⟨_, ht⟩, flush6_6 _, ?_⟩
    show y ∈ ((View.whole main_v6).slice (win6_6.rect ⟨_, ht⟩)).set
    rw [View.set_slice_whole, ← Rect.map_emb_univ]
    exact (lies6_6 ⟨_, ht⟩).mem y (by dsimp only; omega) (by dsimp only; omega)

/-! ## The weights' gradient -/

theorem lies7_0 (t : Fin cfg7.N) : Proj.Lies 0 (t.val / 4) fun y : S2048x1024.Idx => (win7_0.rect t).emb y :=
  .of (Window.rect_emb_val win7_0 t)
    ((by decide +kernel : ∀ t : Fin grid7.N, win7_0.index t 0 = 0 ∧ win7_0.index t 1 = t.val / 4) t)

theorem lies7_1 (t : Fin cfg7.N) : Proj.Lies 0 (t.val % 4) fun y : S2048x1408.Idx => (win7_1.rect t).emb y :=
  .of (Window.rect_emb_val win7_1 t)
    ((by decide +kernel : ∀ t : Fin grid7.N, win7_1.index t 0 = 0 ∧ win7_1.index t 1 = t.val % 4) t)

theorem idx7_2 : ∀ t : Fin grid7.N, win7_2.index t 0 = t.val % 4 / 2 ∧ win7_2.index t 1 = t.val / 4 ∧ win7_2.index t 2 = t.val % 2 := by
  decide +kernel

theorem ib7_0 (e : V c main_arg0 = (blk h 0 0 : Vec Ideal S2048x2048 .bf16)) (t : Fin cfg7.N) :
    iblk7 V c 0 t = (blk h 0 (t.val / 4 * 1024) : Vec Ideal S2048x1024 .bf16) :=
  (congrArg (fun (x : Vec Ideal S2048x2048 .bf16) (y : S2048x1024.Idx) => x ((win7_0.rect t).emb y)) e).trans
    (held h (lies7_0 t))

theorem ib7_1 (e : V c main_v4_0 = (blk d 0 0 : Vec Ideal S2048x5632 .bf16)) (t : Fin cfg7.N) :
    iblk7 V c 1 t = (blk d 0 (t.val % 4 * 1408) : Vec Ideal S2048x1408 .bf16) :=
  (congrArg (fun (x : Vec Ideal S2048x5632 .bf16) (y : S2048x1408.Idx) => x ((win7_1.rect t).emb y)) e).trans
    (held d (lies7_1 t))

theorem rd7_2 (f : ℕ → ℕ → ℝ) (t : Fin cfg7.N) : (lead f (t.val / 4 * 1024) (t.val % 4 * 1408) : Vec Ideal S1x1024x1408 .bf16)
    = ((cfg7.win 2).blk t).view.read (Elt Ideal) (wup f) :=
  (held_wup f (Window.rect_emb_val win7_2 t) (idx7_2 t) (by omega)).symm

theorem mem7_2 (t : Fin cfg7.N) (y : S4x2048x2816.Idx) : y ∈ ((cfg7.win 2).blk t).view.set ↔
    (y 0).val = t.val % 4 / 2 ∧ (y 1).val / 1024 = t.val / 4 ∧ (y 2).val / 1408 = t.val % 2 := by
  show y ∈ ((View.whole main_v7).slice (win7_2.rect t)).set ↔ _
  rw [View.set_slice_whole, ← Rect.map_emb_univ]
  exact (mem_wup (Window.rect_emb_val win7_2 t) (idx7_2 t) y).trans (by omega)

/-- The kernel of the gate half leaves the first two blocks of columns. -/
theorem arr7_2 (e0 : V c main_arg0 = (blk h 0 0 : Vec Ideal S2048x2048 .bf16))
    (e1 : V c main_v4_0 = (blk da 0 0 : Vec Ideal S2048x5632 .bf16)) (y : S4x2048x2816.Idx) (hy : (y 0).val < 2) :
    (dat7 V c).arrAt 2 cfg7.N y = wup (DM 2048 h (beside da dv)) y := by
  have h1 : (y 1).val < 2048 := (y 1).isLt
  have h2 : (y 2).val < 2816 := (y 2).isLt
  have ht : (y 1).val / 1024 * 4 + (y 0).val * 2 + (y 2).val / 1408 < cfg7.N := by rw [show cfg7.N = 8 from N_7]; omega
  refine (dat7 V c).arrAt_apply_of_mem 2 (wup (DM 2048 h (beside da dv))) (fun t _ => ?_) cfg7.N ⟨_, ht⟩ y ht (flush7_2 _)
    ((mem7_2 _ y).2 (by dsimp only; omega))
  show (cfg7.win 2).cut (grid7.coords t) ((dat7 V c).after 2 t) = _
  rw [after7_2, ib7_0 V c e0, ib7_1 V c e1]
  unfold out7_2
  rw [View.canon_unit_zero (S := S1x1024x1408) hz3, View.ld_unit_zero (S := S2048x1024) hz2,
    View.ld_unit_zero (S := S2048x1408) hz2, up_dw_gate_eq, lead_gate (dv := dv) (by omega)]
  exact rd7_2 _ t

theorem lies8_0 (t : Fin cfg8.N) : Proj.Lies 0 (t.val / 4) fun y : S2048x1024.Idx => (win8_0.rect t).emb y :=
  .of (Window.rect_emb_val win8_0 t)
    ((by decide +kernel : ∀ t : Fin grid8.N, win8_0.index t 0 = 0 ∧ win8_0.index t 1 = t.val / 4) t)

theorem lies8_1 (t : Fin cfg8.N) : Proj.Lies 0 (t.val % 4) fun y : S2048x1408.Idx => (win8_1.rect t).emb y :=
  .of (Window.rect_emb_val win8_1 t)
    ((by decide +kernel : ∀ t : Fin grid8.N, win8_1.index t 0 = 0 ∧ win8_1.index t 1 = t.val % 4) t)

theorem idx8_2 : ∀ t : Fin grid8.N, win8_2.index t 0 = 2 + t.val % 4 / 2 ∧ win8_2.index t 1 = t.val / 4 ∧ win8_2.index t 2 = t.val % 2 := by
  decide +kernel

theorem ib8_0 (e : V c main_arg0 = (blk h 0 0 : Vec Ideal S2048x2048 .bf16)) (t : Fin cfg8.N) :
    iblk8 V c 0 t = (blk h 0 (t.val / 4 * 1024) : Vec Ideal S2048x1024 .bf16) :=
  (congrArg (fun (x : Vec Ideal S2048x2048 .bf16) (y : S2048x1024.Idx) => x ((win8_0.rect t).emb y)) e).trans
    (held h (lies8_0 t))

theorem ib8_1 (e : V c main_v4_1 = (blk d 0 0 : Vec Ideal S2048x5632 .bf16)) (t : Fin cfg8.N) :
    iblk8 V c 1 t = (blk d 0 (t.val % 4 * 1408) : Vec Ideal S2048x1408 .bf16) :=
  (congrArg (fun (x : Vec Ideal S2048x5632 .bf16) (y : S2048x1408.Idx) => x ((win8_1.rect t).emb y)) e).trans
    (held d (lies8_1 t))

theorem rd8_2 (f : ℕ → ℕ → ℝ) (t : Fin cfg8.N) : (lead f (t.val / 4 * 1024) (5632 + t.val % 4 * 1408) : Vec Ideal S1x1024x1408 .bf16)
    = ((cfg8.win 2).blk t).view.read (Elt Ideal) (wup f) :=
  (held_wup f (Window.rect_emb_val win8_2 t) (idx8_2 t) (by omega)).symm

theorem mem8_2 (t : Fin cfg8.N) (y : S4x2048x2816.Idx) : y ∈ ((cfg8.win 2).blk t).view.set ↔
    (y 0).val = 2 + t.val % 4 / 2 ∧ (y 1).val / 1024 = t.val / 4 ∧ (y 2).val / 1408 = t.val % 2 := by
  show y ∈ ((View.whole main_v8).slice (win8_2.rect t)).set ↔ _
  rw [View.set_slice_whole, ← Rect.map_emb_univ]
  exact (mem_wup (Window.rect_emb_val win8_2 t) (idx8_2 t) y).trans (by omega)

theorem outs8_2 (t : Fin cfg8.N) : outsAt8 V c t = k8_pay1 (iblk8 V c 0 t) (iblk8 V c 1 t) := by
  unfold outsAt8
  unfold out8_A_2
  rw [View.read_writes_eq_canon _ _ _ (cover8_A_2 c _ _ _ _ _ _ _ _ _)]
  unfold kernelRun8_A
  dsimp only
  sl_unfold_words
  rw [View.canon_unit_zero (S := S1x1024x1408) hz3]
  simp only [View.readAt_eq_ld, (hs8_0 t).read_unread, (hs8_1 t).read_unread, View.ld_unit_zero (S := S2048x1024) hz2,
    View.ld_unit_zero (S := S2048x1408) hz2]

/-- The kernel of the value half writes the other two and keeps those it finds. -/
theorem arr8_2 (e0 : V c main_arg0 = (blk h 0 0 : Vec Ideal S2048x2048 .bf16))
    (e1 : V c main_v4_1 = (blk dv 0 0 : Vec Ideal S2048x5632 .bf16))
    (e2 : ∀ y : S4x2048x2816.Idx, (y 0).val < 2 → (V c main_v8 : Vec Ideal S4x2048x2816 .bf16) y = wup (DM 2048 h (beside da dv)) y) :
    (dat8 V c).arrAt 2 cfg8.N = wup (DM 2048 h (beside da dv)) := by
  refine funext fun (y : S4x2048x2816.Idx) => ?_
  have h0 : (y 0).val < 4 := (y 0).isLt
  have h1 : (y 1).val < 2048 := (y 1).isLt
  have h2 : (y 2).val < 2816 := (y 2).isLt
  by_cases hy : (y 0).val < 2
  · refine ((dat8 V c).arrAt_apply_of_forall_not_mem 2 cfg8.N y fun t _ _ hm => ?_).trans ((congrFun (A_eq8 V c 2) y).trans (e2 y hy))
    have := (mem8_2 t y).1 hm
    omega
  · have ht : (y 1).val / 1024 * 4 + ((y 0).val - 2) * 2 + (y 2).val / 1408 < cfg8.N := by rw [show cfg8.N = 8 from N_8]; omega
    refine (dat8 V c).arrAt_apply_of_mem 2 (wup (DM 2048 h (beside da dv))) (fun t _ => ?_) cfg8.N ⟨_, ht⟩ y ht (flush8_2 _)
      ((mem8_2 _ y).2 (by dsimp only; omega))
    show (cfg8.win 2).cut (grid8.coords t) ((dat8 V c).after 2 t) = _
    rw [after8_2, outs8_2, ib8_0 V c e0, ib8_1 V c e1, up_dw_value_eq, lead_value (da := da)]
    exact rd8_2 _ t

end Cert.Proof.Glu.Lat
-- ==== Proof.LatDown.lean ====
module

public import proofs.«01_k».proof.Proof.LatUp

@[expose] public section

/-!
# The last product's array, of the latent rows alone

The gated result times the last product's weights: four products a tile, one for each block of the weights' rows.
-/

set_option maxRecDepth 16384

noncomputable section
namespace Cert.Proof.Glu.Lat
open Idealize.ShloMosaic Idealize.ShloMosaic.TcCoe Idealize.ShloMosaic.Tactic Cert.Kernel4Ideal Cert.Kernel4Ideal.Gen
open Idealize.ShloMosaic.Pipeline (Window)

variable (V : (c : Dev nD) → (b : Ref sig .tc) → Buf (Elt Ideal) ((c : Thread nD τ).loc b)) (c : Dev nD)
variable {wd g : ℕ → ℕ → ℝ}

theorem lies9_0 (t : Fin cfg9.N) : Proj.Lies (t.val / 4) 0 fun y : S1024x5632.Idx => (win9_0.rect t).emb y :=
  .of (Window.rect_emb_val win9_0 t)
    ((by decide +kernel : ∀ t : Fin grid9.N, win9_0.index t 0 = t.val / 4 ∧ win9_0.index t 1 = 0) t)

theorem idx9_1 : ∀ t : Fin grid9.N, win9_1.index t 0 = 0 ∧ win9_1.index t 1 = 0 ∧ win9_1.index t 2 = t.val % 4 := by
  decide +kernel
theorem idx9_2 : ∀ t : Fin grid9.N, win9_2.index t 0 = 1 ∧ win9_2.index t 1 = 0 ∧ win9_2.index t 2 = t.val % 4 := by
  decide +kernel
theorem idx9_3 : ∀ t : Fin grid9.N, win9_3.index t 0 = 2 ∧ win9_3.index t 1 = 0 ∧ win9_3.index t 2 = t.val % 4 := by
  decide +kernel
theorem idx9_4 : ∀ t : Fin grid9.N, win9_4.index t 0 = 3 ∧ win9_4.index t 1 = 0 ∧ win9_4.index t 2 = t.val % 4 := by
  decide +kernel
theorem lies9_5 (t : Fin cfg9.N) : Proj.Lies (t.val / 4) (t.val % 4) fun y : S1024x512.Idx => (win9_5.rect t).emb y :=
  .of (Window.rect_emb_val win9_5 t)
    ((by decide +kernel : ∀ t : Fin grid9.N, win9_5.index t 0 = t.val / 4 ∧ win9_5.index t 1 = t.val % 4) t)

theorem ib9_0 (e : V c main_v1 = (blk g 0 0 : Vec Ideal S2048x5632 .bf16)) (t : Fin cfg9.N) :
    iblk9 V c 0 t = (blk g (t.val / 4 * 1024) 0 : Vec Ideal S1024x5632 .bf16) :=
  (congrArg (fun (x : Vec Ideal S2048x5632 .bf16) (y : S1024x5632.Idx) => x ((win9_0.rect t).emb y)) e).trans
    (held g (lies9_0 t))

theorem ib9_1 (e : V c main_arg4 = wdn wd) (t : Fin cfg9.N) :
    iblk9 V c 1 t = (lead wd 0 (t.val % 4 * 512) : Vec Ideal S1x1408x512 .bf16) :=
  (congrArg (fun (x : Vec Ideal S4x1408x2048 .bf16) (y : S1x1408x512.Idx) => x ((win9_1.rect t).emb y)) e).trans
    (held_wdn wd (Window.rect_emb_val win9_1 t) (idx9_1 t) rfl)

theorem ib9_2 (e : V c main_arg4 = wdn wd) (t : Fin cfg9.N) :
    iblk9 V c 2 t = (lead wd 1408 (t.val % 4 * 512) : Vec Ideal S1x1408x512 .bf16) :=
  (congrArg (fun (x : Vec Ideal S4x1408x2048 .bf16) (y : S1x1408x512.Idx) => x ((win9_2.rect t).emb y)) e).trans
    (held_wdn wd (Window.rect_emb_val win9_2 t) (idx9_2 t) rfl)

theorem ib9_3 (e : V c main_arg4 = wdn wd) (t : Fin cfg9.N) :
    iblk9 V c 3 t = (lead wd 2816 (t.val % 4 * 512) : Vec Ideal S1x1408x512 .bf16) :=
  (congrArg (fun (x : Vec Ideal S4x1408x2048 .bf16) (y : S1x1408x512.Idx) => x ((win9_3.rect t).emb y)) e).trans
    (held_wdn wd (Window.rect_emb_val win9_3 t) (idx9_3 t) rfl)

theorem ib9_4 (e : V c main_arg4 = wdn wd) (t : Fin cfg9.N) :
    iblk9 V c 4 t = (lead wd 4224 (t.val % 4 * 512) : Vec Ideal S1x1408x512 .bf16) :=
  (congrArg (fun (x : Vec Ideal S4x1408x2048 .bf16) (y : S1x1408x512.Idx) => x ((win9_4.rect t).emb y)) e).trans
    (held_wdn wd (Window.rect_emb_val win9_4 t) (idx9_4 t) rfl)

theorem arr9_5 (e0 : V c main_v1 = (blk g 0 0 : Vec Ideal S2048x5632 .bf16)) (e1 : V c main_arg4 = wdn wd) :
    (dat9 V c).arrAt 5 cfg9.N = (blk (Y wd g) 0 0 : Vec Ideal S2048x2048 .f32) := by
  refine (dat9 V c).arrAt_eq_of_cover 5 (blk (Y wd g) 0 0 : Vec Ideal S2048x2048 .f32) (fun t _ => ?_) fun y => ?_
  · show (cfg9.win 5).cut (grid9.coords t) ((dat9 V c).after 5 t) = _
    rw [after9_5, ib9_0 V c e0, ib9_1 V c e1, ib9_2 V c e1, ib9_3 V c e1, ib9_4 V c e1]
    unfold out9_5
    rw [View.canon_unit_zero (S := S1024x512) hz2]
    simp only [View.ld_unit_zero (S := S1x1408x512) hz3, ld_blk, down_proj_eq]
    exact (held (Y wd g) (lies9_5 t)).symm
  · have h0 : (y 0).val < 2048 := (y 0).isLt
    have h1 : (y 1).val < 2048 := (y 1).isLt
    have ht : (y 0).val / 1024 * 4 + (y 1).val / 512 < cfg9.N := by rw [show cfg9.N = 8 from N_9]; omega
    refine ⟨⟨_, ht⟩, flush9_5 _, ?_⟩
    show y ∈ ((View.whole main_v9).slice (win9_5.rect ⟨_, ht⟩)).set
    rw [View.set_slice_whole, ← Rect.map_emb_univ]
    exact (lies9_5 ⟨_, ht⟩).mem y (by dsimp only; omega) (by dsimp only; omega)

end Cert.Proof.Glu.Lat
-- ==== Proof.LatRun.lean ====
module

public import proofs.«01_k».proof.Proof.LatDown
public import proofs.«01_k».proof.Proof.GluRun

@[expose] public section

/-!
# The gated convolution's run with its results, of the latent rows alone

The frame of the ten regions, read at the six result arrays as well, and what each region finds: the arguments as
launched and the results of the regions before it.
-/

set_option maxRecDepth 16384

noncomputable section
namespace Cert.Proof.Glu.Lat
open Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the regions after the seventh leave of a reference none of them writes. -/
theorem keep7 (c : Dev nD) (r : Ref sig .tc) (h9 : r ∉ hostOps8_W)
    (h8 : ∀ w : Fin cfg7.W, Pipeline.arrRef spec7 w = r → (cfg7.win w).isOut = false)
    (h10 : ∀ w : Fin cfg8.W, Pipeline.arrRef spec8 w = r → (cfg8.win w).isOut = false)
    (h11 : ∀ w : Fin cfg9.W, Pipeline.arrRef spec9 w = r → (cfg9.win w).isOut = false) :
    W11 m ρ c (Proc.devRef .tc r) = W7 m ρ c (Proc.devRef .tc r) :=
  (W11_of m ρ c r h11).trans ((W10_of m ρ c r h10).trans ((W9_of m ρ c r h9).trans (W8_of m ρ c r h8)))

/-- The same from the fifth region on. -/
theorem keep5 (c : Dev nD) (r : Ref sig .tc) (h9 : r ∉ hostOps8_W)
    (h6 : ∀ w : Fin cfg5.W, Pipeline.arrRef spec5 w = r → (cfg5.win w).isOut = false)
    (h7 : ∀ w : Fin cfg6.W, Pipeline.arrRef spec6 w = r → (cfg6.win w).isOut = false)
    (h8 : ∀ w : Fin cfg7.W, Pipeline.arrRef spec7 w = r → (cfg7.win w).isOut = false)
    (h10 : ∀ w : Fin cfg8.W, Pipeline.arrRef spec8 w = r → (cfg8.win w).isOut = false)
    (h11 : ∀ w : Fin cfg9.W, Pipeline.arrRef spec9 w = r → (cfg9.win w).isOut = false) :
    W11 m ρ c (Proc.devRef .tc r) = W5 m ρ c (Proc.devRef .tc r) :=
  (keep7 m ρ c r h9 h8 h10 h11).trans ((W7_of m ρ c r h7).trans (W6_of m ρ c r h6))

set_option backward.isDefEq.respectTransparency.types false in
/-- The run of the ten regions: each result array ends at what its region leaves in it. -/
theorem run : θ_run defs (onTc (τ := τ) (main (F := Ideal))) ⟨m, fun _ => 0, ρ⟩ (fun r => ∀ c : Dev nD,
      r.2.mem ((c.tc : Thread nD τ).loc main_v9) = (dat9 (V10 m ρ) c).arrAt 5 cfg9.N
      ∧ r.2.mem ((c.tc : Thread nD τ).loc main_v6) = (dat6 (V6 m ρ) c).arrAt 6 cfg6.N
      ∧ r.2.mem ((c.tc : Thread nD τ).loc main_v8) = (dat8 (V9 m ρ) c).arrAt 2 cfg8.N
      ∧ r.2.mem ((c.tc : Thread nD τ).loc main_v4_2) = (dat4 (V4 m ρ) c).arrAt 7 cfg4.N
      ∧ r.2.mem ((c.tc : Thread nD τ).loc main_v4_3) = (dat4 (V4 m ρ) c).arrAt 8 cfg4.N
      ∧ r.2.mem ((c.tc : Thread nD τ).loc main_v3) = (dat3 (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨(h c _ (mem_uc main_v9 (by decide))).trans (W11_arr m ρ c 5),
       (h c _ (mem_uc main_v6 (by decide))).trans ((keep7 m ρ c main_v6 (by decide) (by decide) (by decide) (by decide)).trans (W7_arr m ρ c 6)),
       (h c _ (mem_uc main_v8 (by decide))).trans ((W11_of m ρ c main_v8 (by decide)).trans (W10_arr m ρ c 2)),
       (h c _ (mem_uc main_v4_2 (by decide))).trans ((keep5 m ρ c main_v4_2 (by decide) (by decide) (by decide) (by decide) (by decide) (by decide)).trans (W5_arr m ρ c 7)),
       (h c _ (mem_uc main_v4_3 (by decide))).trans ((keep5 m ρ c main_v4_3 (by decide) (by decide) (by decide) (by decide) (by decide) (by decide)).trans (W5_arr m ρ c 8)),
       (h c _ (mem_uc main_v3 (by decide))).trans ((keep5 m ρ c main_v3 (by decide) (by decide) (by decide) (by decide) (by decide) (by decide)).trans
         ((W5_of m ρ c main_v3 (by decide)).trans (W4_arr m ρ c 2))),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

/-- The arguments hold the rows `h`, the first product's weights `wu`, the taps `cw`, the bias `cb`, the last product's
    weights `wd` and the incoming gradient `dy`. -/
structure Ins (h wu cw : ℕ → ℕ → ℝ) (cb : ℕ → ℝ) (wd dy : ℕ → ℕ → ℝ) (x0 : Vec Ideal S2048x2048 .bf16)
    (x1 : Vec Ideal S4x2048x2816 .bf16) (x2 : Vec Ideal S3x5632 .f32) (x3 : Vec Ideal S1x5632 .f32)
    (x4 : Vec Ideal S4x1408x2048 .bf16) (x5 : Vec Ideal S2048x2048 .bf16) : Prop where
  h0 : x0 = blk h 0 0
  h1 : x1 = wup wu
  h2 : x2 = blk cw 0 0
  h3 : x3 = blk (fun _ => cb) 0 0
  h4 : x4 = wdn wd
  h5 : x5 = blk dy 0 0

variable {h wu cw : ℕ → ℕ → ℝ} {cb : ℕ → ℝ} {wd dy : ℕ → ℕ → ℝ} (c : Dev nD)

section
variable (H : Ins h wu cw cb wd dy (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)))
include H

theorem at1_v0 : V1 m ρ c main_v0 = (blk (U h wu) 0 0 : Vec Ideal S2048x11264 .bf16) :=
  (W1_arr m ρ c 2).trans (arr0_2 (V0 m ρ) c H.h0 H.h1)

theorem at2_v1 : V2 m ρ c main_v1 = (blk (G cw cb (U h wu)) 0 0 : Vec Ideal S2048x5632 .bf16) :=
  (W2_arr m ρ c 4).trans (arr1_4 (V1 m ρ) c (at1_v0 m ρ c H) ((W1_args m ρ c main_arg2 (by decide)).trans H.h2)
    ((W1_args m ρ c main_arg3 (by decide)).trans H.h3))

theorem at3_v2 : V3 m ρ c main_v2 = (blk (DG wd dy) 0 0 : Vec Ideal S2048x5632 .f32) :=
  (W3_arr m ρ c 2).trans (arr2_2 (V2 m ρ) c ((W2_args m ρ c main_arg5 (by decide)).trans H.h5)
    ((W2_args m ρ c main_arg4 (by decide)).trans H.h4))

/-- The last product. -/
theorem res_y : (dat9 (V10 m ρ) c).arrAt 5 cfg9.N = (blk (Y wd (G cw cb (U h wu))) 0 0 : Vec Ideal S2048x2048 .f32) :=
  arr9_5 (V10 m ρ) c ((W10_of m ρ c main_v1 (by decide)).trans ((W9_of m ρ c main_v1 (by decide)).trans
      ((W8_of m ρ c main_v1 (by decide)).trans ((W7_of m ρ c main_v1 (by decide)).trans ((W6_of m ρ c main_v1 (by decide)).trans
        ((W5_of m ρ c main_v1 (by decide)).trans ((W4_of m ρ c main_v1 (by decide)).trans
          ((W3_of m ρ c main_v1 (by decide)).trans (at2_v1 m ρ c H)))))))))
    ((W10_args m ρ c main_arg4 (by decide)).trans H.h4)

/-- The last product's weights' gradient. -/
theorem res_down : (dat3 (V3 m ρ) c).arrAt 2 cfg3.N = (blk (DM 2048 (G cw cb (U h wu)) dy) 0 0 : Vec Ideal S5632x2048 .bf16) :=
  arr3_2 (V3 m ρ) c ((W3_of m ρ c main_v1 (by decide)).trans (at2_v1 m ρ c H))
    ((W3_args m ρ c main_arg5 (by decide)).trans H.h5)

theorem in4 : In4 (V4 m ρ) c (U h wu) cw cb (DG wd dy) where
  hu := (W4_of m ρ c main_v0 (by decide)).trans ((W3_of m ρ c main_v0 (by decide)).trans
    ((W2_of m ρ c main_v0 (by decide)).trans (at1_v0 m ρ c H)))
  hcw := (W4_args m ρ c main_arg2 (by decide)).trans H.h2
  hcb := (W4_args m ρ c main_arg3 (by decide)).trans H.h3
  hg := (W4_of m ρ c main_v2 (by decide)).trans (at3_v2 m ρ c H)

theorem at5_da : V5 m ρ c main_v4_0 = (blk (dgate h wu cw cb wd dy) 0 0 : Vec Ideal S2048x5632 .bf16) :=
  (W5_arr m ρ c 5).trans (arr4_5 (V4 m ρ) c (in4 m ρ c H))

theorem at5_dv : V5 m ρ c main_v4_1 = (blk (dval h wu cw cb wd dy) 0 0 : Vec Ideal S2048x5632 .bf16) :=
  (W5_arr m ρ c 6).trans (arr4_6 (V4 m ρ) c (in4 m ρ c H))

theorem at6_v5 : V6 m ρ c main_v5 = (blk (DH wu (dgate h wu cw cb wd dy)) 0 0 : Vec Ideal S2048x2048 .f32) :=
  (W6_arr m ρ c 5).trans (arr5_5 (V5 m ρ) c (at5_da m ρ c H) ((W5_args m ρ c main_arg1 (by decide)).trans H.h1))

/-- The rows' gradient. -/
theorem res_rows : (dat6 (V6 m ρ) c).arrAt 6 cfg6.N = (blk (fun i k => DH wu (dgate h wu cw cb wd dy) i k
    + DH (val wu) (dval h wu cw cb wd dy) i k) 0 0 : Vec Ideal S2048x2048 .f32) :=
  arr6_6 (V6 m ρ) c ((W6_of m ρ c main_v4_1 (by decide)).trans (at5_dv m ρ c H))
    ((W6_args m ρ c main_arg1 (by decide)).trans H.h1) (at6_v5 m ρ c H)

/-- The first product's weights' gradient. -/
theorem res_up : (dat8 (V9 m ρ) c).arrAt 2 cfg8.N
    = wup (DM 2048 h (beside (dgate h wu cw cb wd dy) (dval h wu cw cb wd dy))) :=
  arr8_2 (V9 m ρ) c ((W9_args m ρ c main_arg0 (by decide)).trans H.h0)
    ((W9_of m ρ c main_v4_1 (by decide)).trans ((W8_of m ρ c main_v4_1 (by decide)).trans
      ((W7_of m ρ c main_v4_1 (by decide)).trans ((W6_of m ρ c main_v4_1 (by decide)).trans (at5_dv m ρ c H)))))
    fun y hy => by
      have e : V9 m ρ c main_v8 = (dat7 (V7 m ρ) c).arrAt 2 cfg7.N := W8_arr m ρ c 2
      exact (congrFun e y).trans (arr7_2 (V7 m ρ) c ((W7_args m ρ c main_arg0 (by decide)).trans H.h0)
        ((W7_of m ρ c main_v4_0 (by decide)).trans ((W6_of m ρ c main_v4_0 (by decide)).trans (at5_da m ρ c H))) y hy)

/-- The taps' gradient. -/
theorem res_taps : (dat4 (V4 m ρ) c).arrAt 7 cfg4.N
    = (blk (DW 2048 (U h wu) (dconv h wu cw cb wd dy)) 0 0 : Vec Ideal S3x5632 .f32) := arr4_7 (V4 m ρ) c (in4 m ρ c H)

/-- The bias's gradient. -/
theorem res_bias : (dat4 (V4 m ρ) c).arrAt 8 cfg4.N
    = (blk (fun _ => DB 2048 (dconv h wu cw cb wd dy)) 0 0 : Vec Ideal S1x5632 .f32) := arr4_8 (V4 m ρ) c (in4 m ρ c H)

end
end Cert.Proof.Glu.Lat
-- ==== Proof.LatRef.lean ====
module

public import proofs.«01_k».proof.Proof.Gen.Reference4Ideal.Read
public import proofs.«01_k».proof.Proof.GluRef
public import proofs.«01_k».proof.Proof.LatRun
public import Idealize.ShloMosaic.Lib.Pointwise

@[expose] public section

/-!
# What the gated convolution's reference computes, of the latent rows alone

The reference's terms read down to the arguments, and its six results.
-/

set_option maxRecDepth 16384

noncomputable section
open scoped BigOperators
namespace Cert.Proof.Glu.Lat.Ref
open Idealize.ShloMosaic Cert.Reference4Ideal Cert.Reference4Ideal.Gen Cert.Reference4Ideal.Read
open Cert.Proof.Glu.Ref (logistic pad_coe up_no up_of dn_no dn_of dh_halves da_parts)

/-- The taps' gradients, each tap's part on its own. -/
theorem dw_parts (u d : ℕ → ℕ → ℝ) {r : ℕ} (hr : r < 3) (j : ℕ) :
    (if r = 2 then ∑ i : Fin 2048, dn u i j * d i j else 0) + (if r = 1 then ∑ i : Fin 2048, u i j * d i j else 0)
      + (if r = 0 then ∑ i : Fin 2048, up u i j * d i j else 0) = DW 2048 u d r j := by
  unfold DW
  rcases (by omega : r = 0 ∨ r = 1 ∨ r = 2) with e | e | e <;> subst e <;> simp

variable {x0 : Vec Ideal S2048x2048 .bf16} {x1 : Vec Ideal S4x2048x2816 .bf16} {x2 : Vec Ideal S3x5632 .f32}
  {x3 : Vec Ideal S1x5632 .f32} {x4 : Vec Ideal S4x1408x2048 .bf16} {x5 : Vec Ideal S2048x2048 .bf16}
  {h wu cw : ℕ → ℕ → ℝ} {cb : ℕ → ℝ} {wd dy : ℕ → ℕ → ℝ} (H : Ins h wu cw cb wd dy x0 x1 x2 x3 x4 x5)

section
include H

theorem w_up (k : Fin 2048) (j : Fin 11264) : val_main_v2 (F := Ideal) x1 (ix2 k j) = ((wu k j : ℝ) : EReal) := by
  pointwise [val_main_v2, val_main_v1, val_main_v0]
  rw [H.h1]
  exact congrArg _ (congrArg₂ wu rfl (Nat.div_add_mod j.val 2816))

theorem w_down (r : Fin 5632) (n : Fin 2048) : val_main_v4 (F := Ideal) x4 (ix2 r n) = ((wd r n : ℝ) : EReal) := by
  pointwise [val_main_v4, val_main_v3]
  rw [H.h4]
  exact congrArg _ (congrArg₂ wd (Nat.div_add_mod r.val 1408) rfl)

theorem tap (r : Fin 3) (j : Fin 5632) : x2 (ix2 r j) = ((cw r j : ℝ) : EReal) := by
  rw [H.h2]; rfl

theorem bias (j : Fin 5632) : x3 (ix2 0 j) = ((cb j : ℝ) : EReal) := by
  rw [H.h3]; rfl

theorem row_h (i k : Fin 2048) : val_main_v5 (F := Ideal) x0 (ix2 i k) = ((h i k : ℝ) : EReal) := by
  pointwise [val_main_v5]
  rw [H.h0]; rfl

theorem row_dy (i n : Fin 2048) : val_main_v40 (F := Ideal) x5 (ix2 i n) = ((dy i n : ℝ) : EReal) := by
  pointwise [val_main_v40]
  rw [H.h5]; rfl

theorem row_u (i : Fin 2048) (j : Fin 11264) : val_main_v7 (F := Ideal) x0 x1 (ix2 i j) = ((U h wu i j : ℝ) : EReal) := by
  pointwise [val_main_v7]
  simp only [w_up H, row_h H, ← EReal.coe_mul, ← Row.coe_sum]
  rfl

omit H in
theorem row_edge (r : Fin 1) (j : Fin 5632) : val_main_v10 (F := Ideal) (ix2 r j) = ((0 : ℝ) : EReal) := by
  pointwise [val_main_v10, val_main_cst]
  rfl

theorem row_prev (i : Fin 2048) (j : Fin 5632) :
    val_main_v14 (F := Ideal) x0 x1 (ix2 i j) = ((up (U h wu) i j : ℝ) : EReal) := by
  pointwise [val_main_v14, val_main_v11, val_main_v8]
  by_cases e : i.val < 1
  · exact (dif_pos e).trans ((row_edge _ j).trans (up_no _ _ (by unfold Prv; omega)))
  · refine (dif_neg e).trans ((dif_pos (show i.val - 1 < 2048 by omega)).trans ((row_u H _ _).trans ?_))
    exact up_of (U h wu) j (by unfold Prv; omega) rfl

theorem row_here (i : Fin 2048) (j : Fin 5632) :
    val_main_v20 (F := Ideal) x0 x1 (ix2 i j) = ((U h wu i j : ℝ) : EReal) := by
  pointwise [val_main_v20, val_main_v11, val_main_v8]
  exact row_u H _ _

theorem row_next (i : Fin 2048) (j : Fin 5632) :
    val_main_v27 (F := Ideal) x0 x1 (ix2 i j) = ((dn (U h wu) i j : ℝ) : EReal) := by
  pointwise [val_main_v27, val_main_v11, val_main_v8]
  by_cases e : i.val = 2047
  · refine Eq.trans (dif_neg (by omega)) (Eq.trans ?_ (dn_no _ _ (by unfold Nxt; omega)))
    exact Eq.trans (dif_neg (by omega)) (row_edge _ j)
  · refine Eq.trans (dif_neg (by omega)) (Eq.trans (dif_pos (by omega)) ((row_u H _ _).trans ?_))
    exact dn_of (U h wu) j (by unfold Nxt; omega) (by dsimp only; omega)

theorem row_val (i : Fin 2048) (j : Fin 5632) :
    val_main_v9 (F := Ideal) x0 x1 (ix2 i j) = ((U h wu i (5632 + j) : ℝ) : EReal) := by
  pointwise [val_main_v9]
  exact row_u H _ _

theorem row_c (i : Fin 2048) (j : Fin 5632) :
    val_main_v36 (F := Ideal) x0 x1 x2 x3 (ix2 i j) = ((C cw cb (U h wu) i j : ℝ) : EReal) := by
  pointwise [val_main_v36, val_main_v35, val_main_v34, val_main_v6, val_main_v33, val_main_v32, val_main_v31, val_main_v30,
    val_main_v29, val_main_v28, val_main_v26, val_main_v25, val_main_v24, val_main_v23, val_main_v22, val_main_v21,
    val_main_v19, val_main_v18, val_main_v17, val_main_v16, val_main_v15]
  simp only [row_prev H, row_here H, row_next H, tap H, bias H, ← EReal.coe_mul, ← EReal.coe_add]
  rfl

theorem row_sg (i : Fin 2048) (j : Fin 5632) :
    val_main_v37_2 (F := Ideal) x0 x1 x2 x3 (ix2 i j) = ((sg (C cw cb (U h wu) i j) : ℝ) : EReal) := by
  pointwise [val_main_v37_2, val_main_call0_v4, val_main_call0_v3, val_main_call0_v2, val_main_call0_v1, val_main_call0_v0,
    val_main_call0_cst, val_main_call0_cst_0]
  rw [row_c H, logistic]

theorem row_act (i : Fin 2048) (j : Fin 5632) : val_main_v37_0 (F := Ideal) x0 x1 x2 x3 (ix2 i j)
    = ((C cw cb (U h wu) i j * sg (C cw cb (U h wu) i j) : ℝ) : EReal) := by
  pointwise [val_main_v37_0]
  rw [row_c H, row_sg H, ← EReal.coe_mul]

theorem row_g (i : Fin 2048) (j : Fin 5632) :
    val_main_v38 (F := Ideal) x0 x1 x2 x3 (ix2 i j) = ((G cw cb (U h wu) i j : ℝ) : EReal) := by
  pointwise [val_main_v38]
  rw [row_act H, row_val H, ← EReal.coe_mul]
  rfl

theorem row_y (i n : Fin 2048) :
    val_main_v39 (F := Ideal) x0 x1 x2 x3 x4 (ix2 i n) = ((Y wd (G cw cb (U h wu)) i n : ℝ) : EReal) := by
  pointwise [val_main_v39]
  simp only [row_g H, w_down H, ← EReal.coe_mul, ← Row.coe_sum]
  rfl

theorem row_dg (i : Fin 2048) (j : Fin 5632) : val_main_v43 (F := Ideal) x4 x5 (ix2 i j) = ((DG wd dy i j : ℝ) : EReal) := by
  pointwise [val_main_v43]
  simp only [w_down H, row_dy H, ← EReal.coe_mul, ← Row.coe_sum]
  rfl

theorem row_dv (i : Fin 2048) (j : Fin 5632) :
    val_main_v44 (F := Ideal) x0 x1 x2 x3 x4 x5 (ix2 i j) = ((dval h wu cw cb wd dy i j : ℝ) : EReal) := by
  pointwise [val_main_v44]
  rw [row_act H, row_dg H, ← EReal.coe_mul]
  rfl

theorem row_dc (i : Fin 2048) (j : Fin 5632) :
    val_main_v46 (F := Ideal) x0 x1 x2 x3 x4 x5 (ix2 i j) = ((dconv h wu cw cb wd dy i j : ℝ) : EReal) := by
  pointwise [val_main_v46, val_main_call1_v0, val_main_call1_v1, val_main_call1_v2, val_main_v45, val_main_v37_1,
    val_main_call0_v7, val_main_call0_v6, val_main_call0_cst_1]
  simp only [row_c H, row_sg H, row_dg H, row_val H, ← EReal.coe_one, ← EReal.coe_sub, ← EReal.coe_mul, ← EReal.coe_add]
  rfl

theorem row_da (i : Fin 2048) (j : Fin 5632) :
    val_main_v82 (F := Ideal) x0 x1 x2 x3 x4 x5 (ix2 i j) = ((dgate h wu cw cb wd dy i j : ℝ) : EReal) := by
  pointwise [val_main_v82, val_main_v80, val_main_v79, val_main_cst_15, val_main_v69, val_main_v68, val_main_cst_11,
    val_main_v58, val_main_cst_7, val_main_v54, val_main_v53, val_main_v30, val_main_v29, val_main_v28, val_main_v63,
    val_main_v62, val_main_v23, val_main_v22, val_main_v21, val_main_v74, val_main_v73, val_main_v17, val_main_v16,
    val_main_v15]
  simp only [row_dc H, tap H, ← EReal.coe_mul]
  rw [← da_parts]
  refine congrArg₂ (· + ·) (congrArg₂ (· + ·) (pad_coe (by unfold Prv; omega) fun y => ?_) rfl)
    (pad_coe (by unfold Nxt; omega) fun y => ?_)
  · exact congrArg (fun n => dconv h wu cw cb wd dy n j * cw 2 j) (by omega)
  · exact congrArg (fun n => dconv h wu cw cb wd dy n j * cw 0 j) (by omega)

theorem row_dw_down (k : Fin 2048) (j : Fin 5632) : val_main_v41 (F := Ideal) x0 x1 x2 x3 x5 (ix2 k j)
    = ((∑ i : Fin 2048, G cw cb (U h wu) i j * dy i k : ℝ) : EReal) := by
  pointwise [val_main_v41]
  simp only [row_g H, row_dy H, ← EReal.coe_mul, ← Row.coe_sum]
  simp only [mul_comm]

theorem row_db (j : Fin 5632) : val_main_v49 (F := Ideal) x0 x1 x2 x3 x4 x5 (ix1 j)
    = ((∑ i : Fin 2048, dconv h wu cw cb wd dy i j : ℝ) : EReal) := by
  pointwise [val_main_v49, val_main_v48, val_main_v47, val_main_cst_2, val_main_cst_3]
  simp only [row_dc H, ← Row.coe_sum, Fin.sum_univ_one]

theorem row_cat (i : Fin 2048) (j : Fin 11264) : val_main_v84 (F := Ideal) x0 x1 x2 x3 x4 x5 (ix2 i j)
    = ((beside (dgate h wu cw cb wd dy) (dval h wu cw cb wd dy) i j : ℝ) : EReal) := by
  pointwise [val_main_v84]
  unfold beside
  by_cases e : j.val < 5632
  · rw [dif_pos e, if_pos e, row_da H]
  · rw [dif_neg e, if_neg e, row_dv H]

theorem row_dw_up (j : Fin 11264) (k : Fin 2048) : val_main_v85 (F := Ideal) x0 x1 x2 x3 x4 x5 (ix2 j k)
    = ((∑ i : Fin 2048, h i k * beside (dgate h wu cw cb wd dy) (dval h wu cw cb wd dy) i j : ℝ) : EReal) := by
  pointwise [val_main_v85]
  simp only [row_cat H, row_h H, ← EReal.coe_mul, ← Row.coe_sum]
  simp only [mul_comm]

theorem row_dh (i k : Fin 2048) : val_main_v87 (F := Ideal) x0 x1 x2 x3 x4 x5 (ix2 i k)
    = ((DH wu (dgate h wu cw cb wd dy) i k + DH (val wu) (dval h wu cw cb wd dy) i k : ℝ) : EReal) := by
  pointwise [val_main_v87]
  simp only [row_cat H, w_up H, ← EReal.coe_mul, ← Row.coe_sum]
  rw [dh_halves]

/-! ## The results -/

theorem y_eq : val_main_v39 (F := Ideal) x0 x1 x2 x3 x4 = blk (Y wd (G cw cb (U h wu))) 0 0 := by
  funext y
  idx_vars y
  exact row_y H _ _

theorem dw_down_eq : val_main_v92 (F := Ideal) x0 x1 x2 x3 x5 = blk (DM 2048 (G cw cb (U h wu)) dy) 0 0 := by
  funext y
  idx_vars y
  pointwise [val_main_v92, val_main_v42]
  exact row_dw_down H _ _

theorem db_eq : val_main_v91 (F := Ideal) x0 x1 x2 x3 x4 x5 = blk (fun _ => DB 2048 (dconv h wu cw cb wd dy)) 0 0 := by
  funext y
  idx_vars y
  pointwise [val_main_v91]
  exact row_db H _

theorem dw_eq : val_main_v78 (F := Ideal) x0 x1 x2 x3 x4 x5 = blk (DW 2048 (U h wu) (dconv h wu cw cb wd dy)) 0 0 := by
  funext y
  idx_vars y
  pointwise [val_main_v78, val_main_v77, val_main_v76, val_main_v75, val_main_v72, val_main_v71, val_main_v70,
    val_main_v67, val_main_v66, val_main_v65, val_main_v64, val_main_v61, val_main_v60, val_main_v59,
    val_main_v57, val_main_v56, val_main_v55, val_main_v52, val_main_v51, val_main_v50,
    val_main_cst_4, val_main_cst_5, val_main_cst_6, val_main_cst_8, val_main_cst_9, val_main_cst_10, val_main_cst_12,
    val_main_cst_13, val_main_cst_14]
  simp only [row_prev H, row_here H, row_next H, row_dc H, ← EReal.coe_mul, ← Row.coe_sum, Fin.sum_univ_one]
  refine Eq.trans ?_ (congrArg Real.toEReal (dw_parts (U h wu) (dconv h wu cw cb wd dy) y0.isLt y1.val))
  simp only [EReal.coe_add]
  refine congrArg₂ (· + ·) (congrArg₂ (· + ·) ?_ ?_) ?_ <;> exact pad_coe (by omega) fun _ => rfl

theorem dw_up_eq : val_main_v90 (F := Ideal) x0 x1 x2 x3 x4 x5
    = wup (DM 2048 h (beside (dgate h wu cw cb wd dy) (dval h wu cw cb wd dy))) := by
  funext y
  idx_vars y
  pointwise [val_main_v90, val_main_v89, val_main_v88, val_main_v86]
  rw [row_dw_up H]
  exact congrArg (fun j => ((DM 2048 h (beside (dgate h wu cw cb wd dy) (dval h wu cw cb wd dy)) y1 j : ℝ) : EReal))
    (congrArg (· + y2.val) (Nat.mul_comm _ _))

theorem dh_eq : val_main_v87 (F := Ideal) x0 x1 x2 x3 x4 x5 = blk (fun i k => DH wu (dgate h wu cw cb wd dy) i k
    + DH (val wu) (dval h wu cw cb wd dy) i k) 0 0 := by
  funext y
  idx_vars y
  exact row_dh H _ _

end
end Cert.Proof.Glu.Lat.Ref
-- ==== Proof.Finite4.lean ====
module

public import proofs.«01_k».proof.Defs
public import proofs.«01_k».proof.Proof.Finite2
public import proofs.«01_k».proof.Proof.LatRun

@[expose] public section

/-!
# The fourth pair's precondition

Where it holds, the fourth pair of programs' arguments hold real numbers.
-/

set_option maxRecDepth 16384

noncomputable section
namespace Cert.Proof
open Idealize.ShloMosaic

theorem preFacts4 : Cert.Pre_finite4.Facts where
  bitsLt_bf16_f32 := by decide
  bcast_S_S2048x2048 := by decide
  bcast_S_S4x2048x2816 := by decide
  bcast_S_S3x5632 := by decide
  bcast_S_S1x5632 := by decide
  bcast_S_S4x1408x2048 := by decide

instance : Cert.Pre_finite4.Facts := preFacts4

open Cert.Pre_finite4

variable {x0 : Vec Ideal S2048x2048 .bf16} {x1 : Vec Ideal S4x2048x2816 .bf16} {x2 : Vec Ideal S3x5632 .f32}
  {x3 : Vec Ideal S1x5632 .f32} {x4 : Vec Ideal S4x1408x2048 .bf16} {x5 : Vec Ideal S2048x2048 .bf16}

/-- The arguments as real numbers. -/
theorem ins4 (h : (fn (F := Ideal) x0 x1 x2 x3 x4 x5).1 = (fun _ => 1#1)
      ∧ (fn (F := Ideal) x0 x1 x2 x3 x4 x5).2.1 = (fun _ => 1#1) ∧ (fn (F := Ideal) x0 x1 x2 x3 x4 x5).2.2.1 = (fun _ => 1#1)
      ∧ (fn (F := Ideal) x0 x1 x2 x3 x4 x5).2.2.2.1 = (fun _ => 1#1)
      ∧ (fn (F := Ideal) x0 x1 x2 x3 x4 x5).2.2.2.2.1 = (fun _ => 1#1)
      ∧ (fn (F := Ideal) x0 x1 x2 x3 x4 x5).2.2.2.2.2 = (fun _ => 1#1)) :
    Glu.Lat.Ins (entry x0) (fun k j => entry3 x1 (j / 2816) k (j % 2816)) (entry x2) (entry x3 0)
      (fun r n => entry3 x4 (r / 1408) (r % 1408) n) (entry x5) x0 x1 x2 x3 x4 x5 := by
  obtain ⟨h0, h1, h2, h3, h4, h5⟩ := h
  exact ⟨real_blk x0 ⟨_, h0⟩, real_wup x1 ⟨_, h1⟩, real_blk x2 ⟨_, h2⟩, real_row x3 ⟨_, h3⟩, real_wdn x4 ⟨_, h4⟩, real_blk x5 ⟨_, h5⟩⟩

end Cert.Proof
-- ==== Proof.LatProj.lean ====
module

public import proofs.«01_k».proof.Proof.ProjRun
public import proofs.«01_k».proof.Proof.Gen.Kernel5Ideal.Frame

@[expose] public section

/-!
# The second layer's output projection

Of the latent rows alone: the blocks its three kernels compute, the arrays they leave, and the run with its results.
-/

set_option maxRecDepth 16384

noncomputable section
open scoped BigOperators
namespace Cert.Proof.Proj.Lat
open Idealize.ShloMosaic Idealize.ShloMosaic.TcCoe Idealize.ShloMosaic.Tactic Cert.Kernel5Ideal Cert.Kernel5Ideal.Gen
open Idealize.ShloMosaic.Pipeline (Window)

/-! ## The blocks -/

section
variable (f g : ℕ → ℕ → EReal) (a b : ℕ)

theorem out_proj_eq : k0_pay1 (F := Ideal) (blk f a 0) (lead g 0 b) (blk f a 512) (lead g 512 b) (blk f a 1024)
    (lead g 1024 b) (blk f a 1536) (lead g 1536 b) = blk (mul 2048 f g) a b := by
  funext y; idx_vars y
  pointwise [k0_pay1]
  exact (sum_quarters fun k => f (y0.val + a) k * g k (y1.val + b)).symm

theorem out_dx_eq : k1_pay1 (F := Ideal) (blk f a 0) (lead g b 0) = blk (mulT 2048 f g) a b := by
  funext y; idx_vars y
  pointwise [k1_pay1]
  rfl

theorem out_dw_eq : k2_pay1 (F := Ideal) (blk f 0 a) (blk g 0 b) = blk (tmul 2048 f g) a b := by
  funext y; idx_vars y
  pointwise [k2_pay1]
  rfl
end

section
variable (V : (c : Dev nD) → (b : Ref sig .tc) → Buf (Elt Ideal) ((c : Thread nD τ).loc b)) (c : Dev nD)
variable {f g : ℕ → ℕ → EReal}

/-! ## The output projection -/

theorem lies0_0 (t : Fin cfg0.N) : Lies (t.val / 2) 0 fun y : S1024x2048.Idx => (win0_0.rect t).emb y :=
  .of (Window.rect_emb_val win0_0 t)
    ((by decide +kernel : ∀ t : Fin grid0.N, win0_0.index t 0 = t.val / 2 ∧ win0_0.index t 1 = 0) t)

theorem lies0_5 (t : Fin cfg0.N) : Lies (t.val / 2) (t.val % 2) fun y : S1024x1024.Idx => (win0_5.rect t).emb y :=
  .of (Window.rect_emb_val win0_5 t)
    ((by decide +kernel : ∀ t : Fin grid0.N, win0_5.index t 0 = t.val / 2 ∧ win0_5.index t 1 = t.val % 2) t)

theorem ib0_0 (e : V c main_arg0 = (blk f 0 0 : Vec Ideal S2048x2048 .bf16)) (t : Fin cfg0.N) :
    iblk0 V c 0 t = (blk f (t.val / 2 * 1024) 0 : Vec Ideal S1024x2048 .bf16) :=
  (congrArg (fun (x : Vec Ideal S2048x2048 .bf16) (y : S1024x2048.Idx) => x ((win0_0.rect t).emb y)) e).trans
    (Lies.read f (lies0_0 t))

theorem ib0_1 (e : V c main_arg1 = rows4 g) (t : Fin cfg0.N) :
    iblk0 V c 1 t = (lead g 0 (t.val % 2 * 1024) : Vec Ideal S1x512x1024 .bf16) :=
  (congrArg (fun (x : Vec Ideal S4x512x2048 .bf16) (y : S1x512x1024.Idx) => x ((win0_1.rect t).emb y)) e).trans
    (read4 g (k := 0) (Window.rect_emb_val win0_1 t) ((by decide +kernel : ∀ t : Fin grid0.N,
      win0_1.index t 0 = 0 ∧ win0_1.index t 1 = 0 ∧ win0_1.index t 2 = t.val % 2) t))

theorem ib0_2 (e : V c main_arg1 = rows4 g) (t : Fin cfg0.N) :
    iblk0 V c 2 t = (lead g 512 (t.val % 2 * 1024) : Vec Ideal S1x512x1024 .bf16) :=
  (congrArg (fun (x : Vec Ideal S4x512x2048 .bf16) (y : S1x512x1024.Idx) => x ((win0_2.rect t).emb y)) e).trans
    (read4 g (k := 1) (Window.rect_emb_val win0_2 t) ((by decide +kernel : ∀ t : Fin grid0.N,
      win0_2.index t 0 = 1 ∧ win0_2.index t 1 = 0 ∧ win0_2.index t 2 = t.val % 2) t))

theorem ib0_3 (e : V c main_arg1 = rows4 g) (t : Fin cfg0.N) :
    iblk0 V c 3 t = (lead g 1024 (t.val % 2 * 1024) : Vec Ideal S1x512x1024 .bf16) :=
  (congrArg (fun (x : Vec Ideal S4x512x2048 .bf16) (y : S1x512x1024.Idx) => x ((win0_3.rect t).emb y)) e).trans
    (read4 g (k := 2) (Window.rect_emb_val win0_3 t) ((by decide +kernel : ∀ t : Fin grid0.N,
      win0_3.index t 0 = 2 ∧ win0_3.index t 1 = 0 ∧ win0_3.index t 2 = t.val % 2) t))

theorem ib0_4 (e : V c main_arg1 = rows4 g) (t : Fin cfg0.N) :
    iblk0 V c 4 t = (lead g 1536 (t.val % 2 * 1024) : Vec Ideal S1x512x1024 .bf16) :=
  (congrArg (fun (x : Vec Ideal S4x512x2048 .bf16) (y : S1x512x1024.Idx) => x ((win0_4.rect t).emb y)) e).trans
    (read4 g (k := 3) (Window.rect_emb_val win0_4 t) ((by decide +kernel : ∀ t : Fin grid0.N,
      win0_4.index t 0 = 3 ∧ win0_4.index t 1 = 0 ∧ win0_4.index t 2 = t.val % 2) t))

/-- A quarter of a block's columns. -/
theorem ld_blk {a n : ℕ} (i : ∀ a, (![0, n] : Fin 2 → ℕ) a + S1024x512.size a ≤ S1024x2048.size a) :
    View.ld (Val := Elt Ideal) (e' := .bf16) (blk f a 0) (Rect.unit (s := S1024x2048) ![0, n] S1024x512.size i)
      = (blk f a n : (⟨2, ![1024, 512]⟩ : Shape).Idx → EReal) := by
  funext y
  show f (0 + 1 * (y 0).val + a) (n + 1 * (y 1).val + 0) = f ((y 0).val + a) ((y 1).val + n)
  rw [Nat.zero_add, Nat.one_mul, Nat.one_mul, Nat.add_zero, Nat.add_comm n]

theorem arr0 (e0 : V c main_arg0 = (blk f 0 0 : Vec Ideal S2048x2048 .bf16)) (e1 : V c main_arg1 = rows4 g) :
    (dat0 V c).arrAt 5 cfg0.N = (blk (mul 2048 f g) 0 0 : Vec Ideal S2048x2048 .f32) := by
  refine (dat0 V c).arrAt_eq_of_cover 5 (blk (mul 2048 f g) 0 0 : Vec Ideal S2048x2048 .f32) (fun t _ => ?_) fun y => ?_
  · show (cfg0.win 5).cut (grid0.coords t) ((dat0 V c).after 5 t) = _
    rw [after0_5, ib0_0 V c e0, ib0_1 V c e1, ib0_2 V c e1, ib0_3 V c e1, ib0_4 V c e1]
    unfold out0_5
    rw [View.canon_unit_zero (S := S1024x1024) hz2]
    simp only [View.ld_unit_zero (S := S1x512x1024) hz3, ld_blk, out_proj_eq]
    exact (Lies.read _ (lies0_5 t)).symm
  · have h0 : (y 0).val < 2048 := (y 0).isLt
    have h1 : (y 1).val < 2048 := (y 1).isLt
    have ht : (y 0).val / 1024 * 2 + (y 1).val / 1024 < cfg0.N := by rw [show cfg0.N = 4 from N_0]; omega
    refine ⟨⟨_, ht⟩, flush0_5 _, ?_⟩
    show y ∈ ((View.whole main_v0).slice (win0_5.rect ⟨_, ht⟩)).set
    rw [View.set_slice_whole, ← Rect.map_emb_univ]
    exact (lies0_5 ⟨_, ht⟩).mem y (by dsimp only; omega) (by dsimp only; omega)

/-! ## The mixed rows' gradient -/

theorem lies1_0 (t : Fin cfg1.N) : Lies (t.val / 4) 0 fun y : S1024x2048.Idx => (win1_0.rect t).emb y :=
  .of (Window.rect_emb_val win1_0 t)
    ((by decide +kernel : ∀ t : Fin grid1.N, win1_0.index t 0 = t.val / 4 ∧ win1_0.index t 1 = 0) t)

theorem lies1_2 (t : Fin cfg1.N) : Lies (t.val / 4) (t.val % 4) fun y : S1024x512.Idx => (win1_2.rect t).emb y :=
  .of (Window.rect_emb_val win1_2 t)
    ((by decide +kernel : ∀ t : Fin grid1.N, win1_2.index t 0 = t.val / 4 ∧ win1_2.index t 1 = t.val % 4) t)

theorem ib1_0 (e : V c main_arg2 = (blk f 0 0 : Vec Ideal S2048x2048 .bf16)) (t : Fin cfg1.N) :
    iblk1 V c 0 t = (blk f (t.val / 4 * 1024) 0 : Vec Ideal S1024x2048 .bf16) :=
  (congrArg (fun (x : Vec Ideal S2048x2048 .bf16) (y : S1024x2048.Idx) => x ((win1_0.rect t).emb y)) e).trans
    (Lies.read f (lies1_0 t))

theorem ib1_1 (e : V c main_arg1 = rows4 g) (t : Fin cfg1.N) :
    iblk1 V c 1 t = (lead g (t.val % 4 * 512) 0 : Vec Ideal S1x512x2048 .bf16) :=
  (congrArg (fun (x : Vec Ideal S4x512x2048 .bf16) (y : S1x512x2048.Idx) => x ((win1_1.rect t).emb y)) e).trans
    (read4 g (q := 0) (Window.rect_emb_val win1_1 t) ((by decide +kernel : ∀ t : Fin grid1.N,
      win1_1.index t 0 = t.val % 4 ∧ win1_1.index t 1 = 0 ∧ win1_1.index t 2 = 0) t))

theorem arr1 (e0 : V c main_arg2 = (blk f 0 0 : Vec Ideal S2048x2048 .bf16)) (e1 : V c main_arg1 = rows4 g) :
    (dat1 V c).arrAt 2 cfg1.N = (blk (mulT 2048 f g) 0 0 : Vec Ideal S2048x2048 .f32) := by
  refine (dat1 V c).arrAt_eq_of_cover 2 (blk (mulT 2048 f g) 0 0 : Vec Ideal S2048x2048 .f32) (fun t _ => ?_) fun y => ?_
  · show (cfg1.win 2).cut (grid1.coords t) ((dat1 V c).after 2 t) = _
    rw [after1_2, ib1_0 V c e0, ib1_1 V c e1]
    unfold out1_2
    rw [View.canon_unit_zero (S := S1024x512) hz2, View.ld_unit_zero (S := S1024x2048) hz2,
      View.ld_unit_zero (S := S1x512x2048) hz3, out_dx_eq]
    exact (Lies.read _ (lies1_2 t)).symm
  · have h0 : (y 0).val < 2048 := (y 0).isLt
    have h1 : (y 1).val < 2048 := (y 1).isLt
    have ht : (y 0).val / 1024 * 4 + (y 1).val / 512 < cfg1.N := by rw [show cfg1.N = 8 from N_1]; omega
    refine ⟨⟨_, ht⟩, flush1_2 _, ?_⟩
    show y ∈ ((View.whole main_v1).slice (win1_2.rect ⟨_, ht⟩)).set
    rw [View.set_slice_whole, ← Rect.map_emb_univ]
    exact (lies1_2 ⟨_, ht⟩).mem y (by dsimp only; omega) (by dsimp only; omega)

/-! ## The output projection's weights' gradient -/

theorem lies2_0 (t : Fin cfg2.N) : Lies 0 (t.val / 2) fun y : S2048x1024.Idx => (win2_0.rect t).emb y :=
  .of (Window.rect_emb_val win2_0 t)
    ((by decide +kernel : ∀ t : Fin grid2.N, win2_0.index t 0 = 0 ∧ win2_0.index t 1 = t.val / 2) t)

theorem lies2_1 (t : Fin cfg2.N) : Lies 0 (t.val % 2) fun y : S2048x1024.Idx => (win2_1.rect t).emb y :=
  .of (Window.rect_emb_val win2_1 t)
    ((by decide +kernel : ∀ t : Fin grid2.N, win2_1.index t 0 = 0 ∧ win2_1.index t 1 = t.val % 2) t)

theorem lies2_2 (t : Fin cfg2.N) : Lies (t.val / 2) (t.val % 2) fun y : S1024x1024.Idx => (win2_2.rect t).emb y :=
  .of (Window.rect_emb_val win2_2 t)
    ((by decide +kernel : ∀ t : Fin grid2.N, win2_2.index t 0 = t.val / 2 ∧ win2_2.index t 1 = t.val % 2) t)

theorem ib2_0 (e : V c main_arg0 = (blk f 0 0 : Vec Ideal S2048x2048 .bf16)) (t : Fin cfg2.N) :
    iblk2 V c 0 t = (blk f 0 (t.val / 2 * 1024) : Vec Ideal S2048x1024 .bf16) :=
  (congrArg (fun (x : Vec Ideal S2048x2048 .bf16) (y : S2048x1024.Idx) => x ((win2_0.rect t).emb y)) e).trans
    (Lies.read f (lies2_0 t))

theorem ib2_1 (e : V c main_arg2 = (blk g 0 0 : Vec Ideal S2048x2048 .bf16)) (t : Fin cfg2.N) :
    iblk2 V c 1 t = (blk g 0 (t.val % 2 * 1024) : Vec Ideal S2048x1024 .bf16) :=
  (congrArg (fun (x : Vec Ideal S2048x2048 .bf16) (y : S2048x1024.Idx) => x ((win2_1.rect t).emb y)) e).trans
    (Lies.read g (lies2_1 t))

theorem arr2 (e0 : V c main_arg0 = (blk f 0 0 : Vec Ideal S2048x2048 .bf16))
    (e1 : V c main_arg2 = (blk g 0 0 : Vec Ideal S2048x2048 .bf16)) :
    (dat2 V c).arrAt 2 cfg2.N = (blk (tmul 2048 f g) 0 0 : Vec Ideal S2048x2048 .bf16) := by
  refine (dat2 V c).arrAt_eq_of_cover 2 (blk (tmul 2048 f g) 0 0 : Vec Ideal S2048x2048 .bf16) (fun t _ => ?_) fun y => ?_
  · show (cfg2.win 2).cut (grid2.coords t) ((dat2 V c).after 2 t) = _
    rw [after2_2, ib2_0 V c e0, ib2_1 V c e1]
    unfold out2_2
    simp only [View.canon_unit_zero (S := S1024x1024) hz2, View.ld_unit_zero (S := S2048x1024) hz2, out_dw_eq]
    exact (Lies.read _ (lies2_2 t)).symm
  · have h0 : (y 0).val < 2048 := (y 0).isLt
    have h1 : (y 1).val < 2048 := (y 1).isLt
    have ht : (y 0).val / 1024 * 2 + (y 1).val / 1024 < cfg2.N := by rw [show cfg2.N = 4 from N_2]; omega
    refine ⟨⟨_, ht⟩, flush2_2 _, ?_⟩
    show y ∈ ((View.whole main_v2).slice (win2_2.rect ⟨_, ht⟩)).set
    rw [View.set_slice_whole, ← Rect.map_emb_univ]
    exact (lies2_2 ⟨_, ht⟩).mem y (by dsimp only; omega) (by dsimp only; omega)
end

/-! ## The run -/

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the three regions: each result array ends at what its region leaves in it. -/
theorem run : θ_run defs (onTc (τ := τ) (main (F := Ideal))) ⟨m, fun _ => 0, ρ⟩ (fun r => ∀ c : Dev nD,
      r.2.mem ((c.tc : Thread nD τ).loc main_v0) = (dat0 (V0 m ρ) c).arrAt 5 cfg0.N
      ∧ r.2.mem ((c.tc : Thread nD τ).loc main_v1) = (dat1 (V1 m ρ) c).arrAt 2 cfg1.N
      ∧ r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v0 (by decide))).trans ((W3_of m ρ c main_v0 (by decide)).trans
         ((W2_of m ρ c main_v0 (by decide)).trans (W1_arr m ρ c 5))),
       (h c _ (mem_uc main_v1 (by decide))).trans ((W3_of m ρ c main_v1 (by decide)).trans (W2_arr m ρ c 2)),
       (h c _ (mem_uc main_v2 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The arguments hold the mixed rows `x`, the weights `wo` and the incoming gradient `dy`. -/
structure Ins (x wo dy : ℕ → ℕ → EReal) (x0 : Vec Ideal S2048x2048 .bf16) (x1 : Vec Ideal S4x512x2048 .bf16)
    (x2 : Vec Ideal S2048x2048 .bf16) : Prop where
  h0 : x0 = blk x 0 0
  h1 : x1 = rows4 wo
  h2 : x2 = blk dy 0 0

/-- Any arguments hold some entries. -/
theorem ins (x0 : Vec Ideal S2048x2048 .bf16) (x1 : Vec Ideal S4x512x2048 .bf16) (x2 : Vec Ideal S2048x2048 .bf16) :
    Ins (ent x0) (ent4 x1) (ent x2) x0 x1 x2 := ⟨eq_ent x0, eq_ent4 x1, eq_ent x2⟩

section
variable {x wo dy : ℕ → ℕ → EReal} (c : Dev nD)
variable (H : Ins x wo dy (m ((c.tc : Thread nD τ).loc main_arg0)) (m ((c.tc : Thread nD τ).loc main_arg1))
    (m ((c.tc : Thread nD τ).loc main_arg2)))
include H

theorem res_y : (dat0 (V0 m ρ) c).arrAt 5 cfg0.N = (blk (mul 2048 x wo) 0 0 : Vec Ideal S2048x2048 .f32) :=
  arr0 (V0 m ρ) c H.h0 H.h1

theorem res_dm : (dat1 (V1 m ρ) c).arrAt 2 cfg1.N = (blk (mulT 2048 dy wo) 0 0 : Vec Ideal S2048x2048 .f32) :=
  arr1 (V1 m ρ) c ((W1_args m ρ c main_arg2 (by decide)).trans H.h2) ((W1_args m ρ c main_arg1 (by decide)).trans H.h1)

theorem res_dw_out : (dat2 (V2 m ρ) c).arrAt 2 cfg2.N = (blk (tmul 2048 x dy) 0 0 : Vec Ideal S2048x2048 .bf16) :=
  arr2 (V2 m ρ) c ((W2_args m ρ c main_arg0 (by decide)).trans H.h0) ((W2_args m ρ c main_arg2 (by decide)).trans H.h2)
end

end Cert.Proof.Proj.Lat
-- ==== Proof.LatProjRef.lean ====
module

public import proofs.«01_k».proof.Proof.Gen.Reference5Ideal.Read
public import proofs.«01_k».proof.Proof.LatProj
public import proofs.«01_k».proof.Proof.ProjRef

@[expose] public section

/-!
# What the second layer's output projection's reference computes

Each of its three results as a product of the entries the arguments hold.
-/

set_option maxRecDepth 16384

noncomputable section
namespace Cert.Proof.Proj.Lat.Ref
open Idealize.ShloMosaic Cert.Reference5Ideal Cert.Reference5Ideal.Gen Cert.Reference5Ideal.Read Cert.Proof.Proj
open Cert.Proof.Proj.Ref (tmul_comm)

variable {x wo dy : ℕ → ℕ → EReal} {x0 : Vec Ideal S2048x2048 .bf16} {x1 : Vec Ideal S4x512x2048 .bf16}
  {x2 : Vec Ideal S2048x2048 .bf16} (H : Lat.Ins x wo dy x0 x1 x2)
include H

/-- The weights, the four blocks put together. -/
theorem wo_eq : val_main_v3 (F := Ideal) x1 = blk wo 0 0 := by
  rw [H.h1]; funext y; idx_vars y
  pointwise [val_main_v3, val_main_v1]
  unfold rows4 blk
  dsimp only [ix2, ix3]
  congr 1 <;> dsimp <;> omega

theorem y_eq : val_main_v4 (F := Ideal) x0 x1 = blk (mul 2048 x wo) 0 0 := by
  unfold val_main_v4
  rw [wo_eq H, H.h0]; funext y; idx_vars y
  pointwise [val_main_v0]
  rfl

theorem dm_eq : val_main_v7 (F := Ideal) x1 x2 = blk (mulT 2048 dy wo) 0 0 := by
  unfold val_main_v7
  rw [wo_eq H, H.h2]; funext y; idx_vars y
  pointwise [val_main_v2]
  rfl

theorem dw_out_eq : val_main_v8 (F := Ideal) x0 x2 = blk (tmul 2048 x dy) 0 0 := by
  rw [H.h0, H.h2]; funext y; idx_vars y
  pointwise [val_main_v8, val_main_v6, val_main_v5, val_main_v0, val_main_v2]
  exact tmul_comm 2048 x dy y0.val y1.val

end Cert.Proof.Proj.Lat.Ref
-- ==== Proof.LossTile.lean ====
module

public import proofs.«01_k».proof.Proof.ProjArr
public import proofs.«01_k».proof.Proof.Gen.Kernel6Ideal.Frame

@[expose] public section

/-!
# The last norm and the loss, and one tile of them

The norm of each row by its root mean square, the gains, the error, its squares' sum, and the gradients of the rows and of
the gains, over extended reals; then what the kernel's values hold of a tile of 256 rows.
-/

set_option maxRecDepth 16384

noncomputable section
open scoped BigOperators
namespace Cert.Proof.Loss
open Idealize.ShloMosaic Idealize.ShloMosaic.TcCoe Idealize.ShloMosaic.Tactic Cert.Kernel6Ideal Cert.Kernel6Ideal.Gen
open Cert.Proof.Proj (blk)

section
variable (x t : ℕ → ℕ → EReal) (g : ℕ → EReal)

/-- The number of columns, 2048. -/
def width : EReal := Ideal.ofBits .f32 0x45000000#32
/-- Half over the number of columns. -/
def half : EReal := Ideal.ofBits .f32 0x39800000#32

/-- A row's mean square, and the small constant. -/
def ms (i : ℕ) : EReal := Ideal.div (∑ k : Fin 2048, x i k * x i k) width + Ideal.ofBits .f32 0x358637BD#32
def inv (i : ℕ) : EReal := Ideal.rsqrt (ms x i)
/-- The derivative of `inv` by `ms`. -/
def slope (i : ℕ) : EReal := Ideal.ofBits .f32 0xBF000000#32 * Ideal.div (inv x i) (ms x i)
def nrm (i j : ℕ) : EReal := x i j * inv x i
def err (i j : ℕ) : EReal := nrm x i j * g j - t i j
/-- The gradient of the norm's result. -/
def dy (i j : ℕ) : EReal := err x t g i j * half + half * err x t g i j
/-- The gradient of a square, through the row's mean square. -/
def dsq (i : ℕ) : EReal := Ideal.div ((∑ k : Fin 2048, x i k * (dy x t g i k * g k)) * slope x i) width
/-- The gradient of the rows. -/
def dx (i j : ℕ) : EReal := dy x t g i j * g j * inv x i + x i j * dsq x t g i + dsq x t g i * x i j
/-- The gains' gradient, of the first `n` rows. -/
def dg (n j : ℕ) : EReal := ∑ i ∈ Finset.range n, nrm x i j * dy x t g i j
/-- A row's squared error. -/
def sq (i : ℕ) : EReal := ∑ k : Fin 2048, err x t g i k * err x t g i k
/-- The loss of the first `n` rows. -/
def loss (n : ℕ) : EReal := (∑ i ∈ Finset.range n, sq x t g i) * half

theorem width_eq : width = ((2048 : ℝ) : EReal) := by
  unfold width; simp [Ideal.ofBits, Ideal.ieee, -EReal.coe_mul]; norm_num

theorem half_eq : half = ((1 / 4096 : ℝ) : EReal) := by
  unfold half; simp [Ideal.ofBits, Ideal.ieee, -EReal.coe_mul]; norm_num

theorem half_nonneg : 0 ≤ half := by rw [half_eq]; exact_mod_cast (by norm_num : (0 : ℝ) ≤ 1 / 4096)
theorem half_ne_top : half ≠ ⊤ := by rw [half_eq]; exact EReal.coe_ne_top _

/-- A tile's 256 rows added to the sum over the rows before it. -/
theorem sum_tile (f : ℕ → EReal) (n : ℕ) :
    ∑ i ∈ Finset.range (n * 256), f i + ∑ i : Fin 256, f (i.val + n * 256) = ∑ i ∈ Finset.range ((n + 1) * 256), f i := by
  rw [Nat.add_mul, Nat.one_mul, Finset.sum_range_add, Finset.sum_range fun i => f (n * 256 + i)]
  exact congrArg _ (Finset.sum_congr rfl fun i _ => by rw [Nat.add_comm])

theorem dg_tile (n j : ℕ) : dg x t g (n * 256) j + ∑ i : Fin 256, nrm x (i.val + n * 256) j * dy x t g (i.val + n * 256) j
    = dg x t g ((n + 1) * 256) j :=
  sum_tile (fun i => nrm x i j * dy x t g i j) n

theorem loss_tile (n : ℕ) : loss x t g (n * 256) + (∑ i : Fin 256, sq x t g (i.val + n * 256)) * half
    = loss x t g ((n + 1) * 256) := by
  unfold loss
  rw [← sum_tile, EReal.right_distrib_of_nonneg_of_ne_top half_nonneg half_ne_top]
end

section
variable (x t : ℕ → ℕ → EReal) (g : ℕ → EReal) (a : ℕ)

theorem pay6_eq : k0_pay6 (F := Ideal) (blk x a 0) = blk (fun i _ => ms x i) a 0 := by
  funext y; idx_vars y
  pointwise [k0_pay6]
  rfl

theorem pay7_eq : k0_pay7 (F := Ideal) (blk x a 0) = blk (fun i _ => inv x i) a 0 := by
  unfold k0_pay7; rw [pay6_eq]; funext y; idx_vars y
  pointwise
  rfl

theorem pay8_eq : k0_pay8 (F := Ideal) (blk x a 0) = blk (fun i _ => slope x i) a 0 := by
  unfold k0_pay8; rw [pay6_eq, pay7_eq]; funext y; idx_vars y
  pointwise
  rfl

theorem pay9_eq : k0_pay9 (F := Ideal) (blk x a 0) = blk (nrm x) a 0 := by
  unfold k0_pay9; rw [pay7_eq]; funext y; idx_vars y
  pointwise
  rfl

theorem pay10_eq : k0_pay10 (F := Ideal) (blk t a 0) (blk x a 0) (blk (fun _ => g) 0 0) = blk (err x t g) a 0 := by
  unfold k0_pay10; rw [pay9_eq]; funext y; idx_vars y
  pointwise
  rfl

theorem pay11_eq : k0_pay11 (F := Ideal) (blk t a 0) (blk x a 0) (blk (fun _ => g) 0 0)
    = fun _ => (∑ i : Fin 256, sq x t g (i.val + a)) * half := by
  unfold k0_pay11; rw [pay10_eq]; funext y; idx_vars y
  pointwise
  rfl

theorem pay12_eq : k0_pay12 (F := Ideal) (blk t a 0) (blk x a 0) (blk (fun _ => g) 0 0) = blk (dy x t g) a 0 := by
  unfold k0_pay12; rw [pay10_eq]; funext y; idx_vars y
  pointwise
  simp only [Finset.univ_unique, Finset.sum_singleton]
  rfl

theorem pay2_eq : k0_pay2 (F := Ideal) (blk x a 0) (blk (fun _ => g) 0 0) (blk (fun i _ => inv x i) a 0)
    (blk (fun i _ => slope x i) a 0) (blk (dy x t g) a 0) = blk (dx x t g) a 0 := by
  funext y; idx_vars y
  pointwise [k0_pay2]
  simp only [Finset.univ_unique, Finset.sum_singleton]
  rfl

theorem pay1_eq : k0_pay1 (F := Ideal) (blk (nrm x) a 0) (blk (dy x t g) a 0)
    = blk (fun _ j => ∑ i : Fin 256, nrm x (i.val + a) j * dy x t g (i.val + a) j) 0 0 := by
  funext y; idx_vars y
  pointwise [k0_pay1]
  rfl

theorem pay3_eq (s : EReal) : k0_pay3 (F := Ideal) (fun _ => s) = fun _ => s := by
  funext y; idx_vars y
  pointwise [k0_pay3]

theorem pay5_eq (s r : EReal) : k0_pay5 (F := Ideal) (fun _ => s) (fun _ => r) = fun _ => r + s := by
  funext y; idx_vars y
  pointwise [k0_pay5]

theorem pay4_eq (n : ℕ) : k0_pay4 (F := Ideal) (blk (nrm x) (n * 256) 0) (blk (dy x t g) (n * 256) 0)
    (blk (fun _ => dg x t g (n * 256)) 0 0) = blk (fun _ => dg x t g ((n + 1) * 256)) 0 0 := by
  unfold k0_pay4; rw [pay1_eq]; funext y; idx_vars y
  pointwise
  exact dg_tile x t g n y1.val
end

end Cert.Proof.Loss
-- ==== Proof.LossArr.lean ====
module

public import proofs.«01_k».proof.Proof.LossTile
public import proofs.«01_k».proof.Proof.ProjRun
public import proofs.«01_k».proof.Proof.Gen.Kernel6Ideal.Value

@[expose] public section

/-!
# The arrays the loss's kernel leaves

Point by point what the three output blocks hold: the loss and the gains' gradient of the rows so far, and the tile's
gradient of the rows; then the three arrays.
-/

set_option maxRecDepth 16384

noncomputable section
namespace Cert.Proof.Loss
open Idealize.ShloMosaic Idealize.ShloMosaic.TcCoe Idealize.ShloMosaic.Tactic Cert.Kernel6Ideal Cert.Kernel6Ideal.Gen
open Idealize.ShloMosaic.Pipeline (Window)
open Cert.Proof.Proj (blk hz2 Lies ent eq_ent)

variable (m : (ℓ : Loc nD τ sig) → Buf (Elt Ideal) ℓ) (c : Dev nD)
variable {x t : ℕ → ℕ → EReal} {g : ℕ → EReal}

theorem lies0 (n : Fin cfg0.N) : Lies n.val 0 fun y : S256x2048.Idx => (win0_0.rect n).emb y :=
  .of (Window.rect_emb_val win0_0 n)
    ((by decide +kernel : ∀ n : Fin grid0.N, win0_0.index n 0 = n.val ∧ win0_0.index n 1 = 0) n)

theorem lies1 (n : Fin cfg0.N) : Lies n.val 0 fun y : S256x2048.Idx => (win0_1.rect n).emb y :=
  .of (Window.rect_emb_val win0_1 n)
    ((by decide +kernel : ∀ n : Fin grid0.N, win0_1.index n 0 = n.val ∧ win0_1.index n 1 = 0) n)

theorem lies2 (n : Fin cfg0.N) : Lies 0 0 fun y : S1x2048.Idx => (win0_2.rect n).emb y :=
  .of (Window.rect_emb_val win0_2 n)
    ((by decide +kernel : ∀ n : Fin grid0.N, win0_2.index n 0 = 0 ∧ win0_2.index n 1 = 0) n)

theorem lies3 (n : Fin cfg0.N) : Lies 0 0 fun y : S1x128.Idx => (win0_3.rect n).emb y :=
  .of (Window.rect_emb_val win0_3 n)
    ((by decide +kernel : ∀ n : Fin grid0.N, win0_3.index n 0 = 0 ∧ win0_3.index n 1 = 0) n)

theorem lies4 (n : Fin cfg0.N) : Lies n.val 0 fun y : S256x2048.Idx => (win0_4.rect n).emb y :=
  .of (Window.rect_emb_val win0_4 n)
    ((by decide +kernel : ∀ n : Fin grid0.N, win0_4.index n 0 = n.val ∧ win0_4.index n 1 = 0) n)

theorem lies5 (n : Fin cfg0.N) : Lies 0 0 fun y : S1x2048.Idx => (win0_5.rect n).emb y :=
  .of (Window.rect_emb_val win0_5 n)
    ((by decide +kernel : ∀ n : Fin grid0.N, win0_5.index n 0 = 0 ∧ win0_5.index n 1 = 0) n)

/-- The arguments: the rows, the targets, the gains. -/
structure Ins (x t : ℕ → ℕ → EReal) (g : ℕ → EReal) (x0 x1 : Vec Ideal S2048x2048 .f32) (x2 : Vec Ideal S1x2048 .f32) :
    Prop where
  h0 : x0 = blk x 0 0
  h1 : x1 = blk t 0 0
  h2 : x2 = blk (fun _ => g) 0 0

/-- Any arguments are so. -/
theorem ins (x0 x1 : Vec Ideal S2048x2048 .f32) (x2 : Vec Ideal S1x2048 .f32) : ∃ x t g, Ins x t g x0 x1 x2 :=
  ⟨ent x0, ent x1, ent x2 0, eq_ent x0, eq_ent x1, (eq_ent x2).trans (funext fun y =>
    congrArg (fun i => ent x2 i ((y 1).val + 0)) (Nat.lt_one_iff.1 (y 0).isLt))⟩

variable (H : Ins x t g (m ((c : Thread nD τ).loc main_arg0)) (m ((c : Thread nD τ).loc main_arg1))
  (m ((c : Thread nD τ).loc main_arg2)))
include H

theorem ib0 (n : Fin cfg0.N) : iblk m c 0 n = (blk x (n.val * 256) 0 : Vec Ideal S256x2048 .f32) :=
  (congrArg (fun (x : Vec Ideal S2048x2048 .f32) (y : S256x2048.Idx) => x ((win0_0.rect n).emb y)) H.h0).trans
    (Lies.read x (lies0 n))

theorem ib1 (n : Fin cfg0.N) : iblk m c 1 n = (blk t (n.val * 256) 0 : Vec Ideal S256x2048 .f32) :=
  (congrArg (fun (x : Vec Ideal S2048x2048 .f32) (y : S256x2048.Idx) => x ((win0_1.rect n).emb y)) H.h1).trans
    (Lies.read t (lies1 n))

theorem ib2 (n : Fin cfg0.N) : iblk m c 2 n = (blk (fun _ => g) 0 0 : Vec Ideal S1x2048 .f32) :=
  (congrArg (fun (x : Vec Ideal S1x2048 .f32) (y : S1x2048.Idx) => x ((win0_2.rect n).emb y)) H.h2).trans
    (Lies.read (fun _ => g) (lies2 n))

/-- What the first point leaves. -/
theorem outs_A (n : Fin cfg0.N) (h0 : n.val % 8 = 0) (h1 : ¬1 ≤ n.val) :
    outsAt0 m c n.val n.isLt = (fun _ => (∑ i : Fin 256, sq x t g (i.val + n.val * 256)) * half,
      (blk (dx x t g) (n.val * 256) 0 : Vec Ideal S256x2048 .f32),
      (blk (fun _ j => ∑ i : Fin 256, nrm x (i.val + n.val * 256) j * dy x t g (i.val + n.val * 256) j) 0 0
        : Vec Ideal S1x2048 .f32)) := by
  rw [outsAt0_A m c n h0 h1, ib0 m c H, ib1 m c H, ib2 m c H]
  unfold out0_A_3 out0_A_4 out0_A_5
  rw [View.read_writes_eq_canon _ _ _ (cover0_A_3 c _ _ _ _ _ _ _ _ _ _ _ _ _ _ _ _ _ _),
    View.read_writes_eq_canon _ _ _ (cover0_A_4 c _ _ _ _ _ _ _ _ _ _ _ _ _ _ _ _ _ _),
    View.read_writes_eq_canon _ _ _ (cover0_A_5 c _ _ _ _ _ _ _ _ _ _ _ _ _ _ _ _ _ _)]
  unfold kernelRun0_A
  dsimp only
  sl_unfold_words
  simp only [View.readAt_eq_ld, (hs0_0 n).read_unread, (hs0_1 n).read_unread, (hs0_2 n).read_unread,
    View.ld_unit_zero (S := S256x2048) hz2, View.ld_unit_zero (S := S1x2048) hz2, View.canon_unit_zero (S := S256x2048) hz2,
    View.canon_unit_zero (S := S1x2048) hz2, View.canon_unit_zero (S := S1x128) hz2]
  simp only [pay7_eq, pay8_eq, pay9_eq, pay11_eq, pay12_eq, pay1_eq, pay2_eq, pay3_eq]

/-- What a later point leaves. -/
theorem outs_B (n : Fin cfg0.N) (h0 : ¬n.val % 8 = 0) (h1 : 1 ≤ n.val)
    (e3 : (outsAt0 m c (n.val - 1) (Nat.lt_of_le_of_lt (Nat.sub_le _ _) n.isLt)).1 = fun _ => loss x t g (n.val * 256))
    (e5 : (outsAt0 m c (n.val - 1) (Nat.lt_of_le_of_lt (Nat.sub_le _ _) n.isLt)).2.2
      = (blk (fun _ => dg x t g (n.val * 256)) 0 0 : Vec Ideal S1x2048 .f32)) :
    outsAt0 m c n.val n.isLt = (fun _ => loss x t g ((n.val + 1) * 256),
      (blk (dx x t g) (n.val * 256) 0 : Vec Ideal S256x2048 .f32),
      (blk (fun _ => dg x t g ((n.val + 1) * 256)) 0 0 : Vec Ideal S1x2048 .f32)) := by
  rw [outsAt0_B m c n h0 h1, e3, e5, ib0 m c H, ib1 m c H, ib2 m c H]
  unfold out0_B_3 out0_B_4 out0_B_5
  rw [View.read_writes_eq_canon _ _ _ (cover0_B_3 c _ _ _ _ _ _ _ _ _ _ _ _ _ _ _ _ _ _ _ _),
    View.read_writes_eq_canon _ _ _ (cover0_B_4 c _ _ _ _ _ _ _ _ _ _ _ _ _ _ _ _ _ _ _ _),
    View.read_writes_eq_canon _ _ _ (cover0_B_5 c _ _ _ _ _ _ _ _ _ _ _ _ _ _ _ _ _ _ _ _)]
  unfold kernelRun0_B
  dsimp only
  sl_unfold_words
  simp only [View.readAt_eq_ld, (hs0_0 n).read_unread, (hs0_1 n).read_unread, (hs0_2 n).read_unread,
    (hs0_3 n).read_unread, (hs0_5 n).read_unread, View.ld_unit_zero (S := S1x128) hz2,
    View.ld_unit_zero (S := S256x2048) hz2, View.ld_unit_zero (S := S1x2048) hz2, View.canon_unit_zero (S := S256x2048) hz2,
    View.canon_unit_zero (S := S1x2048) hz2, View.canon_unit_zero (S := S1x128) hz2]
  simp only [pay7_eq, pay8_eq, pay9_eq, pay11_eq, pay12_eq, pay2_eq, pay4_eq, pay5_eq, loss_tile]

/-- What each point leaves. -/
theorem outs : (n : ℕ) → (hn : n < cfg0.N) → outsAt0 m c n hn = (fun _ => loss x t g ((n + 1) * 256),
      (blk (dx x t g) (n * 256) 0 : Vec Ideal S256x2048 .f32),
      (blk (fun _ => dg x t g ((n + 1) * 256)) 0 0 : Vec Ideal S1x2048 .f32))
  | 0, hn => by
    rw [outs_A m c H ⟨0, hn⟩ (Nat.zero_mod _) (Nat.not_succ_le_zero 0)]
    have hl := loss_tile x t g 0
    have hd := dg_tile x t g 0
    rw [show loss x t g (0 * 256) = 0 by unfold loss; rw [Nat.zero_mul, Finset.sum_range_zero, zero_mul], zero_add] at hl
    simp only [show ∀ j, dg x t g (0 * 256) j = 0 from fun j => by unfold dg; rw [Nat.zero_mul, Finset.sum_range_zero],
      zero_add] at hd
    simp only [hl, hd, Nat.zero_add]
  | n + 1, hn => by
    have hN : n + 1 < 8 := lt_of_lt_of_eq hn N_0
    have ih := outs n (Nat.lt_of_succ_lt hn)
    exact outs_B m c H ⟨n + 1, hn⟩ (by dsimp only; omega) (by dsimp only; omega) (congrArg (·.1) ih) (congrArg (·.2.2) ih)

/-- The rows' gradient. -/
theorem arr4 : (dats m 0 c).arrAt 4 cfg0.N = (blk (dx x t g) 0 0 : Vec Ideal S2048x2048 .f32) := by
  refine (dats m 0 c).arrAt_eq_of_cover 4 (blk (dx x t g) 0 0 : Vec Ideal S2048x2048 .f32) (fun n _ => ?_) fun y => ?_
  · rw [Value.flushed4, outs m c H]
    exact (Lies.read (dx x t g) (lies4 n)).symm
  · have h0 : (y 0).val < 2048 := (y 0).isLt
    have h1 : (y 1).val < 2048 := (y 1).isLt
    have hn : (y 0).val / 256 < cfg0.N := by rw [show cfg0.N = 8 from N_0]; omega
    refine ⟨⟨_, hn⟩, flush0_4 _, ?_⟩
    show y ∈ ((View.whole main_v0_1).slice (win0_4.rect ⟨_, hn⟩)).set
    rw [View.set_slice_whole, ← Rect.map_emb_univ]
    exact (lies4 ⟨_, hn⟩).mem y (by dsimp only; omega) (by dsimp only; omega)

/-- The loss, in every column. -/
theorem arr3 : (dats m 0 c).arrAt 3 cfg0.N = (blk (fun _ _ => loss x t g 2048) 0 0 : Vec Ideal S1x128 .f32) := by
  refine (dats m 0 c).arrAt_eq_of_cover 3 (blk (fun _ _ => loss x t g 2048) 0 0 : Vec Ideal S1x128 .f32) (fun n hf => ?_) fun y => ?_
  · have h7 := (flush0_3 n).1 hf
    have hN : n.val < 8 := lt_of_lt_of_eq n.isLt N_0
    rw [Value.flushed3, outs m c H, show n.val = 7 by omega]
    exact (Lies.read (fun _ _ => loss x t g 2048) (lies3 n)).symm
  · have h0 : (y 0).val < 1 := (y 0).isLt
    have h1 : (y 1).val < 128 := (y 1).isLt
    have hn : 7 < cfg0.N := by rw [show cfg0.N = 8 from N_0]; omega
    refine ⟨⟨_, hn⟩, (flush0_3 _).2 rfl, ?_⟩
    show y ∈ ((View.whole main_v0_0).slice (win0_3.rect ⟨_, hn⟩)).set
    rw [View.set_slice_whole, ← Rect.map_emb_univ]
    exact (lies3 ⟨_, hn⟩).mem y (by omega) (by omega)

/-- The gains' gradient. -/
theorem arr5 : (dats m 0 c).arrAt 5 cfg0.N = (blk (fun _ => dg x t g 2048) 0 0 : Vec Ideal S1x2048 .f32) := by
  refine (dats m 0 c).arrAt_eq_of_cover 5 (blk (fun _ => dg x t g 2048) 0 0 : Vec Ideal S1x2048 .f32) (fun n hf => ?_) fun y => ?_
  · have h7 := (flush0_5 n).1 hf
    have hN : n.val < 8 := lt_of_lt_of_eq n.isLt N_0
    rw [Value.flushed5, outs m c H, show n.val = 7 by omega]
    exact (Lies.read (fun _ => dg x t g 2048) (lies5 n)).symm
  · have h0 : (y 0).val < 1 := (y 0).isLt
    have h1 : (y 1).val < 2048 := (y 1).isLt
    have hn : 7 < cfg0.N := by rw [show cfg0.N = 8 from N_0]; omega
    refine ⟨⟨_, hn⟩, (flush0_5 _).2 rfl, ?_⟩
    show y ∈ ((View.whole main_v0_2).slice (win0_5.rect ⟨_, hn⟩)).set
    rw [View.set_slice_whole, ← Rect.map_emb_univ]
    exact (lies5 ⟨_, hn⟩).mem y (by omega) (by omega)

end Cert.Proof.Loss
-- ==== Proof.LossRef.lean ====
module

public import proofs.«01_k».proof.Proof.LossArr
public import proofs.«01_k».proof.Proof.Gen.Reference6Ideal.Read

@[expose] public section

/-!
# What the loss's reference computes

Its three results are the kernel's: the loss of all rows, the rows' gradient and the gains'.
-/

set_option maxRecDepth 16384

noncomputable section
open scoped BigOperators
namespace Cert.Proof.Loss.Ref
open Idealize.ShloMosaic Idealize.ShloMosaic.Tactic Cert.Reference6Ideal Cert.Reference6Ideal.Gen Cert.Reference6Ideal.Read
open Cert.Proof.Proj (blk)

/-! ## The same numbers, in the reference's order -/

theorem one_half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- A quotient by the number of columns. -/
theorem div_width (a : EReal) : Ideal.div a width = a * ((1 / 2048 : ℝ) : EReal) := by
  rw [width_eq, Ideal.div_coe (by norm_num)]

/-- The gradient of half a mean of squares. -/
theorem grad_sq (e : EReal) :
    Ideal.div (Ideal.ofBits .f32 0x3F000000#32) width * (Ideal.ofBits .f32 0x40000000#32 * e) = e * half + half * e := by
  rw [div_width, one_half, two, half_eq, ← mul_assoc, ← EReal.coe_mul, ← EReal.coe_mul, mul_comm e]
  induction e with
  | bot => rw [EReal.coe_mul_bot_of_pos (by norm_num), EReal.coe_mul_bot_of_pos (by norm_num)]; rfl
  | coe r => rw [← EReal.coe_mul, ← EReal.coe_mul, ← EReal.coe_add]; congr 1; ring
  | top => rw [EReal.coe_mul_top_of_pos (by norm_num), EReal.coe_mul_top_of_pos (by norm_num)]; rfl

/-- Half the sum of the means. -/
theorem half_mean (f : ℕ → EReal) (n : ℕ) : Ideal.ofBits .f32 0x3F000000#32 * ∑ i ∈ Finset.range n, Ideal.div (f i) width
    = (∑ i ∈ Finset.range n, f i) * half := by
  induction n with
  | zero => rw [Finset.sum_range_zero, Finset.sum_range_zero, mul_zero, zero_mul]
  | succ n ih =>
    rw [Finset.sum_range_succ, Finset.sum_range_succ, EReal.right_distrib_of_nonneg_of_ne_top half_nonneg half_ne_top, ← ih,
      one_half, EReal.left_distrib_of_nonneg_of_ne_top (by exact_mod_cast (by norm_num : (0 : ℝ) ≤ 1 / 2)) (EReal.coe_ne_top _),
      div_width (f n), half_eq, mul_left_comm, ← EReal.coe_mul]
    norm_num

variable {x t : ℕ → ℕ → EReal} {g : ℕ → EReal} {x0 x1 : Vec Ideal S2048x2048 .f32} {x2 : Vec Ideal S1x2048 .f32}
  (H : Ins x t g x0 x1 x2)
include H

theorem ms_eq : val_main_v7 (F := Ideal) x0 = blk (fun i _ => ms x i) 0 0 := by
  rw [H.h0]; funext y; idx_vars y
  pointwise [val_main_v7, val_main_v6, val_main_cst_1, val_main_v5, val_main_v4, val_main_cst_0, val_main_v3, val_main_v2,
    val_main_cst, val_main_v1]
  rfl

theorem inv_eq : val_main_v8 (F := Ideal) x0 = blk (fun i _ => inv x i) 0 0 := by
  unfold val_main_v8; rw [ms_eq H]; funext y; idx_vars y
  pointwise
  rfl

theorem slope_eq : val_main_v11 (F := Ideal) x0 = blk (fun i _ => slope x i) 0 0 := by
  unfold val_main_v11 val_main_v9; rw [inv_eq H, ms_eq H]; funext y; idx_vars y
  pointwise [val_main_v10, val_main_cst_2]
  rfl

theorem nrm_eq : val_main_v13 (F := Ideal) x0 = blk (nrm x) 0 0 := by
  unfold val_main_v13 val_main_v12; rw [inv_eq H, H.h0]; funext y; idx_vars y
  pointwise
  rfl

theorem gains_eq : val_main_v14 (F := Ideal) x2 = blk (fun _ => g) 0 0 := by
  rw [H.h2]; funext y; idx_vars y
  pointwise [val_main_v14, val_main_v0]
  rfl

theorem err_eq : val_main_v17 (F := Ideal) x0 x1 x2 = blk (err x t g) 0 0 := by
  unfold val_main_v17 val_main_v16 val_main_v15; rw [nrm_eq H, gains_eq H, H.h1]; funext y; idx_vars y
  pointwise
  rfl

theorem dy_eq : val_main_v31 (F := Ideal) x0 x1 x2 = blk (dy x t g) 0 0 := by
  unfold val_main_v31 val_main_v20; rw [err_eq H]; funext y; idx_vars y
  pointwise [val_main_v30, val_main_v29, val_main_v28, val_main_v27, val_main_v26, val_main_v19, val_main_cst_3,
    val_main_cst_8, val_main_cst_9, val_main_cst_10]
  exact grad_sq _

theorem dsq_eq : val_main_v46 (F := Ideal) x0 x1 x2 = fun y => dsq x t g (y 0).val := by
  unfold val_main_v46 val_main_v45 val_main_v43 val_main_v40 val_main_v39 val_main_v38 val_main_v36 val_main_v35
  rw [dy_eq H, gains_eq H, slope_eq H, H.h0]; funext y; idx_vars y
  pointwise [val_main_v44, val_main_cst_13, val_main_cst_14, val_main_cst_15]
  simp only [Finset.univ_unique, Finset.sum_singleton]
  rfl

theorem dx_eq : val_main_v51 (F := Ideal) x0 x1 x2 = blk (dx x t g) 0 0 := by
  unfold val_main_v51 val_main_v50 val_main_v49 val_main_v48 val_main_v47 val_main_v42 val_main_v41 val_main_v36 val_main_v35
  rw [dsq_eq H, dy_eq H, gains_eq H, inv_eq H, H.h0]; funext y; idx_vars y
  pointwise
  rfl

theorem dg_eq : val_main_v53 (F := Ideal) x0 x1 x2 = blk (fun _ => dg x t g 2048) 0 0 := by
  unfold val_main_v53 val_main_v37 val_main_v34 val_main_v33 val_main_v32
  rw [dy_eq H, nrm_eq H]; funext y; idx_vars y
  pointwise [val_main_cst_11, val_main_cst_12]
  simp only [Finset.univ_unique, Finset.sum_singleton]
  exact (Finset.sum_range fun i => nrm x i y1.val * dy x t g i y1.val).symm

theorem loss_eq : val_main_v52 (F := Ideal) x0 x1 x2 = blk (fun _ _ => loss x t g 2048) 0 0 := by
  unfold val_main_v52 val_main_v25 val_main_v24 val_main_v23 val_main_v21 val_main_v18
  rw [err_eq H]; funext y; idx_vars y
  pointwise [val_main_v22, val_main_cst_4, val_main_cst_5, val_main_cst_6, val_main_cst_7]
  exact (congrArg _ (Finset.sum_range fun i => Ideal.div (sq x t g i) width).symm).trans (half_mean (sq x t g) 2048)

end Cert.Proof.Loss.Ref
-- ==== Proof.NormTile.lean ====
module

public import proofs.«01_k».proof.Proof.LossTile
public import proofs.«01_k».proof.Proof.Gen.Kernel7Ideal.Frame

@[expose] public section

/-!
# The gradients of a gated residual and the norm after it, and one tile of them

The norm's result is modulated. The gradients of the stream, of the branch, and of the gate, the gains, the shift and the
scale, over extended reals; then what the kernel's values hold of a tile of 256 rows.
-/

set_option maxRecDepth 16384

noncomputable section
open scoped BigOperators
namespace Cert.Proof.Norm
open Idealize.ShloMosaic Idealize.ShloMosaic.TcCoe Idealize.ShloMosaic.Tactic Cert.Kernel7Ideal Cert.Kernel7Ideal.Gen
open Cert.Proof.Proj (blk lead)
open Cert.Proof.Loss (ms inv slope nrm width sum_tile)

section
variable (x y d h : ℕ → ℕ → EReal) (γ g s : ℕ → EReal)

/-- The stream with the gated branch. -/
def z (i j : ℕ) : EReal := x i j + γ j * y i j
/-- The gradient of the norm with its gains. -/
def dm (i j : ℕ) : EReal := h i j * (1 + s j)
/-- The gradient of the norm. -/
def dn (i j : ℕ) : EReal := dm h s i j * g j
/-- The gradient of a square, through the row's mean square. -/
def dsq (i : ℕ) : EReal :=
  Ideal.div ((∑ k : Fin 2048, z x y γ i k * dn h g s i k) * slope (z x y γ) i) width
/-- The gradient of the stream. -/
def dz (i j : ℕ) : EReal :=
  d i j + dn h g s i j * inv (z x y γ) i + z x y γ i j * dsq x y h γ g s i + dsq x y h γ g s i * z x y γ i j
/-- The gradient of the branch. -/
def dy (i j : ℕ) : EReal := γ j * dz x y d h γ g s i j
/-- A row's terms of the gradients of the gate, the gains and the scale. -/
def tγ (i j : ℕ) : EReal := dz x y d h γ g s i j * y i j
def tg (i j : ℕ) : EReal := nrm (z x y γ) i j * dm h s i j
def ts (i j : ℕ) : EReal := nrm (z x y γ) i j * g j * h i j

/-- The sum of a tile's rows. -/
def tile (f : ℕ → ℕ → EReal) (a j : ℕ) : EReal := ∑ i : Fin 256, f (i.val + a) j
/-- The sum of the first `n` rows. -/
def cum (f : ℕ → ℕ → EReal) (n j : ℕ) : EReal := ∑ i ∈ Finset.range n, f i j

theorem cum_tile (f : ℕ → ℕ → EReal) (n : ℕ) :
    (fun j => cum f (n * 256) j + tile f (n * 256) j) = cum f ((n + 1) * 256) :=
  funext fun j => sum_tile (fun i => f i j) n
end

section
variable (x y d h : ℕ → ℕ → EReal) (γ g s : ℕ → EReal) (a : ℕ)

/-- A row of one block. -/
abbrev row1 (r : ℕ → EReal) : Vec Ideal S1x2048 .f32 := blk (fun _ => r) 0 0
abbrev row (r : ℕ → EReal) : Vec Ideal S1x1x2048 .f32 := lead (fun _ => r) 0 0

theorem pay7_eq : k0_pay7 (F := Ideal) (row γ) = row1 γ := by
  funext y; idx_vars y
  pointwise [k0_pay7]
  rfl

theorem pay8_eq : k0_pay8 (F := Ideal) (row g) = row1 g := by
  funext y; idx_vars y
  pointwise [k0_pay8]
  rfl

theorem pay9_eq : k0_pay9 (F := Ideal) (blk x a 0) (blk y a 0) (row γ) = blk (z x y γ) a 0 := by
  unfold k0_pay9; rw [pay7_eq]; funext y; idx_vars y
  pointwise
  rfl

theorem pay10_eq : k0_pay10 (F := Ideal) (blk x a 0) (blk y a 0) (row γ) = blk (fun i _ => ms (z x y γ) i) a 0 := by
  unfold k0_pay10; rw [pay9_eq]; funext y; idx_vars y
  pointwise
  rfl

theorem pay11_eq : k0_pay11 (F := Ideal) (blk x a 0) (blk y a 0) (row γ) = blk (fun i _ => inv (z x y γ) i) a 0 := by
  unfold k0_pay11; rw [pay10_eq]; funext y; idx_vars y
  pointwise
  rfl

theorem pay12_eq : k0_pay12 (F := Ideal) (blk x a 0) (blk y a 0) (row γ) = blk (fun i _ => slope (z x y γ) i) a 0 := by
  unfold k0_pay12; rw [pay10_eq, pay11_eq]; funext y; idx_vars y
  pointwise
  rfl

theorem pay13_eq : k0_pay13 (F := Ideal) (blk x a 0) (blk y a 0) (row γ) = blk (nrm (z x y γ)) a 0 := by
  unfold k0_pay13; rw [pay9_eq, pay11_eq]; funext y; idx_vars y
  pointwise
  rfl

theorem pay14_eq : k0_pay14 (F := Ideal) (row s) = row1 (fun j => 1 + s j) := by
  funext y; idx_vars y
  pointwise [k0_pay14]
  rfl

theorem pay15_eq : k0_pay15 (F := Ideal) (blk h a 0) = blk h a 0 := by
  funext y; idx_vars y
  pointwise [k0_pay15]

theorem pay16_eq : k0_pay16 (F := Ideal) (blk h a 0) = row1 (tile h a) := by
  funext y; idx_vars y
  pointwise [k0_pay16]
  rfl

theorem pay18_eq : k0_pay18 (F := Ideal) (k0_pay17 (blk x a 0) (blk y a 0) (row γ) (row g) (blk h a 0))
    = row1 (tile (ts x y h γ g) a) := by
  unfold k0_pay18 k0_pay17; rw [pay8_eq, pay13_eq, pay15_eq]; funext y; idx_vars y
  pointwise
  rfl

theorem pay19_eq : k0_pay19 (F := Ideal) (row1 fun j => 1 + s j) (blk h a 0) = blk (dm h s) a 0 := by
  funext y; idx_vars y
  pointwise [k0_pay19]
  rfl

theorem pay20_eq : k0_pay20 (F := Ideal) (blk (nrm (z x y γ)) a 0) (row1 fun j => 1 + s j) (blk h a 0)
    = row1 (tile (tg x y h γ s) a) := by
  unfold k0_pay20; rw [pay19_eq]; funext y; idx_vars y
  pointwise
  rfl

theorem pay21_eq : k0_pay21 (F := Ideal) (row1 g) (blk d a 0) (blk (z x y γ) a 0) (blk (fun i _ => inv (z x y γ) i) a 0)
    (blk (fun i _ => slope (z x y γ) i) a 0) (row1 fun j => 1 + s j) (blk h a 0) = blk (dz x y d h γ g s) a 0 := by
  unfold k0_pay21; rw [pay19_eq]; funext y; idx_vars y
  pointwise
  simp only [Finset.univ_unique, Finset.sum_singleton]
  rfl

theorem pay22_eq : k0_pay22 (F := Ideal) (row1 g) (blk d a 0) (blk (z x y γ) a 0) (blk (fun i _ => inv (z x y γ) i) a 0)
    (blk (fun i _ => slope (z x y γ) i) a 0) (row1 fun j => 1 + s j) (blk h a 0) = blk (dz x y d h γ g s) a 0 := by
  unfold k0_pay22; rw [pay21_eq]; funext y; idx_vars y
  pointwise

theorem pay23_eq : k0_pay23 (F := Ideal) (blk y a 0) (row1 g) (blk d a 0) (blk (z x y γ) a 0)
    (blk (fun i _ => inv (z x y γ) i) a 0) (blk (fun i _ => slope (z x y γ) i) a 0) (row1 fun j => 1 + s j) (blk h a 0)
    = row1 (tile (tγ x y d h γ g s) a) := by
  unfold k0_pay23; rw [pay22_eq]; funext y; idx_vars y
  pointwise
  rfl

theorem pay24_eq : k0_pay24 (F := Ideal) (row1 γ) (row1 g) (blk d a 0) (blk (z x y γ) a 0)
    (blk (fun i _ => inv (z x y γ) i) a 0) (blk (fun i _ => slope (z x y γ) i) a 0) (row1 fun j => 1 + s j) (blk h a 0)
    = blk (dy x y d h γ g s) a 0 := by
  unfold k0_pay24; rw [pay22_eq]; funext y; idx_vars y
  pointwise
  rfl

theorem pay25_eq : k0_pay25 (F := Ideal) (blk y a 0) (row1 g) (blk d a 0) (blk (z x y γ) a 0)
    (blk (fun i _ => inv (z x y γ) i) a 0) (blk (fun i _ => slope (z x y γ) i) a 0) (row1 fun j => 1 + s j) (blk h a 0)
    = row (tile (tγ x y d h γ g s) a) := by
  unfold k0_pay25; rw [pay23_eq]; funext y; idx_vars y
  pointwise
  rfl

theorem pay26_eq (q : ℕ → EReal) : k0_pay26 (F := Ideal) (blk y a 0) (row1 g) (blk d a 0) (blk (z x y γ) a 0)
    (blk (fun i _ => inv (z x y γ) i) a 0) (blk (fun i _ => slope (z x y γ) i) a 0) (row1 fun j => 1 + s j) (blk h a 0) (row q)
    = row (fun j => q j + tile (tγ x y d h γ g s) a j) := by
  unfold k0_pay26; rw [pay23_eq]; funext y; idx_vars y
  pointwise
  rfl

theorem pay1_eq (r : ℕ → EReal) : k0_pay1 (F := Ideal) (row1 r) = row r := by
  funext y; idx_vars y
  pointwise [k0_pay1]
  rfl

theorem pay2_eq (r q : ℕ → EReal) : k0_pay2 (F := Ideal) (row1 r) (row q) = row (fun j => q j + r j) := by
  funext y; idx_vars y
  pointwise [k0_pay2]
  rfl

theorem pay3_eq (r : ℕ → EReal) : k0_pay3 (F := Ideal) (row1 r) = row r := pay1_eq r
theorem pay4_eq (r q : ℕ → EReal) : k0_pay4 (F := Ideal) (row1 r) (row q) = row (fun j => q j + r j) := pay2_eq r q
theorem pay5_eq (r : ℕ → EReal) : k0_pay5 (F := Ideal) (row1 r) = row r := pay1_eq r
theorem pay6_eq (r q : ℕ → EReal) : k0_pay6 (F := Ideal) (row1 r) (row q) = row (fun j => q j + r j) := pay2_eq r q
end

end Cert.Proof.Norm
-- ==== Proof.NormArr.lean ====
module

public import proofs.«01_k».proof.Proof.NormTile
public import proofs.«01_k».proof.Proof.ProjRun

@[expose] public section

/-!
# The arrays the gated residual's backward leaves

Point by point what the six output blocks hold: the tile's gradients of the stream and of the branch, and the gradients of
the gate, the gains, the shift and the scale of the rows so far; then the six arrays.
-/

set_option maxRecDepth 16384

noncomputable section
namespace Cert.Proof.Norm
open Idealize.ShloMosaic Idealize.ShloMosaic.TcCoe Idealize.ShloMosaic.Tactic Cert.Kernel7Ideal Cert.Kernel7Ideal.Gen
open Idealize.ShloMosaic.Pipeline (Window)
open Cert.Proof.Proj (blk lead hz2 Lies ent eq_ent)

variable (m : (ℓ : Loc nD τ sig) → Buf (Elt Ideal) ℓ) (c : Dev nD)
variable {x y d h : ℕ → ℕ → EReal} {γ g s : ℕ → EReal}

theorem hz3 : (![0, 0, 0] : Fin 3 → Nat) = fun _ => 0 := funext fun a => by fin_cases a <;> rfl

theorem lies0 (n : Fin cfg0.N) : Lies n.val 0 fun y : S256x2048.Idx => (win0_0.rect n).emb y :=
  .of (Window.rect_emb_val win0_0 n)
    ((by decide +kernel : ∀ n : Fin grid0.N, win0_0.index n 0 = n.val ∧ win0_0.index n 1 = 0) n)

theorem lies1 (n : Fin cfg0.N) : Lies n.val 0 fun y : S256x2048.Idx => (win0_1.rect n).emb y :=
  .of (Window.rect_emb_val win0_1 n)
    ((by decide +kernel : ∀ n : Fin grid0.N, win0_1.index n 0 = n.val ∧ win0_1.index n 1 = 0) n)

theorem lies6 (n : Fin cfg0.N) : Lies n.val 0 fun y : S256x2048.Idx => (win0_6.rect n).emb y :=
  .of (Window.rect_emb_val win0_6 n)
    ((by decide +kernel : ∀ n : Fin grid0.N, win0_6.index n 0 = n.val ∧ win0_6.index n 1 = 0) n)

theorem lies7 (n : Fin cfg0.N) : Lies n.val 0 fun y : S256x2048.Idx => (win0_7.rect n).emb y :=
  .of (Window.rect_emb_val win0_7 n)
    ((by decide +kernel : ∀ n : Fin grid0.N, win0_7.index n 0 = n.val ∧ win0_7.index n 1 = 0) n)

theorem lies8 (n : Fin cfg0.N) : Lies n.val 0 fun y : S256x2048.Idx => (win0_8.rect n).emb y :=
  .of (Window.rect_emb_val win0_8 n)
    ((by decide +kernel : ∀ n : Fin grid0.N, win0_8.index n 0 = n.val ∧ win0_8.index n 1 = 0) n)

theorem lies9 (n : Fin cfg0.N) : Lies n.val 0 fun y : S256x2048.Idx => (win0_9.rect n).emb y :=
  .of (Window.rect_emb_val win0_9 n)
    ((by decide +kernel : ∀ n : Fin grid0.N, win0_9.index n 0 = n.val ∧ win0_9.index n 1 = 0) n)

/-! ## A row of an array of rows -/

/-- The array's first row. -/
def First {k : ℕ} (X : (⟨3, ![k, 1, 2048]⟩ : Shape).Idx → EReal) (r : ℕ → EReal) : Prop :=
  ∀ y, (y 0).val = 0 → X y = r (y 2).val

/-- Any array has one. -/
theorem first {k : ℕ} (X : (⟨3, ![k + 1, 1, 2048]⟩ : Shape).Idx → EReal) : ∃ r, First X r :=
  ⟨fun j => if hj : j < 2048 then X (ix3 0 0 ⟨j, hj⟩) else 0, fun y hy => by
    refine Eq.trans ?_ (dif_pos (y 2).isLt).symm
    refine congrArg X (funext fun a => Fin.ext ?_)
    match a with
    | ⟨0, _⟩ => exact hy
    | ⟨1, _⟩ => exact Nat.lt_one_iff.1 (y 1).isLt
    | ⟨2, _⟩ => rfl⟩

/-- A block that is the first row. -/
def Head {k : ℕ} (e : S1x1x2048.Idx → (⟨3, ![k, 1, 2048]⟩ : Shape).Idx) : Prop :=
  ∀ y, (e y 0).val = 0 ∧ (e y 2).val = (y 2).val

theorem Head.of {k : ℕ} {e : S1x1x2048.Idx → (⟨3, ![k, 1, 2048]⟩ : Shape).Idx} {u : Fin 3 → ℕ}
    (h : ∀ y a, (e y a).val = u a * ![1, 1, 2048] a + (y a).val) (hu : u 0 = 0 ∧ u 2 = 0) : Head e := fun y =>
  ⟨(h y 0).trans (by rw [hu.1, Nat.zero_mul, Nat.zero_add]; exact Nat.lt_one_iff.1 (y 0).isLt),
    (h y 2).trans (by rw [hu.2, Nat.zero_mul, Nat.zero_add])⟩

theorem Head.read {k : ℕ} {e : S1x1x2048.Idx → (⟨3, ![k, 1, 2048]⟩ : Shape).Idx} (h : Head e)
    {X : (⟨3, ![k, 1, 2048]⟩ : Shape).Idx → EReal} {r : ℕ → EReal} (hX : First X r) : (fun y => X (e y)) = row r :=
  funext fun y => (hX _ (h y).1).trans (congrArg r (h y).2)

theorem Head.mem {k : ℕ} {e : S1x1x2048.Idx ↪ (⟨3, ![k, 1, 2048]⟩ : Shape).Idx} (h : Head e)
    (y : (⟨3, ![k, 1, 2048]⟩ : Shape).Idx) (hy : (y 0).val = 0) : y ∈ Finset.univ.map e := by
  refine Finset.mem_map.2 ⟨ix3 0 0 (y 2), Finset.mem_univ _, funext fun a => Fin.ext ?_⟩
  match a with
  | ⟨0, _⟩ => exact (h _).1.trans hy.symm
  | ⟨1, _⟩ => exact (Nat.lt_one_iff.1 (e _ 1).isLt).trans (Nat.lt_one_iff.1 (y 1).isLt).symm
  | ⟨2, _⟩ => exact (h _).2

theorem head2 (n : Fin cfg0.N) : Head fun y : S1x1x2048.Idx => (win0_2.rect n).emb y :=
  .of (Window.rect_emb_val win0_2 n)
    ((by decide +kernel : ∀ n : Fin grid0.N, win0_2.index n 0 = 0 ∧ win0_2.index n 2 = 0) n)

theorem head3 (n : Fin cfg0.N) : Head fun y : S1x1x2048.Idx => (win0_3.rect n).emb y :=
  .of (Window.rect_emb_val win0_3 n)
    ((by decide +kernel : ∀ n : Fin grid0.N, win0_3.index n 0 = 0 ∧ win0_3.index n 2 = 0) n)

theorem head5 (n : Fin cfg0.N) : Head fun y : S1x1x2048.Idx => (win0_5.rect n).emb y :=
  .of (Window.rect_emb_val win0_5 n)
    ((by decide +kernel : ∀ n : Fin grid0.N, win0_5.index n 0 = 0 ∧ win0_5.index n 2 = 0) n)

theorem head10 (n : Fin cfg0.N) : Head fun y : S1x1x2048.Idx => (win0_10.rect n).emb y :=
  .of (Window.rect_emb_val win0_10 n)
    ((by decide +kernel : ∀ n : Fin grid0.N, win0_10.index n 0 = 0 ∧ win0_10.index n 2 = 0) n)

theorem head11 (n : Fin cfg0.N) : Head fun y : S1x1x2048.Idx => (win0_11.rect n).emb y :=
  .of (Window.rect_emb_val win0_11 n)
    ((by decide +kernel : ∀ n : Fin grid0.N, win0_11.index n 0 = 0 ∧ win0_11.index n 2 = 0) n)

theorem head12 (n : Fin cfg0.N) : Head fun y : S1x1x2048.Idx => (win0_12.rect n).emb y :=
  .of (Window.rect_emb_val win0_12 n)
    ((by decide +kernel : ∀ n : Fin grid0.N, win0_12.index n 0 = 0 ∧ win0_12.index n 2 = 0) n)

theorem head13 (n : Fin cfg0.N) : Head fun y : S1x1x2048.Idx => (win0_13.rect n).emb y :=
  .of (Window.rect_emb_val win0_13 n)
    ((by decide +kernel : ∀ n : Fin grid0.N, win0_13.index n 0 = 0 ∧ win0_13.index n 2 = 0) n)

theorem seven : 7 < cfg0.N := by rw [show cfg0.N = 8 from N_0]; omega

/-- The last point, which alone flushes a sum. -/
theorem last (n : Fin cfg0.N) (h7 : n.val % 8 = 7) : n.val = 7 := by
  have hN : n.val < 8 := lt_of_lt_of_eq n.isLt N_0
  omega

/-- An array whose row is the columns' values. -/
def rows {k : ℕ} (r : ℕ → EReal) : (⟨3, ![k, 1, 2048]⟩ : Shape).Idx → EReal := fun y => r (y 2).val

/-! ## The arguments -/

/-- The arguments: the stream, the branch, the gate, the gains, the scale, and the two gradients. The shift is not read. -/
structure Ins (x y d h : ℕ → ℕ → EReal) (γ g s : ℕ → EReal) (x0 x1 : Vec Ideal S2048x2048 .f32)
    (x2 : Vec Ideal S2x1x2048 .f32) (x3 : Vec Ideal S1x1x2048 .f32) (x5 : Vec Ideal S2x1x2048 .f32)
    (x6 x7 : Vec Ideal S2048x2048 .f32) : Prop where
  h0 : x0 = blk x 0 0
  h1 : x1 = blk y 0 0
  h2 : First (k := 2) x2 γ
  h3 : First (k := 1) x3 g
  h5 : First (k := 2) x5 s
  h6 : x6 = blk d 0 0
  h7 : x7 = blk h 0 0

/-- Any arguments are so. -/
theorem ins (x0 x1 : Vec Ideal S2048x2048 .f32) (x2 : Vec Ideal S2x1x2048 .f32) (x3 : Vec Ideal S1x1x2048 .f32)
    (x5 : Vec Ideal S2x1x2048 .f32) (x6 x7 : Vec Ideal S2048x2048 .f32) :
    ∃ x y d h γ g s, Ins x y d h γ g s x0 x1 x2 x3 x5 x6 x7 := by
  obtain ⟨γ, hγ⟩ := first (k := 1) x2
  obtain ⟨g, hg⟩ := first (k := 0) x3
  obtain ⟨s, hs⟩ := first (k := 1) x5
  exact ⟨ent x0, ent x1, ent x6, ent x7, γ, g, s, eq_ent x0, eq_ent x1, hγ, hg, hs, eq_ent x6, eq_ent x7⟩

variable (H : Ins x y d h γ g s (m ((c : Thread nD τ).loc main_arg0)) (m ((c : Thread nD τ).loc main_arg1))
  (m ((c : Thread nD τ).loc main_arg2)) (m ((c : Thread nD τ).loc main_arg3)) (m ((c : Thread nD τ).loc main_arg5))
  (m ((c : Thread nD τ).loc main_arg6)) (m ((c : Thread nD τ).loc main_arg7)))
include H

theorem ib0 (n : Fin cfg0.N) : iblk m c 0 n = (blk x (n.val * 256) 0 : Vec Ideal S256x2048 .f32) :=
  (congrArg (fun (x : Vec Ideal S2048x2048 .f32) (y : S256x2048.Idx) => x ((win0_0.rect n).emb y)) H.h0).trans
    (Lies.read x (lies0 n))

theorem ib1 (n : Fin cfg0.N) : iblk m c 1 n = (blk y (n.val * 256) 0 : Vec Ideal S256x2048 .f32) :=
  (congrArg (fun (x : Vec Ideal S2048x2048 .f32) (y : S256x2048.Idx) => x ((win0_1.rect n).emb y)) H.h1).trans
    (Lies.read y (lies1 n))

theorem ib2 (n : Fin cfg0.N) : iblk m c 2 n = row γ := (head2 n).read H.h2
theorem ib3 (n : Fin cfg0.N) : iblk m c 3 n = row g := (head3 n).read H.h3
theorem ib5 (n : Fin cfg0.N) : iblk m c 5 n = row s := (head5 n).read H.h5

theorem ib6 (n : Fin cfg0.N) : iblk m c 6 n = (blk d (n.val * 256) 0 : Vec Ideal S256x2048 .f32) :=
  (congrArg (fun (x : Vec Ideal S2048x2048 .f32) (y : S256x2048.Idx) => x ((win0_6.rect n).emb y)) H.h6).trans
    (Lies.read d (lies6 n))

theorem ib7 (n : Fin cfg0.N) : iblk m c 7 n = (blk h (n.val * 256) 0 : Vec Ideal S256x2048 .f32) :=
  (congrArg (fun (x : Vec Ideal S2048x2048 .f32) (y : S256x2048.Idx) => x ((win0_7.rect n).emb y)) H.h7).trans
    (Lies.read h (lies7 n))

/-- What the first point leaves. -/
theorem outs_A (n : Fin cfg0.N) (h0 : n.val % 8 = 0) (h1 : ¬1 ≤ n.val) :
    outsAt0 m c n.val n.isLt = ((blk (dz x y d h γ g s) (n.val * 256) 0 : Vec Ideal S256x2048 .f32),
      (blk (dy x y d h γ g s) (n.val * 256) 0 : Vec Ideal S256x2048 .bf16), row (tile (tγ x y d h γ g s) (n.val * 256)),
      row (tile (tg x y h γ s) (n.val * 256)), row (tile h (n.val * 256)), row (tile (ts x y h γ g) (n.val * 256))) := by
  rw [outsAt0_A m c n h0 h1 h0 h1 h0 h1 h0 h1, ib0 m c H, ib1 m c H, ib2 m c H, ib3 m c H, ib5 m c H, ib6 m c H, ib7 m c H]
  refine congr (congrArg Prod.mk ?_) (congr (congrArg Prod.mk ?_) (congr (congrArg Prod.mk ?_)
    (congr (congrArg Prod.mk ?_) (congr (congrArg Prod.mk ?_) ?_))))
  refine (View.read_writes_eq_canon _ _ _ (by apply cover0_A_8)).trans ?_
  rotate_left
  refine (View.read_writes_eq_canon _ _ _ (by apply cover0_A_9)).trans ?_
  rotate_left
  refine (View.read_writes_eq_canon _ _ _ (by apply cover0_A_10)).trans ?_
  rotate_left
  refine (View.read_writes_eq_canon _ _ _ (by apply cover0_A_11)).trans ?_
  rotate_left
  refine (View.read_writes_eq_canon _ _ _ (by apply cover0_A_12)).trans ?_
  rotate_left
  refine (View.read_writes_eq_canon _ _ _ (by apply cover0_A_13)).trans ?_
  all_goals
    unfold kernelRun0_A
    dsimp only
    sl_unfold_words
    simp only [View.readAt_eq_ld, (hs0_0 n).read_unread, (hs0_1 n).read_unread, (hs0_2 n).read_unread, (hs0_3 n).read_unread,
      (hs0_5 n).read_unread, (hs0_6 n).read_unread, (hs0_7 n).read_unread,
      View.ld_unit_zero (S := S256x2048) hz2, View.ld_unit_zero (S := S1x1x2048) hz3, View.canon_unit_zero (S := S256x2048) hz2,
      View.canon_unit_zero (S := S1x1x2048) hz3]
    simp only [pay7_eq, pay8_eq, pay9_eq, pay11_eq, pay12_eq, pay13_eq, pay14_eq, pay15_eq, pay16_eq, pay18_eq, pay20_eq,
      pay21_eq, pay24_eq, pay25_eq, pay1_eq, pay3_eq, pay5_eq]

/-- What a later point leaves. -/
theorem outs_B (n : Fin cfg0.N) (h0 : ¬n.val % 8 = 0) (h1 : 1 ≤ n.val)
    (e : (outsAt0 m c (n.val - 1) (Nat.lt_of_le_of_lt (Nat.sub_le _ _) n.isLt)).2.2 =
      (row (cum (tγ x y d h γ g s) (n.val * 256)), row (cum (tg x y h γ s) (n.val * 256)), row (cum h (n.val * 256)),
        row (cum (ts x y h γ g) (n.val * 256)))) :
    outsAt0 m c n.val n.isLt = ((blk (dz x y d h γ g s) (n.val * 256) 0 : Vec Ideal S256x2048 .f32),
      (blk (dy x y d h γ g s) (n.val * 256) 0 : Vec Ideal S256x2048 .bf16), row (cum (tγ x y d h γ g s) ((n.val + 1) * 256)),
      row (cum (tg x y h γ s) ((n.val + 1) * 256)), row (cum h ((n.val + 1) * 256)),
      row (cum (ts x y h γ g) ((n.val + 1) * 256))) := by
  rw [outsAt0_B m c n h0 h1 h0 h1 h0 h1 h0 h1, congrArg (·.1) e, congrArg (·.2.1) e, congrArg (·.2.2.1) e,
    congrArg (·.2.2.2) e, ib0 m c H, ib1 m c H, ib2 m c H, ib3 m c H, ib5 m c H, ib6 m c H, ib7 m c H]
  dsimp only
  refine congr (congrArg Prod.mk ?_) (congr (congrArg Prod.mk ?_) (congr (congrArg Prod.mk ?_)
    (congr (congrArg Prod.mk ?_) (congr (congrArg Prod.mk ?_) ?_))))
  refine (View.read_writes_eq_canon _ _ _ (by apply cover0_B_8)).trans ?_
  rotate_left
  refine (View.read_writes_eq_canon _ _ _ (by apply cover0_B_9)).trans ?_
  rotate_left
  refine (View.read_writes_eq_canon _ _ _ (by apply cover0_B_10)).trans ?_
  rotate_left
  refine (View.read_writes_eq_canon _ _ _ (by apply cover0_B_11)).trans ?_
  rotate_left
  refine (View.read_writes_eq_canon _ _ _ (by apply cover0_B_12)).trans ?_
  rotate_left
  refine (View.read_writes_eq_canon _ _ _ (by apply cover0_B_13)).trans ?_
  all_goals
    unfold kernelRun0_B
    dsimp only
    sl_unfold_words
    simp only [View.readAt_eq_ld, (hs0_0 n).read_unread, (hs0_1 n).read_unread, (hs0_2 n).read_unread, (hs0_3 n).read_unread,
      (hs0_5 n).read_unread, (hs0_6 n).read_unread, (hs0_7 n).read_unread, (hs0_10 n).read_unread, (hs0_11 n).read_unread,
      (hs0_12 n).read_unread, (hs0_13 n).read_unread,
      View.ld_unit_zero (S := S256x2048) hz2, View.ld_unit_zero (S := S1x1x2048) hz3, View.canon_unit_zero (S := S256x2048) hz2,
      View.canon_unit_zero (S := S1x1x2048) hz3]
    simp only [pay7_eq, pay8_eq, pay9_eq, pay11_eq, pay12_eq, pay13_eq, pay14_eq, pay15_eq, pay16_eq, pay18_eq, pay20_eq,
      pay21_eq, pay24_eq, pay26_eq, pay2_eq, pay4_eq, pay6_eq, cum_tile]

/-- What each point leaves. -/
theorem outs : (n : ℕ) → (hn : n < cfg0.N) → outsAt0 m c n hn = ((blk (dz x y d h γ g s) (n * 256) 0 : Vec Ideal S256x2048 .f32),
      (blk (dy x y d h γ g s) (n * 256) 0 : Vec Ideal S256x2048 .bf16), row (cum (tγ x y d h γ g s) ((n + 1) * 256)),
      row (cum (tg x y h γ s) ((n + 1) * 256)), row (cum h ((n + 1) * 256)), row (cum (ts x y h γ g) ((n + 1) * 256)))
  | 0, hn => by
    rw [outs_A m c H ⟨0, hn⟩ (Nat.zero_mod _) (Nat.not_succ_le_zero 0)]
    have ht : ∀ f : ℕ → ℕ → EReal, tile f (0 * 256) = cum f ((0 + 1) * 256) := fun f => by
      rw [← cum_tile]; funext j; unfold cum; rw [Nat.zero_mul, Finset.sum_range_zero, zero_add]
    simp only [ht]
  | n + 1, hn => by
    have hN : n + 1 < 8 := lt_of_lt_of_eq hn N_0
    exact outs_B m c H ⟨n + 1, hn⟩ (by dsimp only; omega) (by dsimp only; omega) (congrArg (·.2.2) (outs n (Nat.lt_of_succ_lt hn)))

/-! ## The arrays -/

/-- The stream's gradient. -/
theorem arr8 : (dats m 0 c).arrAt 8 cfg0.N = (blk (dz x y d h γ g s) 0 0 : Vec Ideal S2048x2048 .f32) := by
  refine (dats m 0 c).arrAt_eq_of_cover 8 (blk (dz x y d h γ g s) 0 0 : Vec Ideal S2048x2048 .f32) (fun n _ => ?_) fun y => ?_
  · show (cfg0.win 8).cut (grid0.coords n) ((dats m 0 c).after 8 n) = _
    rw [after0_8, outs m c H]
    exact (Lies.read (dz x y d h γ g s) (lies8 n)).symm
  · have h0 : (y 0).val < 2048 := (y 0).isLt
    have h1 : (y 1).val < 2048 := (y 1).isLt
    have hn : (y 0).val / 256 < cfg0.N := by rw [show cfg0.N = 8 from N_0]; omega
    refine ⟨⟨_, hn⟩, flush0_8 _, ?_⟩
    show y ∈ ((View.whole main_v0_0).slice (win0_8.rect ⟨_, hn⟩)).set
    rw [View.set_slice_whole, ← Rect.map_emb_univ]
    exact (lies8 ⟨_, hn⟩).mem y (by dsimp only; omega) (by dsimp only; omega)

/-- The branch's gradient. -/
theorem arr9 : (dats m 0 c).arrAt 9 cfg0.N = (blk (dy x y d h γ g s) 0 0 : Vec Ideal S2048x2048 .bf16) := by
  refine (dats m 0 c).arrAt_eq_of_cover 9 (blk (dy x y d h γ g s) 0 0 : Vec Ideal S2048x2048 .bf16) (fun n _ => ?_) fun y => ?_
  · show (cfg0.win 9).cut (grid0.coords n) ((dats m 0 c).after 9 n) = _
    rw [after0_9, outs m c H]
    exact (Lies.read (dy x y d h γ g s) (lies9 n)).symm
  · have h0 : (y 0).val < 2048 := (y 0).isLt
    have h1 : (y 1).val < 2048 := (y 1).isLt
    have hn : (y 0).val / 256 < cfg0.N := by rw [show cfg0.N = 8 from N_0]; omega
    refine ⟨⟨_, hn⟩, flush0_9 _, ?_⟩
    show y ∈ ((View.whole main_v0_1).slice (win0_9.rect ⟨_, hn⟩)).set
    rw [View.set_slice_whole, ← Rect.map_emb_univ]
    exact (lies9 ⟨_, hn⟩).mem y (by dsimp only; omega) (by dsimp only; omega)

/-- The gate's gradient. -/
theorem arr10 : First (k := 2) ((dats m 0 c).arrAt 10 cfg0.N) (cum (tγ x y d h γ g s) 2048) := by
  intro i hi
  refine (dats m 0 c).arrAt_apply_of_mem 10 (rows (k := 2) (cum (tγ x y d h γ g s) 2048)) (fun n hf => ?_) cfg0.N ⟨7, seven⟩ i seven
    ((flush0_10 _).2 rfl) ?_
  · show (cfg0.win 10).cut (grid0.coords n) ((dats m 0 c).after 10 n) = _
    rw [after0_10, outs m c H, last n ((flush0_10 n).1 hf)]
    exact ((head10 n).read (X := rows (k := 2) (cum (tγ x y d h γ g s) 2048)) fun _ _ => rfl).symm
  · show i ∈ ((View.whole main_v0_2).slice (win0_10.rect ⟨_, seven⟩)).set
    rw [View.set_slice_whole, ← Rect.map_emb_univ]
    exact (head10 ⟨_, seven⟩).mem i hi

/-- The gains' gradient. -/
theorem arr11 : First (k := 1) ((dats m 0 c).arrAt 11 cfg0.N) (cum (tg x y h γ s) 2048) := by
  intro i hi
  refine (dats m 0 c).arrAt_apply_of_mem 11 (rows (k := 1) (cum (tg x y h γ s) 2048)) (fun n hf => ?_) cfg0.N ⟨7, seven⟩ i seven
    ((flush0_11 _).2 rfl) ?_
  · show (cfg0.win 11).cut (grid0.coords n) ((dats m 0 c).after 11 n) = _
    rw [after0_11, outs m c H, last n ((flush0_11 n).1 hf)]
    exact ((head11 n).read (X := rows (k := 1) (cum (tg x y h γ s) 2048)) fun _ _ => rfl).symm
  · show i ∈ ((View.whole main_v0_3).slice (win0_11.rect ⟨_, seven⟩)).set
    rw [View.set_slice_whole, ← Rect.map_emb_univ]
    exact (head11 ⟨_, seven⟩).mem i hi

theorem arr11_row : (dats m 0 c).arrAt 11 cfg0.N = row (cum (tg x y h γ s) 2048) :=
  funext fun y => arr11 m c H y (Nat.lt_one_iff.1 (y 0).isLt)

/-- The shift's gradient. -/
theorem arr12 : First (k := 2) ((dats m 0 c).arrAt 12 cfg0.N) (cum h 2048) := by
  intro i hi
  refine (dats m 0 c).arrAt_apply_of_mem 12 (rows (k := 2) (cum h 2048)) (fun n hf => ?_) cfg0.N ⟨7, seven⟩ i seven
    ((flush0_12 _).2 rfl) ?_
  · show (cfg0.win 12).cut (grid0.coords n) ((dats m 0 c).after 12 n) = _
    rw [after0_12, outs m c H, last n ((flush0_12 n).1 hf)]
    exact ((head12 n).read (X := rows (k := 2) (cum h 2048)) fun _ _ => rfl).symm
  · show i ∈ ((View.whole main_v0_4).slice (win0_12.rect ⟨_, seven⟩)).set
    rw [View.set_slice_whole, ← Rect.map_emb_univ]
    exact (head12 ⟨_, seven⟩).mem i hi

/-- The scale's gradient. -/
theorem arr13 : First (k := 2) ((dats m 0 c).arrAt 13 cfg0.N) (cum (ts x y h γ g) 2048) := by
  intro i hi
  refine (dats m 0 c).arrAt_apply_of_mem 13 (rows (k := 2) (cum (ts x y h γ g) 2048)) (fun n hf => ?_) cfg0.N ⟨7, seven⟩ i seven
    ((flush0_13 _).2 rfl) ?_
  · show (cfg0.win 13).cut (grid0.coords n) ((dats m 0 c).after 13 n) = _
    rw [after0_13, outs m c H, last n ((flush0_13 n).1 hf)]
    exact ((head13 n).read (X := rows (k := 2) (cum (ts x y h γ g) 2048)) fun _ _ => rfl).symm
  · show i ∈ ((View.whole main_v0_5).slice (win0_13.rect ⟨_, seven⟩)).set
    rw [View.set_slice_whole, ← Rect.map_emb_univ]
    exact (head13 ⟨_, seven⟩).mem i hi

end Cert.Proof.Norm
-- ==== Proof.NormRef.lean ====
module

public import proofs.«01_k».proof.Proof.NormArr
public import proofs.«01_k».proof.Proof.Gen.Reference7Ideal.Read

@[expose] public section

/-!
# What the gated residual's reference computes

Its six results are the kernel's: the gradients of the stream, of the branch, of the gate, of the gains, of the shift and of
the scale.
-/

set_option maxRecDepth 16384

noncomputable section
open scoped BigOperators
namespace Cert.Proof.Norm.Ref
open Idealize.ShloMosaic Idealize.ShloMosaic.Tactic Cert.Reference7Ideal Cert.Reference7Ideal.Gen Cert.Reference7Ideal.Read
open Cert.Proof.Proj (blk)
open Cert.Proof.Loss (ms inv slope nrm)

variable {x y d h : ℕ → ℕ → EReal} {γ g s : ℕ → EReal} {x0 x1 : Vec Ideal S2048x2048 .f32} {x2 : Vec Ideal S2x1x2048 .f32}
  {x3 : Vec Ideal S1x1x2048 .f32} {x5 : Vec Ideal S2x1x2048 .f32} {x6 x7 : Vec Ideal S2048x2048 .f32}
  (H : Ins x y d h γ g s x0 x1 x2 x3 x5 x6 x7)
include H

theorem gate_eq : val_main_v1 (F := Ideal) x2 = row1 γ := by
  funext y; idx_vars y
  pointwise [val_main_v1, val_main_v0]
  exact H.h2 _ rfl

theorem gains_eq : val_main_v23 (F := Ideal) x3 = row1 g := by
  funext y; idx_vars y
  pointwise [val_main_v23, val_main_v2]
  exact H.h3 _ rfl

theorem scale_eq : val_main_v27 (F := Ideal) x5 = row1 fun j => 1 + s j := by
  funext y; idx_vars y
  pointwise [val_main_v27, val_main_v26, val_main_cst_3, val_main_v6, val_main_v5]
  exact congrArg (1 + ·) (H.h5 _ rfl)

theorem z_eq : val_main_v9 (F := Ideal) x0 x1 x2 = blk (z x y γ) 0 0 := by
  unfold val_main_v9 val_main_v8 val_main_v7; rw [gate_eq H, H.h0, H.h1]; funext y; idx_vars y
  pointwise
  rfl

theorem ms_eq : val_main_v16 (F := Ideal) x0 x1 x2 = blk (fun i _ => ms (z x y γ) i) 0 0 := by
  unfold val_main_v16 val_main_v14 val_main_v12 val_main_v11 val_main_v10; rw [z_eq H]; funext y; idx_vars y
  pointwise [val_main_v15, val_main_cst_1, val_main_v13, val_main_cst_0, val_main_cst]
  rfl

theorem inv_eq : val_main_v17 (F := Ideal) x0 x1 x2 = blk (fun i _ => inv (z x y γ) i) 0 0 := by
  unfold val_main_v17; rw [ms_eq H]; funext y; idx_vars y
  pointwise
  rfl

theorem slope_eq : val_main_v20 (F := Ideal) x0 x1 x2 = blk (fun i _ => slope (z x y γ) i) 0 0 := by
  unfold val_main_v20 val_main_v18; rw [inv_eq H, ms_eq H]; funext y; idx_vars y
  pointwise [val_main_v19, val_main_cst_2]
  rfl

theorem nrm_eq : val_main_v22 (F := Ideal) x0 x1 x2 = blk (nrm (z x y γ)) 0 0 := by
  unfold val_main_v22 val_main_v21; rw [inv_eq H, z_eq H]; funext y; idx_vars y
  pointwise
  rfl

theorem dm_eq : val_main_v39 (F := Ideal) x5 x7 = blk (dm h s) 0 0 := by
  unfold val_main_v39 val_main_v38 val_main_v32; rw [scale_eq H, H.h7]; funext y; idx_vars y
  pointwise
  rfl

theorem dn_eq : val_main_v44 (F := Ideal) x3 x5 x7 = blk (dn h g s) 0 0 := by
  unfold val_main_v44 val_main_v43; rw [dm_eq H, gains_eq H]; funext y; idx_vars y
  pointwise
  rfl

theorem dsq_eq : val_main_v56 (F := Ideal) x0 x1 x2 x3 x5 x7 = blk (fun i _ => dsq x y h γ g s i) 0 0 := by
  unfold val_main_v56 val_main_v55 val_main_v54 val_main_v52 val_main_v48 val_main_v47 val_main_v46
  rw [z_eq H, dn_eq H, slope_eq H]; funext y; idx_vars y
  pointwise [val_main_v53, val_main_cst_8, val_main_cst_9, val_main_cst_10]
  simp only [Finset.univ_unique, Finset.sum_singleton]
  rfl

theorem dz_eq : val_main_v61 (F := Ideal) x0 x1 x2 x3 x5 x6 x7 = blk (dz x y d h γ g s) 0 0 := by
  unfold val_main_v61 val_main_v60 val_main_v59 val_main_v58 val_main_v57 val_main_v51 val_main_v50 val_main_v49
  rw [dsq_eq H, dn_eq H, inv_eq H, z_eq H, H.h6]; funext y; idx_vars y
  pointwise
  rfl

theorem dx_eq : val_main_v60 (F := Ideal) x0 x1 x2 x3 x5 x6 x7 = blk (dz x y d h γ g s) 0 0 := by
  unfold val_main_v60 val_main_v59 val_main_v58 val_main_v57 val_main_v51 val_main_v50 val_main_v49
  rw [dsq_eq H, dn_eq H, inv_eq H, z_eq H, H.h6]; funext y; idx_vars y
  pointwise
  rfl

theorem dy_eq : val_main_v67 (F := Ideal) x0 x1 x2 x3 x5 x6 x7 = blk (dy x y d h γ g s) 0 0 := by
  unfold val_main_v67 val_main_v63 val_main_v62; rw [gate_eq H, dz_eq H]; funext y; idx_vars y
  pointwise
  rfl

theorem dγ_eq : val_main_v68 (F := Ideal) x0 x1 x2 x3 x5 x6 x7 = row (cum (tγ x y d h γ g s) 2048) := by
  unfold val_main_v68 val_main_v66 val_main_v65 val_main_v64; rw [dz_eq H, H.h1]; funext y; idx_vars y
  pointwise [val_main_cst_11]
  exact (Finset.sum_range fun i => tγ x y d h γ g s i y2.val).symm

theorem dg_eq : val_main_v69 (F := Ideal) x0 x1 x2 x5 x7 = row (cum (tg x y h γ s) 2048) := by
  unfold val_main_v69 val_main_v45 val_main_v42 val_main_v41 val_main_v40; rw [nrm_eq H, dm_eq H]; funext y; idx_vars y
  pointwise [val_main_cst_6, val_main_cst_7]
  simp only [Finset.univ_unique, Finset.sum_singleton]
  exact (Finset.sum_range fun i => tg x y h γ s i y2.val).symm

theorem dh_eq : val_main_v70 (F := Ideal) x7 = row (cum h 2048) := by
  unfold val_main_v70 val_main_v34 val_main_v33; rw [H.h7]; funext y; idx_vars y
  pointwise [val_main_cst_4]
  exact (Finset.sum_range fun i => h i y2.val).symm

theorem ds_eq : val_main_v71 (F := Ideal) x0 x1 x2 x3 x7 = row (cum (ts x y h γ g) 2048) := by
  unfold val_main_v71 val_main_v37 val_main_v36 val_main_v35 val_main_v32 val_main_v25 val_main_v24
  rw [nrm_eq H, gains_eq H, H.h7]; funext y; idx_vars y
  pointwise [val_main_cst_5]
  exact (Finset.sum_range fun i => ts x y h γ g i y2.val).symm

end Cert.Proof.Norm.Ref
-- ==== Proof.NormRun.lean ====
module

public import proofs.«01_k».proof.Proof.NormArr

@[expose] public section

/-!
# What a run of the gated residual's backward leaves

The six results, of which three are the first rows of the arrays the call writes, and the arguments as they were.
-/

set_option maxRecDepth 16384

noncomputable section
namespace Cert.Proof.Norm
open Idealize.ShloMosaic Idealize.ShloMosaic.TcCoe Idealize.ShloMosaic.Tactic Cert.Kernel7Ideal Cert.Kernel7Ideal.Gen

variable (m : (ℓ : Loc nD τ sig) → Buf (Elt Ideal) ℓ) (ρ : Dev nD → PrngReg)

/-- The first row of an array of two. -/
def top (X : Vec Ideal S2x1x2048 .f32) : Vec Ideal S1x1x2048 .f32 :=
  extractStridedSlice S1x1x2048 ![0, 0, 0] X slices_S2x1x2048_S1x1x2048_0_0_0

theorem top_eq {X : Vec Ideal S2x1x2048 .f32} {r : ℕ → EReal} (h : First (k := 2) X r) : top X = row r := by
  funext y; idx_vars y
  pointwise [top]
  exact h _ rfl

theorem tail_v1 (c : Dev nD) :
    Pipeline.afterTail₀ cfgs (dats m) 0 (V0 m) [hostOps1] c main_v1 = top ((dats m 0 c).arrAt 10 cfg0.N) := by
  show StableHlo.after hostOps1 _ _ = _
  after_results
  rw [Pipeline.withArrays_arr spec0 launch0.win.arr_inj c _ _ 10]
  rfl

theorem tail_v2 (c : Dev nD) :
    Pipeline.afterTail₀ cfgs (dats m) 0 (V0 m) [hostOps1] c main_v2 = top ((dats m 0 c).arrAt 12 cfg0.N) := by
  show StableHlo.after hostOps1 _ _ = _
  after_results
  rw [Pipeline.withArrays_arr spec0 launch0.win.arr_inj c _ _ 12]
  rfl

theorem tail_v3 (c : Dev nD) :
    Pipeline.afterTail₀ cfgs (dats m) 0 (V0 m) [hostOps1] c main_v3 = top ((dats m 0 c).arrAt 13 cfg0.N) := by
  show StableHlo.after hostOps1 _ _ = _
  after_results
  rw [Pipeline.withArrays_arr spec0 launch0.win.arr_inj c _ _ 13]
  rfl

theorem run : θ_run (defs (F := Ideal)) (onTc (τ := τ) (main (F := Ideal))) ⟨m, fun _ => 0, ρ⟩ (fun r => ∀ c : Dev nD,
      r.2.mem ((c.tc : Thread nD τ).loc main_v0_0) = (dats m 0 c).arrAt 8 cfg0.N
      ∧ r.2.mem ((c.tc : Thread nD τ).loc main_v0_1) = (dats m 0 c).arrAt 9 cfg0.N
      ∧ r.2.mem ((c.tc : Thread nD τ).loc main_v1) = top ((dats m 0 c).arrAt 10 cfg0.N)
      ∧ r.2.mem ((c.tc : Thread nD τ).loc main_v0_3) = (dats m 0 c).arrAt 11 cfg0.N
      ∧ r.2.mem ((c.tc : Thread nD τ).loc main_v2) = top ((dats m 0 c).arrAt 12 cfg0.N)
      ∧ r.2.mem ((c.tc : Thread nD τ).loc main_v3) = top ((dats m 0 c).arrAt 13 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 8, (h c).1 9, ((h c).2 main_v1 (by decide)).trans (tail_v1 m c), (h c).1 11,
    ((h c).2 main_v2 (by decide)).trans (tail_v2 m c), ((h c).2 main_v3 (by decide)).trans (tail_v3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end Cert.Proof.Norm
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.AttnRun
public import proofs.«01_k».proof.Proof.AttnEq
public import proofs.«01_k».proof.Proof.Finite
public import proofs.«01_k».proof.Proof.GluRun
public import proofs.«01_k».proof.Proof.GluRef
public import proofs.«01_k».proof.Proof.Finite2
public import proofs.«01_k».proof.Proof.ProjRun
public import proofs.«01_k».proof.Proof.ProjRef
public import proofs.«01_k».proof.Proof.LatRun
public import proofs.«01_k».proof.Proof.LatRef
public import proofs.«01_k».proof.Proof.Finite4
public import proofs.«01_k».proof.Proof.LatProj
public import proofs.«01_k».proof.Proof.LatProjRef
public import proofs.«01_k».proof.Proof.LossArr
public import proofs.«01_k».proof.Proof.LossRef
public import proofs.«01_k».proof.Proof.NormRef
public import proofs.«01_k».proof.Proof.NormRun
public import Idealize.ShloMosaic.Adequacy
public import Idealize.ShloMosaic.Init

@[expose] public section

noncomputable section

/-!
# The claims

The frames are the runs of the programs; the algebraic claims join the kernel's run with its results (AttnRun.lean,
GluRun.lean, ProjRun.lean, LatRun.lean, LatProj.lean, LossArr.lean), the reference's (AttnEq.lean, GluRef.lean, ProjRef.lean,
LatRef.lean, LatProjRef.lean, LossRef.lean) and, for the first, second and fourth, the precondition (Finite.lean, Finite2.lean, Finite4.lean).
-/

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts

/-- The reference's run, read at its arguments; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2.2.2.2, sem_eq_zero_of_no_sems (by decide) r.2⟩)
    (Cert.ReferenceIdeal.Value.run (F := Ideal) m g)

/-- On arguments that satisfy the precondition, kernel and reference end with the same outputs and the same three gradients. -/
theorem algebraic : Cert.algebraic_KernelIdeal_ReferenceIdeal_pre_finite := by
  intro m g m' g' hpre hargs
  have hI := fun c => ins (hpre c).1 (hpre c).2.1 (hpre c).2.2
  refine ⟨fun c => (Cert.KernelIdeal.Gen.dat0 (Cert.KernelIdeal.Gen.V0 m g) c).arrAt 3 Cert.KernelIdeal.cfg0.N,
    fun c => (Cert.KernelIdeal.Gen.dat1 (Cert.KernelIdeal.Gen.V1 m g) c).arrAt 6 Cert.KernelIdeal.cfg1.N,
    fun c => (Cert.KernelIdeal.Gen.dat1 (Cert.KernelIdeal.Gen.V1 m g) c).arrAt 7 Cert.KernelIdeal.cfg1.N,
    fun c => (Cert.KernelIdeal.Gen.dat1 (Cert.KernelIdeal.Gen.V1 m g) c).arrAt 8 Cert.KernelIdeal.cfg1.N,
    Attn.run m g, ?_⟩
  refine (θ_run _ _ _).mono (fun r h c => ?_) (Cert.ReferenceIdeal.Value.run (F := Ideal) m' g')
  obtain ⟨h0, h1, h2, h3, h4, h5, h6⟩ := h c
  obtain ⟨e0, e1, e2⟩ := hargs c
  refine ⟨h0.trans (Eq.trans ?_ (Attn.arr0_3 _ _ (hI c)).symm),
    h1.trans (Eq.trans ?_ (Attn.arr1_6 _ _ (Attn.ins1 m g c (hI c))).symm),
    h2.trans (Eq.trans ?_ (Attn.arr1_7 _ _ (Attn.ins1 m g c (hI c))).symm),
    h3.trans (Eq.trans ?_ (Attn.arr1_8 _ _ (Attn.ins1 m g c (hI c))).symm), h4, h5, h6⟩
  · refine (Cert.ReferenceIdeal.Read.val_main_v84_eq m' c).trans ?_
    rw [e0, e1]; exact Attn.Ref.o_eq (hI c)
  · refine (Cert.ReferenceIdeal.Read.val_main_v143_eq m' c).trans ?_
    rw [e0, e1, e2]; exact Attn.Ref.dq_eq (hI c)
  · refine (Cert.ReferenceIdeal.Read.val_main_v141_eq m' c).trans ?_
    rw [e0, e1, e2]; exact Attn.Ref.dk_eq (hI c)
  · refine (Cert.ReferenceIdeal.Read.val_main_v139_eq m' c).trans ?_
    rw [e0, e2]; exact Attn.Ref.dv_eq (hI c)

/-- The second reference's run, read at its arguments; it has no semaphore. -/
theorem frame_reference2 : Cert.quiescent_Reference2Ideal := fun m g _ =>
  (θ_run Cert.Reference2Ideal.defs _ _).mono
    (fun r h => ⟨fun c => (h c).2.2.2.2.2.2, sem_eq_zero_of_no_sems (by decide) r.2⟩)
    (Cert.Reference2Ideal.Value.run (F := Ideal) m g)

/-- On arguments that satisfy the second precondition, the second kernel and reference end with the same result and the same five gradients. -/
theorem algebraic2 : Cert.algebraic_Kernel2Ideal_Reference2Ideal_pre_finite2 := by
  intro m g m' g' hpre hargs
  refine ⟨fun c => (Cert.Kernel2Ideal.Gen.dat9 (Cert.Kernel2Ideal.Gen.V10 m g) c).arrAt 5 Cert.Kernel2Ideal.cfg9.N,
    fun c => (Cert.Kernel2Ideal.Gen.dat6 (Cert.Kernel2Ideal.Gen.V6 m g) c).arrAt 6 Cert.Kernel2Ideal.cfg6.N,
    fun c => (Cert.Kernel2Ideal.Gen.dat8 (Cert.Kernel2Ideal.Gen.V9 m g) c).arrAt 2 Cert.Kernel2Ideal.cfg8.N,
    fun c => (Cert.Kernel2Ideal.Gen.dat4 (Cert.Kernel2Ideal.Gen.V4 m g) c).arrAt 7 Cert.Kernel2Ideal.cfg4.N,
    fun c => (Cert.Kernel2Ideal.Gen.dat4 (Cert.Kernel2Ideal.Gen.V4 m g) c).arrAt 8 Cert.Kernel2Ideal.cfg4.N,
    fun c => (Cert.Kernel2Ideal.Gen.dat3 (Cert.Kernel2Ideal.Gen.V3 m g) c).arrAt 2 Cert.Kernel2Ideal.cfg3.N,
    Glu.run m g, ?_⟩
  refine (θ_run _ _ _).mono (fun r h c => ?_) (Cert.Reference2Ideal.Value.run (F := Ideal) m' g')
  obtain ⟨h0, h1, h2, h3, h4, h5, h6⟩ := h c
  obtain ⟨e0, e1, e2, e3, e4, e5⟩ := hargs c
  obtain ⟨a0, a1, a2, a3, a4, a5, hI⟩ : ∃ a0 a1 a2 a3 a4 a5, Glu.Ins a0 a1 a2 a3 a4 a5 _ _ _ _ _ _ :=
    ⟨_, _, _, _, _, _, ins2 (hpre c)⟩
  have hR := hI
  rw [← e0, ← e1, ← e2, ← e3, ← e4, ← e5] at hR
  refine ⟨h0.trans (Eq.trans ?_ (Glu.res_y m g c hI).symm), h1.trans (Eq.trans ?_ (Glu.res_rows m g c hI).symm),
    h2.trans (Eq.trans ?_ (Glu.res_up m g c hI).symm),
    h3.trans (Eq.trans ?_ (Glu.res_taps m g c hI).symm), h4.trans (Eq.trans ?_ (Glu.res_bias m g c hI).symm),
    h5.trans (Eq.trans ?_ (Glu.res_down m g c hI).symm), h6⟩
  · refine (Cert.Reference2Ideal.Read.val_main_v75_eq (StableHlo.launchContents m' c)).trans ?_
    exact Glu.Ref.y_eq hR
  · refine (Cert.Reference2Ideal.Read.val_main_v179_eq (StableHlo.launchContents m' c)).trans ?_
    exact Glu.Ref.dh_eq hR
  · refine (Cert.Reference2Ideal.Read.val_main_v182_eq (StableHlo.launchContents m' c)).trans ?_
    exact Glu.Ref.dw_up_eq hR
  · refine (Cert.Reference2Ideal.Read.val_main_v166_eq (StableHlo.launchContents m' c)).trans ?_
    exact Glu.Ref.dw_eq hR
  · refine (Cert.Reference2Ideal.Read.val_main_v183_eq (StableHlo.launchContents m' c)).trans ?_
    exact Glu.Ref.db_eq hR
  · refine (Cert.Reference2Ideal.Read.val_main_v184_eq (StableHlo.launchContents m' c)).trans ?_
    exact Glu.Ref.dw_down_eq hR

/-- The third reference's run, read at its arguments; it has no semaphore. -/
theorem frame_reference3 : Cert.quiescent_Reference3Ideal := fun m g _ =>
  (θ_run Cert.Reference3Ideal.defs _ _).mono
    (fun r h => ⟨fun c => (h c).2.2.2.2.2.2.2.2, sem_eq_zero_of_no_sems (by decide) r.2⟩)
    (Cert.Reference3Ideal.Value.run (F := Ideal) m g)

/-- On any arguments the third kernel and reference end with the same eight results. -/
theorem algebraic3 : Cert.algebraic_Kernel3Ideal_Reference3Ideal := by
  intro m g m' g' _ hargs
  refine ⟨fun c => (Cert.Kernel3Ideal.Gen.dat0 (Cert.Kernel3Ideal.Gen.V0 m g) c).arrAt 2 Cert.Kernel3Ideal.cfg0.N,
    fun c => (Cert.Kernel3Ideal.Gen.dat1 (Cert.Kernel3Ideal.Gen.V1 m g) c).arrAt 2 Cert.Kernel3Ideal.cfg1.N,
    fun c => (Cert.Kernel3Ideal.Gen.dat2 (Cert.Kernel3Ideal.Gen.V2 m g) c).arrAt 5 Cert.Kernel3Ideal.cfg2.N,
    fun c => (Cert.Kernel3Ideal.Gen.dat6 (Cert.Kernel3Ideal.Gen.V6 m g) c).arrAt 3 Cert.Kernel3Ideal.cfg6.N,
    fun c => (Cert.Kernel3Ideal.Gen.dat7 (Cert.Kernel3Ideal.Gen.V7 m g) c).arrAt 2 Cert.Kernel3Ideal.cfg7.N,
    fun c => (Cert.Kernel3Ideal.Gen.dat8 (Cert.Kernel3Ideal.Gen.V8 m g) c).arrAt 2 Cert.Kernel3Ideal.cfg8.N,
    fun c => (Cert.Kernel3Ideal.Gen.dat3 (Cert.Kernel3Ideal.Gen.V3 m g) c).arrAt 2 Cert.Kernel3Ideal.cfg3.N,
    fun c => (Cert.Kernel3Ideal.Gen.dat4 (Cert.Kernel3Ideal.Gen.V4 m g) c).arrAt 2 Cert.Kernel3Ideal.cfg4.N,
    Proj.run m g, ?_⟩
  refine (θ_run _ _ _).mono (fun r h c => ?_) (Cert.Reference3Ideal.Value.run (F := Ideal) m' g')
  obtain ⟨h1, h2, h3, h4, h5, h6, h7, h8, h9⟩ := h c
  obtain ⟨e0, e1, e2, e3, e4, e5, e6, e7⟩ := hargs c
  obtain ⟨a0, a1, a2, a3, a4, a5, a6, a7, hI⟩ : ∃ a0 a1 a2 a3 a4 a5 a6 a7,
      Proj.Ins a0 a1 a2 a3 a4 a5 a6 a7 _ _ _ _ _ _ _ _ := ⟨_, _, _, _, _, _, _, _, Proj.ins
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7))⟩
  have hR := hI
  rw [← e0, ← e1, ← e2, ← e3, ← e4, ← e5, ← e6, ← e7] at hR
  refine ⟨h1.trans (Eq.trans ?_ (Proj.res_z m g c hI).symm), h2.trans (Eq.trans ?_ (Proj.res_zg m g c hI).symm),
    h3.trans (Eq.trans ?_ (Proj.res_y m g c hI).symm), h4.trans (Eq.trans ?_ (Proj.res_dh m g c hI).symm),
    h5.trans (Eq.trans ?_ (Proj.res_dw_main m g c hI).symm), h6.trans (Eq.trans ?_ (Proj.res_dw_gate m g c hI).symm),
    h7.trans (Eq.trans ?_ (Proj.res_dm m g c hI).symm), h8.trans (Eq.trans ?_ (Proj.res_dw_out m g c hI).symm), h9⟩
  · exact (Cert.Reference3Ideal.Read.val_main_v22_eq _ _).trans (Proj.Ref.z_eq hR)
  · exact (Cert.Reference3Ideal.Read.val_main_v9_eq _ _).trans (Proj.Ref.zg_eq hR)
  · exact (Cert.Reference3Ideal.Read.val_main_v11_eq _ _).trans (Proj.Ref.y_eq hR)
  · exact (Cert.Reference3Ideal.Read.val_main_v18_eq _ _ _ _).trans (Proj.Ref.dh_eq hR)
  · exact (Cert.Reference3Ideal.Read.val_main_v23_eq _ _).trans (Proj.Ref.dw_main_eq hR)
  · exact (Cert.Reference3Ideal.Read.val_main_v24_eq _ _).trans (Proj.Ref.dw_gate_eq hR)
  · exact (Cert.Reference3Ideal.Read.val_main_v21_eq _ _).trans (Proj.Ref.dm_eq hR)
  · exact (Cert.Reference3Ideal.Read.val_main_v25_eq _ _).trans (Proj.Ref.dw_out_eq hR)

/-- The fourth reference's run, read at its arguments; it has no semaphore. -/
theorem frame_reference4 : Cert.quiescent_Reference4Ideal := fun m g _ =>
  (θ_run Cert.Reference4Ideal.defs _ _).mono
    (fun r h => ⟨fun c => (h c).2.2.2.2.2.2, sem_eq_zero_of_no_sems (by decide) r.2⟩)
    (Cert.Reference4Ideal.Value.run (F := Ideal) m g)

/-- On arguments that satisfy the fourth precondition, the fourth kernel and reference end with the same result
and the same five gradients. -/
theorem algebraic4 : Cert.algebraic_Kernel4Ideal_Reference4Ideal_pre_finite4 := by
  intro m g m' g' hpre hargs
  refine ⟨fun c => (Cert.Kernel4Ideal.Gen.dat9 (Cert.Kernel4Ideal.Gen.V10 m g) c).arrAt 5 Cert.Kernel4Ideal.cfg9.N,
    fun c => (Cert.Kernel4Ideal.Gen.dat6 (Cert.Kernel4Ideal.Gen.V6 m g) c).arrAt 6 Cert.Kernel4Ideal.cfg6.N,
    fun c => (Cert.Kernel4Ideal.Gen.dat8 (Cert.Kernel4Ideal.Gen.V9 m g) c).arrAt 2 Cert.Kernel4Ideal.cfg8.N,
    fun c => (Cert.Kernel4Ideal.Gen.dat4 (Cert.Kernel4Ideal.Gen.V4 m g) c).arrAt 7 Cert.Kernel4Ideal.cfg4.N,
    fun c => (Cert.Kernel4Ideal.Gen.dat4 (Cert.Kernel4Ideal.Gen.V4 m g) c).arrAt 8 Cert.Kernel4Ideal.cfg4.N,
    fun c => (Cert.Kernel4Ideal.Gen.dat3 (Cert.Kernel4Ideal.Gen.V3 m g) c).arrAt 2 Cert.Kernel4Ideal.cfg3.N,
    Glu.Lat.run m g, ?_⟩
  refine (θ_run _ _ _).mono (fun r h c => ?_) (Cert.Reference4Ideal.Value.run (F := Ideal) m' g')
  obtain ⟨h0, h1, h2, h3, h4, h5, h6⟩ := h c
  obtain ⟨e0, e1, e2, e3, e4, e5⟩ := hargs c
  obtain ⟨a0, a1, a2, a3, a4, a5, hI⟩ : ∃ a0 a1 a2 a3 a4 a5, Glu.Lat.Ins a0 a1 a2 a3 a4 a5 _ _ _ _ _ _ :=
    ⟨_, _, _, _, _, _, ins4 (hpre c)⟩
  have hR := hI
  rw [← e0, ← e1, ← e2, ← e3, ← e4, ← e5] at hR
  refine ⟨h0.trans (Eq.trans ?_ (Glu.Lat.res_y m g c hI).symm), h1.trans (Eq.trans ?_ (Glu.Lat.res_rows m g c hI).symm),
    h2.trans (Eq.trans ?_ (Glu.Lat.res_up m g c hI).symm),
    h3.trans (Eq.trans ?_ (Glu.Lat.res_taps m g c hI).symm), h4.trans (Eq.trans ?_ (Glu.Lat.res_bias m g c hI).symm),
    h5.trans (Eq.trans ?_ (Glu.Lat.res_down m g c hI).symm), h6⟩
  · refine (Cert.Reference4Ideal.Read.val_main_v39_eq m' c).trans ?_
    exact Glu.Lat.Ref.y_eq hR
  · refine (Cert.Reference4Ideal.Read.val_main_v87_eq m' c).trans ?_
    exact Glu.Lat.Ref.dh_eq hR
  · refine (Cert.Reference4Ideal.Read.val_main_v90_eq m' c).trans ?_
    exact Glu.Lat.Ref.dw_up_eq hR
  · refine (Cert.Reference4Ideal.Read.val_main_v78_eq m' c).trans ?_
    exact Glu.Lat.Ref.dw_eq hR
  · refine (Cert.Reference4Ideal.Read.val_main_v91_eq m' c).trans ?_
    exact Glu.Lat.Ref.db_eq hR
  · refine (Cert.Reference4Ideal.Read.val_main_v92_eq m' c).trans ?_
    exact Glu.Lat.Ref.dw_down_eq hR

/-- The fifth reference's run, read at its arguments; it has no semaphore. -/
theorem frame_reference5 : Cert.quiescent_Reference5Ideal := fun m g _ =>
  (θ_run Cert.Reference5Ideal.defs _ _).mono
    (fun r h => ⟨fun c => (h c).2.2.2, sem_eq_zero_of_no_sems (by decide) r.2⟩)
    (Cert.Reference5Ideal.Value.run (F := Ideal) m g)

/-- On any arguments the fifth kernel and reference end with the same three results. -/
theorem algebraic5 : Cert.algebraic_Kernel5Ideal_Reference5Ideal := by
  intro m g m' g' _ hargs
  refine ⟨fun c => (Cert.Kernel5Ideal.Gen.dat0 (Cert.Kernel5Ideal.Gen.V0 m g) c).arrAt 5 Cert.Kernel5Ideal.cfg0.N,
    fun c => (Cert.Kernel5Ideal.Gen.dat1 (Cert.Kernel5Ideal.Gen.V1 m g) c).arrAt 2 Cert.Kernel5Ideal.cfg1.N,
    fun c => (Cert.Kernel5Ideal.Gen.dat2 (Cert.Kernel5Ideal.Gen.V2 m g) c).arrAt 2 Cert.Kernel5Ideal.cfg2.N,
    Proj.Lat.run m g, ?_⟩
  refine (θ_run _ _ _).mono (fun r h c => ?_) (Cert.Reference5Ideal.Value.run (F := Ideal) m' g')
  obtain ⟨h1, h2, h3, h4⟩ := h c
  obtain ⟨e0, e1, e2⟩ := hargs c
  obtain ⟨a0, a1, a2, hI⟩ : ∃ a0 a1 a2, Proj.Lat.Ins a0 a1 a2 _ _ _ := ⟨_, _, _, Proj.Lat.ins
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))⟩
  have hR := hI
  rw [← e0, ← e1, ← e2] at hR
  refine ⟨h1.trans (Eq.trans ?_ (Proj.Lat.res_y m g c hI).symm), h2.trans (Eq.trans ?_ (Proj.Lat.res_dm m g c hI).symm),
    h3.trans (Eq.trans ?_ (Proj.Lat.res_dw_out m g c hI).symm), h4⟩
  · exact (Cert.Reference5Ideal.Read.val_main_v4_eq _ _).trans (Proj.Lat.Ref.y_eq hR)
  · exact (Cert.Reference5Ideal.Read.val_main_v7_eq _ _).trans (Proj.Lat.Ref.dm_eq hR)
  · exact (Cert.Reference5Ideal.Read.val_main_v8_eq _ _).trans (Proj.Lat.Ref.dw_out_eq hR)

theorem frame_reference6 : Cert.quiescent_Reference6Ideal := fun m g _ =>
  (θ_run Cert.Reference6Ideal.defs _ _).mono
    (fun r h => ⟨fun c => (h c).2.2.2, sem_eq_zero_of_no_sems (by decide) r.2⟩)
    (Cert.Reference6Ideal.Value.run (F := Ideal) m g)

/-- On any arguments the sixth kernel and reference end with the same loss and the same gradients. -/
theorem algebraic6 : Cert.algebraic_Kernel6Ideal_Reference6Ideal := by
  intro m g m' g' _ hargs
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N,
    Cert.Kernel6Ideal.Value.run_blocks m g, ?_⟩
  refine (θ_run _ _ _).mono (fun r h c => ?_) (Cert.Reference6Ideal.Value.run (F := Ideal) m' g')
  obtain ⟨h1, h2, h3, h4⟩ := h c
  obtain ⟨e0, e1, e2⟩ := hargs c
  obtain ⟨a0, a1, a2, hI⟩ := Loss.ins
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
  have hR := hI
  rw [← e0, ← e1, ← e2] at hR
  refine ⟨h1.trans (Eq.trans ?_ (Loss.arr3 m c hI).symm), h2.trans (Eq.trans ?_ (Loss.arr4 m c hI).symm),
    h3.trans (Eq.trans ?_ (Loss.arr5 m c hI).symm), h4⟩
  · exact (Cert.Reference6Ideal.Read.val_main_v52_eq _ _ _).trans (Loss.Ref.loss_eq hR)
  · exact (Cert.Reference6Ideal.Read.val_main_v51_eq m' c).trans (Loss.Ref.dx_eq hR)
  · exact (Cert.Reference6Ideal.Read.val_main_v53_eq _ _ _).trans (Loss.Ref.dg_eq hR)

theorem frame_reference7 : Cert.quiescent_Reference7Ideal := fun m g _ =>
  (θ_run Cert.Reference7Ideal.defs _ _).mono
    (fun r h => ⟨fun c => (h c).2.2.2.2.2.2, sem_eq_zero_of_no_sems (by decide) r.2⟩)
    (Cert.Reference7Ideal.Value.run (F := Ideal) m g)

/-- On any arguments the seventh kernel and reference end with the same gradients. -/
theorem algebraic7 : Cert.algebraic_Kernel7Ideal_Reference7Ideal := by
  intro m g m' g' _ hargs
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => Norm.top ((Cert.Kernel7Ideal.Gen.dats m 0 c).arrAt 10 Cert.Kernel7Ideal.cfg0.N),
    fun c => (Cert.Kernel7Ideal.Gen.dats m 0 c).arrAt 11 Cert.Kernel7Ideal.cfg0.N,
    fun c => Norm.top ((Cert.Kernel7Ideal.Gen.dats m 0 c).arrAt 12 Cert.Kernel7Ideal.cfg0.N),
    fun c => Norm.top ((Cert.Kernel7Ideal.Gen.dats m 0 c).arrAt 13 Cert.Kernel7Ideal.cfg0.N), Norm.run m g, ?_⟩
  refine (θ_run _ _ _).mono (fun r h c => ?_) (Cert.Reference7Ideal.Value.run (F := Ideal) m' g')
  obtain ⟨h1, h2, h3, h4, h5, h6, h7⟩ := h c
  obtain ⟨e0, e1, e2, e3, _, e5, e6, e7⟩ := hargs c
  obtain ⟨a0, a1, a2, a3, a4, a5, a6, hI⟩ := Norm.ins
    (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3))
    (m ((c.tc : Thread Cert.Kernel7Ideal.nD Cert.Kernel7Ideal.τ).loc Cert.Kernel7Ideal.main_arg5))
    (m ((c.tc : Thread Cert.Kernel7Ideal.nD Cert.Kernel7Ideal.τ).loc Cert.Kernel7Ideal.main_arg6))
    (m ((c.tc : Thread Cert.Kernel7Ideal.nD Cert.Kernel7Ideal.τ).loc Cert.Kernel7Ideal.main_arg7))
  have hR := hI
  rw [← e0, ← e1, ← e2, ← e3, ← e5, ← e6, ← e7] at hR
  refine ⟨h1.trans (Eq.trans ?_ (Norm.arr8 m c hI).symm), h2.trans (Eq.trans ?_ (Norm.arr9 m c hI).symm),
    h3.trans (Eq.trans ?_ (Norm.top_eq (Norm.arr10 m c hI)).symm), h4.trans (Eq.trans ?_ (Norm.arr11_row m c hI).symm),
    h5.trans (Eq.trans ?_ (Norm.top_eq (Norm.arr12 m c hI)).symm), h6.trans (Eq.trans ?_ (Norm.top_eq (Norm.arr13 m c hI)).symm),
    h7⟩
  · exact (Cert.Reference7Ideal.Read.val_main_v60_eq m' c).trans (Norm.Ref.dx_eq hR)
  · exact (Cert.Reference7Ideal.Read.val_main_v67_eq m' c).trans (Norm.Ref.dy_eq hR)
  · exact (Cert.Reference7Ideal.Read.val_main_v68_eq m' c).trans (Norm.Ref.dγ_eq hR)
  · exact (Cert.Reference7Ideal.Read.val_main_v69_eq _ _ _ _ _).trans (Norm.Ref.dg_eq hR)
  · exact (Cert.Reference7Ideal.Read.val_main_v70_eq _).trans (Norm.Ref.dh_eq hR)
  · exact (Cert.Reference7Ideal.Read.val_main_v71_eq _ _ _ _ _).trans (Norm.Ref.ds_eq hR)

/-- Everything that the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    preFacts, preFacts2, preFacts4,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    fun m ρ _ => Cert.Kernel4Ideal.Gen.frame m ρ,
    frame_reference4,
    fun m ρ _ => frame_reference4 m ρ trivial,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    trivial, algebraic, trivial, algebraic2, trivial, algebraic3, trivial, algebraic4, trivial, algebraic5,
    trivial, algebraic6, trivial, algebraic7⟩

end Cert.Proof

end
